-- ==== Defs.lean ====
def Pre_Kernel [hPre_columns_in_range : Cert.Pre_columns_in_range.Facts] (m : (ℓ : Loc Cert.Kernel.nD Cert.Kernel.τ Cert.Kernel.sig) → Buf (Elt Bits) ℓ) : Prop :=
  ∀ c : Dev Cert.Kernel.nD,
    (Cert.Pre_columns_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_columns_in_range : Cert.Pre_columns_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_columns_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_columns_in_range [hPre_columns_in_range : Cert.Pre_columns_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_columns_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ranks (m : (ℓ : Loc Cert.Ranks.nD Cert.Ranks.τ Cert.Ranks.sig) → Buf (Elt Bits) ℓ) : Prop :=
  True

def Pre_RanksIdeal (m : (ℓ : Loc Cert.RanksIdeal.nD Cert.RanksIdeal.τ Cert.RanksIdeal.sig) → Buf (Elt Ideal) ℓ) : Prop :=
  True

def Pre_RanksIdeal_ranks_apart [hPre_ranks_apart : Cert.Pre_ranks_apart.Facts] (m : (ℓ : Loc Cert.RanksIdeal.nD Cert.RanksIdeal.τ Cert.RanksIdeal.sig) → Buf (Elt Ideal) ℓ) : Prop :=
  ∀ c : Dev Cert.RanksIdeal.nD,
    (Cert.Pre_ranks_apart.fn (F := Ideal) (m ((c.tc : Thread Cert.RanksIdeal.nD Cert.RanksIdeal.τ).loc Cert.RanksIdeal.main_arg0)) (m ((c.tc : Thread Cert.RanksIdeal.nD Cert.RanksIdeal.τ).loc Cert.RanksIdeal.main_arg1))) = (fun _ => 1#1)

def Pre_RanksReferenceIdeal (m : (ℓ : Loc Cert.RanksReferenceIdeal.nD Cert.RanksReferenceIdeal.τ Cert.RanksReferenceIdeal.sig) → Buf (Elt Ideal) ℓ) : Prop :=
  True

def Pre_RanksReferenceIdeal_ranks_apart [hPre_ranks_apart : Cert.Pre_ranks_apart.Facts] (m : (ℓ : Loc Cert.RanksReferenceIdeal.nD Cert.RanksReferenceIdeal.τ Cert.RanksReferenceIdeal.sig) → Buf (Elt Ideal) ℓ) : Prop :=
  ∀ c : Dev Cert.RanksReferenceIdeal.nD,
    (Cert.Pre_ranks_apart.fn (F := Ideal) (m ((c.tc : Thread Cert.RanksReferenceIdeal.nD Cert.RanksReferenceIdeal.τ).loc Cert.RanksReferenceIdeal.main_arg0)) (m ((c.tc : Thread Cert.RanksReferenceIdeal.nD Cert.RanksReferenceIdeal.τ).loc Cert.RanksReferenceIdeal.main_arg1))) = (fun _ => 1#1)

def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearReferenceIdeal (m : (ℓ : Loc Cert.LinearReferenceIdeal.nD Cert.LinearReferenceIdeal.τ Cert.LinearReferenceIdeal.sig) → Buf (Elt Ideal) ℓ) : Prop :=
  True

def Pre_WholeIdeal (m : (ℓ : Loc Cert.WholeIdeal.nD Cert.WholeIdeal.τ Cert.WholeIdeal.sig) → Buf (Elt Ideal) ℓ) : Prop :=
  True

def Pre_WholeIdeal_scores_apart [hPre_scores_apart : Cert.Pre_scores_apart.Facts] (m : (ℓ : Loc Cert.WholeIdeal.nD Cert.WholeIdeal.τ Cert.WholeIdeal.sig) → Buf (Elt Ideal) ℓ) : Prop :=
  ∀ c : Dev Cert.WholeIdeal.nD,
    (Cert.Pre_scores_apart.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4))) = (fun _ => 1#1)

def Pre_MathsIdeal (m : (ℓ : Loc Cert.MathsIdeal.nD Cert.MathsIdeal.τ Cert.MathsIdeal.sig) → Buf (Elt Ideal) ℓ) : Prop :=
  True

def Pre_MathsIdeal_scores_apart [hPre_scores_apart : Cert.Pre_scores_apart.Facts] (m : (ℓ : Loc Cert.MathsIdeal.nD Cert.MathsIdeal.τ Cert.MathsIdeal.sig) → Buf (Elt Ideal) ℓ) : Prop :=
  ∀ c : Dev Cert.MathsIdeal.nD,
    (Cert.Pre_scores_apart.fn (F := Ideal) (m ((c.tc : Thread Cert.MathsIdeal.nD Cert.MathsIdeal.τ).loc Cert.MathsIdeal.main_arg0)) (m ((c.tc : Thread Cert.MathsIdeal.nD Cert.MathsIdeal.τ).loc Cert.MathsIdeal.main_arg1)) (m ((c.tc : Thread Cert.MathsIdeal.nD Cert.MathsIdeal.τ).loc Cert.MathsIdeal.main_arg2)) (m ((c.tc : Thread Cert.MathsIdeal.nD Cert.MathsIdeal.τ).loc Cert.MathsIdeal.main_arg3)) (m ((c.tc : Thread Cert.MathsIdeal.nD Cert.MathsIdeal.τ).loc Cert.MathsIdeal.main_arg4))) = (fun _ => 1#1)

def quiescent_Kernel [hKernel : Cert.Kernel.Facts] [hPre_columns_in_range : Cert.Pre_columns_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_columns_in_range : Cert.Pre_columns_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_columns_in_range [hReferenceIdeal : Cert.ReferenceIdeal.Facts] [hPre_columns_in_range : Cert.Pre_columns_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_columns_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ranks [hRanks : Cert.Ranks.Facts] : Prop :=
  ∀ (m : (ℓ : Loc Cert.Ranks.nD Cert.Ranks.τ Cert.Ranks.sig) → Buf (Elt Bits) ℓ) (g : Dev Cert.Ranks.nD → PrngReg), Pre_Ranks m →
    θ_run (Cert.Ranks.defs (F := Bits)) (onTc (τ := Cert.Ranks.τ) (Cert.Ranks.main (F := Bits))) ⟨m, fun _ => 0, g⟩ (fun r => (∀ c : Dev Cert.Ranks.nD,
      r.2.mem ((c.tc : Thread Cert.Ranks.nD Cert.Ranks.τ).loc Cert.Ranks.main_arg0) = m ((c.tc : Thread Cert.Ranks.nD Cert.Ranks.τ).loc Cert.Ranks.main_arg0)
      ∧ r.2.mem ((c.tc : Thread Cert.Ranks.nD Cert.Ranks.τ).loc Cert.Ranks.main_arg1) = m ((c.tc : Thread Cert.Ranks.nD Cert.Ranks.τ).loc Cert.Ranks.main_arg1))
      ∧ r.2.sem = fun _ => 0)

def quiescent_RanksIdeal [hRanksIdeal : Cert.RanksIdeal.Facts] : Prop :=
  ∀ (m : (ℓ : Loc Cert.RanksIdeal.nD Cert.RanksIdeal.τ Cert.RanksIdeal.sig) → Buf (Elt Ideal) ℓ) (g : Dev Cert.RanksIdeal.nD → PrngReg), Pre_RanksIdeal m →
    θ_run (Cert.RanksIdeal.defs (F := Ideal)) (onTc (τ := Cert.RanksIdeal.τ) (Cert.RanksIdeal.main (F := Ideal))) ⟨m, fun _ => 0, g⟩ (fun r => (∀ c : Dev Cert.RanksIdeal.nD,
      r.2.mem ((c.tc : Thread Cert.RanksIdeal.nD Cert.RanksIdeal.τ).loc Cert.RanksIdeal.main_arg0) = m ((c.tc : Thread Cert.RanksIdeal.nD Cert.RanksIdeal.τ).loc Cert.RanksIdeal.main_arg0)
      ∧ r.2.mem ((c.tc : Thread Cert.RanksIdeal.nD Cert.RanksIdeal.τ).loc Cert.RanksIdeal.main_arg1) = m ((c.tc : Thread Cert.RanksIdeal.nD Cert.RanksIdeal.τ).loc Cert.RanksIdeal.main_arg1))
      ∧ r.2.sem = fun _ => 0)

def quiescent_RanksIdeal_pre_ranks_apart [hRanksIdeal : Cert.RanksIdeal.Facts] [hPre_ranks_apart : Cert.Pre_ranks_apart.Facts] : Prop :=
  ∀ (m : (ℓ : Loc Cert.RanksIdeal.nD Cert.RanksIdeal.τ Cert.RanksIdeal.sig) → Buf (Elt Ideal) ℓ) (g : Dev Cert.RanksIdeal.nD → PrngReg), Pre_RanksIdeal_ranks_apart m →
    θ_run (Cert.RanksIdeal.defs (F := Ideal)) (onTc (τ := Cert.RanksIdeal.τ) (Cert.RanksIdeal.main (F := Ideal))) ⟨m, fun _ => 0, g⟩ (fun r => (∀ c : Dev Cert.RanksIdeal.nD,
      r.2.mem ((c.tc : Thread Cert.RanksIdeal.nD Cert.RanksIdeal.τ).loc Cert.RanksIdeal.main_arg0) = m ((c.tc : Thread Cert.RanksIdeal.nD Cert.RanksIdeal.τ).loc Cert.RanksIdeal.main_arg0)
      ∧ r.2.mem ((c.tc : Thread Cert.RanksIdeal.nD Cert.RanksIdeal.τ).loc Cert.RanksIdeal.main_arg1) = m ((c.tc : Thread Cert.RanksIdeal.nD Cert.RanksIdeal.τ).loc Cert.RanksIdeal.main_arg1))
      ∧ r.2.sem = fun _ => 0)

def quiescent_RanksReferenceIdeal [hRanksReferenceIdeal : Cert.RanksReferenceIdeal.Facts] : Prop :=
  ∀ (m : (ℓ : Loc Cert.RanksReferenceIdeal.nD Cert.RanksReferenceIdeal.τ Cert.RanksReferenceIdeal.sig) → Buf (Elt Ideal) ℓ) (g : Dev Cert.RanksReferenceIdeal.nD → PrngReg), Pre_RanksReferenceIdeal m →
    θ_run (Cert.RanksReferenceIdeal.defs (F := Ideal)) (onTc (τ := Cert.RanksReferenceIdeal.τ) (Cert.RanksReferenceIdeal.main (F := Ideal))) ⟨m, fun _ => 0, g⟩ (fun r => (∀ c : Dev Cert.RanksReferenceIdeal.nD,
      r.2.mem ((c.tc : Thread Cert.RanksReferenceIdeal.nD Cert.RanksReferenceIdeal.τ).loc Cert.RanksReferenceIdeal.main_arg0) = m ((c.tc : Thread Cert.RanksReferenceIdeal.nD Cert.RanksReferenceIdeal.τ).loc Cert.RanksReferenceIdeal.main_arg0)
      ∧ r.2.mem ((c.tc : Thread Cert.RanksReferenceIdeal.nD Cert.RanksReferenceIdeal.τ).loc Cert.RanksReferenceIdeal.main_arg1) = m ((c.tc : Thread Cert.RanksReferenceIdeal.nD Cert.RanksReferenceIdeal.τ).loc Cert.RanksReferenceIdeal.main_arg1))
      ∧ r.2.sem = fun _ => 0)

def quiescent_RanksReferenceIdeal_pre_ranks_apart [hRanksReferenceIdeal : Cert.RanksReferenceIdeal.Facts] [hPre_ranks_apart : Cert.Pre_ranks_apart.Facts] : Prop :=
  ∀ (m : (ℓ : Loc Cert.RanksReferenceIdeal.nD Cert.RanksReferenceIdeal.τ Cert.RanksReferenceIdeal.sig) → Buf (Elt Ideal) ℓ) (g : Dev Cert.RanksReferenceIdeal.nD → PrngReg), Pre_RanksReferenceIdeal_ranks_apart m →
    θ_run (Cert.RanksReferenceIdeal.defs (F := Ideal)) (onTc (τ := Cert.RanksReferenceIdeal.τ) (Cert.RanksReferenceIdeal.main (F := Ideal))) ⟨m, fun _ => 0, g⟩ (fun r => (∀ c : Dev Cert.RanksReferenceIdeal.nD,
      r.2.mem ((c.tc : Thread Cert.RanksReferenceIdeal.nD Cert.RanksReferenceIdeal.τ).loc Cert.RanksReferenceIdeal.main_arg0) = m ((c.tc : Thread Cert.RanksReferenceIdeal.nD Cert.RanksReferenceIdeal.τ).loc Cert.RanksReferenceIdeal.main_arg0)
      ∧ r.2.mem ((c.tc : Thread Cert.RanksReferenceIdeal.nD Cert.RanksReferenceIdeal.τ).loc Cert.RanksReferenceIdeal.main_arg1) = m ((c.tc : Thread Cert.RanksReferenceIdeal.nD Cert.RanksReferenceIdeal.τ).loc Cert.RanksReferenceIdeal.main_arg1))
      ∧ r.2.sem = fun _ => 0)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2)
      ∧ r.2.mem ((c.tc : Thread Cert.Linear.nD Cert.Linear.τ).loc Cert.Linear.main_arg3) = m ((c.tc : Thread Cert.Linear.nD Cert.Linear.τ).loc Cert.Linear.main_arg3)
      ∧ r.2.mem ((c.tc : Thread Cert.Linear.nD Cert.Linear.τ).loc Cert.Linear.main_arg4) = m ((c.tc : Thread Cert.Linear.nD Cert.Linear.τ).loc Cert.Linear.main_arg4))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
      ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4))
      ∧ r.2.sem = fun _ => 0)

def quiescent_LinearReferenceIdeal [hLinearReferenceIdeal : Cert.LinearReferenceIdeal.Facts] : Prop :=
  ∀ (m : (ℓ : Loc Cert.LinearReferenceIdeal.nD Cert.LinearReferenceIdeal.τ Cert.LinearReferenceIdeal.sig) → Buf (Elt Ideal) ℓ) (g : Dev Cert.LinearReferenceIdeal.nD → PrngReg), Pre_LinearReferenceIdeal m →
    θ_run (Cert.LinearReferenceIdeal.defs (F := Ideal)) (onTc (τ := Cert.LinearReferenceIdeal.τ) (Cert.LinearReferenceIdeal.main (F := Ideal))) ⟨m, fun _ => 0, g⟩ (fun r => (∀ c : Dev Cert.LinearReferenceIdeal.nD,
      r.2.mem ((c.tc : Thread Cert.LinearReferenceIdeal.nD Cert.LinearReferenceIdeal.τ).loc Cert.LinearReferenceIdeal.main_arg0) = m ((c.tc : Thread Cert.LinearReferenceIdeal.nD Cert.LinearReferenceIdeal.τ).loc Cert.LinearReferenceIdeal.main_arg0)
      ∧ r.2.mem ((c.tc : Thread Cert.LinearReferenceIdeal.nD Cert.LinearReferenceIdeal.τ).loc Cert.LinearReferenceIdeal.main_arg1) = m ((c.tc : Thread Cert.LinearReferenceIdeal.nD Cert.LinearReferenceIdeal.τ).loc Cert.LinearReferenceIdeal.main_arg1)
      ∧ r.2.mem ((c.tc : Thread Cert.LinearReferenceIdeal.nD Cert.LinearReferenceIdeal.τ).loc Cert.LinearReferenceIdeal.main_arg2) = m ((c.tc : Thread Cert.LinearReferenceIdeal.nD Cert.LinearReferenceIdeal.τ).loc Cert.LinearReferenceIdeal.main_arg2)
      ∧ r.2.mem ((c.tc : Thread Cert.LinearReferenceIdeal.nD Cert.LinearReferenceIdeal.τ).loc Cert.LinearReferenceIdeal.main_arg3) = m ((c.tc : Thread Cert.LinearReferenceIdeal.nD Cert.LinearReferenceIdeal.τ).loc Cert.LinearReferenceIdeal.main_arg3)
      ∧ r.2.mem ((c.tc : Thread Cert.LinearReferenceIdeal.nD Cert.LinearReferenceIdeal.τ).loc Cert.LinearReferenceIdeal.main_arg4) = m ((c.tc : Thread Cert.LinearReferenceIdeal.nD Cert.LinearReferenceIdeal.τ).loc Cert.LinearReferenceIdeal.main_arg4))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ r.2.sem = fun _ => 0)

def quiescent_WholeIdeal_pre_scores_apart [hWholeIdeal : Cert.WholeIdeal.Facts] [hPre_scores_apart : Cert.Pre_scores_apart.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_scores_apart m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ r.2.sem = fun _ => 0)

def quiescent_MathsIdeal [hMathsIdeal : Cert.MathsIdeal.Facts] : Prop :=
  ∀ (m : (ℓ : Loc Cert.MathsIdeal.nD Cert.MathsIdeal.τ Cert.MathsIdeal.sig) → Buf (Elt Ideal) ℓ) (g : Dev Cert.MathsIdeal.nD → PrngReg), Pre_MathsIdeal m →
    θ_run (Cert.MathsIdeal.defs (F := Ideal)) (onTc (τ := Cert.MathsIdeal.τ) (Cert.MathsIdeal.main (F := Ideal))) ⟨m, fun _ => 0, g⟩ (fun r => (∀ c : Dev Cert.MathsIdeal.nD,
      r.2.mem ((c.tc : Thread Cert.MathsIdeal.nD Cert.MathsIdeal.τ).loc Cert.MathsIdeal.main_arg0) = m ((c.tc : Thread Cert.MathsIdeal.nD Cert.MathsIdeal.τ).loc Cert.MathsIdeal.main_arg0)
      ∧ r.2.mem ((c.tc : Thread Cert.MathsIdeal.nD Cert.MathsIdeal.τ).loc Cert.MathsIdeal.main_arg1) = m ((c.tc : Thread Cert.MathsIdeal.nD Cert.MathsIdeal.τ).loc Cert.MathsIdeal.main_arg1)
      ∧ r.2.mem ((c.tc : Thread Cert.MathsIdeal.nD Cert.MathsIdeal.τ).loc Cert.MathsIdeal.main_arg2) = m ((c.tc : Thread Cert.MathsIdeal.nD Cert.MathsIdeal.τ).loc Cert.MathsIdeal.main_arg2)
      ∧ r.2.mem ((c.tc : Thread Cert.MathsIdeal.nD Cert.MathsIdeal.τ).loc Cert.MathsIdeal.main_arg3) = m ((c.tc : Thread Cert.MathsIdeal.nD Cert.MathsIdeal.τ).loc Cert.MathsIdeal.main_arg3)
      ∧ r.2.mem ((c.tc : Thread Cert.MathsIdeal.nD Cert.MathsIdeal.τ).loc Cert.MathsIdeal.main_arg4) = m ((c.tc : Thread Cert.MathsIdeal.nD Cert.MathsIdeal.τ).loc Cert.MathsIdeal.main_arg4))
      ∧ r.2.sem = fun _ => 0)

def quiescent_MathsIdeal_pre_scores_apart [hMathsIdeal : Cert.MathsIdeal.Facts] [hPre_scores_apart : Cert.Pre_scores_apart.Facts] : Prop :=
  ∀ (m : (ℓ : Loc Cert.MathsIdeal.nD Cert.MathsIdeal.τ Cert.MathsIdeal.sig) → Buf (Elt Ideal) ℓ) (g : Dev Cert.MathsIdeal.nD → PrngReg), Pre_MathsIdeal_scores_apart m →
    θ_run (Cert.MathsIdeal.defs (F := Ideal)) (onTc (τ := Cert.MathsIdeal.τ) (Cert.MathsIdeal.main (F := Ideal))) ⟨m, fun _ => 0, g⟩ (fun r => (∀ c : Dev Cert.MathsIdeal.nD,
      r.2.mem ((c.tc : Thread Cert.MathsIdeal.nD Cert.MathsIdeal.τ).loc Cert.MathsIdeal.main_arg0) = m ((c.tc : Thread Cert.MathsIdeal.nD Cert.MathsIdeal.τ).loc Cert.MathsIdeal.main_arg0)
      ∧ r.2.mem ((c.tc : Thread Cert.MathsIdeal.nD Cert.MathsIdeal.τ).loc Cert.MathsIdeal.main_arg1) = m ((c.tc : Thread Cert.MathsIdeal.nD Cert.MathsIdeal.τ).loc Cert.MathsIdeal.main_arg1)
      ∧ r.2.mem ((c.tc : Thread Cert.MathsIdeal.nD Cert.MathsIdeal.τ).loc Cert.MathsIdeal.main_arg2) = m ((c.tc : Thread Cert.MathsIdeal.nD Cert.MathsIdeal.τ).loc Cert.MathsIdeal.main_arg2)
      ∧ r.2.mem ((c.tc : Thread Cert.MathsIdeal.nD Cert.MathsIdeal.τ).loc Cert.MathsIdeal.main_arg3) = m ((c.tc : Thread Cert.MathsIdeal.nD Cert.MathsIdeal.τ).loc Cert.MathsIdeal.main_arg3)
      ∧ r.2.mem ((c.tc : Thread Cert.MathsIdeal.nD Cert.MathsIdeal.τ).loc Cert.MathsIdeal.main_arg4) = m ((c.tc : Thread Cert.MathsIdeal.nD Cert.MathsIdeal.τ).loc Cert.MathsIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_columns_in_range : Cert.Pre_columns_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ranks_RanksIdeal : Prop :=
  IdealRules.named_const.Statement Cert.RanksIdeal.κ "s" .f32 0x3D93CD3A#32 (((Real.sqrt 192)⁻¹ : ℝ) : EReal)
  ∧ IdealRules.named_const.Statement Cert.RanksIdeal.κ "neg" .f32 0xF149F2CA#32 ⊥

def algebraic_RanksIdeal_RanksReferenceIdeal_pre_ranks_apart [hRanksIdeal : Cert.RanksIdeal.Facts] [hRanksReferenceIdeal : Cert.RanksReferenceIdeal.Facts] [hPre_ranks_apart : Cert.Pre_ranks_apart.Facts] : Prop :=
  ∀ (m : (ℓ : Loc Cert.RanksIdeal.nD Cert.RanksIdeal.τ Cert.RanksIdeal.sig) → Buf (Elt Ideal) ℓ) (g : Dev Cert.RanksIdeal.nD → PrngReg)
    (m' : (ℓ : Loc Cert.RanksReferenceIdeal.nD Cert.RanksReferenceIdeal.τ Cert.RanksReferenceIdeal.sig) → Buf (Elt Ideal) ℓ) (g' : Dev Cert.RanksReferenceIdeal.nD → PrngReg), Pre_RanksIdeal_ranks_apart m →
    (∀ c : Dev Cert.RanksIdeal.nD,
      m' ((c.tc : Thread Cert.RanksReferenceIdeal.nD Cert.RanksReferenceIdeal.τ).loc Cert.RanksReferenceIdeal.main_arg0) = m ((c.tc : Thread Cert.RanksIdeal.nD Cert.RanksIdeal.τ).loc Cert.RanksIdeal.main_arg0)
      ∧ m' ((c.tc : Thread Cert.RanksReferenceIdeal.nD Cert.RanksReferenceIdeal.τ).loc Cert.RanksReferenceIdeal.main_arg1) = m ((c.tc : Thread Cert.RanksIdeal.nD Cert.RanksIdeal.τ).loc Cert.RanksIdeal.main_arg1)) →
    ∃ (v0 : (c : Dev Cert.RanksIdeal.nD) → Buf (Elt Ideal) ((c.tc : Thread Cert.RanksIdeal.nD Cert.RanksIdeal.τ).loc Cert.RanksIdeal.main_v0_0)) (v1 : (c : Dev Cert.RanksIdeal.nD) → Buf (Elt Ideal) ((c.tc : Thread Cert.RanksIdeal.nD Cert.RanksIdeal.τ).loc Cert.RanksIdeal.main_v0_1)),
      θ_run (Cert.RanksIdeal.defs (F := Ideal)) (onTc (τ := Cert.RanksIdeal.τ) (Cert.RanksIdeal.main (F := Ideal))) ⟨m, fun _ => 0, g⟩ (fun r => ∀ c : Dev Cert.RanksIdeal.nD,
          r.2.mem ((c.tc : Thread Cert.RanksIdeal.nD Cert.RanksIdeal.τ).loc Cert.RanksIdeal.main_v0_0) = v0 c
          ∧ r.2.mem ((c.tc : Thread Cert.RanksIdeal.nD Cert.RanksIdeal.τ).loc Cert.RanksIdeal.main_v0_1) = v1 c
          ∧ r.2.mem ((c.tc : Thread Cert.RanksIdeal.nD Cert.RanksIdeal.τ).loc Cert.RanksIdeal.main_arg0) = m ((c.tc : Thread Cert.RanksIdeal.nD Cert.RanksIdeal.τ).loc Cert.RanksIdeal.main_arg0)
          ∧ r.2.mem ((c.tc : Thread Cert.RanksIdeal.nD Cert.RanksIdeal.τ).loc Cert.RanksIdeal.main_arg1) = m ((c.tc : Thread Cert.RanksIdeal.nD Cert.RanksIdeal.τ).loc Cert.RanksIdeal.main_arg1))
      ∧ θ_run (Cert.RanksReferenceIdeal.defs (F := Ideal)) (onTc (τ := Cert.RanksReferenceIdeal.τ) (Cert.RanksReferenceIdeal.main (F := Ideal))) ⟨m', fun _ => 0, g'⟩ (fun r => ∀ c : Dev Cert.RanksReferenceIdeal.nD,
          r.2.mem ((c.tc : Thread Cert.RanksReferenceIdeal.nD Cert.RanksReferenceIdeal.τ).loc Cert.RanksReferenceIdeal.main_v14) = v0 c
          ∧ r.2.mem ((c.tc : Thread Cert.RanksReferenceIdeal.nD Cert.RanksReferenceIdeal.τ).loc Cert.RanksReferenceIdeal.main_indices) = v1 c
          ∧ r.2.mem ((c.tc : Thread Cert.RanksReferenceIdeal.nD Cert.RanksReferenceIdeal.τ).loc Cert.RanksReferenceIdeal.main_arg0) = m' ((c.tc : Thread Cert.RanksReferenceIdeal.nD Cert.RanksReferenceIdeal.τ).loc Cert.RanksReferenceIdeal.main_arg0)
          ∧ r.2.mem ((c.tc : Thread Cert.RanksReferenceIdeal.nD Cert.RanksReferenceIdeal.τ).loc Cert.RanksReferenceIdeal.main_arg1) = m' ((c.tc : Thread Cert.RanksReferenceIdeal.nD Cert.RanksReferenceIdeal.τ).loc Cert.RanksReferenceIdeal.main_arg1))

def preserves_Linear_LinearIdeal : Prop :=
  True

def algebraic_LinearIdeal_LinearReferenceIdeal [hLinearIdeal : Cert.LinearIdeal.Facts] [hLinearReferenceIdeal : Cert.LinearReferenceIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearReferenceIdeal.nD Cert.LinearReferenceIdeal.τ Cert.LinearReferenceIdeal.sig) → Buf (Elt Ideal) ℓ) (g' : Dev Cert.LinearReferenceIdeal.nD → PrngReg), Pre_LinearIdeal m →
    (∀ c : Dev Cert.LinearIdeal.nD,
      m' ((c.tc : Thread Cert.LinearReferenceIdeal.nD Cert.LinearReferenceIdeal.τ).loc Cert.LinearReferenceIdeal.main_arg0) = m ((c.tc : Thread Cert.LinearIdeal.nD Cert.LinearIdeal.τ).loc Cert.LinearIdeal.main_arg0)
      ∧ m' ((c.tc : Thread Cert.LinearReferenceIdeal.nD Cert.LinearReferenceIdeal.τ).loc Cert.LinearReferenceIdeal.main_arg1) = m ((c.tc : Thread Cert.LinearIdeal.nD Cert.LinearIdeal.τ).loc Cert.LinearIdeal.main_arg1)
      ∧ m' ((c.tc : Thread Cert.LinearReferenceIdeal.nD Cert.LinearReferenceIdeal.τ).loc Cert.LinearReferenceIdeal.main_arg2) = m ((c.tc : Thread Cert.LinearIdeal.nD Cert.LinearIdeal.τ).loc Cert.LinearIdeal.main_arg2)
      ∧ m' ((c.tc : Thread Cert.LinearReferenceIdeal.nD Cert.LinearReferenceIdeal.τ).loc Cert.LinearReferenceIdeal.main_arg3) = m ((c.tc : Thread Cert.LinearIdeal.nD Cert.LinearIdeal.τ).loc Cert.LinearIdeal.main_arg3)
      ∧ m' ((c.tc : Thread Cert.LinearReferenceIdeal.nD Cert.LinearReferenceIdeal.τ).loc Cert.LinearReferenceIdeal.main_arg4) = m ((c.tc : Thread Cert.LinearIdeal.nD Cert.LinearIdeal.τ).loc Cert.LinearIdeal.main_arg4)) →
    ∃ (v0 : (c : Dev Cert.LinearIdeal.nD) → Buf (Elt Ideal) ((c.tc : Thread Cert.LinearIdeal.nD Cert.LinearIdeal.τ).loc Cert.LinearIdeal.main_v2_0)) (v1 : (c : Dev Cert.LinearIdeal.nD) → Buf (Elt Ideal) ((c.tc : Thread Cert.LinearIdeal.nD Cert.LinearIdeal.τ).loc Cert.LinearIdeal.main_v2_1)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v2_0) = v0 c
          ∧ r.2.mem ((c.tc : Thread Cert.LinearIdeal.nD Cert.LinearIdeal.τ).loc Cert.LinearIdeal.main_v2_1) = v1 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
          ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4))
      ∧ θ_run (Cert.LinearReferenceIdeal.defs (F := Ideal)) (onTc (τ := Cert.LinearReferenceIdeal.τ) (Cert.LinearReferenceIdeal.main (F := Ideal))) ⟨m', fun _ => 0, g'⟩ (fun r => ∀ c : Dev Cert.LinearReferenceIdeal.nD,
          r.2.mem ((c.tc : Thread Cert.LinearReferenceIdeal.nD Cert.LinearReferenceIdeal.τ).loc Cert.LinearReferenceIdeal.main_v4) = v0 c
          ∧ r.2.mem ((c.tc : Thread Cert.LinearReferenceIdeal.nD Cert.LinearReferenceIdeal.τ).loc Cert.LinearReferenceIdeal.main_v9) = v1 c
          ∧ r.2.mem ((c.tc : Thread Cert.LinearReferenceIdeal.nD Cert.LinearReferenceIdeal.τ).loc Cert.LinearReferenceIdeal.main_arg0) = m' ((c.tc : Thread Cert.LinearReferenceIdeal.nD Cert.LinearReferenceIdeal.τ).loc Cert.LinearReferenceIdeal.main_arg0)
          ∧ r.2.mem ((c.tc : Thread Cert.LinearReferenceIdeal.nD Cert.LinearReferenceIdeal.τ).loc Cert.LinearReferenceIdeal.main_arg1) = m' ((c.tc : Thread Cert.LinearReferenceIdeal.nD Cert.LinearReferenceIdeal.τ).loc Cert.LinearReferenceIdeal.main_arg1)
          ∧ r.2.mem ((c.tc : Thread Cert.LinearReferenceIdeal.nD Cert.LinearReferenceIdeal.τ).loc Cert.LinearReferenceIdeal.main_arg2) = m' ((c.tc : Thread Cert.LinearReferenceIdeal.nD Cert.LinearReferenceIdeal.τ).loc Cert.LinearReferenceIdeal.main_arg2)
          ∧ r.2.mem ((c.tc : Thread Cert.LinearReferenceIdeal.nD Cert.LinearReferenceIdeal.τ).loc Cert.LinearReferenceIdeal.main_arg3) = m' ((c.tc : Thread Cert.LinearReferenceIdeal.nD Cert.LinearReferenceIdeal.τ).loc Cert.LinearReferenceIdeal.main_arg3)
          ∧ r.2.mem ((c.tc : Thread Cert.LinearReferenceIdeal.nD Cert.LinearReferenceIdeal.τ).loc Cert.LinearReferenceIdeal.main_arg4) = m' ((c.tc : Thread Cert.LinearReferenceIdeal.nD Cert.LinearReferenceIdeal.τ).loc Cert.LinearReferenceIdeal.main_arg4))

def algebraic_WholeIdeal_MathsIdeal_pre_scores_apart [hWholeIdeal : Cert.WholeIdeal.Facts] [hMathsIdeal : Cert.MathsIdeal.Facts] [hPre_scores_apart : Cert.Pre_scores_apart.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.MathsIdeal.nD Cert.MathsIdeal.τ Cert.MathsIdeal.sig) → Buf (Elt Ideal) ℓ) (g' : Dev Cert.MathsIdeal.nD → PrngReg), Pre_WholeIdeal_scores_apart m →
    (∀ c : Dev Cert.WholeIdeal.nD,
      m' ((c.tc : Thread Cert.MathsIdeal.nD Cert.MathsIdeal.τ).loc Cert.MathsIdeal.main_arg0) = m ((c.tc : Thread Cert.WholeIdeal.nD Cert.WholeIdeal.τ).loc Cert.WholeIdeal.main_arg0)
      ∧ m' ((c.tc : Thread Cert.MathsIdeal.nD Cert.MathsIdeal.τ).loc Cert.MathsIdeal.main_arg1) = m ((c.tc : Thread Cert.WholeIdeal.nD Cert.WholeIdeal.τ).loc Cert.WholeIdeal.main_arg1)
      ∧ m' ((c.tc : Thread Cert.MathsIdeal.nD Cert.MathsIdeal.τ).loc Cert.MathsIdeal.main_arg2) = m ((c.tc : Thread Cert.WholeIdeal.nD Cert.WholeIdeal.τ).loc Cert.WholeIdeal.main_arg2)
      ∧ m' ((c.tc : Thread Cert.MathsIdeal.nD Cert.MathsIdeal.τ).loc Cert.MathsIdeal.main_arg3) = m ((c.tc : Thread Cert.WholeIdeal.nD Cert.WholeIdeal.τ).loc Cert.WholeIdeal.main_arg3)
      ∧ m' ((c.tc : Thread Cert.MathsIdeal.nD Cert.MathsIdeal.τ).loc Cert.MathsIdeal.main_arg4) = m ((c.tc : Thread Cert.WholeIdeal.nD Cert.WholeIdeal.τ).loc Cert.WholeIdeal.main_arg4)) →
    ∃ (v0 : (c : Dev Cert.WholeIdeal.nD) → Buf (Elt Ideal) ((c.tc : Thread Cert.WholeIdeal.nD Cert.WholeIdeal.τ).loc Cert.WholeIdeal.main_v7)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v7) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4))
      ∧ θ_run (Cert.MathsIdeal.defs (F := Ideal)) (onTc (τ := Cert.MathsIdeal.τ) (Cert.MathsIdeal.main (F := Ideal))) ⟨m', fun _ => 0, g'⟩ (fun r => ∀ c : Dev Cert.MathsIdeal.nD,
          r.2.mem ((c.tc : Thread Cert.MathsIdeal.nD Cert.MathsIdeal.τ).loc Cert.MathsIdeal.main_v55) = v0 c
          ∧ r.2.mem ((c.tc : Thread Cert.MathsIdeal.nD Cert.MathsIdeal.τ).loc Cert.MathsIdeal.main_arg0) = m' ((c.tc : Thread Cert.MathsIdeal.nD Cert.MathsIdeal.τ).loc Cert.MathsIdeal.main_arg0)
          ∧ r.2.mem ((c.tc : Thread Cert.MathsIdeal.nD Cert.MathsIdeal.τ).loc Cert.MathsIdeal.main_arg1) = m' ((c.tc : Thread Cert.MathsIdeal.nD Cert.MathsIdeal.τ).loc Cert.MathsIdeal.main_arg1)
          ∧ r.2.mem ((c.tc : Thread Cert.MathsIdeal.nD Cert.MathsIdeal.τ).loc Cert.MathsIdeal.main_arg2) = m' ((c.tc : Thread Cert.MathsIdeal.nD Cert.MathsIdeal.τ).loc Cert.MathsIdeal.main_arg2)
          ∧ r.2.mem ((c.tc : Thread Cert.MathsIdeal.nD Cert.MathsIdeal.τ).loc Cert.MathsIdeal.main_arg3) = m' ((c.tc : Thread Cert.MathsIdeal.nD Cert.MathsIdeal.τ).loc Cert.MathsIdeal.main_arg3)
          ∧ r.2.mem ((c.tc : Thread Cert.MathsIdeal.nD Cert.MathsIdeal.τ).loc Cert.MathsIdeal.main_arg4) = m' ((c.tc : Thread Cert.MathsIdeal.nD Cert.MathsIdeal.τ).loc Cert.MathsIdeal.main_arg4))

def Claim : Prop :=
  ∃ (hKernel : Cert.Kernel.Facts) (hKernelIdeal : Cert.KernelIdeal.Facts) (hReferenceIdeal : Cert.ReferenceIdeal.Facts) (hRanks : Cert.Ranks.Facts) (hRanksIdeal : Cert.RanksIdeal.Facts) (hRanksReferenceIdeal : Cert.RanksReferenceIdeal.Facts) (hLinear : Cert.Linear.Facts) (hLinearIdeal : Cert.LinearIdeal.Facts) (hLinearReferenceIdeal : Cert.LinearReferenceIdeal.Facts) (hWholeIdeal : Cert.WholeIdeal.Facts) (hMathsIdeal : Cert.MathsIdeal.Facts) (hPre_columns_in_range : Cert.Pre_columns_in_range.Facts) (hPre_ranks_apart : Cert.Pre_ranks_apart.Facts) (hPre_scores_apart : Cert.Pre_scores_apart.Facts),
    quiescent_Kernel (hKernel := hKernel) (hPre_columns_in_range := hPre_columns_in_range)
    ∧ quiescent_KernelIdeal (hKernelIdeal := hKernelIdeal) (hPre_columns_in_range := hPre_columns_in_range)
    ∧ quiescent_ReferenceIdeal (hReferenceIdeal := hReferenceIdeal)
    ∧ quiescent_ReferenceIdeal_pre_columns_in_range (hReferenceIdeal := hReferenceIdeal) (hPre_columns_in_range := hPre_columns_in_range)
    ∧ quiescent_Ranks (hRanks := hRanks)
    ∧ quiescent_RanksIdeal (hRanksIdeal := hRanksIdeal)
    ∧ quiescent_RanksIdeal_pre_ranks_apart (hRanksIdeal := hRanksIdeal) (hPre_ranks_apart := hPre_ranks_apart)
    ∧ quiescent_RanksReferenceIdeal (hRanksReferenceIdeal := hRanksReferenceIdeal)
    ∧ quiescent_RanksReferenceIdeal_pre_ranks_apart (hRanksReferenceIdeal := hRanksReferenceIdeal) (hPre_ranks_apart := hPre_ranks_apart)
    ∧ quiescent_Linear (hLinear := hLinear)
    ∧ quiescent_LinearIdeal (hLinearIdeal := hLinearIdeal)
    ∧ quiescent_LinearReferenceIdeal (hLinearReferenceIdeal := hLinearReferenceIdeal)
    ∧ quiescent_WholeIdeal (hWholeIdeal := hWholeIdeal)
    ∧ quiescent_WholeIdeal_pre_scores_apart (hWholeIdeal := hWholeIdeal) (hPre_scores_apart := hPre_scores_apart)
    ∧ quiescent_MathsIdeal (hMathsIdeal := hMathsIdeal)
    ∧ quiescent_MathsIdeal_pre_scores_apart (hMathsIdeal := hMathsIdeal) (hPre_scores_apart := hPre_scores_apart)
    ∧ preserves_Kernel_KernelIdeal
    ∧ algebraic_KernelIdeal_ReferenceIdeal (hKernelIdeal := hKernelIdeal) (hReferenceIdeal := hReferenceIdeal) (hPre_columns_in_range := hPre_columns_in_range)
    ∧ preserves_Ranks_RanksIdeal
    ∧ algebraic_RanksIdeal_RanksReferenceIdeal_pre_ranks_apart (hRanksIdeal := hRanksIdeal) (hRanksReferenceIdeal := hRanksReferenceIdeal) (hPre_ranks_apart := hPre_ranks_apart)
    ∧ preserves_Linear_LinearIdeal
    ∧ algebraic_LinearIdeal_LinearReferenceIdeal (hLinearIdeal := hLinearIdeal) (hLinearReferenceIdeal := hLinearReferenceIdeal)
    ∧ algebraic_WholeIdeal_MathsIdeal_pre_scores_apart (hWholeIdeal := hWholeIdeal) (hMathsIdeal := hMathsIdeal) (hPre_scores_apart := hPre_scores_apart)
-- ==== Pre_columns_in_range.lean ====
abbrev S2x4096x8 : Shape := ⟨3, ![2, 4096, 8]⟩
abbrev S_ : Shape := ⟨0, ![]⟩

class Facts : Prop where
  bcast_S_S2x4096x8 : S_.BroadcastsInDim S2x4096x8 (![] : Fin 0 → Fin S2x4096x8.rank)

variable [Facts]

def fn {F : FTy → Type} [FloatOps F] (main_arg0 : FVec F S2x4096x8 .f32) (main_arg1 : IVec S2x4096x8 32) : IVec S2x4096x8 1 :=
  let main_c : IVec S_ 32 := constantI S_ 32 0#32
  let main_v0 : IVec S2x4096x8 32 := broadcastInDim S2x4096x8 ![] bcast_S_S2x4096x8 main_c
  let main_v1 : IVec S2x4096x8 1 := cmpi .sge main_arg1 main_v0
  let main_c_0 : IVec S_ 32 := constantI S_ 32 4096#32
  let main_v2 : IVec S2x4096x8 32 := broadcastInDim S2x4096x8 ![] bcast_S_S2x4096x8 main_c_0
  let main_v3 : IVec S2x4096x8 1 := cmpi .slt main_arg1 main_v2
  let main_v4 : IVec S2x4096x8 1 := andi main_v1 main_v3
  main_v4
-- ==== Pre_ranks_apart.lean ====
abbrev S2x4096x192 : Shape := ⟨3, ![2, 4096, 192]⟩
abbrev S2x4096x4096 : Shape := ⟨3, ![2, 4096, 4096]⟩
abbrev S_ : Shape := ⟨0, ![]⟩
abbrev S2x4096x8 : Shape := ⟨3, ![2, 4096, 8]⟩
abbrev S2x4096x7 : Shape := ⟨3, ![2, 4096, 7]⟩

class Facts : Prop where
  bcast_S_S2x4096x4096 : S_.BroadcastsInDim S2x4096x4096 (![] : Fin 0 → Fin S2x4096x4096.rank)
  sliceFits_S2x4096x4096_S2x4096x8 : S2x4096x4096.Slices (fun _ => 0) S2x4096x8
  slices_S2x4096x8_S2x4096x7_0_0_1 : S2x4096x8.Slices ![0, 0, 1] S2x4096x7
  slices_S2x4096x8_S2x4096x7_0_0_0 : S2x4096x8.Slices ![0, 0, 0] S2x4096x7
  bcast_S_S2x4096x7 : S_.BroadcastsInDim S2x4096x7 (![] : Fin 0 → Fin S2x4096x7.rank)
  dot_S2x4096x192_S2x4096x192_S2x4096x4096_2_2_1_1_0_0_wf : DotDims.WF S2x4096x192 S2x4096x192 S2x4096x4096 [2] [2] [1] [1] [0] [0]

variable [Facts]

def dot_S2x4096x192_S2x4096x192_S2x4096x4096_2_2_1_1_0_0 : DotDims S2x4096x192 S2x4096x192 S2x4096x4096 where
  lhsContracting := [2]
  rhsContracting := [2]
  lhsNonContracting := [1]
  rhsNonContracting := [1]
  lhsBatch := [0]
  rhsBatch := [0]
  wf := dot_S2x4096x192_S2x4096x192_S2x4096x4096_2_2_1_1_0_0_wf
def fn {F : FTy → Type} [FloatOps F] (main_arg0 : FVec F S2x4096x192 .f32) (main_arg1 : FVec F S2x4096x192 .f32) : IVec S2x4096x7 1 :=
  let main_v0 : FVec F S2x4096x4096 .f32 := (fun l r => Host.dotGeneral dot_S2x4096x192_S2x4096x192_S2x4096x4096_2_2_1_1_0_0 none l r) main_arg0 main_arg1
  let main_cst : FVec F S_ .f32 := constant S_ .f32 0x43400000#32
  let main_v1 : FVec F S_ .f32 := Host.sqrt main_cst
  let main_v2 : FVec F S2x4096x4096 .f32 := broadcastInDim S2x4096x4096 ![] bcast_S_S2x4096x4096 main_v1
  let main_v3 : FVec F S2x4096x4096 .f32 := Host.divf main_v0 main_v2
  let main_values : FVec F S2x4096x8 .f32 := (fun x => (Host.topK S2x4096x8 2 (FloatOps.cmpfTotal .gt) x sliceFits_S2x4096x4096_S2x4096x8).1) main_v3
  let main_indices : IVec S2x4096x8 32 := (fun x => (Host.topK S2x4096x8 2 (FloatOps.cmpfTotal .gt) x sliceFits_S2x4096x4096_S2x4096x8).2) main_v3
  let main_v4 : FVec F S2x4096x7 .f32 := (extractStridedSlice S2x4096x7 ![0, 0, 1] · slices_S2x4096x8_S2x4096x7_0_0_1) main_values
  let main_v5 : FVec F S2x4096x7 .f32 := (extractStridedSlice S2x4096x7 ![0, 0, 0] · slices_S2x4096x8_S2x4096x7_0_0_0) main_values
  let main_v6 : IVec S2x4096x7 1 := cmpf .olt main_v4 main_v5
  let main_v7 : FVec F S2x4096x7 .f32 := (extractStridedSlice S2x4096x7 ![0, 0, 1] · slices_S2x4096x8_S2x4096x7_0_0_1) main_values
  let main_cst_0 : FVec F S_ .f32 := constant S_ .f32 0xFF800000#32
  let main_v8 : FVec F S2x4096x7 .f32 := broadcastInDim S2x4096x7 ![] bcast_S_S2x4096x7 main_cst_0
  let main_v9 : IVec S2x4096x7 1 := cmpf .ogt main_v7 main_v8
  let main_v10 : IVec S2x4096x7 1 := andi main_v6 main_v9
  main_v10
-- ==== Pre_scores_apart.lean ====
abbrev S2x4096x768 : Shape := ⟨3, ![2, 4096, 768]⟩
abbrev S192x768 : Shape := ⟨2, ![192, 768]⟩
abbrev S192 : Shape := ⟨1, ![192]⟩
abbrev S768x192 : Shape := ⟨2, ![768, 192]⟩
abbrev S2x4096x192 : Shape := ⟨3, ![2, 4096, 192]⟩
abbrev S1x1x192 : Shape := ⟨3, ![1, 1, 192]⟩
abbrev S2x4096x4096 : Shape := ⟨3, ![2, 4096, 4096]⟩
abbrev S_ : Shape := ⟨0, ![]⟩
abbrev S2x4096x8 : Shape := ⟨3, ![2, 4096, 8]⟩
abbrev S2x4096x7 : Shape := ⟨3, ![2, 4096, 7]⟩

class Facts : Prop where
  transposes_S192x768_S768x192_1_0 : S192x768.Transposes [1, 0] S768x192
  bcast_S192_S1x1x192_2 : S192.BroadcastsInDim S1x1x192 (![2] : Fin 1 → Fin S1x1x192.rank)
  bcast_S1x1x192_S2x4096x192_0_1_2 : S1x1x192.BroadcastsInDim S2x4096x192 (![0, 1, 2] : Fin 3 → Fin S2x4096x192.rank)
  bcast_S_S2x4096x4096 : S_.BroadcastsInDim S2x4096x4096 (![] : Fin 0 → Fin S2x4096x4096.rank)
  sliceFits_S2x4096x4096_S2x4096x8 : S2x4096x4096.Slices (fun _ => 0) S2x4096x8
  slices_S2x4096x8_S2x4096x7_0_0_1 : S2x4096x8.Slices ![0, 0, 1] S2x4096x7
  slices_S2x4096x8_S2x4096x7_0_0_0 : S2x4096x8.Slices ![0, 0, 0] S2x4096x7
  bcast_S_S2x4096x7 : S_.BroadcastsInDim S2x4096x7 (![] : Fin 0 → Fin S2x4096x7.rank)
  dot_S2x4096x768_S768x192_S2x4096x192_2_0_01_1_n_n_wf : DotDims.WF S2x4096x768 S768x192 S2x4096x192 [2] [0] [0, 1] [1] [] []
  dot_S2x4096x192_S2x4096x192_S2x4096x4096_2_2_1_1_0_0_wf : DotDims.WF S2x4096x192 S2x4096x192 S2x4096x4096 [2] [2] [1] [1] [0] [0]

variable [Facts]

def dot_S2x4096x768_S768x192_S2x4096x192_2_0_01_1_n_n : DotDims S2x4096x768 S768x192 S2x4096x192 where
  lhsContracting := [2]
  rhsContracting := [0]
  lhsNonContracting := [0, 1]
  rhsNonContracting := [1]
  lhsBatch := []
  rhsBatch := []
  wf := dot_S2x4096x768_S768x192_S2x4096x192_2_0_01_1_n_n_wf
def dot_S2x4096x192_S2x4096x192_S2x4096x4096_2_2_1_1_0_0 : DotDims S2x4096x192 S2x4096x192 S2x4096x4096 where
  lhsContracting := [2]
  rhsContracting := [2]
  lhsNonContracting := [1]
  rhsNonContracting := [1]
  lhsBatch := [0]
  rhsBatch := [0]
  wf := dot_S2x4096x192_S2x4096x192_S2x4096x4096_2_2_1_1_0_0_wf
def fn_part1 {F : FTy → Type} [FloatOps F] (main_values : FVec F S2x4096x8 .f32) (main_v16 : IVec S2x4096x7 1) (main_v19 : IVec S2x4096x7 1) : IVec S2x4096x7 1 :=
  let main_v20 : IVec S2x4096x7 1 := andi main_v16 main_v19
  let main_v21 : FVec F S2x4096x7 .f32 := (extractStridedSlice S2x4096x7 ![0, 0, 0] · slices_S2x4096x8_S2x4096x7_0_0_0) main_values
  let main_cst_1 : FVec F S_ .f32 := constant S_ .f32 0x7F800000#32
  let main_v22 : FVec F S2x4096x7 .f32 := broadcastInDim S2x4096x7 ![] bcast_S_S2x4096x7 main_cst_1
  let main_v23 : IVec S2x4096x7 1 := cmpf .olt main_v21 main_v22
  let main_v24 : IVec S2x4096x7 1 := andi main_v20 main_v23
  main_v24

def fn {F : FTy → Type} [FloatOps F] (main_arg0 : FVec F S2x4096x768 .f32) (main_arg1 : FVec F S192x768 .f32) (main_arg2 : FVec F S192 .f32) (main_arg3 : FVec F S192x768 .f32) (main_arg4 : FVec F S192 .f32) : IVec S2x4096x7 1 :=
  let main_v0 : FVec F S768x192 .f32 := (transpose S768x192 [1, 0] · transposes_S192x768_S768x192_1_0) main_arg1
  let main_v1 : FVec F S2x4096x192 .f32 := (fun l r => Host.dotGeneral dot_S2x4096x768_S768x192_S2x4096x192_2_0_01_1_n_n none l r) main_arg0 main_v0
  let main_v2 : FVec F S1x1x192 .f32 := broadcastInDim S1x1x192 ![2] bcast_S192_S1x1x192_2 main_arg2
  let main_v3 : FVec F S2x4096x192 .f32 := broadcastInDim S2x4096x192 ![0, 1, 2] bcast_S1x1x192_S2x4096x192_0_1_2 main_v2
  let main_v4 : FVec F S2x4096x192 .f32 := addf main_v1 main_v3
  let main_v5 : FVec F S768x192 .f32 := (transpose S768x192 [1, 0] · transposes_S192x768_S768x192_1_0) main_arg3
  let main_v6 : FVec F S2x4096x192 .f32 := (fun l r => Host.dotGeneral dot_S2x4096x768_S768x192_S2x4096x192_2_0_01_1_n_n none l r) main_arg0 main_v5
  let main_v7 : FVec F S1x1x192 .f32 := broadcastInDim S1x1x192 ![2] bcast_S192_S1x1x192_2 main_arg4
  let main_v8 : FVec F S2x4096x192 .f32 := broadcastInDim S2x4096x192 ![0, 1, 2] bcast_S1x1x192_S2x4096x192_0_1_2 main_v7
  let main_v9 : FVec F S2x4096x192 .f32 := addf main_v6 main_v8
  let main_v10 : FVec F S2x4096x4096 .f32 := (fun l r => Host.dotGeneral dot_S2x4096x192_S2x4096x192_S2x4096x4096_2_2_1_1_0_0 none l r) main_v4 main_v9
  let main_cst : FVec F S_ .f32 := constant S_ .f32 0x43400000#32
  let main_v11 : FVec F S_ .f32 := Host.sqrt main_cst
  let main_v12 : FVec F S2x4096x4096 .f32 := broadcastInDim S2x4096x4096 ![] bcast_S_S2x4096x4096 main_v11
  let main_v13 : FVec F S2x4096x4096 .f32 := Host.divf main_v10 main_v12
  let main_values : FVec F S2x4096x8 .f32 := (fun x => (Host.topK S2x4096x8 2 (FloatOps.cmpfTotal .gt) x sliceFits_S2x4096x4096_S2x4096x8).1) main_v13
  let main_indices : IVec S2x4096x8 32 := (fun x => (Host.topK S2x4096x8 2 (FloatOps.cmpfTotal .gt) x sliceFits_S2x4096x4096_S2x4096x8).2) main_v13
  let main_v14 : FVec F S2x4096x7 .f32 := (extractStridedSlice S2x4096x7 ![0, 0, 1] · slices_S2x4096x8_S2x4096x7_0_0_1) main_values
  let main_v15 : FVec F S2x4096x7 .f32 := (extractStridedSlice S2x4096x7 ![0, 0, 0] · slices_S2x4096x8_S2x4096x7_0_0_0) main_values
  let main_v16 : IVec S2x4096x7 1 := cmpf .olt main_v14 main_v15
  let main_v17 : FVec F S2x4096x7 .f32 := (extractStridedSlice S2x4096x7 ![0, 0, 1] · slices_S2x4096x8_S2x4096x7_0_0_1) main_values
  let main_cst_0 : FVec F S_ .f32 := constant S_ .f32 0xFF800000#32
  let main_v18 : FVec F S2x4096x7 .f32 := broadcastInDim S2x4096x7 ![] bcast_S_S2x4096x7 main_cst_0
  let main_v19 : IVec S2x4096x7 1 := cmpf .ogt main_v17 main_v18
  fn_part1 (F := F) main_values main_v16 main_v19
-- ==== Kernel.lean ====
abbrev S2x4096x8 : Shape := ⟨3, ![2, 4096, 8]⟩
abbrev S65536 : Shape := ⟨1, ![65536]⟩
abbrev S8192x4096 : Shape := ⟨2, ![8192, 4096]⟩
abbrev S2048 : Shape := ⟨1, ![2048]⟩
abbrev S8x4096 : Shape := ⟨2, ![8, 4096]⟩
abbrev S_ : Shape := ⟨0, ![]⟩
abbrev S16 : Shape := ⟨1, ![16]⟩
abbrev S1x16 : Shape := ⟨2, ![1, 16]⟩
abbrev S2x4096x4096 : Shape := ⟨3, ![2, 4096, 4096]⟩

abbrev nBuf : Table → Nat
  | .hbm => 6
  | .local .scVector .vmem => 4
  | _ => 0

abbrev bufTy : (tb : Table) → Fin (nBuf tb) → BufTy
  | .hbm, ⟨0, _⟩ => ⟨S2x4096x8, .f32⟩
  | .hbm, ⟨1, _⟩ => ⟨S2x4096x8, .i32⟩
  | .hbm, ⟨2, _⟩ => ⟨S65536, .f32⟩
  | .hbm, ⟨3, _⟩ => ⟨S65536, .i32⟩
  | .hbm, ⟨4, _⟩ => ⟨S8192x4096, .f32⟩
  | .hbm, ⟨5, _⟩ => ⟨S2x4096x4096, .f32⟩
  | .local .scVector .vmem, ⟨0, _⟩ => ⟨S2048, .i32⟩
  | .local .scVector .vmem, ⟨1, _⟩ => ⟨S2048, .f32⟩
  | .local .scVector .vmem, ⟨2, _⟩ => ⟨S8x4096, .f32⟩
  | .local .scVector .vmem, ⟨3, _⟩ => ⟨S8x4096, .f32⟩
  | _, _ => ⟨S2x4096x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  ![v3.toNat]
@[reducible] def k0_t1_loop : Scf.Loop 32 :=
  let c0_i32_1 : BitVec 32 := 0#32
  let c2048_i32 : BitVec 32 := 2048#32
  let v6 : BitVec 32 := Scalar.addi c0_i32_1 c2048_i32
  let c1_i32 : BitVec 32 := 1#32
  ⟨c0_i32_1, v6, c1_i32⟩
def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c8_i32_23 : BitVec 32 := 8#32
  let c0_i32_24 : BitVec 32 := 0#32
  let v38 : BitVec 1 := Scalar.cmpi .eq c8_i32_23 c0_i32_24
  let c1_i32_25 : BitVec 32 := 1#32
  let v39 : BitVec 32 := Scalar.select v38 c1_i32_25 c8_i32_23
  let v40 : BitVec 32 := Scalar.remsi arg11 v39
  let c0_i32_27 : BitVec 32 := 0#32
  let v42 : BitVec 1 := Scalar.cmpi .slt v40 c0_i32_27
  let c0_i32_28 : BitVec 32 := 0#32
  let v43 : BitVec 1 := Scalar.cmpi .slt v39 c0_i32_28
  let v44 : BitVec 1 := Scalar.xori v42 v43
  let c0_i32_26 : BitVec 32 := 0#32
  let v41 : BitVec 1 := Scalar.cmpi .ne v40 c0_i32_26
  let v45 : BitVec 1 := Scalar.andi v44 v41
  let v46 : BitVec 32 := Scalar.addi v40 v39
  let v47 : BitVec 32 := Scalar.select v45 v46 v40
  let v66 : Index := Scalar.indexCast v47
  let c0_i32_30 : BitVec 32 := 0#32
  let v49 : BitVec 1 := Scalar.cmpi .sgt arg11 c0_i32_30
  let v50 : BitVec 32 := Scalar.extui v49
  let c0_i32_31 : BitVec 32 := 0#32
  let v51 : BitVec 1 := Scalar.cmpi .slt arg11 c0_i32_31
  let v52 : BitVec 32 := Scalar.extui v51
  let v53 : BitVec 32 := Scalar.subi v50 v52
  let c8_i32_29 : BitVec 32 := 8#32
  let c0_i32_32 : BitVec 32 := 0#32
  let v54 : BitVec 1 := Scalar.cmpi .sgt c8_i32_29 c0_i32_32
  let v55 : BitVec 32 := Scalar.extui v54
  let c0_i32_33 : BitVec 32 := 0#32
  let v56 : BitVec 1 := Scalar.cmpi .slt c8_i32_29 c0_i32_33
  let v57 : BitVec 32 := Scalar.extui v56
  let v58 : BitVec 32 := Scalar.subi v55 v57
  let v59 : BitVec 1 := Scalar.cmpi .ne v53 v58
  let v60 : BitVec 32 := Scalar.remsi arg11 c8_i32_29
  let c0_i32_34 : BitVec 32 := 0#32
  let v61 : BitVec 1 := Scalar.cmpi .ne v60 c0_i32_34
  let v62 : BitVec 1 := Scalar.andi v59 v61
  let v48 : BitVec 32 := Scalar.divsi arg11 c8_i32_29
  let c1_i32_35 : BitVec 32 := 1#32
  let v63 : BitVec 32 := Scalar.subi v48 c1_i32_35
  let v64 : BitVec 32 := Scalar.select v62 v63 v48
  let c16_i32 : BitVec 32 := 16#32
  let v65 : BitVec 32 := Scalar.muli v64 c16_i32
  let v67 : Index := Scalar.indexCast v65
  ![v66.toNat, v67.toNat]
@[reducible] def k0_t2_loop : Scf.Loop 32 :=
  let c0_i32_11 : BitVec 32 := 0#32
  let c32_i32_12 : BitVec 32 := 32#32
  let v33 : BitVec 32 := Scalar.addi c0_i32_11 c32_i32_12
  let c1_i32_13 : BitVec 32 := 1#32
  ⟨c0_i32_11, v33, c1_i32_13⟩
def k0_cond1 (k0_t2 : Fin k0_t2_loop.trips) : BitVec 1 :=
  let c0_i32_11 : BitVec 32 := 0#32
  let c1_i32_13 : BitVec 32 := 1#32
  let arg11 : BitVec 32 := Scf.iv c0_i32_11 c1_i32_13 k0_t2
  let c2_i32_23 : BitVec 32 := 2#32
  let c0_i32_24 : BitVec 32 := 0#32
  let v38 : BitVec 1 := Scalar.cmpi .eq c2_i32_23 c0_i32_24
  let c1_i32_25 : BitVec 32 := 1#32
  let v39 : BitVec 32 := Scalar.select v38 c1_i32_25 c2_i32_23
  let v40 : BitVec 32 := Scalar.remsi arg11 v39
  let c0_i32_27 : BitVec 32 := 0#32
  let v42 : BitVec 1 := Scalar.cmpi .slt v40 c0_i32_27
  let c0_i32_28 : BitVec 32 := 0#32
  let v43 : BitVec 1 := Scalar.cmpi .slt v39 c0_i32_28
  let v44 : BitVec 1 := Scalar.xori v42 v43
  let c0_i32_26 : BitVec 32 := 0#32
  let v41 : BitVec 1 := Scalar.cmpi .ne v40 c0_i32_26
  let v45 : BitVec 1 := Scalar.andi v44 v41
  let v46 : BitVec 32 := Scalar.addi v40 v39
  let v47 : BitVec 32 := Scalar.select v45 v46 v40
  let c0_i32_29 : BitVec 32 := 0#32
  let v48 : BitVec 1 := Scalar.cmpi .eq v47 c0_i32_29
  let v49 : BitVec 32 := Scalar.extui v48
  let c0_i32_30 : BitVec 32 := 0#32
  let v50 : BitVec 1 := Scalar.cmpi .ne v49 c0_i32_30
  v50

def k0_cond2 (k0_t2 : Fin k0_t2_loop.trips) : BitVec 1 :=
  let c0_i32_11 : BitVec 32 := 0#32
  let c1_i32_13 : BitVec 32 := 1#32
  let arg11 : BitVec 32 := Scf.iv c0_i32_11 c1_i32_13 k0_t2
  let c2_i32_39 : BitVec 32 := 2#32
  let v64 : BitVec 1 := Scalar.cmpi .sge arg11 c2_i32_39
  let v65 : BitVec 32 := Scalar.extui v64
  let c0_i32_40 : BitVec 32 := 0#32
  let v66 : BitVec 1 := Scalar.cmpi .ne v65 c0_i32_40
  v66

def k0_off3 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_64 : BitVec 32 := 2#32
  let v113 : BitVec 32 := Scalar.subi arg11 c2_i32_64
  let c64_i32_65 : BitVec 32 := 64#32
  let v114 : BitVec 32 := Scalar.muli v113 c64_i32_65
  let c0_i32_66 : BitVec 32 := 0#32
  let v115 : BitVec 32 := Scalar.addi v114 c0_i32_66
  let v116 : Index := Scalar.indexCast v115
  ![v116.toNat]

def k0_chk1 (k0_t2 : Fin k0_t2_loop.trips) (v117 : IVec S16 32) (v119 : IVec S16 32) : Prop :=
  (∀ (k0_h1 : k0_cond1 k0_t2 = 1#1), ∀ (k0_h2 : k0_cond2 k0_t2 = 1#1), ∀ a x, ((![v119, v117] : Fin 2 → IVec S16 32) a x).toNat < S8x4096.size a)
theorem k0_idx1_inb : ∀ (k0_t2 : Fin k0_t2_loop.trips) (v117 : IVec S16 32) (v119 : IVec S16 32) (k0_hw1 : k0_chk1 k0_t2 v117 v119), ∀ (k0_h1 : k0_cond1 k0_t2 = 1#1), ∀ (k0_h2 : k0_cond2 k0_t2 = 1#1), ∀ a x, ((![v119, v117] : Fin 2 → IVec S16 32) a x).toNat < S8x4096.size a := fun k0_t2 v117 v119 k0_hw1 k0_h1 k0_h2 => k0_hw1 k0_h1 k0_h2
def k0_off4 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_68 : BitVec 32 := 2#32
  let v120 : BitVec 32 := Scalar.subi arg11 c2_i32_68
  let c64_i32_69 : BitVec 32 := 64#32
  let v121 : BitVec 32 := Scalar.muli v120 c64_i32_69
  let c16_i32_70 : BitVec 32 := 16#32
  let v122 : BitVec 32 := Scalar.addi v121 c16_i32_70
  let v123 : Index := Scalar.indexCast v122
  ![v123.toNat]

def k0_chk2 (k0_t2 : Fin k0_t2_loop.trips) (v124 : IVec S16 32) (v126 : IVec S16 32) : Prop :=
  (∀ (k0_h1 : k0_cond1 k0_t2 = 1#1), ∀ (k0_h2 : k0_cond2 k0_t2 = 1#1), ∀ a x, ((![v126, v124] : Fin 2 → IVec S16 32) a x).toNat < S8x4096.size a)
theorem k0_idx2_inb : ∀ (k0_t2 : Fin k0_t2_loop.trips) (v124 : IVec S16 32) (v126 : IVec S16 32) (k0_hw2 : k0_chk2 k0_t2 v124 v126), ∀ (k0_h1 : k0_cond1 k0_t2 = 1#1), ∀ (k0_h2 : k0_cond2 k0_t2 = 1#1), ∀ a x, ((![v126, v124] : Fin 2 → IVec S16 32) a x).toNat < S8x4096.size a := fun k0_t2 v124 v126 k0_hw2 k0_h1 k0_h2 => k0_hw2 k0_h1 k0_h2
def k0_off5 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_72 : BitVec 32 := 2#32
  let v127 : BitVec 32 := Scalar.subi arg11 c2_i32_72
  let c64_i32_73 : BitVec 32 := 64#32
  let v128 : BitVec 32 := Scalar.muli v127 c64_i32_73
  let c32_i32_74 : BitVec 32 := 32#32
  let v129 : BitVec 32 := Scalar.addi v128 c32_i32_74
  let v130 : Index := Scalar.indexCast v129
  ![v130.toNat]

def k0_chk3 (k0_t2 : Fin k0_t2_loop.trips) (v131 : IVec S16 32) (v133 : IVec S16 32) : Prop :=
  (∀ (k0_h1 : k0_cond1 k0_t2 = 1#1), ∀ (k0_h2 : k0_cond2 k0_t2 = 1#1), ∀ a x, ((![v133, v131] : Fin 2 → IVec S16 32) a x).toNat < S8x4096.size a)
theorem k0_idx3_inb : ∀ (k0_t2 : Fin k0_t2_loop.trips) (v131 : IVec S16 32) (v133 : IVec S16 32) (k0_hw3 : k0_chk3 k0_t2 v131 v133), ∀ (k0_h1 : k0_cond1 k0_t2 = 1#1), ∀ (k0_h2 : k0_cond2 k0_t2 = 1#1), ∀ a x, ((![v133, v131] : Fin 2 → IVec S16 32) a x).toNat < S8x4096.size a := fun k0_t2 v131 v133 k0_hw3 k0_h1 k0_h2 => k0_hw3 k0_h1 k0_h2
def k0_off6 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_76 : BitVec 32 := 2#32
  let v134 : BitVec 32 := Scalar.subi arg11 c2_i32_76
  let c64_i32_77 : BitVec 32 := 64#32
  let v135 : BitVec 32 := Scalar.muli v134 c64_i32_77
  let c48_i32_78 : BitVec 32 := 48#32
  let v136 : BitVec 32 := Scalar.addi v135 c48_i32_78
  let v137 : Index := Scalar.indexCast v136
  ![v137.toNat]

def k0_chk4 (k0_t2 : Fin k0_t2_loop.trips) (v138 : IVec S16 32) (v140 : IVec S16 32) : Prop :=
  (∀ (k0_h1 : k0_cond1 k0_t2 = 1#1), ∀ (k0_h2 : k0_cond2 k0_t2 = 1#1), ∀ a x, ((![v140, v138] : Fin 2 → IVec S16 32) a x).toNat < S8x4096.size a)
theorem k0_idx4_inb : ∀ (k0_t2 : Fin k0_t2_loop.trips) (v138 : IVec S16 32) (v140 : IVec S16 32) (k0_hw4 : k0_chk4 k0_t2 v138 v140), ∀ (k0_h1 : k0_cond1 k0_t2 = 1#1), ∀ (k0_h2 : k0_cond2 k0_t2 = 1#1), ∀ a x, ((![v140, v138] : Fin 2 → IVec S16 32) a x).toNat < S8x4096.size a := fun k0_t2 v138 v140 k0_hw4 k0_h1 k0_h2 => k0_hw4 k0_h1 k0_h2
def k0_off7 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_41 : BitVec 32 := 64#32
  let v67 : BitVec 32 := Scalar.muli arg11 c64_i32_41
  let c0_i32_42 : BitVec 32 := 0#32
  let v68 : BitVec 32 := Scalar.addi v67 c0_i32_42
  let v69 : Index := Scalar.indexCast v68
  ![v69.toNat]

def k0_chk5 (k0_t2 : Fin k0_t2_loop.trips) (v70 : IVec S16 32) (v76 : IVec S16 32) : Prop :=
  (∀ (k0_h1 : k0_cond1 k0_t2 = 1#1), ∀ a x, ((![v76, v70] : Fin 2 → IVec S16 32) a x).toNat < S8x4096.size a)
theorem k0_idx5_inb : ∀ (k0_t2 : Fin k0_t2_loop.trips) (v70 : IVec S16 32) (v76 : IVec S16 32) (k0_hw5 : k0_chk5 k0_t2 v70 v76), ∀ (k0_h1 : k0_cond1 k0_t2 = 1#1), ∀ a x, ((![v76, v70] : Fin 2 → IVec S16 32) a x).toNat < S8x4096.size a := fun k0_t2 v70 v76 k0_hw5 k0_h1 => k0_hw5 k0_h1
def k0_off8 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_46 : BitVec 32 := 64#32
  let v77 : BitVec 32 := Scalar.muli arg11 c64_i32_46
  let c16_i32 : BitVec 32 := 16#32
  let v78 : BitVec 32 := Scalar.addi v77 c16_i32
  let v79 : Index := Scalar.indexCast v78
  ![v79.toNat]

def k0_chk6 (k0_t2 : Fin k0_t2_loop.trips) (v80 : IVec S16 32) (v86 : IVec S16 32) : Prop :=
  (∀ (k0_h1 : k0_cond1 k0_t2 = 1#1), ∀ a x, ((![v86, v80] : Fin 2 → IVec S16 32) a x).toNat < S8x4096.size a)
theorem k0_idx6_inb : ∀ (k0_t2 : Fin k0_t2_loop.trips) (v80 : IVec S16 32) (v86 : IVec S16 32) (k0_hw6 : k0_chk6 k0_t2 v80 v86), ∀ (k0_h1 : k0_cond1 k0_t2 = 1#1), ∀ a x, ((![v86, v80] : Fin 2 → IVec S16 32) a x).toNat < S8x4096.size a := fun k0_t2 v80 v86 k0_hw6 k0_h1 => k0_hw6 k0_h1
def k0_off9 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_50 : BitVec 32 := 64#32
  let v87 : BitVec 32 := Scalar.muli arg11 c64_i32_50
  let c32_i32_51 : BitVec 32 := 32#32
  let v88 : BitVec 32 := Scalar.addi v87 c32_i32_51
  let v89 : Index := Scalar.indexCast v88
  ![v89.toNat]

def k0_chk7 (k0_t2 : Fin k0_t2_loop.trips) (v90 : IVec S16 32) (v96 : IVec S16 32) : Prop :=
  (∀ (k0_h1 : k0_cond1 k0_t2 = 1#1), ∀ a x, ((![v96, v90] : Fin 2 → IVec S16 32) a x).toNat < S8x4096.size a)
theorem k0_idx7_inb : ∀ (k0_t2 : Fin k0_t2_loop.trips) (v90 : IVec S16 32) (v96 : IVec S16 32) (k0_hw7 : k0_chk7 k0_t2 v90 v96), ∀ (k0_h1 : k0_cond1 k0_t2 = 1#1), ∀ a x, ((![v96, v90] : Fin 2 → IVec S16 32) a x).toNat < S8x4096.size a := fun k0_t2 v90 v96 k0_hw7 k0_h1 => k0_hw7 k0_h1
def k0_off10 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_54 : BitVec 32 := 64#32
  let v97 : BitVec 32 := Scalar.muli arg11 c64_i32_54
  let c48_i32 : BitVec 32 := 48#32
  let v98 : BitVec 32 := Scalar.addi v97 c48_i32
  let v99 : Index := Scalar.indexCast v98
  ![v99.toNat]

def k0_chk8 (k0_t2 : Fin k0_t2_loop.trips) (v100 : IVec S16 32) (v106 : IVec S16 32) : Prop :=
  (∀ (k0_h1 : k0_cond1 k0_t2 = 1#1), ∀ a x, ((![v106, v100] : Fin 2 → IVec S16 32) a x).toNat < S8x4096.size a)
theorem k0_idx8_inb : ∀ (k0_t2 : Fin k0_t2_loop.trips) (v100 : IVec S16 32) (v106 : IVec S16 32) (k0_hw8 : k0_chk8 k0_t2 v100 v106), ∀ (k0_h1 : k0_cond1 k0_t2 = 1#1), ∀ a x, ((![v106, v100] : Fin 2 → IVec S16 32) a x).toNat < S8x4096.size a := fun k0_t2 v100 v106 k0_hw8 k0_h1 => k0_hw8 k0_h1
def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_9 : BitVec 32 := 32#32
  let v32 : BitVec 32 := Scalar.muli v1 c32_i32_9
  let c0_i32_11 : BitVec 32 := 0#32
  let c1_i32_13 : BitVec 32 := 1#32
  let arg11 : BitVec 32 := Scf.iv c0_i32_11 c1_i32_13 k0_t2
  let v107 : BitVec 32 := Scalar.addi v32 arg11
  let c8_i32_57 : BitVec 32 := 8#32
  let v108 : BitVec 32 := Scalar.muli v107 c8_i32_57
  let c0_i32_58 : BitVec 32 := 0#32
  ![v108.toNat, 0]
def k0_cond3 (k0_t2 : Fin k0_t2_loop.trips) : BitVec 1 :=
  let c0_i32_11 : BitVec 32 := 0#32
  let c1_i32_13 : BitVec 32 := 1#32
  let arg11 : BitVec 32 := Scf.iv c0_i32_11 c1_i32_13 k0_t2
  let c2_i32_31 : BitVec 32 := 2#32
  let c0_i32_32 : BitVec 32 := 0#32
  let v51 : BitVec 1 := Scalar.cmpi .eq c2_i32_31 c0_i32_32
  let c1_i32_33 : BitVec 32 := 1#32
  let v52 : BitVec 32 := Scalar.select v51 c1_i32_33 c2_i32_31
  let v53 : BitVec 32 := Scalar.remsi arg11 v52
  let c0_i32_35 : BitVec 32 := 0#32
  let v55 : BitVec 1 := Scalar.cmpi .slt v53 c0_i32_35
  let c0_i32_36 : BitVec 32 := 0#32
  let v56 : BitVec 1 := Scalar.cmpi .slt v52 c0_i32_36
  let v57 : BitVec 1 := Scalar.xori v55 v56
  let c0_i32_34 : BitVec 32 := 0#32
  let v54 : BitVec 1 := Scalar.cmpi .ne v53 c0_i32_34
  let v58 : BitVec 1 := Scalar.andi v57 v54
  let v59 : BitVec 32 := Scalar.addi v53 v52
  let v60 : BitVec 32 := Scalar.select v58 v59 v53
  let c1_i32_37 : BitVec 32 := 1#32
  let v61 : BitVec 1 := Scalar.cmpi .eq v60 c1_i32_37
  let v62 : BitVec 32 := Scalar.extui v61
  let c0_i32_38 : BitVec 32 := 0#32
  let v63 : BitVec 1 := Scalar.cmpi .ne v62 c0_i32_38
  v63

def k0_cond4 (k0_t2 : Fin k0_t2_loop.trips) : BitVec 1 :=
  let c0_i32_11 : BitVec 32 := 0#32
  let c1_i32_13 : BitVec 32 := 1#32
  let arg11 : BitVec 32 := Scf.iv c0_i32_11 c1_i32_13 k0_t2
  let c2_i32_39 : BitVec 32 := 2#32
  let v64 : BitVec 1 := Scalar.cmpi .sge arg11 c2_i32_39
  let v65 : BitVec 32 := Scalar.extui v64
  let c0_i32_40 : BitVec 32 := 0#32
  let v66 : BitVec 1 := Scalar.cmpi .ne v65 c0_i32_40
  v66

def k0_off12 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_64 : BitVec 32 := 2#32
  let v113 : BitVec 32 := Scalar.subi arg11 c2_i32_64
  let c64_i32_65 : BitVec 32 := 64#32
  let v114 : BitVec 32 := Scalar.muli v113 c64_i32_65
  let c0_i32_66 : BitVec 32 := 0#32
  let v115 : BitVec 32 := Scalar.addi v114 c0_i32_66
  let v116 : Index := Scalar.indexCast v115
  ![v116.toNat]

def k0_chk9 (k0_t2 : Fin k0_t2_loop.trips) (v117 : IVec S16 32) (v119 : IVec S16 32) : Prop :=
  (∀ (k0_h3 : k0_cond3 k0_t2 = 1#1), ∀ (k0_h4 : k0_cond4 k0_t2 = 1#1), ∀ a x, ((![v119, v117] : Fin 2 → IVec S16 32) a x).toNat < S8x4096.size a)
theorem k0_idx9_inb : ∀ (k0_t2 : Fin k0_t2_loop.trips) (v117 : IVec S16 32) (v119 : IVec S16 32) (k0_hw9 : k0_chk9 k0_t2 v117 v119), ∀ (k0_h3 : k0_cond3 k0_t2 = 1#1), ∀ (k0_h4 : k0_cond4 k0_t2 = 1#1), ∀ a x, ((![v119, v117] : Fin 2 → IVec S16 32) a x).toNat < S8x4096.size a := fun k0_t2 v117 v119 k0_hw9 k0_h3 k0_h4 => k0_hw9 k0_h3 k0_h4
def k0_off13 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_68 : BitVec 32 := 2#32
  let v120 : BitVec 32 := Scalar.subi arg11 c2_i32_68
  let c64_i32_69 : BitVec 32 := 64#32
  let v121 : BitVec 32 := Scalar.muli v120 c64_i32_69
  let c16_i32_70 : BitVec 32 := 16#32
  let v122 : BitVec 32 := Scalar.addi v121 c16_i32_70
  let v123 : Index := Scalar.indexCast v122
  ![v123.toNat]

def k0_chk10 (k0_t2 : Fin k0_t2_loop.trips) (v124 : IVec S16 32) (v126 : IVec S16 32) : Prop :=
  (∀ (k0_h3 : k0_cond3 k0_t2 = 1#1), ∀ (k0_h4 : k0_cond4 k0_t2 = 1#1), ∀ a x, ((![v126, v124] : Fin 2 → IVec S16 32) a x).toNat < S8x4096.size a)
theorem k0_idx10_inb : ∀ (k0_t2 : Fin k0_t2_loop.trips) (v124 : IVec S16 32) (v126 : IVec S16 32) (k0_hw10 : k0_chk10 k0_t2 v124 v126), ∀ (k0_h3 : k0_cond3 k0_t2 = 1#1), ∀ (k0_h4 : k0_cond4 k0_t2 = 1#1), ∀ a x, ((![v126, v124] : Fin 2 → IVec S16 32) a x).toNat < S8x4096.size a := fun k0_t2 v124 v126 k0_hw10 k0_h3 k0_h4 => k0_hw10 k0_h3 k0_h4
def k0_off14 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_72 : BitVec 32 := 2#32
  let v127 : BitVec 32 := Scalar.subi arg11 c2_i32_72
  let c64_i32_73 : BitVec 32 := 64#32
  let v128 : BitVec 32 := Scalar.muli v127 c64_i32_73
  let c32_i32_74 : BitVec 32 := 32#32
  let v129 : BitVec 32 := Scalar.addi v128 c32_i32_74
  let v130 : Index := Scalar.indexCast v129
  ![v130.toNat]

def k0_chk11 (k0_t2 : Fin k0_t2_loop.trips) (v131 : IVec S16 32) (v133 : IVec S16 32) : Prop :=
  (∀ (k0_h3 : k0_cond3 k0_t2 = 1#1), ∀ (k0_h4 : k0_cond4 k0_t2 = 1#1), ∀ a x, ((![v133, v131] : Fin 2 → IVec S16 32) a x).toNat < S8x4096.size a)
theorem k0_idx11_inb : ∀ (k0_t2 : Fin k0_t2_loop.trips) (v131 : IVec S16 32) (v133 : IVec S16 32) (k0_hw11 : k0_chk11 k0_t2 v131 v133), ∀ (k0_h3 : k0_cond3 k0_t2 = 1#1), ∀ (k0_h4 : k0_cond4 k0_t2 = 1#1), ∀ a x, ((![v133, v131] : Fin 2 → IVec S16 32) a x).toNat < S8x4096.size a := fun k0_t2 v131 v133 k0_hw11 k0_h3 k0_h4 => k0_hw11 k0_h3 k0_h4
def k0_off15 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c2_i32_76 : BitVec 32 := 2#32
  let v134 : BitVec 32 := Scalar.subi arg11 c2_i32_76
  let c64_i32_77 : BitVec 32 := 64#32
  let v135 : BitVec 32 := Scalar.muli v134 c64_i32_77
  let c48_i32_78 : BitVec 32 := 48#32
  let v136 : BitVec 32 := Scalar.addi v135 c48_i32_78
  let v137 : Index := Scalar.indexCast v136
  ![v137.toNat]

def k0_chk12 (k0_t2 : Fin k0_t2_loop.trips) (v138 : IVec S16 32) (v140 : IVec S16 32) : Prop :=
  (∀ (k0_h3 : k0_cond3 k0_t2 = 1#1), ∀ (k0_h4 : k0_cond4 k0_t2 = 1#1), ∀ a x, ((![v140, v138] : Fin 2 → IVec S16 32) a x).toNat < S8x4096.size a)
theorem k0_idx12_inb : ∀ (k0_t2 : Fin k0_t2_loop.trips) (v138 : IVec S16 32) (v140 : IVec S16 32) (k0_hw12 : k0_chk12 k0_t2 v138 v140), ∀ (k0_h3 : k0_cond3 k0_t2 = 1#1), ∀ (k0_h4 : k0_cond4 k0_t2 = 1#1), ∀ a x, ((![v140, v138] : Fin 2 → IVec S16 32) a x).toNat < S8x4096.size a := fun k0_t2 v138 v140 k0_hw12 k0_h3 k0_h4 => k0_hw12 k0_h3 k0_h4
def k0_off16 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_41 : BitVec 32 := 64#32
  let v67 : BitVec 32 := Scalar.muli arg11 c64_i32_41
  let c0_i32_42 : BitVec 32 := 0#32
  let v68 : BitVec 32 := Scalar.addi v67 c0_i32_42
  let v69 : Index := Scalar.indexCast v68
  ![v69.toNat]

def k0_chk13 (k0_t2 : Fin k0_t2_loop.trips) (v70 : IVec S16 32) (v76 : IVec S16 32) : Prop :=
  (∀ (k0_h3 : k0_cond3 k0_t2 = 1#1), ∀ a x, ((![v76, v70] : Fin 2 → IVec S16 32) a x).toNat < S8x4096.size a)
theorem k0_idx13_inb : ∀ (k0_t2 : Fin k0_t2_loop.trips) (v70 : IVec S16 32) (v76 : IVec S16 32) (k0_hw13 : k0_chk13 k0_t2 v70 v76), ∀ (k0_h3 : k0_cond3 k0_t2 = 1#1), ∀ a x, ((![v76, v70] : Fin 2 → IVec S16 32) a x).toNat < S8x4096.size a := fun k0_t2 v70 v76 k0_hw13 k0_h3 => k0_hw13 k0_h3
def k0_off17 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_46 : BitVec 32 := 64#32
  let v77 : BitVec 32 := Scalar.muli arg11 c64_i32_46
  let c16_i32 : BitVec 32 := 16#32
  let v78 : BitVec 32 := Scalar.addi v77 c16_i32
  let v79 : Index := Scalar.indexCast v78
  ![v79.toNat]

def k0_chk14 (k0_t2 : Fin k0_t2_loop.trips) (v80 : IVec S16 32) (v86 : IVec S16 32) : Prop :=
  (∀ (k0_h3 : k0_cond3 k0_t2 = 1#1), ∀ a x, ((![v86, v80] : Fin 2 → IVec S16 32) a x).toNat < S8x4096.size a)
theorem k0_idx14_inb : ∀ (k0_t2 : Fin k0_t2_loop.trips) (v80 : IVec S16 32) (v86 : IVec S16 32) (k0_hw14 : k0_chk14 k0_t2 v80 v86), ∀ (k0_h3 : k0_cond3 k0_t2 = 1#1), ∀ a x, ((![v86, v80] : Fin 2 → IVec S16 32) a x).toNat < S8x4096.size a := fun k0_t2 v80 v86 k0_hw14 k0_h3 => k0_hw14 k0_h3
def k0_off18 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_50 : BitVec 32 := 64#32
  let v87 : BitVec 32 := Scalar.muli arg11 c64_i32_50
  let c32_i32_51 : BitVec 32 := 32#32
  let v88 : BitVec 32 := Scalar.addi v87 c32_i32_51
  let v89 : Index := Scalar.indexCast v88
  ![v89.toNat]

def k0_chk15 (k0_t2 : Fin k0_t2_loop.trips) (v90 : IVec S16 32) (v96 : IVec S16 32) : Prop :=
  (∀ (k0_h3 : k0_cond3 k0_t2 = 1#1), ∀ a x, ((![v96, v90] : Fin 2 → IVec S16 32) a x).toNat < S8x4096.size a)
theorem k0_idx15_inb : ∀ (k0_t2 : Fin k0_t2_loop.trips) (v90 : IVec S16 32) (v96 : IVec S16 32) (k0_hw15 : k0_chk15 k0_t2 v90 v96), ∀ (k0_h3 : k0_cond3 k0_t2 = 1#1), ∀ a x, ((![v96, v90] : Fin 2 → IVec S16 32) a x).toNat < S8x4096.size a := fun k0_t2 v90 v96 k0_hw15 k0_h3 => k0_hw15 k0_h3
def k0_off19 (k0_t2 : Fin k0_t2_loop.trips) : Fin 1 → Nat :=
  let c0_i32_11 : BitVec 32 := 0#32
  let c1_i32_13 : BitVec 32 := 1#32
  let arg11 : BitVec 32 := Scf.iv c0_i32_11 c1_i32_13 k0_t2
  let c64_i32_54 : BitVec 32 := 64#32
  let v97 : BitVec 32 := Scalar.muli arg11 c64_i32_54
  let c48_i32 : BitVec 32 := 48#32
  let v98 : BitVec 32 := Scalar.addi v97 c48_i32
  let v99 : Index := Scalar.indexCast v98
  ![v99.toNat]

def k0_chk16 (k0_t2 : Fin k0_t2_loop.trips) (v100 : IVec S16 32) (v106 : IVec S16 32) : Prop :=
  (∀ (k0_h3 : k0_cond3 k0_t2 = 1#1), ∀ a x, ((![v106, v100] : Fin 2 → IVec S16 32) a x).toNat < S8x4096.size a)
theorem k0_idx16_inb : ∀ (k0_t2 : Fin k0_t2_loop.trips) (v100 : IVec S16 32) (v106 : IVec S16 32) (k0_hw16 : k0_chk16 k0_t2 v100 v106), ∀ (k0_h3 : k0_cond3 k0_t2 = 1#1), ∀ a x, ((![v106, v100] : Fin 2 → IVec S16 32) a x).toNat < S8x4096.size a := fun k0_t2 v100 v106 k0_hw16 k0_h3 => k0_hw16 k0_h3
def k0_off20 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_9 : BitVec 32 := 32#32
  let v32 : BitVec 32 := Scalar.muli v1 c32_i32_9
  let c0_i32_11 : BitVec 32 := 0#32
  let c1_i32_13 : BitVec 32 := 1#32
  let arg11 : BitVec 32 := Scf.iv c0_i32_11 c1_i32_13 k0_t2
  let v107 : BitVec 32 := Scalar.addi v32 arg11
  let c8_i32_57 : BitVec 32 := 8#32
  let v108 : BitVec 32 := Scalar.muli v107 c8_i32_57
  let c0_i32_58 : BitVec 32 := 0#32
  ![v108.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4096x8 : Shape := ⟨3, ![2, 4096, 8]⟩
abbrev S2 : Shape := ⟨1, ![2]⟩
abbrev S2x1x1 : Shape := ⟨3, ![2, 1, 1]⟩
abbrev S4096 : Shape := ⟨1, ![4096]⟩
abbrev S1x4096x1 : Shape := ⟨3, ![1, 4096, 1]⟩
abbrev S_ : Shape := ⟨0, ![]⟩
abbrev S2x4096x4096 : Shape := ⟨3, ![2, 4096, 4096]⟩
abbrev S2x4096x8x1 : Shape := ⟨4, ![2, 4096, 8, 1]⟩
abbrev S2x4096x8x3 : Shape := ⟨4, ![2, 4096, 8, 3]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x8, .f32⟩
  | .hbm, ⟨1, _⟩ => ⟨S2x4096x8, .i32⟩
  | .hbm, ⟨2, _⟩ => ⟨S2, .i32⟩
  | .hbm, ⟨3, _⟩ => ⟨S2x1x1, .i32⟩
  | .hbm, ⟨4, _⟩ => ⟨S4096, .i32⟩
  | .hbm, ⟨5, _⟩ => ⟨S1x4096x1, .i32⟩
  | .hbm, ⟨6, _⟩ => ⟨S_, .f32⟩
  | .hbm, ⟨7, _⟩ => ⟨S2x4096x4096, .f32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S_, .i32⟩
  | .hbm, ⟨12, _⟩ => ⟨S2x1x1, .i32⟩
  | .hbm, ⟨13, _⟩ => ⟨S2x1x1, .i32⟩
  | .hbm, ⟨14, _⟩ => ⟨S2x1x1, .i32⟩
  | .hbm, ⟨15, _⟩ => ⟨S_, .i32⟩
  | .hbm, ⟨16, _⟩ => ⟨S1x4096x1, .i32⟩
  | .hbm, ⟨17, _⟩ => ⟨S1x4096x1, .i1⟩
  | .hbm, ⟨18, _⟩ => ⟨S_, .i32⟩
  | .hbm, ⟨19, _⟩ => ⟨S1x4096x1, .i32⟩
  | .hbm, ⟨20, _⟩ => ⟨S1x4096x1, .i32⟩
  | .hbm, ⟨21, _⟩ => ⟨S1x4096x1, .i32⟩
  | .hbm, ⟨22, _⟩ => ⟨S_, .i32⟩
  | .hbm, ⟨23, _⟩ => ⟨S2x4096x8, .i32⟩
  | .hbm, ⟨24, _⟩ => ⟨S2x4096x8, .i1⟩
  | .hbm, ⟨25, _⟩ => ⟨S_, .i32⟩
  | .hbm, ⟨26, _⟩ => ⟨S2x4096x8, .i32⟩
  | .hbm, ⟨27, _⟩ => ⟨S2x4096x8, .i32⟩
  | .hbm, ⟨28, _⟩ => ⟨S2x4096x8, .i32⟩
  | .hbm, ⟨29, _⟩ => ⟨S2x4096x8, .i32⟩
  | .hbm, ⟨30, _⟩ => ⟨S2x4096x8, .i32⟩
  | .hbm, ⟨31, _⟩ => ⟨S2x4096x8x1, .i32⟩
  | .hbm, ⟨32, _⟩ => ⟨S2x4096x8x1, .i32⟩
  | .hbm, ⟨33, _⟩ => ⟨S2x4096x8x1, .i32⟩
  | .hbm, ⟨34, _⟩ => ⟨S2x4096x8x3, .i32⟩
  | .hbm, ⟨35, _⟩ => ⟨S2x4096x4096, .f32⟩
  | _, _ => ⟨S2x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Ranks.lean ====
abbrev S2x4096x192 : Shape := ⟨3, ![2, 4096, 192]⟩
abbrev S2x4096x8 : Shape := ⟨3, ![2, 4096, 8]⟩
abbrev S1x512x192 : Shape := ⟨3, ![1, 512, 192]⟩
abbrev S1x4096x192 : Shape := ⟨3, ![1, 4096, 192]⟩
abbrev S1x512x8 : Shape := ⟨3, ![1, 512, 8]⟩
abbrev S512x192 : Shape := ⟨2, ![512, 192]⟩
abbrev S4096x192 : Shape := ⟨2, ![4096, 192]⟩
abbrev S512x4096 : Shape := ⟨2, ![512, 4096]⟩
abbrev S512 : Shape := ⟨1, ![512]⟩
abbrev S512x1 : Shape := ⟨2, ![512, 1]⟩
abbrev S512x8 : Shape := ⟨2, ![512, 8]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x192, .f32⟩
  | .hbm, ⟨1, _⟩ => ⟨S2x4096x192, .f32⟩
  | .hbm, ⟨2, _⟩ => ⟨S2x4096x8, .f32⟩
  | .hbm, ⟨3, _⟩ => ⟨S2x4096x8, .i32⟩
  | .local _ .vmem, ⟨0, _⟩ => ⟨S1x512x192, .f32⟩
  | .local _ .vmem, ⟨1, _⟩ => ⟨S1x512x192, .f32⟩
  | .local _ .vmem, ⟨2, _⟩ => ⟨S1x4096x192, .f32⟩
  | .local _ .vmem, ⟨3, _⟩ => ⟨S1x4096x192, .f32⟩
  | .local _ .vmem, ⟨4, _⟩ => ⟨S1x512x8, .f32⟩
  | .local _ .vmem, ⟨5, _⟩ => ⟨S1x512x8, .f32⟩
  | .local _ .vmem, ⟨6, _⟩ => ⟨S1x512x8, .i32⟩
  | .local _ .vmem, ⟨7, _⟩ => ⟨S1x512x8, .i32⟩
  | _, _ => ⟨S2x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RanksIdeal.lean ====
variable {F : FTy → Type} [FloatOps F] [Named F]
def κ : String → Option EReal := fun
  | "neg" => some ⊥
  | "s" => some (((Real.sqrt 192)⁻¹ : ℝ) : EReal)
  | _ => none
-- ==== RanksReferenceIdeal.lean ====
abbrev S2x4096x192 : Shape := ⟨3, ![2, 4096, 192]⟩
abbrev S2x4096x4096 : Shape := ⟨3, ![2, 4096, 4096]⟩
abbrev S_ : Shape := ⟨0, ![]⟩
abbrev S2x4096x8 : Shape := ⟨3, ![2, 4096, 8]⟩
abbrev S2x4096 : Shape := ⟨2, ![2, 4096]⟩
abbrev S2x4096x1 : Shape := ⟨3, ![2, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x192, .f32⟩
  | .hbm, ⟨1, _⟩ => ⟨S2x4096x192, .f32⟩
  | .hbm, ⟨2, _⟩ => ⟨S2x4096x4096, .f32⟩
  | .hbm, ⟨3, _⟩ => ⟨S_, .f32⟩
  | .hbm, ⟨4, _⟩ => ⟨S_, .f32⟩
  | .hbm, ⟨5, _⟩ => ⟨S2x4096x4096, .f32⟩
  | .hbm, ⟨6, _⟩ => ⟨S2x4096x4096, .f32⟩
  | .hbm, ⟨7, _⟩ => ⟨S2x4096x8, .f32⟩
  | .hbm, ⟨8, _⟩ => ⟨S2x4096x8, .i32⟩
  | .hbm, ⟨9, _⟩ => ⟨S_, .f32⟩
  | .hbm, ⟨10, _⟩ => ⟨S2x4096, .f32⟩
  | .hbm, ⟨11, _⟩ => ⟨S_, .f32⟩
  | .hbm, ⟨12, _⟩ => ⟨S2x4096, .f32⟩
  | .hbm, ⟨13, _⟩ => ⟨S2x4096, .f32⟩
  | .hbm, ⟨14, _⟩ => ⟨S2x4096x1, .f32⟩
  | .hbm, ⟨15, _⟩ => ⟨S2x4096x8, .f32⟩
  | .hbm, ⟨16, _⟩ => ⟨S2x4096x8, .f32⟩
  | .hbm, ⟨17, _⟩ => ⟨S2x4096x8, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S2x4096x8, .f32⟩
  | .hbm, ⟨22, _⟩ => ⟨S2x4096x8, .f32⟩
  | _, _ => ⟨S2x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Linear.lean ====
abbrev S2x4096x768 : Shape := ⟨3, ![2, 4096, 768]⟩
abbrev S192x768 : Shape := ⟨2, ![192, 768]⟩
abbrev S192 : Shape := ⟨1, ![192]⟩
abbrev S1x192 : Shape := ⟨2, ![1, 192]⟩
abbrev S2x4096x192 : Shape := ⟨3, ![2, 4096, 192]⟩
abbrev S1x4096x768 : Shape := ⟨3, ![1, 4096, 768]⟩
abbrev S1x4096x192 : Shape := ⟨3, ![1, 4096, 192]⟩
abbrev S4096x768 : Shape := ⟨2, ![4096, 768]⟩
abbrev S4096x192 : Shape := ⟨2, ![4096, 192]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x768, .f32⟩
  | .hbm, ⟨1, _⟩ => ⟨S192x768, .f32⟩
  | .hbm, ⟨2, _⟩ => ⟨S192, .f32⟩
  | .hbm, ⟨3, _⟩ => ⟨S192x768, .f32⟩
  | .hbm, ⟨4, _⟩ => ⟨S192, .f32⟩
  | .hbm, ⟨5, _⟩ => ⟨S1x192, .f32⟩
  | .hbm, ⟨6, _⟩ => ⟨S1x192, .f32⟩
  | .hbm, ⟨7, _⟩ => ⟨S2x4096x192, .f32⟩
  | .hbm, ⟨8, _⟩ => ⟨S2x4096x192, .f32⟩
  | .local _ .vmem, ⟨0, _⟩ => ⟨S1x4096x768, .f32⟩
  | .local _ .vmem, ⟨1, _⟩ => ⟨S1x4096x768, .f32⟩
  | .local _ .vmem, ⟨2, _⟩ => ⟨S192x768, .f32⟩
  | .local _ .vmem, ⟨3, _⟩ => ⟨S1x192, .f32⟩
  | .local _ .vmem, ⟨4, _⟩ => ⟨S192x768, .f32⟩
  | .local _ .vmem, ⟨5, _⟩ => ⟨S1x192, .f32⟩
  | .local _ .vmem, ⟨6, _⟩ => ⟨S1x4096x192, .f32⟩
  | .local _ .vmem, ⟨7, _⟩ => ⟨S1x4096x192, .f32⟩
  | .local _ .vmem, ⟨8, _⟩ => ⟨S1x4096x192, .f32⟩
  | .local _ .vmem, ⟨9, _⟩ => ⟨S1x4096x192, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LinearReferenceIdeal.lean ====
abbrev S2x4096x768 : Shape := ⟨3, ![2, 4096, 768]⟩
abbrev S192x768 : Shape := ⟨2, ![192, 768]⟩
abbrev S192 : Shape := ⟨1, ![192]⟩
abbrev S768x192 : Shape := ⟨2, ![768, 192]⟩
abbrev S2x4096x192 : Shape := ⟨3, ![2, 4096, 192]⟩
abbrev S1x1x192 : Shape := ⟨3, ![1, 1, 192]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S192x768, .f32⟩
  | .hbm, ⟨2, _⟩ => ⟨S192, .f32⟩
  | .hbm, ⟨3, _⟩ => ⟨S192x768, .f32⟩
  | .hbm, ⟨4, _⟩ => ⟨S192, .f32⟩
  | .hbm, ⟨5, _⟩ => ⟨S768x192, .f32⟩
  | .hbm, ⟨6, _⟩ => ⟨S2x4096x192, .f32⟩
  | .hbm, ⟨7, _⟩ => ⟨S1x1x192, .f32⟩
  | .hbm, ⟨8, _⟩ => ⟨S2x4096x192, .f32⟩
  | .hbm, ⟨9, _⟩ => ⟨S2x4096x192, .f32⟩
  | .hbm, ⟨10, _⟩ => ⟨S768x192, .f32⟩
  | .hbm, ⟨11, _⟩ => ⟨S2x4096x192, .f32⟩
  | .hbm, ⟨12, _⟩ => ⟨S1x1x192, .f32⟩
  | .hbm, ⟨13, _⟩ => ⟨S2x4096x192, .f32⟩
  | .hbm, ⟨14, _⟩ => ⟨S2x4096x192, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== WholeIdeal.lean ====
abbrev S2x4096x768 : Shape := ⟨3, ![2, 4096, 768]⟩
abbrev S192x768 : Shape := ⟨2, ![192, 768]⟩
abbrev S192 : Shape := ⟨1, ![192]⟩
abbrev S1x192 : Shape := ⟨2, ![1, 192]⟩
abbrev S2x4096x192 : Shape := ⟨3, ![2, 4096, 192]⟩
abbrev S1x4096x768 : Shape := ⟨3, ![1, 4096, 768]⟩
abbrev S1x4096x192 : Shape := ⟨3, ![1, 4096, 192]⟩
abbrev S4096x768 : Shape := ⟨2, ![4096, 768]⟩
abbrev S4096x192 : Shape := ⟨2, ![4096, 192]⟩
abbrev S2x4096x8 : Shape := ⟨3, ![2, 4096, 8]⟩
abbrev S1x512x192 : Shape := ⟨3, ![1, 512, 192]⟩
abbrev S1x512x8 : Shape := ⟨3, ![1, 512, 8]⟩
abbrev S512x192 : Shape := ⟨2, ![512, 192]⟩
abbrev S512x4096 : Shape := ⟨2, ![512, 4096]⟩
abbrev S512 : Shape := ⟨1, ![512]⟩
abbrev S512x1 : Shape := ⟨2, ![512, 1]⟩
abbrev S512x8 : Shape := ⟨2, ![512, 8]⟩
abbrev S65536 : Shape := ⟨1, ![65536]⟩
abbrev S8192x4096 : Shape := ⟨2, ![8192, 4096]⟩
abbrev S2048 : Shape := ⟨1, ![2048]⟩
abbrev S8x4096 : Shape := ⟨2, ![8, 4096]⟩
abbrev S_ : Shape := ⟨0, ![]⟩
abbrev S16 : Shape := ⟨1, ![16]⟩
abbrev S1x16 : Shape := ⟨2, ![1, 16]⟩
abbrev S2x4096x4096 : Shape := ⟨3, ![2, 4096, 4096]⟩

abbrev nBuf : Table → Nat
  | .hbm => 15
  | .local .tc .vmem => 18
  | .local .scVector .vmem => 4
  | _ => 0

abbrev bufTy : (tb : Table) → Fin (nBuf tb) → BufTy
  | .hbm, ⟨0, _⟩ => ⟨S2x4096x768, .f32⟩
  | .hbm, ⟨1, _⟩ => ⟨S192x768, .f32⟩
  | .hbm, ⟨2, _⟩ => ⟨S192, .f32⟩
  | .hbm, ⟨3, _⟩ => ⟨S192x768, .f32⟩
  | .hbm, ⟨4, _⟩ => ⟨S192, .f32⟩
  | .hbm, ⟨5, _⟩ => ⟨S1x192, .f32⟩
  | .hbm, ⟨6, _⟩ => ⟨S1x192, .f32⟩
  | .hbm, ⟨7, _⟩ => ⟨S2x4096x192, .f32⟩
  | .hbm, ⟨8, _⟩ => ⟨S2x4096x192, .f32⟩
  | .hbm, ⟨9, _⟩ => ⟨S2x4096x8, .f32⟩
  | .hbm, ⟨10, _⟩ => ⟨S2x4096x8, .i32⟩
  | .hbm, ⟨11, _⟩ => ⟨S65536, .f32⟩
  | .hbm, ⟨12, _⟩ => ⟨S65536, .i32⟩
  | .hbm, ⟨13, _⟩ => ⟨S8192x4096, .f32⟩
  | .hbm, ⟨14, _⟩ => ⟨S2x4096x4096, .f32⟩
  | .local .tc .vmem, ⟨0, _⟩ => ⟨S1x4096x768, .f32⟩
  | .local .tc .vmem, ⟨1, _⟩ => ⟨S1x4096x768, .f32⟩
  | .local .tc .vmem, ⟨2, _⟩ => ⟨S192x768, .f32⟩
  | .local .tc .vmem, ⟨3, _⟩ => ⟨S1x192, .f32⟩
  | .local .tc .vmem, ⟨4, _⟩ => ⟨S192x768, .f32⟩
  | .local .tc .vmem, ⟨5, _⟩ => ⟨S1x192, .f32⟩
  | .local .tc .vmem, ⟨6, _⟩ => ⟨S1x4096x192, .f32⟩
  | .local .tc .vmem, ⟨7, _⟩ => ⟨S1x4096x192, .f32⟩
  | .local .tc .vmem, ⟨8, _⟩ => ⟨S1x4096x192, .f32⟩
  | .local .tc .vmem, ⟨9, _⟩ => ⟨S1x4096x192, .f32⟩
  | .local .tc .vmem, ⟨10, _⟩ => ⟨S1x512x192, .f32⟩
  | .local .tc .vmem, ⟨11, _⟩ => ⟨S1x512x192, .f32⟩
  | .local .tc .vmem, ⟨12, _⟩ => ⟨S1x4096x192, .f32⟩
  | .local .tc .vmem, ⟨13, _⟩ => ⟨S1x4096x192, .f32⟩
  | .local .tc .vmem, ⟨14, _⟩ => ⟨S1x512x8, .f32⟩
  | .local .tc .vmem, ⟨15, _⟩ => ⟨S1x512x8, .f32⟩
  | .local .tc .vmem, ⟨16, _⟩ => ⟨S1x512x8, .i32⟩
  | .local .tc .vmem, ⟨17, _⟩ => ⟨S1x512x8, .i32⟩
  | .local .scVector .vmem, ⟨0, _⟩ => ⟨S2048, .i32⟩
  | .local .scVector .vmem, ⟨1, _⟩ => ⟨S2048, .f32⟩
  | .local .scVector .vmem, ⟨2, _⟩ => ⟨S8x4096, .f32⟩
  | .local .scVector .vmem, ⟨3, _⟩ => ⟨S8x4096, .f32⟩
  | _, _ => ⟨S2x4096x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v4_scv : Ref sig .scVector := ⟨.hbm, 11, rfl⟩
abbrev main_v5_scv : Ref sig .scVector := ⟨.hbm, 12, rfl⟩
abbrev main_v6_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "neg" => some ⊥
  | "s" => some (((Real.sqrt 192)⁻¹ : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x8 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  ![v3.toNat]
@[reducible] def k2_t1_loop : Scf.Loop 32 :=
  let c0_i32_1 : BitVec 32 := 0#32
  let c2048_i32 : BitVec 32 := 2048#32
  let v6 : BitVec 32 := Scalar.addi c0_i32_1 c2048_i32
  let c1_i32 : BitVec 32 := 1#32
  ⟨c0_i32_1, v6, c1_i32⟩
def k2_off2 (k2_t1 : Fin k2_t1_loop.trips) : Fin 2 → Nat :=
  let c0_i32_1 : BitVec 32 := 0#32
  let c1_i32 : BitVec 32 := 1#32
  let arg11 : BitVec 32 := Scf.iv c0_i32_1 c1_i32 k2_t1
  let c8_i32_23 : BitVec 32 := 8#32
  let c0_i32_24 : BitVec 32 := 0#32
  let v38 : BitVec 1 := Scalar.cmpi .eq c8_i32_23 c0_i32_24
  let c1_i32_25 : BitVec 32 := 1#32
  let v39 : BitVec 32 := Scalar.select v38 c1_i32_25 c8_i32_23
  let v40 : BitVec 32 := Scalar.remsi arg11 v39
  let c0_i32_27 : BitVec 32 := 0#32
  let v42 : BitVec 1 := Scalar.cmpi .slt v40 c0_i32_27
  let c0_i32_28 : BitVec 32 := 0#32
  let v43 : BitVec 1 := Scalar.cmpi .slt v39 c0_i32_28
  let v44 : BitVec 1 := Scalar.xori v42 v43
  let c0_i32_26 : BitVec 32 := 0#32
  let v41 : BitVec 1 := Scalar.cmpi .ne v40 c0_i32_26
  let v45 : BitVec 1 := Scalar.andi v44 v41
  let v46 : BitVec 32 := Scalar.addi v40 v39
  let v47 : BitVec 32 := Scalar.select v45 v46 v40
  let v66 : Index := Scalar.indexCast v47
  let c0_i32_30 : BitVec 32 := 0#32
  let v49 : BitVec 1 := Scalar.cmpi .sgt arg11 c0_i32_30
  let v50 : BitVec 32 := Scalar.extui v49
  let c0_i32_31 : BitVec 32 := 0#32
  let v51 : BitVec 1 := Scalar.cmpi .slt arg11 c0_i32_31
  let v52 : BitVec 32 := Scalar.extui v51
  let v53 : BitVec 32 := Scalar.subi v50 v52
  let c8_i32_29 : BitVec 32 := 8#32
  let c0_i32_32 : BitVec 32 := 0#32
  let v54 : BitVec 1 := Scalar.cmpi .sgt c8_i32_29 c0_i32_32
  let v55 : BitVec 32 := Scalar.extui v54
  let c0_i32_33 : BitVec 32 := 0#32
  let v56 : BitVec 1 := Scalar.cmpi .slt c8_i32_29 c0_i32_33
  let v57 : BitVec 32 := Scalar.extui v56
  let v58 : BitVec 32 := Scalar.subi v55 v57
  let v59 : BitVec 1 := Scalar.cmpi .ne v53 v58
  let v60 : BitVec 32 := Scalar.remsi arg11 c8_i32_29
  let c0_i32_34 : BitVec 32 := 0#32
  let v61 : BitVec 1 := Scalar.cmpi .ne v60 c0_i32_34
  let v62 : BitVec 1 := Scalar.andi v59 v61
  let v48 : BitVec 32 := Scalar.divsi arg11 c8_i32_29
  let c1_i32_35 : BitVec 32 := 1#32
  let v63 : BitVec 32 := Scalar.subi v48 c1_i32_35
  let v64 : BitVec 32 := Scalar.select v62 v63 v48
  let c16_i32 : BitVec 32 := 16#32
  let v65 : BitVec 32 := Scalar.muli v64 c16_i32
  let v67 : Index := Scalar.indexCast v65
  ![v66.toNat, v67.toNat]
@[reducible] def k2_t2_loop : Scf.Loop 32 :=
  let c0_i32_11 : BitVec 32 := 0#32
  let c32_i32_12 : BitVec 32 := 32#32
  let v33 : BitVec 32 := Scalar.addi c0_i32_11 c32_i32_12
  let c1_i32_13 : BitVec 32 := 1#32
  ⟨c0_i32_11, v33, c1_i32_13⟩
def k2_cond1 (k2_t2 : Fin k2_t2_loop.trips) : BitVec 1 :=
  let c0_i32_11 : BitVec 32 := 0#32
  let c1_i32_13 : BitVec 32 := 1#32
  let arg11 : BitVec 32 := Scf.iv c0_i32_11 c1_i32_13 k2_t2
  let c2_i32_23 : BitVec 32 := 2#32
  let c0_i32_24 : BitVec 32 := 0#32
  let v38 : BitVec 1 := Scalar.cmpi .eq c2_i32_23 c0_i32_24
  let c1_i32_25 : BitVec 32 := 1#32
  let v39 : BitVec 32 := Scalar.select v38 c1_i32_25 c2_i32_23
  let v40 : BitVec 32 := Scalar.remsi arg11 v39
  let c0_i32_27 : BitVec 32 := 0#32
  let v42 : BitVec 1 := Scalar.cmpi .slt v40 c0_i32_27
  let c0_i32_28 : BitVec 32 := 0#32
  let v43 : BitVec 1 := Scalar.cmpi .slt v39 c0_i32_28
  let v44 : BitVec 1 := Scalar.xori v42 v43
  let c0_i32_26 : BitVec 32 := 0#32
  let v41 : BitVec 1 := Scalar.cmpi .ne v40 c0_i32_26
  let v45 : BitVec 1 := Scalar.andi v44 v41
  let v46 : BitVec 32 := Scalar.addi v40 v39
  let v47 : BitVec 32 := Scalar.select v45 v46 v40
  let c0_i32_29 : BitVec 32 := 0#32
  let v48 : BitVec 1 := Scalar.cmpi .eq v47 c0_i32_29
  let v49 : BitVec 32 := Scalar.extui v48
  let c0_i32_30 : BitVec 32 := 0#32
  let v50 : BitVec 1 := Scalar.cmpi .ne v49 c0_i32_30
  v50

def k2_cond2 (k2_t2 : Fin k2_t2_loop.trips) : BitVec 1 :=
  let c0_i32_11 : BitVec 32 := 0#32
  let c1_i32_13 : BitVec 32 := 1#32
  let arg11 : BitVec 32 := Scf.iv c0_i32_11 c1_i32_13 k2_t2
  let c2_i32_39 : BitVec 32 := 2#32
  let v64 : BitVec 1 := Scalar.cmpi .sge arg11 c2_i32_39
  let v65 : BitVec 32 := Scalar.extui v64
  let c0_i32_40 : BitVec 32 := 0#32
  let v66 : BitVec 1 := Scalar.cmpi .ne v65 c0_i32_40
  v66

def k2_off3 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_64 : BitVec 32 := 2#32
  let v113 : BitVec 32 := Scalar.subi arg11 c2_i32_64
  let c64_i32_65 : BitVec 32 := 64#32
  let v114 : BitVec 32 := Scalar.muli v113 c64_i32_65
  let c0_i32_66 : BitVec 32 := 0#32
  let v115 : BitVec 32 := Scalar.addi v114 c0_i32_66
  let v116 : Index := Scalar.indexCast v115
  ![v116.toNat]

def k2_chk1 (k2_t2 : Fin k2_t2_loop.trips) (v117 : IVec S16 32) (v119 : IVec S16 32) : Prop :=
  (∀ (k2_h1 : k2_cond1 k2_t2 = 1#1), ∀ (k2_h2 : k2_cond2 k2_t2 = 1#1), ∀ a x, ((![v119, v117] : Fin 2 → IVec S16 32) a x).toNat < S8x4096.size a)
theorem k2_idx1_inb : ∀ (k2_t2 : Fin k2_t2_loop.trips) (v117 : IVec S16 32) (v119 : IVec S16 32) (k2_hw1 : k2_chk1 k2_t2 v117 v119), ∀ (k2_h1 : k2_cond1 k2_t2 = 1#1), ∀ (k2_h2 : k2_cond2 k2_t2 = 1#1), ∀ a x, ((![v119, v117] : Fin 2 → IVec S16 32) a x).toNat < S8x4096.size a := fun k2_t2 v117 v119 k2_hw1 k2_h1 k2_h2 => k2_hw1 k2_h1 k2_h2
def k2_off4 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_68 : BitVec 32 := 2#32
  let v120 : BitVec 32 := Scalar.subi arg11 c2_i32_68
  let c64_i32_69 : BitVec 32 := 64#32
  let v121 : BitVec 32 := Scalar.muli v120 c64_i32_69
  let c16_i32_70 : BitVec 32 := 16#32
  let v122 : BitVec 32 := Scalar.addi v121 c16_i32_70
  let v123 : Index := Scalar.indexCast v122
  ![v123.toNat]

def k2_chk2 (k2_t2 : Fin k2_t2_loop.trips) (v124 : IVec S16 32) (v126 : IVec S16 32) : Prop :=
  (∀ (k2_h1 : k2_cond1 k2_t2 = 1#1), ∀ (k2_h2 : k2_cond2 k2_t2 = 1#1), ∀ a x, ((![v126, v124] : Fin 2 → IVec S16 32) a x).toNat < S8x4096.size a)
theorem k2_idx2_inb : ∀ (k2_t2 : Fin k2_t2_loop.trips) (v124 : IVec S16 32) (v126 : IVec S16 32) (k2_hw2 : k2_chk2 k2_t2 v124 v126), ∀ (k2_h1 : k2_cond1 k2_t2 = 1#1), ∀ (k2_h2 : k2_cond2 k2_t2 = 1#1), ∀ a x, ((![v126, v124] : Fin 2 → IVec S16 32) a x).toNat < S8x4096.size a := fun k2_t2 v124 v126 k2_hw2 k2_h1 k2_h2 => k2_hw2 k2_h1 k2_h2
def k2_off5 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_72 : BitVec 32 := 2#32
  let v127 : BitVec 32 := Scalar.subi arg11 c2_i32_72
  let c64_i32_73 : BitVec 32 := 64#32
  let v128 : BitVec 32 := Scalar.muli v127 c64_i32_73
  let c32_i32_74 : BitVec 32 := 32#32
  let v129 : BitVec 32 := Scalar.addi v128 c32_i32_74
  let v130 : Index := Scalar.indexCast v129
  ![v130.toNat]

def k2_chk3 (k2_t2 : Fin k2_t2_loop.trips) (v131 : IVec S16 32) (v133 : IVec S16 32) : Prop :=
  (∀ (k2_h1 : k2_cond1 k2_t2 = 1#1), ∀ (k2_h2 : k2_cond2 k2_t2 = 1#1), ∀ a x, ((![v133, v131] : Fin 2 → IVec S16 32) a x).toNat < S8x4096.size a)
theorem k2_idx3_inb : ∀ (k2_t2 : Fin k2_t2_loop.trips) (v131 : IVec S16 32) (v133 : IVec S16 32) (k2_hw3 : k2_chk3 k2_t2 v131 v133), ∀ (k2_h1 : k2_cond1 k2_t2 = 1#1), ∀ (k2_h2 : k2_cond2 k2_t2 = 1#1), ∀ a x, ((![v133, v131] : Fin 2 → IVec S16 32) a x).toNat < S8x4096.size a := fun k2_t2 v131 v133 k2_hw3 k2_h1 k2_h2 => k2_hw3 k2_h1 k2_h2
def k2_off6 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_76 : BitVec 32 := 2#32
  let v134 : BitVec 32 := Scalar.subi arg11 c2_i32_76
  let c64_i32_77 : BitVec 32 := 64#32
  let v135 : BitVec 32 := Scalar.muli v134 c64_i32_77
  let c48_i32_78 : BitVec 32 := 48#32
  let v136 : BitVec 32 := Scalar.addi v135 c48_i32_78
  let v137 : Index := Scalar.indexCast v136
  ![v137.toNat]

def k2_chk4 (k2_t2 : Fin k2_t2_loop.trips) (v138 : IVec S16 32) (v140 : IVec S16 32) : Prop :=
  (∀ (k2_h1 : k2_cond1 k2_t2 = 1#1), ∀ (k2_h2 : k2_cond2 k2_t2 = 1#1), ∀ a x, ((![v140, v138] : Fin 2 → IVec S16 32) a x).toNat < S8x4096.size a)
theorem k2_idx4_inb : ∀ (k2_t2 : Fin k2_t2_loop.trips) (v138 : IVec S16 32) (v140 : IVec S16 32) (k2_hw4 : k2_chk4 k2_t2 v138 v140), ∀ (k2_h1 : k2_cond1 k2_t2 = 1#1), ∀ (k2_h2 : k2_cond2 k2_t2 = 1#1), ∀ a x, ((![v140, v138] : Fin 2 → IVec S16 32) a x).toNat < S8x4096.size a := fun k2_t2 v138 v140 k2_hw4 k2_h1 k2_h2 => k2_hw4 k2_h1 k2_h2
def k2_off7 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_41 : BitVec 32 := 64#32
  let v67 : BitVec 32 := Scalar.muli arg11 c64_i32_41
  let c0_i32_42 : BitVec 32 := 0#32
  let v68 : BitVec 32 := Scalar.addi v67 c0_i32_42
  let v69 : Index := Scalar.indexCast v68
  ![v69.toNat]

def k2_chk5 (k2_t2 : Fin k2_t2_loop.trips) (v70 : IVec S16 32) (v76 : IVec S16 32) : Prop :=
  (∀ (k2_h1 : k2_cond1 k2_t2 = 1#1), ∀ a x, ((![v76, v70] : Fin 2 → IVec S16 32) a x).toNat < S8x4096.size a)
theorem k2_idx5_inb : ∀ (k2_t2 : Fin k2_t2_loop.trips) (v70 : IVec S16 32) (v76 : IVec S16 32) (k2_hw5 : k2_chk5 k2_t2 v70 v76), ∀ (k2_h1 : k2_cond1 k2_t2 = 1#1), ∀ a x, ((![v76, v70] : Fin 2 → IVec S16 32) a x).toNat < S8x4096.size a := fun k2_t2 v70 v76 k2_hw5 k2_h1 => k2_hw5 k2_h1
def k2_off8 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_46 : BitVec 32 := 64#32
  let v77 : BitVec 32 := Scalar.muli arg11 c64_i32_46
  let c16_i32 : BitVec 32 := 16#32
  let v78 : BitVec 32 := Scalar.addi v77 c16_i32
  let v79 : Index := Scalar.indexCast v78
  ![v79.toNat]

def k2_chk6 (k2_t2 : Fin k2_t2_loop.trips) (v80 : IVec S16 32) (v86 : IVec S16 32) : Prop :=
  (∀ (k2_h1 : k2_cond1 k2_t2 = 1#1), ∀ a x, ((![v86, v80] : Fin 2 → IVec S16 32) a x).toNat < S8x4096.size a)
theorem k2_idx6_inb : ∀ (k2_t2 : Fin k2_t2_loop.trips) (v80 : IVec S16 32) (v86 : IVec S16 32) (k2_hw6 : k2_chk6 k2_t2 v80 v86), ∀ (k2_h1 : k2_cond1 k2_t2 = 1#1), ∀ a x, ((![v86, v80] : Fin 2 → IVec S16 32) a x).toNat < S8x4096.size a := fun k2_t2 v80 v86 k2_hw6 k2_h1 => k2_hw6 k2_h1
def k2_off9 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_50 : BitVec 32 := 64#32
  let v87 : BitVec 32 := Scalar.muli arg11 c64_i32_50
  let c32_i32_51 : BitVec 32 := 32#32
  let v88 : BitVec 32 := Scalar.addi v87 c32_i32_51
  let v89 : Index := Scalar.indexCast v88
  ![v89.toNat]

def k2_chk7 (k2_t2 : Fin k2_t2_loop.trips) (v90 : IVec S16 32) (v96 : IVec S16 32) : Prop :=
  (∀ (k2_h1 : k2_cond1 k2_t2 = 1#1), ∀ a x, ((![v96, v90] : Fin 2 → IVec S16 32) a x).toNat < S8x4096.size a)
theorem k2_idx7_inb : ∀ (k2_t2 : Fin k2_t2_loop.trips) (v90 : IVec S16 32) (v96 : IVec S16 32) (k2_hw7 : k2_chk7 k2_t2 v90 v96), ∀ (k2_h1 : k2_cond1 k2_t2 = 1#1), ∀ a x, ((![v96, v90] : Fin 2 → IVec S16 32) a x).toNat < S8x4096.size a := fun k2_t2 v90 v96 k2_hw7 k2_h1 => k2_hw7 k2_h1
def k2_off10 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_54 : BitVec 32 := 64#32
  let v97 : BitVec 32 := Scalar.muli arg11 c64_i32_54
  let c48_i32 : BitVec 32 := 48#32
  let v98 : BitVec 32 := Scalar.addi v97 c48_i32
  let v99 : Index := Scalar.indexCast v98
  ![v99.toNat]

def k2_chk8 (k2_t2 : Fin k2_t2_loop.trips) (v100 : IVec S16 32) (v106 : IVec S16 32) : Prop :=
  (∀ (k2_h1 : k2_cond1 k2_t2 = 1#1), ∀ a x, ((![v106, v100] : Fin 2 → IVec S16 32) a x).toNat < S8x4096.size a)
theorem k2_idx8_inb : ∀ (k2_t2 : Fin k2_t2_loop.trips) (v100 : IVec S16 32) (v106 : IVec S16 32) (k2_hw8 : k2_chk8 k2_t2 v100 v106), ∀ (k2_h1 : k2_cond1 k2_t2 = 1#1), ∀ a x, ((![v106, v100] : Fin 2 → IVec S16 32) a x).toNat < S8x4096.size a := fun k2_t2 v100 v106 k2_hw8 k2_h1 => k2_hw8 k2_h1
def k2_off11 (i : grid2.Coords) (k2_t2 : Fin k2_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_9 : BitVec 32 := 32#32
  let v32 : BitVec 32 := Scalar.muli v1 c32_i32_9
  let c0_i32_11 : BitVec 32 := 0#32
  let c1_i32_13 : BitVec 32 := 1#32
  let arg11 : BitVec 32 := Scf.iv c0_i32_11 c1_i32_13 k2_t2
  let v107 : BitVec 32 := Scalar.addi v32 arg11
  let c8_i32_57 : BitVec 32 := 8#32
  let v108 : BitVec 32 := Scalar.muli v107 c8_i32_57
  let c0_i32_58 : BitVec 32 := 0#32
  ![v108.toNat, 0]
def k2_cond3 (k2_t2 : Fin k2_t2_loop.trips) : BitVec 1 :=
  let c0_i32_11 : BitVec 32 := 0#32
  let c1_i32_13 : BitVec 32 := 1#32
  let arg11 : BitVec 32 := Scf.iv c0_i32_11 c1_i32_13 k2_t2
  let c2_i32_31 : BitVec 32 := 2#32
  let c0_i32_32 : BitVec 32 := 0#32
  let v51 : BitVec 1 := Scalar.cmpi .eq c2_i32_31 c0_i32_32
  let c1_i32_33 : BitVec 32 := 1#32
  let v52 : BitVec 32 := Scalar.select v51 c1_i32_33 c2_i32_31
  let v53 : BitVec 32 := Scalar.remsi arg11 v52
  let c0_i32_35 : BitVec 32 := 0#32
  let v55 : BitVec 1 := Scalar.cmpi .slt v53 c0_i32_35
  let c0_i32_36 : BitVec 32 := 0#32
  let v56 : BitVec 1 := Scalar.cmpi .slt v52 c0_i32_36
  let v57 : BitVec 1 := Scalar.xori v55 v56
  let c0_i32_34 : BitVec 32 := 0#32
  let v54 : BitVec 1 := Scalar.cmpi .ne v53 c0_i32_34
  let v58 : BitVec 1 := Scalar.andi v57 v54
  let v59 : BitVec 32 := Scalar.addi v53 v52
  let v60 : BitVec 32 := Scalar.select v58 v59 v53
  let c1_i32_37 : BitVec 32 := 1#32
  let v61 : BitVec 1 := Scalar.cmpi .eq v60 c1_i32_37
  let v62 : BitVec 32 := Scalar.extui v61
  let c0_i32_38 : BitVec 32 := 0#32
  let v63 : BitVec 1 := Scalar.cmpi .ne v62 c0_i32_38
  v63

def k2_cond4 (k2_t2 : Fin k2_t2_loop.trips) : BitVec 1 :=
  let c0_i32_11 : BitVec 32 := 0#32
  let c1_i32_13 : BitVec 32 := 1#32
  let arg11 : BitVec 32 := Scf.iv c0_i32_11 c1_i32_13 k2_t2
  let c2_i32_39 : BitVec 32 := 2#32
  let v64 : BitVec 1 := Scalar.cmpi .sge arg11 c2_i32_39
  let v65 : BitVec 32 := Scalar.extui v64
  let c0_i32_40 : BitVec 32 := 0#32
  let v66 : BitVec 1 := Scalar.cmpi .ne v65 c0_i32_40
  v66

def k2_off12 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_64 : BitVec 32 := 2#32
  let v113 : BitVec 32 := Scalar.subi arg11 c2_i32_64
  let c64_i32_65 : BitVec 32 := 64#32
  let v114 : BitVec 32 := Scalar.muli v113 c64_i32_65
  let c0_i32_66 : BitVec 32 := 0#32
  let v115 : BitVec 32 := Scalar.addi v114 c0_i32_66
  let v116 : Index := Scalar.indexCast v115
  ![v116.toNat]

def k2_chk9 (k2_t2 : Fin k2_t2_loop.trips) (v117 : IVec S16 32) (v119 : IVec S16 32) : Prop :=
  (∀ (k2_h3 : k2_cond3 k2_t2 = 1#1), ∀ (k2_h4 : k2_cond4 k2_t2 = 1#1), ∀ a x, ((![v119, v117] : Fin 2 → IVec S16 32) a x).toNat < S8x4096.size a)
theorem k2_idx9_inb : ∀ (k2_t2 : Fin k2_t2_loop.trips) (v117 : IVec S16 32) (v119 : IVec S16 32) (k2_hw9 : k2_chk9 k2_t2 v117 v119), ∀ (k2_h3 : k2_cond3 k2_t2 = 1#1), ∀ (k2_h4 : k2_cond4 k2_t2 = 1#1), ∀ a x, ((![v119, v117] : Fin 2 → IVec S16 32) a x).toNat < S8x4096.size a := fun k2_t2 v117 v119 k2_hw9 k2_h3 k2_h4 => k2_hw9 k2_h3 k2_h4
def k2_off13 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_68 : BitVec 32 := 2#32
  let v120 : BitVec 32 := Scalar.subi arg11 c2_i32_68
  let c64_i32_69 : BitVec 32 := 64#32
  let v121 : BitVec 32 := Scalar.muli v120 c64_i32_69
  let c16_i32_70 : BitVec 32 := 16#32
  let v122 : BitVec 32 := Scalar.addi v121 c16_i32_70
  let v123 : Index := Scalar.indexCast v122
  ![v123.toNat]

def k2_chk10 (k2_t2 : Fin k2_t2_loop.trips) (v124 : IVec S16 32) (v126 : IVec S16 32) : Prop :=
  (∀ (k2_h3 : k2_cond3 k2_t2 = 1#1), ∀ (k2_h4 : k2_cond4 k2_t2 = 1#1), ∀ a x, ((![v126, v124] : Fin 2 → IVec S16 32) a x).toNat < S8x4096.size a)
theorem k2_idx10_inb : ∀ (k2_t2 : Fin k2_t2_loop.trips) (v124 : IVec S16 32) (v126 : IVec S16 32) (k2_hw10 : k2_chk10 k2_t2 v124 v126), ∀ (k2_h3 : k2_cond3 k2_t2 = 1#1), ∀ (k2_h4 : k2_cond4 k2_t2 = 1#1), ∀ a x, ((![v126, v124] : Fin 2 → IVec S16 32) a x).toNat < S8x4096.size a := fun k2_t2 v124 v126 k2_hw10 k2_h3 k2_h4 => k2_hw10 k2_h3 k2_h4
def k2_off14 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_72 : BitVec 32 := 2#32
  let v127 : BitVec 32 := Scalar.subi arg11 c2_i32_72
  let c64_i32_73 : BitVec 32 := 64#32
  let v128 : BitVec 32 := Scalar.muli v127 c64_i32_73
  let c32_i32_74 : BitVec 32 := 32#32
  let v129 : BitVec 32 := Scalar.addi v128 c32_i32_74
  let v130 : Index := Scalar.indexCast v129
  ![v130.toNat]

def k2_chk11 (k2_t2 : Fin k2_t2_loop.trips) (v131 : IVec S16 32) (v133 : IVec S16 32) : Prop :=
  (∀ (k2_h3 : k2_cond3 k2_t2 = 1#1), ∀ (k2_h4 : k2_cond4 k2_t2 = 1#1), ∀ a x, ((![v133, v131] : Fin 2 → IVec S16 32) a x).toNat < S8x4096.size a)
theorem k2_idx11_inb : ∀ (k2_t2 : Fin k2_t2_loop.trips) (v131 : IVec S16 32) (v133 : IVec S16 32) (k2_hw11 : k2_chk11 k2_t2 v131 v133), ∀ (k2_h3 : k2_cond3 k2_t2 = 1#1), ∀ (k2_h4 : k2_cond4 k2_t2 = 1#1), ∀ a x, ((![v133, v131] : Fin 2 → IVec S16 32) a x).toNat < S8x4096.size a := fun k2_t2 v131 v133 k2_hw11 k2_h3 k2_h4 => k2_hw11 k2_h3 k2_h4
def k2_off15 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c2_i32_76 : BitVec 32 := 2#32
  let v134 : BitVec 32 := Scalar.subi arg11 c2_i32_76
  let c64_i32_77 : BitVec 32 := 64#32
  let v135 : BitVec 32 := Scalar.muli v134 c64_i32_77
  let c48_i32_78 : BitVec 32 := 48#32
  let v136 : BitVec 32 := Scalar.addi v135 c48_i32_78
  let v137 : Index := Scalar.indexCast v136
  ![v137.toNat]

def k2_chk12 (k2_t2 : Fin k2_t2_loop.trips) (v138 : IVec S16 32) (v140 : IVec S16 32) : Prop :=
  (∀ (k2_h3 : k2_cond3 k2_t2 = 1#1), ∀ (k2_h4 : k2_cond4 k2_t2 = 1#1), ∀ a x, ((![v140, v138] : Fin 2 → IVec S16 32) a x).toNat < S8x4096.size a)
theorem k2_idx12_inb : ∀ (k2_t2 : Fin k2_t2_loop.trips) (v138 : IVec S16 32) (v140 : IVec S16 32) (k2_hw12 : k2_chk12 k2_t2 v138 v140), ∀ (k2_h3 : k2_cond3 k2_t2 = 1#1), ∀ (k2_h4 : k2_cond4 k2_t2 = 1#1), ∀ a x, ((![v140, v138] : Fin 2 → IVec S16 32) a x).toNat < S8x4096.size a := fun k2_t2 v138 v140 k2_hw12 k2_h3 k2_h4 => k2_hw12 k2_h3 k2_h4
def k2_off16 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_41 : BitVec 32 := 64#32
  let v67 : BitVec 32 := Scalar.muli arg11 c64_i32_41
  let c0_i32_42 : BitVec 32 := 0#32
  let v68 : BitVec 32 := Scalar.addi v67 c0_i32_42
  let v69 : Index := Scalar.indexCast v68
  ![v69.toNat]

def k2_chk13 (k2_t2 : Fin k2_t2_loop.trips) (v70 : IVec S16 32) (v76 : IVec S16 32) : Prop :=
  (∀ (k2_h3 : k2_cond3 k2_t2 = 1#1), ∀ a x, ((![v76, v70] : Fin 2 → IVec S16 32) a x).toNat < S8x4096.size a)
theorem k2_idx13_inb : ∀ (k2_t2 : Fin k2_t2_loop.trips) (v70 : IVec S16 32) (v76 : IVec S16 32) (k2_hw13 : k2_chk13 k2_t2 v70 v76), ∀ (k2_h3 : k2_cond3 k2_t2 = 1#1), ∀ a x, ((![v76, v70] : Fin 2 → IVec S16 32) a x).toNat < S8x4096.size a := fun k2_t2 v70 v76 k2_hw13 k2_h3 => k2_hw13 k2_h3
def k2_off17 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_46 : BitVec 32 := 64#32
  let v77 : BitVec 32 := Scalar.muli arg11 c64_i32_46
  let c16_i32 : BitVec 32 := 16#32
  let v78 : BitVec 32 := Scalar.addi v77 c16_i32
  let v79 : Index := Scalar.indexCast v78
  ![v79.toNat]

def k2_chk14 (k2_t2 : Fin k2_t2_loop.trips) (v80 : IVec S16 32) (v86 : IVec S16 32) : Prop :=
  (∀ (k2_h3 : k2_cond3 k2_t2 = 1#1), ∀ a x, ((![v86, v80] : Fin 2 → IVec S16 32) a x).toNat < S8x4096.size a)
theorem k2_idx14_inb : ∀ (k2_t2 : Fin k2_t2_loop.trips) (v80 : IVec S16 32) (v86 : IVec S16 32) (k2_hw14 : k2_chk14 k2_t2 v80 v86), ∀ (k2_h3 : k2_cond3 k2_t2 = 1#1), ∀ a x, ((![v86, v80] : Fin 2 → IVec S16 32) a x).toNat < S8x4096.size a := fun k2_t2 v80 v86 k2_hw14 k2_h3 => k2_hw14 k2_h3
def k2_off18 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_50 : BitVec 32 := 64#32
  let v87 : BitVec 32 := Scalar.muli arg11 c64_i32_50
  let c32_i32_51 : BitVec 32 := 32#32
  let v88 : BitVec 32 := Scalar.addi v87 c32_i32_51
  let v89 : Index := Scalar.indexCast v88
  ![v89.toNat]

def k2_chk15 (k2_t2 : Fin k2_t2_loop.trips) (v90 : IVec S16 32) (v96 : IVec S16 32) : Prop :=
  (∀ (k2_h3 : k2_cond3 k2_t2 = 1#1), ∀ a x, ((![v96, v90] : Fin 2 → IVec S16 32) a x).toNat < S8x4096.size a)
theorem k2_idx15_inb : ∀ (k2_t2 : Fin k2_t2_loop.trips) (v90 : IVec S16 32) (v96 : IVec S16 32) (k2_hw15 : k2_chk15 k2_t2 v90 v96), ∀ (k2_h3 : k2_cond3 k2_t2 = 1#1), ∀ a x, ((![v96, v90] : Fin 2 → IVec S16 32) a x).toNat < S8x4096.size a := fun k2_t2 v90 v96 k2_hw15 k2_h3 => k2_hw15 k2_h3
def k2_off19 (k2_t2 : Fin k2_t2_loop.trips) : Fin 1 → Nat :=
  let c0_i32_11 : BitVec 32 := 0#32
  let c1_i32_13 : BitVec 32 := 1#32
  let arg11 : BitVec 32 := Scf.iv c0_i32_11 c1_i32_13 k2_t2
  let c64_i32_54 : BitVec 32 := 64#32
  let v97 : BitVec 32 := Scalar.muli arg11 c64_i32_54
  let c48_i32 : BitVec 32 := 48#32
  let v98 : BitVec 32 := Scalar.addi v97 c48_i32
  let v99 : Index := Scalar.indexCast v98
  ![v99.toNat]

def k2_chk16 (k2_t2 : Fin k2_t2_loop.trips) (v100 : IVec S16 32) (v106 : IVec S16 32) : Prop :=
  (∀ (k2_h3 : k2_cond3 k2_t2 = 1#1), ∀ a x, ((![v106, v100] : Fin 2 → IVec S16 32) a x).toNat < S8x4096.size a)
theorem k2_idx16_inb : ∀ (k2_t2 : Fin k2_t2_loop.trips) (v100 : IVec S16 32) (v106 : IVec S16 32) (k2_hw16 : k2_chk16 k2_t2 v100 v106), ∀ (k2_h3 : k2_cond3 k2_t2 = 1#1), ∀ a x, ((![v106, v100] : Fin 2 → IVec S16 32) a x).toNat < S8x4096.size a := fun k2_t2 v100 v106 k2_hw16 k2_h3 => k2_hw16 k2_h3
def k2_off20 (i : grid2.Coords) (k2_t2 : Fin k2_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_9 : BitVec 32 := 32#32
  let v32 : BitVec 32 := Scalar.muli v1 c32_i32_9
  let c0_i32_11 : BitVec 32 := 0#32
  let c1_i32_13 : BitVec 32 := 1#32
  let arg11 : BitVec 32 := Scf.iv c0_i32_11 c1_i32_13 k2_t2
  let v107 : BitVec 32 := Scalar.addi v32 arg11
  let c8_i32_57 : BitVec 32 := 8#32
  let v108 : BitVec 32 := Scalar.muli v107 c8_i32_57
  let c0_i32_58 : BitVec 32 := 0#32
  ![v108.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== MathsIdeal.lean ====
abbrev S2x4096x768 : Shape := ⟨3, ![2, 4096, 768]⟩
abbrev S192x768 : Shape := ⟨2, ![192, 768]⟩
abbrev S192 : Shape := ⟨1, ![192]⟩
abbrev S768x192 : Shape := ⟨2, ![768, 192]⟩
abbrev S2x4096x192 : Shape := ⟨3, ![2, 4096, 192]⟩
abbrev S1x1x192 : Shape := ⟨3, ![1, 1, 192]⟩
abbrev S2x4096x4096 : Shape := ⟨3, ![2, 4096, 4096]⟩
abbrev S_ : Shape := ⟨0, ![]⟩
abbrev S2x4096x8 : Shape := ⟨3, ![2, 4096, 8]⟩
abbrev S2 : Shape := ⟨1, ![2]⟩
abbrev S2x1x1 : Shape := ⟨3, ![2, 1, 1]⟩
abbrev S4096 : Shape := ⟨1, ![4096]⟩
abbrev S1x4096x1 : Shape := ⟨3, ![1, 4096, 1]⟩
abbrev S2x4096x8x1 : Shape := ⟨4, ![2, 4096, 8, 1]⟩
abbrev S2x4096x8x3 : Shape := ⟨4, ![2, 4096, 8, 3]⟩
abbrev S2x4096 : Shape := ⟨2, ![2, 4096]⟩
abbrev S2x4096x1 : Shape := ⟨3, ![2, 4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S192x768, .f32⟩
  | .hbm, ⟨2, _⟩ => ⟨S192, .f32⟩
  | .hbm, ⟨3, _⟩ => ⟨S192x768, .f32⟩
  | .hbm, ⟨4, _⟩ => ⟨S192, .f32⟩
  | .hbm, ⟨5, _⟩ => ⟨S768x192, .f32⟩
  | .hbm, ⟨6, _⟩ => ⟨S2x4096x192, .f32⟩
  | .hbm, ⟨7, _⟩ => ⟨S1x1x192, .f32⟩
  | .hbm, ⟨8, _⟩ => ⟨S2x4096x192, .f32⟩
  | .hbm, ⟨9, _⟩ => ⟨S2x4096x192, .f32⟩
  | .hbm, ⟨10, _⟩ => ⟨S768x192, .f32⟩
  | .hbm, ⟨11, _⟩ => ⟨S2x4096x192, .f32⟩
  | .hbm, ⟨12, _⟩ => ⟨S1x1x192, .f32⟩
  | .hbm, ⟨13, _⟩ => ⟨S2x4096x192, .f32⟩
  | .hbm, ⟨14, _⟩ => ⟨S2x4096x192, .f32⟩
  | .hbm, ⟨15, _⟩ => ⟨S2x4096x4096, .f32⟩
  | .hbm, ⟨16, _⟩ => ⟨S_, .f32⟩
  | .hbm, ⟨17, _⟩ => ⟨S_, .f32⟩
  | .hbm, ⟨18, _⟩ => ⟨S2x4096x4096, .f32⟩
  | .hbm, ⟨19, _⟩ => ⟨S2x4096x4096, .f32⟩
  | .hbm, ⟨20, _⟩ => ⟨S2x4096x8, .f32⟩
  | .hbm, ⟨21, _⟩ => ⟨S2x4096x8, .i32⟩
  | .hbm, ⟨22, _⟩ => ⟨S2, .i32⟩
  | .hbm, ⟨23, _⟩ => ⟨S2x1x1, .i32⟩
  | .hbm, ⟨24, _⟩ => ⟨S4096, .i32⟩
  | .hbm, ⟨25, _⟩ => ⟨S1x4096x1, .i32⟩
  | .hbm, ⟨26, _⟩ => ⟨S_, .f32⟩
  | .hbm, ⟨27, _⟩ => ⟨S2x4096x4096, .f32⟩
  | .hbm, ⟨28, _⟩ => ⟨S_, .i32⟩
  | .hbm, ⟨29, _⟩ => ⟨S2x1x1, .i32⟩
  | .hbm, ⟨30, _⟩ => ⟨S2x1x1, .i1⟩
  | .hbm, ⟨31, _⟩ => ⟨S_, .i32⟩
  | .hbm, ⟨32, _⟩ => ⟨S2x1x1, .i32⟩
  | .hbm, ⟨33, _⟩ => ⟨S2x1x1, .i32⟩
  | .hbm, ⟨34, _⟩ => ⟨S2x1x1, .i32⟩
  | .hbm, ⟨35, _⟩ => ⟨S_, .i32⟩
  | .hbm, ⟨36, _⟩ => ⟨S1x4096x1, .i32⟩
  | .hbm, ⟨37, _⟩ => ⟨S1x4096x1, .i1⟩
  | .hbm, ⟨38, _⟩ => ⟨S_, .i32⟩
  | .hbm, ⟨39, _⟩ => ⟨S1x4096x1, .i32⟩
  | .hbm, ⟨40, _⟩ => ⟨S1x4096x1, .i32⟩
  | .hbm, ⟨41, _⟩ => ⟨S1x4096x1, .i32⟩
  | .hbm, ⟨42, _⟩ => ⟨S_, .i32⟩
  | .hbm, ⟨43, _⟩ => ⟨S2x4096x8, .i32⟩
  | .hbm, ⟨44, _⟩ => ⟨S2x4096x8, .i1⟩
  | .hbm, ⟨45, _⟩ => ⟨S_, .i32⟩
  | .hbm, ⟨46, _⟩ => ⟨S2x4096x8, .i32⟩
  | .hbm, ⟨47, _⟩ => ⟨S2x4096x8, .i32⟩
  | .hbm, ⟨48, _⟩ => ⟨S2x4096x8, .i32⟩
  | .hbm, ⟨49, _⟩ => ⟨S2x4096x8, .i32⟩
  | .hbm, ⟨50, _⟩ => ⟨S2x4096x8, .i32⟩
  | .hbm, ⟨51, _⟩ => ⟨S2x4096x8x1, .i32⟩
  | .hbm, ⟨52, _⟩ => ⟨S2x4096x8x1, .i32⟩
  | .hbm, ⟨53, _⟩ => ⟨S2x4096x8x1, .i32⟩
  | .hbm, ⟨54, _⟩ => ⟨S2x4096x8x3, .i32⟩
  | .hbm, ⟨55, _⟩ => ⟨S_, .f32⟩
  | .hbm, ⟨56, _⟩ => ⟨S2x4096x8, .f32⟩
  | .hbm, ⟨57, _⟩ => ⟨S2x4096x4096, .f32⟩
  | .hbm, ⟨58, _⟩ => ⟨S_, .f32⟩
  | .hbm, ⟨59, _⟩ => ⟨S2x4096x4096, .f32⟩
  | .hbm, ⟨60, _⟩ => ⟨S2x4096x4096, .i1⟩
  | .hbm, ⟨61, _⟩ => ⟨S_, .f32⟩
  | .hbm, ⟨62, _⟩ => ⟨S_, .f32⟩
  | .hbm, ⟨63, _⟩ => ⟨S2x4096x4096, .f32⟩
  | .hbm, ⟨64, _⟩ => ⟨S2x4096x4096, .f32⟩
  | .hbm, ⟨65, _⟩ => ⟨S_, .f32⟩
  | .hbm, ⟨66, _⟩ => ⟨S2x4096, .f32⟩
  | .hbm, ⟨67, _⟩ => ⟨S_, .f32⟩
  | .hbm, ⟨68, _⟩ => ⟨S2x4096, .f32⟩
  | .hbm, ⟨69, _⟩ => ⟨S2x4096, .f32⟩
  | .hbm, ⟨70, _⟩ => ⟨S2x4096x1, .f32⟩
  | .hbm, ⟨71, _⟩ => ⟨S2x4096x4096, .f32⟩
  | .hbm, ⟨72, _⟩ => ⟨S2x4096x4096, .f32⟩
  | .hbm, ⟨73, _⟩ => ⟨S2x4096x4096, .f32⟩
  | .hbm, ⟨74, _⟩ => ⟨S_, .f32⟩
  | .hbm, ⟨75, _⟩ => ⟨S2x4096, .f32⟩
  | .hbm, ⟨76, _⟩ => ⟨S2x4096x1, .f32⟩
  | .hbm, ⟨77, _⟩ => ⟨S2x4096x4096, .f32⟩
  | .hbm, ⟨78, _⟩ => ⟨S2x4096x4096, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_call0_v0 : Ref sig .tc := ⟨.hbm, 62, rfl⟩
abbrev main_call0_v1 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Proof.Rounds.lean ====
/-
  One row of scores: the eight rounds of the kernel (take the row's maximum, note the first position attaining it, put minus
  infinity wherever it is attained) against the stable descending sort of the row.
-/
module

public import Idealize.ShloMosaic.Lib.SortFacts
public import Idealize.ShloMosaic.PureOps.Ideal.Laws

@[expose] public section

noncomputable section

namespace Cert.Rounds

open Idealize.ShloMosaic

variable {n : ℕ}

/-- `a` stands before `b` in the descending order, equal entries by position. -/
def Lex (s : Fin n → EReal) (a b : Fin n) : Prop := s b < s a ∨ (s a = s b ∧ a < b)

/-- "`a`'s entry is greater than `b`'s." -/
def gt (s : Fin n → EReal) (a b : Fin n) : Bool := decide (s b < s a)

theorem lex_insert (s : Fin n → EReal) (a : Fin n) : ∀ l : List (Fin n), (∀ b ∈ l, a < b) → l.Pairwise (Lex s) →
    (insertBefore (gt s) a l).Pairwise (Lex s)
  | [], _, _ => List.pairwise_singleton _ _
  | b :: l, ha, hl => by
      have hb := List.pairwise_cons.mp hl
      unfold insertBefore
      split
      · rename_i h
        refine List.pairwise_cons.mpr ⟨fun x hx => ?_, lex_insert s a l (fun x hx => ha x (List.mem_cons_of_mem _ hx)) hb.2⟩
        rcases List.mem_cons.mp ((perm_insertBefore _ a l).mem_iff.mp hx) with rfl | hx
        · exact Or.inl (of_decide_eq_true h)
        · exact hb.1 x hx
      · rename_i h
        have hba : s b ≤ s a := not_lt.mp fun h' => h (decide_eq_true h')
        refine List.pairwise_cons.mpr ⟨fun x hx => ?_, hl⟩
        have hxa : s x ≤ s a := by
          rcases List.mem_cons.mp hx with rfl | hx'
          · exact hba
          · rcases hb.1 x hx' with h' | h'
            · exact h'.le.trans hba
            · exact h'.1.symm.le.trans hba
        rcases hxa.lt_or_eq with h' | h'
        · exact Or.inl h'
        · exact Or.inr ⟨h'.symm, ha x hx⟩

theorem lex_sort (s : Fin n → EReal) : ∀ l : List (Fin n), l.Pairwise (· < ·) → (stableSort (gt s) l).Pairwise (Lex s)
  | [], _ => List.Pairwise.nil
  | a :: l, h => by
      have h' := List.pairwise_cons.mp h
      unfold stableSort
      exact lex_insert s a _ (fun b hb => h'.1 b ((perm_stableSort _ l).mem_iff.mp hb)) (lex_sort s l h'.2)

/-- Where the `k`-th entry of the sorted row comes from. -/
def src (s : Fin n → EReal) : Fin n → Fin n := sortedFrom (gt s)

theorem src_lex (s : Fin n → EReal) (i j : Fin n) (h : i < j) : Lex s (src s i) (src s j) := by
  have hp : ∀ a b : Fin (sortPositions n (gt s)).length, a < b → Lex s ((sortPositions n (gt s)).get a) ((sortPositions n (gt s)).get b) :=
    List.pairwise_iff_get.mp (lex_sort s (List.finRange n) (List.pairwise_lt_finRange n))
  unfold src sortedFrom
  exact hp _ _ (by simp only [Fin.lt_def, Fin.val_cast]; exact h)

theorem src_le (s : Fin n → EReal) (i j : Fin n) (h : i ≤ j) : s (src s j) ≤ s (src s i) := by
  rcases h.lt_or_eq with h | rfl
  · rcases src_lex s i j h with h | h
    · exact h.le
    · exact h.1.symm.le
  · exact le_rfl

/-- The positions `π 0, …, π 7` hold the eight largest entries in strictly descending order, none of them minus infinity; another
    entry equal to the least of them stands after it. -/
structure Ranked (s : Fin n → EReal) (π : Fin 8 → Fin n) : Prop where
  desc : ∀ i j : Fin 8, i < j → s (π j) < s (π i)
  fin : ∀ k : Fin 8, ⊥ < s (π k)
  rest : ∀ m : Fin n, (∃ k, m = π k) ∨ (s m ≤ s (π 7) ∧ (s m = s (π 7) → π 7 < m))

theorem Ranked.inj {s : Fin n → EReal} {π : Fin 8 → Fin n} (h : Ranked s π) : Function.Injective π := by
  intro i j e
  rcases lt_trichotomy i j with hij | hij | hij
  · exact absurd (h.desc i j hij) (by rw [e]; exact lt_irrefl _)
  · exact hij
  · exact absurd (h.desc j i hij) (by rw [e]; exact lt_irrefl _)

/-- The first eight of the sorted row are such positions as soon as they are strictly descending and above minus infinity. -/
theorem ranked_src (hn : 8 ≤ n) (s : Fin n → EReal)
    (hd : ∀ k : Fin 7, s (src s ⟨k.val + 1, by omega⟩) < s (src s ⟨k.val, by omega⟩))
    (hb : ∀ k : Fin 7, ⊥ < s (src s ⟨k.val + 1, by omega⟩)) : Ranked s fun k => src s (k.castLE hn) where
  desc i j hij := by
    have h1 := hd ⟨i.val, by omega⟩
    refine lt_of_le_of_lt (src_le s _ _ ?_) h1
    exact (Nat.succ_le_of_lt hij : i.val + 1 ≤ j.val)
  fin k := by
    rcases Nat.eq_zero_or_pos k.val with h | h
    · have h0 : k = 0 := Fin.ext h
      subst h0
      exact (hb 0).trans (hd 0)
    · have := hb ⟨k.val - 1, by omega⟩
      have e : (⟨k.val - 1 + 1, by omega⟩ : Fin n) = k.castLE hn := Fin.ext (by simp; omega)
      rw [e] at this; exact this
  rest m := by
    obtain ⟨k, rfl⟩ := sortedFrom_surjective (gt s) m
    by_cases hk : k.val < 8
    · exact Or.inl ⟨⟨k.val, hk⟩, rfl⟩
    · refine Or.inr ⟨src_le s _ _ (by show 7 ≤ k.val; omega), fun e => ?_⟩
      rcases src_lex s ((7 : Fin 8).castLE hn) k (by show 7 < k.val; omega) with h | h
      · exact absurd h (by rw [show s (src s k) = _ from e]; exact lt_irrefl _)
      · exact h.2

/-- The row's maximum. -/
def top (w : Fin n → EReal) : EReal := Finset.univ.fold max ⊥ w

theorem le_top (w : Fin n → EReal) (m : Fin n) : w m ≤ top w :=
  (Finset.le_fold_max _).mpr (Or.inr ⟨m, Finset.mem_univ _, le_rfl⟩)

theorem top_le (w : Fin n → EReal) (c : EReal) (h : ∀ m, w m ≤ c) : top w ≤ c :=
  (Finset.fold_max_le _).mpr ⟨bot_le, fun m _ => h m⟩

/-- Minus infinity wherever the maximum is attained. -/
def drop (w : Fin n → EReal) (m : Fin n) : EReal := if w m = top w then ⊥ else w m

/-- The row after `k` rounds. -/
def after (s : Fin n → EReal) : ℕ → Fin n → EReal
  | 0 => s
  | k + 1 => drop (after s k)

/-- Position `a` attains the row's maximum first. -/
def First (w : Fin n → EReal) (a : Fin n) : Prop := w a = top w ∧ ∀ m, w m = top w → a ≤ m

variable {s : Fin n → EReal} {π : Fin 8 → Fin n} (h : Ranked s π)
include h

theorem Ranked.bound (k : Fin 8) (m : Fin n) (hm : ∀ j : Fin 8, j < k → m ≠ π j) :
    s m ≤ s (π k) ∧ (s m = s (π k) → π k ≤ m) ∧ (s m = s (π k) → k < 7 → m = π k) := by
  rcases h.rest m with ⟨j, rfl⟩ | ⟨h1, h2⟩
  · rcases lt_trichotomy j k with hj | rfl | hj
    · exact absurd rfl (hm j hj)
    · exact ⟨le_rfl, fun _ => le_rfl, fun _ _ => rfl⟩
    · have := h.desc k j hj
      exact ⟨this.le, fun e => absurd e this.ne, fun e => absurd e this.ne⟩
  · rcases (Nat.lt_or_ge k.val 7) with hk | hk
    · have h3 := lt_of_le_of_lt h1 (h.desc k 7 hk)
      exact ⟨h3.le, fun e => absurd e h3.ne, fun e => absurd e h3.ne⟩
    · have : k = 7 := Fin.ext (by show k.val = 7; omega)
      subst this
      exact ⟨h1, fun e => (h2 e).le, fun _ h' => absurd h' (lt_irrefl _)⟩

theorem Ranked.top_of (k : Fin 8) (w : Fin n → EReal) (hw : ∀ m, w m = if ∃ j : Fin 8, j < k ∧ m = π j then ⊥ else s m) :
    top w = s (π k) ∧ First w (π k) := by
  have hk : w (π k) = s (π k) := by
    rw [hw, if_neg]
    rintro ⟨j, hj, e⟩
    exact absurd (h.inj e) hj.ne'
  have hle : ∀ m, w m ≤ s (π k) := fun m => by
    rw [hw]; split
    · exact bot_le
    · rename_i hm
      exact (h.bound k m fun j hj e => hm ⟨j, hj, e⟩).1
  have ht : top w = s (π k) := le_antisymm (top_le w _ hle) (hk ▸ le_top w (π k))
  refine ⟨ht, hk.trans ht.symm, fun m hm => ?_⟩
  rw [ht, hw] at hm
  split at hm
  · exact absurd hm (h.fin k).ne
  · rename_i hn'
    exact (h.bound k m fun j hj e => hn' ⟨j, hj, e⟩).2.1 hm

theorem Ranked.after_eq : ∀ k : ℕ, ∀ hk : k < 8, ∀ m, after s k m = if ∃ j : Fin 8, j < ⟨k, hk⟩ ∧ m = π j then ⊥ else s m
  | 0, _, m => by
      rw [if_neg]
      · rfl
      · rintro ⟨j, hj, _⟩
        exact absurd hj (Nat.not_lt_zero _)
  | k + 1, hk, m => by
      have ih := Ranked.after_eq k (by omega)
      have ht := (h.top_of ⟨k, by omega⟩ (after s k) ih).1
      show (if after s k m = top (after s k) then ⊥ else after s k m) = _
      rw [ht, ih m]
      by_cases hj : ∃ j : Fin 8, j < ⟨k, by omega⟩ ∧ m = π j
      · have hj' : ∃ j : Fin 8, j < ⟨k + 1, hk⟩ ∧ m = π j := by
          obtain ⟨j, h1, h2⟩ := hj
          exact ⟨j, lt_trans h1 (Nat.lt_succ_self k), h2⟩
        rw [if_pos hj, if_pos hj']; split <;> rfl
      · rw [if_neg hj]
        by_cases he : m = π ⟨k, by omega⟩
        · rw [if_pos (by rw [he]), if_pos ⟨⟨k, by omega⟩, Nat.lt_succ_self k, he⟩]
        · have h3 := (h.bound ⟨k, by omega⟩ m fun j hj1 e => hj ⟨j, hj1, e⟩).2.2
          rw [if_neg fun e => he (h3 e (by show k < 7; omega)), if_neg]
          rintro ⟨j, h1, h2⟩
          rcases Nat.lt_or_ge j.val k with h4 | h4
          · exact hj ⟨j, h4, h2⟩
          · have : j = ⟨k, by omega⟩ := Fin.ext (by have : j.val < k + 1 := h1; show j.val = k; omega)
            exact he (this ▸ h2)

/-- Round `k` finds the `k`-th largest entry and its position. -/
theorem Ranked.round (k : Fin 8) : top (after s k.val) = s (π k) ∧ First (after s k.val) (π k) :=
  h.top_of k _ (h.after_eq k.val k.isLt)

end Cert.Rounds

end

end
-- ==== Proof.Rows.lean ====
/-
  A block of 512 rows of scores, as the kernel treats it: the operations of one round read at a row, the eight columns put side by
  side, the softmax over them, and the product that makes the scores.
-/
module

public import proofs.«01_k».proof.Proof.Rounds
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.Pipeline.ValueKit.Tiles
public import Idealize.ShloMosaic.PureOps

@[expose] public section

noncomputable section

namespace Cert.Rows

open Idealize.ShloMosaic Idealize.ShloMosaic.ValueIdx Cert.Rounds

abbrev B512 : Shape := ⟨1, ![512]⟩
abbrev B512x1 : Shape := ⟨2, ![512, 1]⟩
abbrev B512x8 : Shape := ⟨2, ![512, 8]⟩
abbrev B512x4096 : Shape := ⟨2, ![512, 4096]⟩
abbrev B512x192 : Shape := ⟨2, ![512, 192]⟩
abbrev B4096x192 : Shape := ⟨2, ![4096, 192]⟩
abbrev B1x512x8 : Shape := ⟨3, ![1, 512, 8]⟩
abbrev B1x512x192 : Shape := ⟨3, ![1, 512, 192]⟩
abbrev B1x4096x192 : Shape := ⟨3, ![1, 4096, 192]⟩

theorem red : B512x4096.Reduces [1] B512 := by decide
theorem red8 : B512x8.Reduces [1] B512 := by decide
theorem cast1 : B512.ShapeCasts B512x1 := by decide
theorem cast8 : B512x8.ShapeCasts B1x512x8 := by decide
theorem bc : B512x1.Broadcasts B512x4096 := by decide
theorem bc8 : B512x1.Broadcasts B512x8 := by decide
theorem io : B512x4096.Iotas .tc 32 [1] := by decide
theorem sl : B512x8.Slices ![0, 0] B512x1 := by decide
theorem cat : Shape.Concatenates [B512x1, B512x1, B512x1, B512x1, B512x1, B512x1, B512x1, B512x1] B512x8 1 := by decide
theorem castQ : B1x512x192.ShapeCasts B512x192 := by decide
theorem castK : B1x4096x192.ShapeCasts B4096x192 := by decide

theorem bot_bits : (FloatOps.ofBits .f32 0xFF800000#32 : Ideal .f32) = (⊥ : EReal) := by
  show Ideal.ofBits .f32 0xFF800000#32 = ⊥
  simp [Ideal.ofBits, Ideal.ieee]

theorem ofBool_one (p : Prop) [Decidable p] : BitVec.ofBool (decide p) = (1 : BitVec 1) ↔ p := by
  by_cases h : p <;> simp [h]

/-- Row `r` of a block. -/
def row (w : FVec Ideal B512x4096 .f32) (r : Fin 512) : Fin 4096 → EReal := fun m => w (ix2 r m)

/-! ## A round -/

abbrev vtop (w : FVec Ideal B512x4096 .f32) : FVec Ideal B512x1 .f32 :=
  shapeCast B512x1 (multiReduction .maximumf [1] B512 w 0xFF800000#32 red (.inl rfl) rfl) cast1

abbrev veq (w : FVec Ideal B512x4096 .f32) : IVec B512x4096 1 := cmpf .oeq w (broadcastTo B512x4096 (vtop w) bc)

abbrev vdrop (z : EReal) (w : FVec Ideal B512x4096 .f32) : FVec Ideal B512x4096 .f32 :=
  select (veq w) (broadcast B512x4096 (z : Ideal .f32)) w

abbrev vpick (w : FVec Ideal B512x4096 .f32) : IVec B512x1 32 :=
  shapeCast B512x1 (multiReductionI .minsi [1] B512
    (select (veq w) (iota .tc B512x4096 32 [1] io) (broadcast B512x4096 4096#32)) 2147483647#32 red rfl) cast1

theorem lift_eq (r : Fin 512) (m : Fin 4096) : red.lift (ix1 r) m = ix2 r m := by
  funext b; refine Fin.ext ?_
  match b with
  | ⟨0, _⟩ => rfl
  | ⟨1, _⟩ => rfl

theorem vtop_apply (w : FVec Ideal B512x4096 .f32) (r : Fin 512) (u : Fin 1) : vtop w (ix2 r u) = top (row w r) := by
  unfold vtop
  rw [shapeCast_a_a1_apply]
  refine (Ideal.multiReduction_maximumf_single _ _ _ _ _ _).trans ?_
  rw [bot_bits]
  exact congrArg (Finset.univ.fold max ⊥) (funext fun m => congrArg w (lift_eq r m))

theorem bc_apply {α : Type} (v : B512x1.Idx → α) (r : Fin 512) (m : Fin 4096) : broadcastTo B512x4096 v bc (ix2 r m) = v (ix2 r 0) :=
  broadcastTo_apply v bc _ _ fun a => match a with | ⟨0, _⟩ => rfl | ⟨1, _⟩ => rfl

theorem veq_apply (w : FVec Ideal B512x4096 .f32) (r : Fin 512) (m : Fin 4096) :
    veq w (ix2 r m) = BitVec.ofBool (decide (row w r m = top (row w r))) := by
  show BitVec.ofBool (decide (w (ix2 r m) = broadcastTo B512x4096 (vtop w) bc (ix2 r m))) = _
  rw [bc_apply, vtop_apply]; rfl

theorem vdrop_row (w : FVec Ideal B512x4096 .f32) (r : Fin 512) : row (vdrop ⊥ w) r = Rounds.drop (row w r) := by
  funext m
  show (if veq w (ix2 r m) = 1 then (⊥ : EReal) else w (ix2 r m)) = _
  rw [veq_apply]
  unfold Rounds.drop
  simp only [ofBool_one]
  rfl

/-- The least of words below 4096 and of 4096 itself, folded from the greatest signed word. -/
theorem fold_min (P : Fin 4096 → Prop) [DecidablePred P] (a : Fin 4096) (ha : P a) (hmin : ∀ m, P m → a ≤ m) :
    (Finset.univ : Finset (Fin 4096)).fold IntOp.minsi 2147483647#32 (fun m => if P m then BitVec.ofNat 32 m.val else 4096#32)
      = BitVec.ofNat 32 a.val := by
  have toI : ∀ m : ℕ, m ≤ 4096 → (BitVec.ofNat 32 m).toInt = (m : Int) := fun m hm => by
    rw [BitVec.toInt_eq_toNat_cond, BitVec.toNat_ofNat]
    have : m % 2 ^ 32 = m := Nat.mod_eq_of_lt (by omega)
    rw [this, if_pos (by omega)]
  have key : ∀ S : Finset (Fin 4096),
      (a ∈ S → S.fold IntOp.minsi 2147483647#32 (fun m => if P m then BitVec.ofNat 32 m.val else 4096#32) = BitVec.ofNat 32 a.val) ∧
      (a.val : Int) ≤ (S.fold IntOp.minsi 2147483647#32 (fun m => if P m then BitVec.ofNat 32 m.val else 4096#32)).toInt := by
    intro S
    induction S using Finset.induction with
    | empty =>
      refine ⟨by simp, ?_⟩
      rw [Finset.fold_empty]
      have : (2147483647#32).toInt = 2147483647 := by decide
      have := a.isLt
      omega
    | insert m S hm ih =>
      obtain ⟨ih1, ih2⟩ := ih
      rw [Finset.fold_insert hm]
      generalize hg : S.fold IntOp.minsi 2147483647#32 (fun m => if P m then BitVec.ofNat 32 m.val else 4096#32) = g at ih1 ih2 ⊢
      have hfm : (a.val : Int) ≤ (if P m then BitVec.ofNat 32 m.val else 4096#32 : BitVec 32).toInt := by
        split
        · rename_i hp
          rw [toI _ (by omega)]
          exact_mod_cast hmin m hp
        · have : (4096#32).toInt = 4096 := by decide
          have := a.isLt
          omega
      generalize hf : (if P m then BitVec.ofNat 32 m.val else 4096#32 : BitVec 32) = f at hfm ⊢
      have hle : (a.val : Int) ≤ (IntOp.minsi f g).toInt := by
        unfold IntOp.minsi; split
        · exact hfm
        · exact ih2
      refine ⟨?_, hle⟩
      intro hmem
      by_cases hma : a = m
      · subst hma
        rw [if_pos ha] at hf
        subst hf
        unfold IntOp.minsi; split
        · rfl
        · rename_i h
          rw [BitVec.slt_eq_decide, decide_eq_true_eq, not_lt, toI _ (by omega)] at h
          exact BitVec.eq_of_toInt_eq (by rw [toI _ (by omega)]; exact le_antisymm h ih2)
      · have ih1 := ih1 ((Finset.mem_insert.mp hmem).resolve_left hma)
        unfold IntOp.minsi; split
        · rename_i h
          rw [BitVec.slt_eq_decide, decide_eq_true_eq, ih1, toI a.val (by omega)] at h
          exact absurd hfm (not_le.mpr h)
        · exact ih1
  exact (key Finset.univ).1 (Finset.mem_univ a)

/-- The word of the first position attaining the row's maximum. -/
def pick (w : Fin 4096 → EReal) : BitVec 32 :=
  (Finset.univ : Finset (Fin 4096)).fold IntOp.minsi 2147483647#32 fun m => if w m = top w then BitVec.ofNat 32 m.val else 4096#32

theorem pick_eq (w : Fin 4096 → EReal) (a : Fin 4096) (h : First w a) : pick w = BitVec.ofNat 32 a.val :=
  fold_min (fun m => w m = top w) a h.1 h.2

theorem vpick_apply (w : FVec Ideal B512x4096 .f32) (r : Fin 512) (u : Fin 1) : vpick w (ix2 r u) = pick (row w r) := by
  unfold vpick
  rw [shapeCast_a_a1_apply]
  refine (multiReductionI_eq_fold _ _ _ _ _ _).trans ?_
  refine (red.fold_filter_drop_single _ _ _ _).trans ?_
  refine congrArg ((Finset.univ : Finset (Fin 4096)).fold IntOp.minsi 2147483647#32) (funext fun m => ?_)
  change Fin 4096 at m
  show (if veq w (red.lift (ix1 r) m) = 1 then iota .tc B512x4096 32 [1] io (red.lift (ix1 r) m) else 4096#32) = _
  rw [lift_eq, veq_apply, iota_single_apply]
  simp only [ofBool_one]

/-- A row's maximum is attained, so the word is a column. -/
theorem pick_lt (w : Fin 4096 → EReal) : (pick w).toNat < 4096 := by
  classical
  have hex : ∃ m, w m = top w := by
    obtain ⟨m, hm⟩ := Finite.exists_max w
    exact ⟨m, le_antisymm (le_top w m) (top_le w _ hm)⟩
  have hne : (Finset.univ.filter fun m => w m = top w).Nonempty := by
    obtain ⟨m, hm⟩ := hex
    exact ⟨m, by simp [hm]⟩
  have hmem := Finset.min'_mem _ hne
  rw [pick_eq w ((Finset.univ.filter fun m => w m = top w).min' hne)
    ⟨(Finset.mem_filter.mp hmem).2, fun m hm => Finset.min'_le _ _ (by simp [hm])⟩, BitVec.toNat_ofNat]
  have := ((Finset.univ.filter fun m => w m = top w).min' hne).isLt
  omega

/-! ## The rounds -/

/-- The block after `k` rounds. -/
def vafter (z : EReal) (w : FVec Ideal B512x4096 .f32) : ℕ → FVec Ideal B512x4096 .f32
  | 0 => w
  | k + 1 => vdrop z (vafter z w k)

theorem row_vafter (w : FVec Ideal B512x4096 .f32) (r : Fin 512) : ∀ k, row (vafter ⊥ w k) r = after (row w r) k
  | 0 => rfl
  | k + 1 => by
      show row (vdrop ⊥ (vafter ⊥ w k)) r = Rounds.drop (after (row w r) k)
      rw [vdrop_row, row_vafter w r k]

/-! ## Eight columns side by side -/

theorem cols_apply {α : Type} (c : Fin 8 → B512x1.Idx → α) (r : Fin 512) (k : Fin 8) :
    concatenate B512x8 1 [⟨B512x1, c 0⟩, ⟨B512x1, c 1⟩, ⟨B512x1, c 2⟩, ⟨B512x1, c 3⟩, ⟨B512x1, c 4⟩, ⟨B512x1, c 5⟩, ⟨B512x1, c 6⟩, ⟨B512x1, c 7⟩] cat (ix2 r k)
      = c k (ix2 r 0) := by
  have piece : ∀ p : Fin 8, PieceAt (t := B512x8) 1 (ix2 r k) (c k (ix2 r 0)) B512x1 (c p) p.val := by
    intro p hq _ i h0 hb
    have e : k = p := Fin.ext hq
    subst e
    refine congrArg (c k) (funext fun b => Fin.ext ?_)
    match b with
    | 0 => exact hb 0 (by decide)
    | 1 => exact h0
  exact concatenate_unit_eq _ _ _ _ _ rfl ⟨piece 0, piece 1, piece 2, piece 3, piece 4, piece 5, piece 6, piece 7, trivial⟩

abbrev vcols (c : Fin 8 → IVec B512x1 32) : IVec B1x512x8 32 :=
  shapeCast B1x512x8 (concatenate B512x8 1 [⟨B512x1, c 0⟩, ⟨B512x1, c 1⟩, ⟨B512x1, c 2⟩, ⟨B512x1, c 3⟩, ⟨B512x1, c 4⟩, ⟨B512x1, c 5⟩, ⟨B512x1, c 6⟩, ⟨B512x1, c 7⟩] cat) cast8

theorem vcols_apply (c : Fin 8 → IVec B512x1 32) (u : Fin 1) (r : Fin 512) (k : Fin 8) : vcols c (ix3 u r k) = c k (ix2 r 0) := by
  unfold vcols
  rw [shapeCast_ab_1ab_apply, cols_apply]

/-- The softmax of eight numbers, the first of them subtracted. -/
def soft (v : Fin 8 → EReal) (k : Fin 8) : EReal := Ideal.div (Ideal.exp (v k - v 0)) (∑ j : Fin 8, Ideal.exp (v j - v 0))

abbrev vexp (c : Fin 8 → FVec Ideal B512x1 .f32) : FVec Ideal B512x8 .f32 :=
  exp (subf (concatenate B512x8 1 [⟨B512x1, c 0⟩, ⟨B512x1, c 1⟩, ⟨B512x1, c 2⟩, ⟨B512x1, c 3⟩, ⟨B512x1, c 4⟩, ⟨B512x1, c 5⟩, ⟨B512x1, c 6⟩, ⟨B512x1, c 7⟩] cat)
    (broadcastTo B512x8 (extractStridedSlice B512x1 ![0, 0]
      (concatenate B512x8 1 [⟨B512x1, c 0⟩, ⟨B512x1, c 1⟩, ⟨B512x1, c 2⟩, ⟨B512x1, c 3⟩, ⟨B512x1, c 4⟩, ⟨B512x1, c 5⟩, ⟨B512x1, c 6⟩, ⟨B512x1, c 7⟩] cat) sl) bc8))

abbrev vsoft (c : Fin 8 → FVec Ideal B512x1 .f32) : FVec Ideal B1x512x8 .f32 :=
  shapeCast B1x512x8 (divf (vexp c) (broadcastTo B512x8 (shapeCast B512x1
    (multiReduction .add [1] B512 (vexp c) 0x00000000#32 red8 (.inl rfl) rfl) cast1) bc8)) cast8

theorem bc8_apply {α : Type} (v : B512x1.Idx → α) (r : Fin 512) (k : Fin 8) : broadcastTo B512x8 v bc8 (ix2 r k) = v (ix2 r 0) :=
  broadcastTo_apply v bc8 _ _ fun a => match a with | ⟨0, _⟩ => rfl | ⟨1, _⟩ => rfl

theorem lift8_eq (r : Fin 512) (k : Fin 8) : red8.lift (ix1 r) k = ix2 r k := by
  funext b; refine Fin.ext ?_
  match b with
  | ⟨0, _⟩ => rfl
  | ⟨1, _⟩ => rfl

theorem vexp_apply (c : Fin 8 → FVec Ideal B512x1 .f32) (r : Fin 512) (k : Fin 8) :
    vexp c (ix2 r k) = Ideal.exp (c k (ix2 r 0) - c 0 (ix2 r 0)) := by
  show Ideal.exp (concatenate _ _ _ _ (ix2 r k) - broadcastTo B512x8 _ bc8 (ix2 r k)) = _
  rw [bc8_apply, extractStridedSlice_apply ![0, 0] _ sl (ix2 r 0) (ix2 r 0) (fun a => match a with | ⟨0, _⟩ => (Nat.zero_add _).symm | ⟨1, _⟩ => rfl),
    cols_apply, cols_apply]

theorem vsoft_apply (c : Fin 8 → FVec Ideal B512x1 .f32) (u : Fin 1) (r : Fin 512) (k : Fin 8) :
    vsoft c (ix3 u r k) = soft (fun j => c j (ix2 r 0)) k := by
  unfold vsoft
  rw [shapeCast_ab_1ab_apply]
  show Ideal.div (vexp c (ix2 r k)) (broadcastTo B512x8 _ bc8 (ix2 r k)) = _
  rw [bc8_apply, shapeCast_a_a1_apply, vexp_apply]
  refine congrArg (Ideal.div _) ((Ideal.multiReduction_add_single _ _ _ _ _ _).trans (Finset.sum_congr rfl fun j _ => ?_))
  exact (congrArg (vexp c) (lift8_eq r j)).trans (vexp_apply c r j)

/-! ## The scores -/

theorem wf : DotDims.WF B512x192 B4096x192 B512x4096 [1] [1] [0] [0] [] [] := by decide

abbrev dot : DotDims B512x192 B4096x192 B512x4096 where
  lhsContracting := [1]
  rhsContracting := [1]
  lhsNonContracting := [0]
  rhsNonContracting := [0]
  lhsBatch := []
  rhsBatch := []
  wf := wf

abbrev vscore (z : EReal) (q : FVec Ideal B1x512x192 .f32) (k : FVec Ideal B1x4096x192 .f32) : FVec Ideal B512x4096 .f32 :=
  mulf (matmul dot none (shapeCast B512x192 q castQ) (shapeCast B4096x192 k castK) (constant B512x4096 .f32 0x00000000#32))
    (broadcast B512x4096 (z : Ideal .f32))

theorem zero_bits : (FloatOps.ofBits .f32 0x00000000#32 : Ideal .f32) = (0 : EReal) := by
  show Ideal.ofBits .f32 0x00000000#32 = 0
  simp [Ideal.ofBits, Ideal.ieee]

theorem vscore_row (z : EReal) (q : FVec Ideal B1x512x192 .f32) (k : FVec Ideal B1x4096x192 .f32) (r : Fin 512) (m : Fin 4096) :
    row (vscore z q k) r m = (∑ d : Fin 192, q (ix3 0 r d) * k (ix3 0 m d)) * z := by
  show FloatOps.matmul (DotDims.transposedRhs 512 192 4096) none (shapeCast B512x192 q castQ) (shapeCast B4096x192 k castK)
    (constant B512x4096 .f32 0x00000000#32) (ix2 r m) * z = _
  rw [Ideal.matmul_transposedRhs_apply]
  have h0 : (constant B512x4096 .f32 0x00000000#32 : FVec Ideal B512x4096 .f32) (ix2 r m) = (0 : EReal) := zero_bits
  rw [h0, zero_add]
  simp only [shapeCast_1ab_ab_apply]

/-! ## The two results, as functions of `Q` and `K` -/

abbrev S2x4096x192 : Shape := ⟨3, ![2, 4096, 192]⟩
abbrev S2x4096x8 : Shape := ⟨3, ![2, 4096, 8]⟩

/-- The factor of the scores. -/
def scale : EReal := (((Real.sqrt 192)⁻¹ : ℝ) : EReal)

/-- Row `n` of the scores of batch `b`. -/
def scores (Q K : FVec Ideal S2x4096x192 .f32) (b : Fin 2) (n m : Fin 4096) : EReal :=
  (∑ d : Fin 192, Q (ix3 b n d) * K (ix3 b m d)) * scale

/-- The softmax of the eight maxima of every row. -/
def values (Q K : FVec Ideal S2x4096x192 .f32) : FVec Ideal S2x4096x8 .f32 :=
  fun i => soft (fun j => top (after (scores Q K (i 0) (i 1)) j.val)) (i 2)

/-- Where the eight maxima of every row stand. -/
def indices (Q K : FVec Ideal S2x4096x192 .f32) : IVec S2x4096x8 32 :=
  fun i => pick (after (scores Q K (i 0) (i 1)) (i 2).val)

/-- A block of 512 rows of `Q` against `K`'s batch: what the kernel's body leaves for the values … -/
theorem vsoft_block (q : FVec Ideal B1x512x192 .f32) (k : FVec Ideal B1x4096x192 .f32) (Q K : FVec Ideal S2x4096x192 .f32)
    (b : Fin 2) (n : Fin 4096) (r : Fin 512) (hq : ∀ d, q (ix3 0 r d) = Q (ix3 b n d)) (hk : ∀ m d, k (ix3 0 m d) = K (ix3 b m d))
    (u : Fin 1) (j : Fin 8) :
    vsoft (fun i => vtop (vafter ⊥ (vscore scale q k) i.val)) (ix3 u r j) = values Q K (ix3 b n j) := by
  have hrow : row (vscore scale q k) r = scores Q K b n := by
    funext m
    rw [vscore_row]
    simp only [hq, hk]
    rfl
  rw [vsoft_apply]
  show soft _ j = soft _ j
  refine congrArg (fun f => soft f j) (funext fun i => ?_)
  rw [vtop_apply, row_vafter, hrow]

/-- … and for the positions. -/
theorem vcols_block (q : FVec Ideal B1x512x192 .f32) (k : FVec Ideal B1x4096x192 .f32) (Q K : FVec Ideal S2x4096x192 .f32)
    (b : Fin 2) (n : Fin 4096) (r : Fin 512) (hq : ∀ d, q (ix3 0 r d) = Q (ix3 b n d)) (hk : ∀ m d, k (ix3 0 m d) = K (ix3 b m d))
    (u : Fin 1) (j : Fin 8) :
    vcols (fun i => vpick (vafter ⊥ (vscore scale q k) i.val)) (ix3 u r j) = indices Q K (ix3 b n j) := by
  have hrow : row (vscore scale q k) r = scores Q K b n := by
    funext m
    rw [vscore_row]
    simp only [hq, hk]
    rfl
  rw [vcols_apply, vpick_apply, row_vafter, hrow]
  rfl

end Cert.Rows

end

end
-- ==== Proof.Ranking.lean ====
/-
  The reference's ranking on the extended reals: its scores, its stable descending sort cut to eight, its softmax.
-/
module

public import proofs.«01_k».proof.Proof.Rows
public import Idealize.ShloMosaic.Lib.IdealHost
public import Idealize.ShloMosaic.Lib.Pointwise.Contract
public import Idealize.ShloMosaic.Lib.Pipeline.Value

@[expose] public section

noncomputable section

namespace Cert.Ranking

open Idealize.ShloMosaic hiding ix1 ix2 ix3 eq_ix1 eq_ix2 eq_ix3
open Idealize.ShloMosaic.ValueIdx Cert.Rows Cert.Rounds
open scoped BigOperators

abbrev S_ : Shape := ⟨0, ![]⟩
abbrev S2x4096 : Shape := ⟨2, ![2, 4096]⟩
abbrev S2x4096x1 : Shape := ⟨3, ![2, 4096, 1]⟩
abbrev S2x4096x4096 : Shape := ⟨3, ![2, 4096, 4096]⟩

theorem dot_wf : DotDims.WF S2x4096x192 S2x4096x192 S2x4096x4096 [2] [2] [1] [1] [0] [0] := by decide
theorem bcs : S_.BroadcastsInDim S2x4096x4096 (![] : Fin 0 → Fin 3) := by decide
theorem fits : S2x4096x4096.Slices (fun _ => 0) S2x4096x8 := by decide

abbrev hdot : DotDims S2x4096x192 S2x4096x192 S2x4096x4096 where
  lhsContracting := [2]
  rhsContracting := [2]
  lhsNonContracting := [1]
  rhsNonContracting := [1]
  lhsBatch := [0]
  rhsBatch := [0]
  wf := dot_wf

/-! ## The scores -/

abbrev hscores (Q K : FVec Ideal S2x4096x192 .f32) : FVec Ideal S2x4096x4096 .f32 :=
  Host.divf (Host.dotGeneral hdot none Q K) (broadcastInDim S2x4096x4096 ![] bcs (Host.sqrt (constant S_ .f32 0x43400000#32)))

theorem bits_192 : Ideal.ofBits .f32 0x43400000#32 = ((192 : ℝ) : EReal) := by
  simp [Ideal.ofBits, Ideal.ieee, -EReal.coe_mul]; norm_num

theorem div_root (x : EReal) : Ideal.div x (Ideal.sqrt (Ideal.ofBits .f32 0x43400000#32)) = x * scale := by
  have hp : (0 : ℝ) < Real.sqrt 192 := Real.sqrt_pos.mpr (by norm_num)
  rw [bits_192, Ideal.sqrt_coe, if_neg (by norm_num)]
  unfold Ideal.div scale
  rw [if_neg (by exact_mod_cast hp.ne'), EReal.coe_inv]

theorem hscores_apply (Q K : FVec Ideal S2x4096x192 .f32) (b : Fin 2) (n m : Fin 4096) :
    hscores Q K (ix3 b n m) = scores Q K b n m := by
  show Ideal.div (FloatOps.dotGeneral hdot none _ Q K (ix3 b n m)) (Ideal.sqrt (Ideal.ofBits .f32 0x43400000#32)) = _
  rw [div_root, Ideal.dotGeneral_apply, hdot.sum_contr₁ (a := 2) rfl (K := 192) rfl]
  refine congrArg (· * scale) (Finset.sum_congr rfl fun d _ => ?_)
  refine congrArg₂ (· * ·) (congrArg Q (funext fun a => Fin.ext ?_)) (congrArg K (funext fun a => Fin.ext ?_))
  · match a with
    | 0 => rfl
    | 1 => rfl
    | 2 => rfl
  · match a with
    | 0 => rfl
    | 1 => rfl
    | 2 => rfl

/-! ## The sort -/

theorem gt_bit (x y : EReal) : ((FloatOps.cmpfTotal (F := Ideal) (φ := .f32) .gt x y) == 1#1) = decide (y < x) := by
  show (BitVec.ofBool (decide (y < x)) == 1#1) = decide (y < x)
  cases decide (y < x) <;> rfl

abbrev top8 (x : FVec Ideal S2x4096x4096 .f32) := Host.topK S2x4096x8 2 (FloatOps.cmpfTotal (F := Ideal) (φ := .f32) .gt) x fits

/-- Row `n` of batch `b`. -/
def line (x : FVec Ideal S2x4096x4096 .f32) (b : Fin 2) (n m : Fin 4096) : EReal := x (ix3 b n m)

theorem along_eq (b : Fin 2) (n j m : Fin 4096) : (ix3 b n j : S2x4096x4096.Idx).along 2 m = ix3 b n m := by
  funext a
  match a with
  | 0 => rfl
  | 1 => rfl
  | 2 => rfl

theorem slice_eq (b : Fin 2) (n : Fin 4096) (k : Fin 8) {α : Type} (x : S2x4096x4096.Idx → α) :
    extractStridedSlice S2x4096x8 (fun _ => 0) x fits (ix3 b n k) = x (ix3 b n (k.castLE (by omega))) := by
  unfold extractStridedSlice
  refine congrArg x (funext fun a => Fin.ext ?_)
  match a with
  | 0 => simp
  | 1 => simp
  | 2 => simp; rfl

/-- The comparison of two entries of the line. -/
theorem before_eq (x : FVec Ideal S2x4096x4096 .f32) (b : Fin 2) (n j : Fin 4096) :
    (fun k k' : Fin 4096 => decide (x ((ix3 b n j : S2x4096x4096.Idx).along 2 k') < x ((ix3 b n j : S2x4096x4096.Idx).along 2 k)))
      = gt (line x b n) := by
  funext k k'
  unfold gt line
  rw [along_eq, along_eq]

theorem sorted_eq (x : FVec Ideal S2x4096x4096 .f32) (b : Fin 2) (n j : Fin 4096) :
    sortedFrom (fun k k' : Fin 4096 => decide (x ((ix3 b n j : S2x4096x4096.Idx).along 2 k') < x ((ix3 b n j : S2x4096x4096.Idx).along 2 k))) j
      = src (line x b n) j := by
  rw [before_eq]; rfl

theorem top8_fst (x : FVec Ideal S2x4096x4096 .f32) (b : Fin 2) (n : Fin 4096) (k : Fin 8) :
    (top8 x).1 (ix3 b n k) = line x b n (src (line x b n) (k.castLE (by omega))) := by
  unfold top8 Host.topK Host.sort2
  simp only [show 2 < S2x4096x4096.rank from by decide, dif_pos]
  rw [slice_eq]
  simp only [gt_bit]
  refine (congrArg x (along_eq b n _ _)).trans ?_
  exact congrArg (fun p => x (ix3 b n p)) (sorted_eq x b n (k.castLE (by omega)))

theorem top8_snd (x : FVec Ideal S2x4096x4096 .f32) (b : Fin 2) (n : Fin 4096) (k : Fin 8) :
    (top8 x).2 (ix3 b n k) = BitVec.ofNat 32 (src (line x b n) (k.castLE (by omega))).val := by
  unfold top8 Host.topK Host.sort2
  simp only [show 2 < S2x4096x4096.rank from by decide, dif_pos]
  rw [slice_eq]
  simp only [gt_bit]
  refine (iotaInDim_apply 32 _ _).trans ?_
  refine (congrArg (fun i : S2x4096x4096.Idx => BitVec.ofNat 32 (i 2).val) (along_eq b n _ _)).trans ?_
  exact congrArg (fun p : Fin 4096 => BitVec.ofNat 32 p.val) (sorted_eq x b n (k.castLE (by omega)))

/-! ## The softmax along the last axis -/

section
variable {c : ℕ}

theorem bcs2 : S_.BroadcastsInDim S2x4096 (![] : Fin 0 → Fin 2) := by decide
theorem bc2 : S2x4096.BroadcastsInDim S2x4096x1 (![0, 1] : Fin 2 → Fin 3) := by decide
theorem pos_ : 0 < S_.numel := by decide

abbrev hmax (hr : (⟨3, ![2, 4096, c]⟩ : Shape).ReducesTo [2] S2x4096) (v : FVec Ideal ⟨3, ![2, 4096, c]⟩ .f32) : FVec Ideal S2x4096 .f32 :=
  maximumf (broadcastInDim S2x4096 ![] bcs2 (constant S_ .f32 0xFF800000#32))
    (Host.reduce FloatOps.maximumf v (constant S_ .f32 0xFF800000#32) hr pos_)

abbrev spread (hb : S2x4096x1.BroadcastsInDim ⟨3, ![2, 4096, c]⟩ (![0, 1, 2] : Fin 3 → Fin 3)) (x : FVec Ideal S2x4096 .f32) :
    FVec Ideal ⟨3, ![2, 4096, c]⟩ .f32 :=
  broadcastInDim ⟨3, ![2, 4096, c]⟩ ![0, 1, 2] hb (broadcastInDim S2x4096x1 ![0, 1] bc2 x)

abbrev hexp (hb : S2x4096x1.BroadcastsInDim ⟨3, ![2, 4096, c]⟩ (![0, 1, 2] : Fin 3 → Fin 3))
    (hr : (⟨3, ![2, 4096, c]⟩ : Shape).ReducesTo [2] S2x4096) (v : FVec Ideal ⟨3, ![2, 4096, c]⟩ .f32) : FVec Ideal ⟨3, ![2, 4096, c]⟩ .f32 :=
  Host.exp (subf v (spread hb (hmax hr v)))

abbrev hsoft (hb : S2x4096x1.BroadcastsInDim ⟨3, ![2, 4096, c]⟩ (![0, 1, 2] : Fin 3 → Fin 3))
    (hr : (⟨3, ![2, 4096, c]⟩ : Shape).ReducesTo [2] S2x4096) (v : FVec Ideal ⟨3, ![2, 4096, c]⟩ .f32) : FVec Ideal ⟨3, ![2, 4096, c]⟩ .f32 :=
  Host.divf (hexp hb hr v) (spread hb (Host.reduceAdd (hexp hb hr v) (constant S_ .f32 0x00000000#32) hr pos_))

variable (hb : S2x4096x1.BroadcastsInDim ⟨3, ![2, 4096, c]⟩ (![0, 1, 2] : Fin 3 → Fin 3))
  (hr : (⟨3, ![2, 4096, c]⟩ : Shape).ReducesTo [2] S2x4096) (h : (⟨3, ![2, 4096, c]⟩ : Shape).Reduces [2] S2x4096)
  (v : FVec Ideal ⟨3, ![2, 4096, c]⟩ .f32)

theorem spread_apply (x : FVec Ideal S2x4096 .f32) (b : Fin 2) (n : Fin 4096) (k : Fin c) : spread hb x (ix3 b n k) = x (ix2 b n) := by
  unfold spread
  rw [broadcastInDim_apply ![0, 1, 2] hb _ (ix3 b n k) (ix3 b n 0) (fun a => match a with | ⟨0, _⟩ => rfl | ⟨1, _⟩ => rfl | ⟨2, _⟩ => rfl),
    broadcastInDim_apply ![0, 1] bc2 _ (ix3 b n 0) (ix2 b n) (fun a => match a with | ⟨0, _⟩ => rfl | ⟨1, _⟩ => rfl)]

theorem lift3_eq (b : Fin 2) (n : Fin 4096) (k : Fin c) : h.lift (ix2 b n) k = ix3 b n k := by
  funext a; refine Fin.ext ?_
  match a with
  | ⟨0, _⟩ => rfl
  | ⟨1, _⟩ => rfl
  | ⟨2, _⟩ => rfl

include h in
theorem hmax_apply (b : Fin 2) (n : Fin 4096) : hmax hr v (ix2 b n) = top fun k : Fin c => v (ix3 b n k) := by
  show max (Ideal.ofBits .f32 0xFF800000#32) (Host.reduce (max : EReal → EReal → EReal) v (fun _ => Ideal.ofBits .f32 0xFF800000#32) hr pos_ (ix2 b n)) = _
  have e : Host.reduce (max : EReal → EReal → EReal) v (fun _ : S_.Idx => Ideal.ofBits .f32 0xFF800000#32) hr pos_ (ix2 b n)
      = top fun k : Fin c => v (ix3 b n k) := by
    refine (Host.reduce_eq_fold_single _ _ _ hr h _ _).trans ?_
    rw [show Ideal.ofBits .f32 0xFF800000#32 = ⊥ from bot_bits]
    exact congrArg (Finset.univ.fold max ⊥) (funext fun k => congrArg v (lift3_eq h b n k))
  rw [e, show Ideal.ofBits .f32 0xFF800000#32 = ⊥ from bot_bits]
  exact max_eq_right bot_le

include h in
theorem hexp_apply (b : Fin 2) (n : Fin 4096) (k : Fin c) :
    hexp hb hr v (ix3 b n k) = Ideal.exp (v (ix3 b n k) - top fun j : Fin c => v (ix3 b n j)) := by
  show Ideal.exp (v (ix3 b n k) - spread hb (hmax hr v) (ix3 b n k)) = _
  rw [spread_apply, hmax_apply hr h]

include h in
theorem hsoft_apply (b : Fin 2) (n : Fin 4096) (k : Fin c) :
    hsoft hb hr v (ix3 b n k) = Ideal.div (Ideal.exp (v (ix3 b n k) - top fun j : Fin c => v (ix3 b n j)))
      (∑ i : Fin c, Ideal.exp (v (ix3 b n i) - top fun j : Fin c => v (ix3 b n j))) := by
  refine (hostDivf_apply _ _ _).trans ?_
  rw [spread_apply, hexp_apply hb hr h, hostReduceAdd_apply, Ideal.hostReduceAdd_single hr h]
  rw [show (constant S_ .f32 0x00000000#32 : FVec Ideal S_ .f32) (Shape.Idx.first pos_) = (0 : EReal) from zero_bits, zero_add]
  refine congrArg _ (Finset.sum_congr rfl fun i _ => ?_)
  exact (congrArg (hexp hb hr v) (lift3_eq h b n i)).trans (hexp_apply hb hr h v b n i)

end

/-! ## The reference's two results, where the eight largest are ranked -/

theorem hb8 : S2x4096x1.BroadcastsInDim S2x4096x8 (![0, 1, 2] : Fin 3 → Fin 3) := by decide
theorem hr8 : S2x4096x8.ReducesTo [2] S2x4096 := by decide
theorem h8 : S2x4096x8.Reduces [2] S2x4096 := by decide

theorem line_scores (Q K : FVec Ideal S2x4096x192 .f32) (b : Fin 2) (n : Fin 4096) : line (hscores Q K) b n = scores Q K b n :=
  funext fun m => hscores_apply Q K b n m

/-- Every row's eight largest are apart. -/
def Apart (Q K : FVec Ideal S2x4096x192 .f32) : Prop :=
  ∀ b n, Ranked (scores Q K b n) fun k => src (scores Q K b n) (k.castLE (by omega))

theorem top_ranked {n : ℕ} {s : Fin n → EReal} {π : Fin 8 → Fin n} (h : Ranked s π) : top (fun k => s (π k)) = s (π 0) := by
  refine le_antisymm (top_le _ _ fun k => ?_) (le_top (fun k => s (π k)) 0)
  rcases Nat.eq_zero_or_pos k.val with h0 | h0
  · rw [show k = 0 from Fin.ext h0]
  · exact (h.desc 0 k h0).le

theorem reference_values (Q K : FVec Ideal S2x4096x192 .f32) (h : Apart Q K) : hsoft hb8 hr8 (top8 (hscores Q K)).1 = values Q K := by
  funext i
  obtain ⟨b, n, k, rfl⟩ : ∃ b n k, i = ix3 b n k := ⟨i 0, i 1, i 2, eq_ix3 i⟩
  refine (hsoft_apply hb8 hr8 h8 _ b n k).trans ?_
  have e : ∀ j : Fin 8, (top8 (hscores Q K)).1 (ix3 b n j) = scores Q K b n (src (scores Q K b n) (j.castLE (by omega))) := fun j => by
    rw [top8_fst, line_scores]
  have e' : ∀ j : Fin 8, scores Q K b n (src (scores Q K b n) (j.castLE (by omega))) = top (after (scores Q K b n) j.val) := fun j =>
    ((h b n).round j).1.symm
  simp only [e]
  rw [top_ranked (h b n)]
  simp only [e']
  rfl

theorem reference_indices (Q K : FVec Ideal S2x4096x192 .f32) (h : Apart Q K) : (top8 (hscores Q K)).2 = indices Q K := by
  funext i
  obtain ⟨b, n, k, rfl⟩ : ∃ b n k, i = ix3 b n k := ⟨i 0, i 1, i 2, eq_ix3 i⟩
  rw [top8_snd, line_scores]
  exact (pick_eq _ _ ((h b n).round k).2).symm

/-! ## The precondition, read -/

/-- Strictly descending and above minus infinity is what it takes. -/
theorem apart_of (Q K : FVec Ideal S2x4096x192 .f32)
    (h : ∀ b n (k : Fin 7), (top8 (hscores Q K)).1 (ix3 b n ⟨k.val + 1, by omega⟩) < (top8 (hscores Q K)).1 (ix3 b n ⟨k.val, by omega⟩)
      ∧ ⊥ < (top8 (hscores Q K)).1 (ix3 b n ⟨k.val + 1, by omega⟩)) : Apart Q K := fun b n => by
  refine ranked_src (by omega) _ (fun k => ?_) (fun k => ?_)
  · have := (h b n k).1
    rw [top8_fst, top8_fst, line_scores] at this
    exact this
  · have := (h b n k).2
    rw [top8_fst, line_scores] at this
    exact this

end Cert.Ranking

end

end
-- ==== Proof.RanksBlocks.lean ====
/-
  The ideal call that ranks the scores: what the body leaves at a grid point, and the two result arrays from the blocks.
-/
module

public import proofs.«01_k».proof.Proof.Rows
public import proofs.«01_k».proof.Proof.Gen.RanksIdeal.Frame
public import Idealize.ShloMosaic.Lib.Pipeline.ValueKit.Geometry

@[expose] public section

noncomputable section

namespace Cert.Proof.RanksBlocks

open Cert.RanksIdeal Cert.RanksIdeal.Gen Idealize.ShloMosaic Idealize.ShloMosaic.TcCoe Idealize.SL.Sem Idealize.ShloMosaic.ValueIdx
open Cert.Rows

/-! ## The payloads are the operations of the rounds -/

section
variable (q : FVec Ideal B1x512x192 .f32) (k : FVec Ideal B1x4096x192 .f32)

theorem pay3 : k0_pay3 (F := Ideal) q k = vafter ⊥ (vscore scale q k) 0 := rfl
theorem pay7 : k0_pay7 (F := Ideal) q k = vafter ⊥ (vscore scale q k) 1 := rfl
theorem pay11 : k0_pay11 (F := Ideal) q k = vafter ⊥ (vscore scale q k) 2 := by
  show vdrop ⊥ (k0_pay7 (F := Ideal) q k) = _
  rw [pay7]; rfl
theorem pay15 : k0_pay15 (F := Ideal) q k = vafter ⊥ (vscore scale q k) 3 := by
  show vdrop ⊥ (k0_pay11 (F := Ideal) q k) = _
  rw [pay11]; rfl
theorem pay19 : k0_pay19 (F := Ideal) (k0_pay15 q k) = vafter ⊥ (vscore scale q k) 4 := by
  show vdrop ⊥ (k0_pay15 (F := Ideal) q k) = _
  rw [pay15]; rfl
theorem pay23 : k0_pay23 (F := Ideal) (k0_pay15 q k) = vafter ⊥ (vscore scale q k) 5 := by
  show vdrop ⊥ (k0_pay19 (F := Ideal) (k0_pay15 q k)) = _
  rw [pay19]; rfl
theorem pay27 : k0_pay27 (F := Ideal) (k0_pay15 q k) = vafter ⊥ (vscore scale q k) 6 := by
  show vdrop ⊥ (k0_pay23 (F := Ideal) (k0_pay15 q k)) = _
  rw [pay23]; rfl
theorem pay31 : k0_pay31 (F := Ideal) (k0_pay15 q k) = vafter ⊥ (vscore scale q k) 7 := by
  show vdrop ⊥ (k0_pay27 (F := Ideal) (k0_pay15 q k)) = _
  rw [pay27]; rfl

theorem top0 : k0_pay4 (F := Ideal) q k = vtop (vafter ⊥ (vscore scale q k) 0) :=
  (show k0_pay4 (F := Ideal) q k = vtop (k0_pay3 (F := Ideal) q k) from rfl).trans (congrArg vtop (pay3 q k))
theorem pick0 : k0_pay6 (F := Ideal) q k = vpick (vafter ⊥ (vscore scale q k) 0) :=
  (show k0_pay6 (F := Ideal) q k = vpick (k0_pay3 (F := Ideal) q k) from rfl).trans (congrArg vpick (pay3 q k))
theorem top1 : k0_pay8 (F := Ideal) q k = vtop (vafter ⊥ (vscore scale q k) 1) :=
  (show k0_pay8 (F := Ideal) q k = vtop (k0_pay7 (F := Ideal) q k) from rfl).trans (congrArg vtop (pay7 q k))
theorem pick1 : k0_pay10 (F := Ideal) q k = vpick (vafter ⊥ (vscore scale q k) 1) :=
  (show k0_pay10 (F := Ideal) q k = vpick (k0_pay7 (F := Ideal) q k) from rfl).trans (congrArg vpick (pay7 q k))
theorem top2 : k0_pay12 (F := Ideal) q k = vtop (vafter ⊥ (vscore scale q k) 2) :=
  (show k0_pay12 (F := Ideal) q k = vtop (k0_pay11 (F := Ideal) q k) from rfl).trans (congrArg vtop (pay11 q k))
theorem pick2 : k0_pay14 (F := Ideal) q k = vpick (vafter ⊥ (vscore scale q k) 2) :=
  (show k0_pay14 (F := Ideal) q k = vpick (k0_pay11 (F := Ideal) q k) from rfl).trans (congrArg vpick (pay11 q k))
theorem top3 : k0_pay16 (F := Ideal) (k0_pay15 q k) = vtop (vafter ⊥ (vscore scale q k) 3) :=
  (show k0_pay16 (F := Ideal) (k0_pay15 q k) = vtop (k0_pay15 (F := Ideal) q k) from rfl).trans (congrArg vtop (pay15 q k))
theorem pick3 : k0_pay18 (F := Ideal) (iota .tc S512x4096 32 [1] iota_S512x4096_d1_w32) (k0_pay15 q k) = vpick (vafter ⊥ (vscore scale q k) 3) :=
  (show k0_pay18 (F := Ideal) (iota .tc S512x4096 32 [1] iota_S512x4096_d1_w32) (k0_pay15 q k) = vpick (k0_pay15 (F := Ideal) q k) from rfl).trans (congrArg vpick (pay15 q k))
theorem top4 : k0_pay20 (F := Ideal) (k0_pay15 q k) = vtop (vafter ⊥ (vscore scale q k) 4) :=
  (show k0_pay20 (F := Ideal) (k0_pay15 q k) = vtop (k0_pay19 (F := Ideal) (k0_pay15 q k)) from rfl).trans (congrArg vtop (pay19 q k))
theorem pick4 : k0_pay22 (F := Ideal) (iota .tc S512x4096 32 [1] iota_S512x4096_d1_w32) (k0_pay15 q k) = vpick (vafter ⊥ (vscore scale q k) 4) :=
  (show k0_pay22 (F := Ideal) (iota .tc S512x4096 32 [1] iota_S512x4096_d1_w32) (k0_pay15 q k) = vpick (k0_pay19 (F := Ideal) (k0_pay15 q k)) from rfl).trans (congrArg vpick (pay19 q k))
theorem top5 : k0_pay24 (F := Ideal) (k0_pay15 q k) = vtop (vafter ⊥ (vscore scale q k) 5) :=
  (show k0_pay24 (F := Ideal) (k0_pay15 q k) = vtop (k0_pay23 (F := Ideal) (k0_pay15 q k)) from rfl).trans (congrArg vtop (pay23 q k))
theorem pick5 : k0_pay26 (F := Ideal) (iota .tc S512x4096 32 [1] iota_S512x4096_d1_w32) (k0_pay15 q k) = vpick (vafter ⊥ (vscore scale q k) 5) :=
  (show k0_pay26 (F := Ideal) (iota .tc S512x4096 32 [1] iota_S512x4096_d1_w32) (k0_pay15 q k) = vpick (k0_pay23 (F := Ideal) (k0_pay15 q k)) from rfl).trans (congrArg vpick (pay23 q k))
theorem top6 : k0_pay28 (F := Ideal) (k0_pay15 q k) = vtop (vafter ⊥ (vscore scale q k) 6) :=
  (show k0_pay28 (F := Ideal) (k0_pay15 q k) = vtop (k0_pay27 (F := Ideal) (k0_pay15 q k)) from rfl).trans (congrArg vtop (pay27 q k))
theorem pick6 : k0_pay30 (F := Ideal) (iota .tc S512x4096 32 [1] iota_S512x4096_d1_w32) (k0_pay15 q k) = vpick (vafter ⊥ (vscore scale q k) 6) :=
  (show k0_pay30 (F := Ideal) (iota .tc S512x4096 32 [1] iota_S512x4096_d1_w32) (k0_pay15 q k) = vpick (k0_pay27 (F := Ideal) (k0_pay15 q k)) from rfl).trans (congrArg vpick (pay27 q k))
theorem top7 : k0_pay32 (F := Ideal) (k0_pay15 q k) = vtop (vafter ⊥ (vscore scale q k) 7) :=
  (show k0_pay32 (F := Ideal) (k0_pay15 q k) = vtop (k0_pay31 (F := Ideal) (k0_pay15 q k)) from rfl).trans (congrArg vtop (pay31 q k))

theorem pay1 (a b c d e f g h : FVec Ideal B512x1 .f32) : k0_pay1 (F := Ideal) a b c d e f g h = vsoft ![a, b, c, d, e, f, g, h] := rfl
theorem pay2 (a b c d e f g : IVec B512x1 32) (w : FVec Ideal B512x4096 .f32) :
    k0_pay2 (F := Ideal) (iota .tc S512x4096 32 [1] iota_S512x4096_d1_w32) a b c d e f g w
      (broadcastTo S512x4096 (vtop w) broadcasts_S512x1_S512x4096) = vcols ![a, b, c, d, e, f, g, vpick w] := by
  have h : ∀ x : IVec B512x1 32, x = vpick w → shapeCast B1x512x8 (concatenate S512x8 1 [⟨S512x1, a⟩, ⟨S512x1, b⟩, ⟨S512x1, c⟩, ⟨S512x1, d⟩,
      ⟨S512x1, e⟩, ⟨S512x1, f⟩, ⟨S512x1, g⟩, ⟨S512x1, x⟩]
      concatenates_S512x1_S512x1_S512x1_S512x1_S512x1_S512x1_S512x1_S512x1_S512x8_d1) shapeCasts_S512x8_S1x512x8
        = vcols ![a, b, c, d, e, f, g, vpick w] := by
    intro x hx
    subst hx
    generalize vpick w = x
    rfl
  exact h _ rfl
theorem pay33 : k0_pay33 (F := Ideal) (k0_pay15 q k)
    = broadcastTo S512x4096 (vtop (vafter ⊥ (vscore scale q k) 7)) broadcasts_S512x1_S512x4096 :=
  congrArg (fun v => broadcastTo S512x4096 v broadcasts_S512x1_S512x4096) (top7 q k)

theorem eight {α : Type} (f : ℕ → α) : (![f 0, f 1, f 2, f 3, f 4, f 5, f 6, f 7] : Fin 8 → α) = fun i => f i.val := by
  funext i
  match i with
  | 0 => rfl
  | 1 => rfl
  | 2 => rfl
  | 3 => rfl
  | 4 => rfl
  | 5 => rfl
  | 6 => rfl
  | 7 => rfl

theorem zero3 : (![0, 0, 0] : Fin 3 → ℕ) = fun _ => 0 := by decide

theorem out2_eq : out0_2 (F := Ideal) q k = vsoft (fun i => vtop (vafter ⊥ (vscore scale q k) i.val)) := by
  unfold out0_2 k0_pay35
  rw [View.canon_unit_zero zero3, View.ld_unit_zero zero3, View.ld_unit_zero zero3]
  rw [top0, top1, top2, top3, top4, top5, top6, top7, pay1]
  exact congrArg vsoft (eight fun i => vtop (vafter ⊥ (vscore scale q k) i))

theorem out3_eq : out0_3 (F := Ideal) q k = vcols (fun i => vpick (vafter ⊥ (vscore scale q k) i.val)) := by
  unfold out0_3 k0_pay35 k0_pay34
  rw [View.canon_unit_zero zero3, View.ld_unit_zero zero3, View.ld_unit_zero zero3]
  rw [pick0, pick1, pick2, pick3, pick4, pick5, pick6, pay31, pay33, pay2]
  exact congrArg vcols (eight fun i => vpick (vafter ⊥ (vscore scale q k) i))

end

/-! ## The arrays -/

variable (m : (ℓ : Loc nD τ sig) → Buf (Elt Ideal) ℓ) (ρ : Dev nD → PrngReg)

abbrev argQ (c : Dev nD) : FVec Ideal Rows.S2x4096x192 .f32 := m ((c.tc : Thread nD τ).loc main_arg0)
abbrev argK (c : Dev nD) : FVec Ideal Rows.S2x4096x192 .f32 := m ((c.tc : Thread nD τ).loc main_arg1)

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![(grid0.coords t 0).val, 0, 0] :=
  (by decide +kernel : ∀ t : Fin grid0.N, win0_1.index t = ![(grid0.coords t 0).val, 0, 0])
theorem index2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem index3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])

theorem block0 (c : Dev nD) (t : Fin cfg0.N) (r : Fin 512) (n : Fin 4096) (hn : n.val = (grid0.coords t 1).val * 512 + r.val) (d : Fin 192) :
    iblk m c 0 t (ix3 0 r d) = argQ m c (ix3 (grid0.coords t 0) n d) := by
  blk_simp [iblk]
  rw [V_main_arg0]
  refine congrArg (argQ m c) ?_
  blk_ext [index0, hn]

theorem block1 (c : Dev nD) (t : Fin cfg0.N) (n : Fin 4096) (d : Fin 192) :
    iblk m c 1 t (ix3 0 n d) = argK m c (ix3 (grid0.coords t 0) n d) := by
  blk_simp [iblk]
  rw [V_main_arg1]
  refine congrArg (argK m c) ?_
  blk_ext [index1]

theorem rowOf_lt (t : Fin cfg0.N) (r : Fin 512) : (grid0.coords t 1).val * 512 + r.val < 4096 := by
  have : (grid0.coords t 1).val < 8 := (grid0.coords t 1).isLt
  omega

theorem final2 (c : Dev nD) : (dats m 0 c).arrAt 2 cfg0.N = values (argQ m c) (argK m c) := by
  refine (dats m 0 c).arrAt_eq_of_covers 2 _ (by decide +kernel) fun t hf y => ?_
  blk_simp
  rw [after0_2, out2_eq]
  change S1x512x8.Idx at y
  refine (congrArg _ (eq_ix3 y)).trans
    ((vsoft_block _ _ (argQ m c) (argK m c) (grid0.coords t 0) ⟨_, rowOf_lt t (y 1)⟩ (y 1) (fun d => block0 m c t (y 1) _ rfl d)
      (fun n d => block1 m c t n d) (y 0) (y 2)).trans (congrArg (values (argQ m c) (argK m c)) ?_))
  idx_bounds y
  blk_ext [index2]

theorem final3 (c : Dev nD) : (dats m 0 c).arrAt 3 cfg0.N = indices (argQ m c) (argK m c) := by
  refine (dats m 0 c).arrAt_eq_of_covers 3 _ (by decide +kernel) fun t hf y => ?_
  blk_simp
  rw [after0_3, out3_eq]
  change S1x512x8.Idx at y
  refine (congrArg _ (eq_ix3 y)).trans
    ((vcols_block _ _ (argQ m c) (argK m c) (grid0.coords t 0) ⟨_, rowOf_lt t (y 1)⟩ (y 1) (fun d => block0 m c t (y 1) _ rfl d)
      (fun n d => block1 m c t n d) (y 0) (y 2)).trans (congrArg (indices (argQ m c) (argK m c)) ?_))
  idx_bounds y
  blk_ext [index3]

end Cert.Proof.RanksBlocks

end

end
-- ==== Proof.Range.lean ====
/-
  The precondition, read: every index is, as a word, a column.
-/
module

public import proofs.«01_k».proof.Defs
public import proofs.«01_k».proof.Proof.Gen.Pre_columns_in_range
public import Idealize.ShloMosaic.PureOps

@[expose] public section

noncomputable section

namespace Cert.Proof.Range

open Idealize.ShloMosaic Cert.Pre_columns_in_range Cert.Pre_columns_in_range.Gen

theorem and_bits (p q : Bool) : IntOp.andi (BitVec.ofBool p) (BitVec.ofBool q) = BitVec.ofBool (p && q) := by
  cases p <;> cases q <;> decide
theorem bit_one (p : Bool) : BitVec.ofBool p = 1#1 ↔ p = true := by
  cases p <;> decide

/-- A word that is at least 0 and below 4096, read signed, is below 4096. -/
theorem word_small (v : BitVec 32) (h : IntOp.andi (IntOp.cmpi .sge v 0#32) (IntOp.cmpi .slt v 4096#32) = 1#1) : v.toNat < 4096 := by
  simp only [IntOp.cmpi, and_bits, bit_one, Bool.and_eq_true, BitVec.sle_eq_decide, BitVec.slt_eq_decide, decide_eq_true_eq,
    BitVec.toInt_eq_toNat_cond, BitVec.toNat_ofNat, Nat.reducePow, Nat.reduceMod] at h
  omega

/-- The precondition, all ones, bounds every index. -/
theorem small {F : FTy → Type} [FloatOps F] (x : FVec F S2x4096x8 .f32) (a : IVec S2x4096x8 32) (h : fn x a = fun _ => 1#1)
    (j : S2x4096x8.Idx) : (a j).toNat < 4096 :=
  word_small (a j) (congrFun h j)

end Cert.Proof.Range

end
-- ==== Proof.RanksValue.lean ====
/-
  The ranking call's claims over the extended reals: its precondition read, its results and the reference's joined.
-/
module

public import proofs.«01_k».proof.Proof.Ranking
public import proofs.«01_k».proof.Proof.RanksBlocks
public import proofs.«01_k».proof.Proof.Range
public import proofs.«01_k».proof.Proof.Gen.Ranks.Frame
public import proofs.«01_k».proof.Proof.Gen.RanksReferenceIdeal.Run
public import proofs.«01_k».proof.Proof.Gen.Pre_ranks_apart

@[expose] public section

noncomputable section

namespace Cert.Proof.RanksValue

open Idealize.ShloMosaic hiding ix1 ix2 ix3 eq_ix1 eq_ix2 eq_ix3
open Idealize.ShloMosaic.ValueIdx Idealize.SL.Sem Cert.Rows Cert.Ranking

abbrev S2x4096x7 : Shape := ⟨3, ![2, 4096, 7]⟩

/-- The two comparisons of the precondition at a position. -/
theorem apart_bits (x : FVec Ideal Rows.S2x4096x8 .f32) (h1 : Rows.S2x4096x8.Slices ![0, 0, 1] S2x4096x7) (h0 : Rows.S2x4096x8.Slices ![0, 0, 0] S2x4096x7)
    (b : Fin 2) (n : Fin 4096) (k : Fin 7)
    (h : IntOp.andi (FloatOps.cmpf .olt (extractStridedSlice S2x4096x7 ![0, 0, 1] x h1 (ix3 b n k)) (extractStridedSlice S2x4096x7 ![0, 0, 0] x h0 (ix3 b n k)))
      (FloatOps.cmpf .ogt (extractStridedSlice S2x4096x7 ![0, 0, 1] x h1 (ix3 b n k)) (FloatOps.ofBits (F := Ideal) .f32 0xFF800000#32)) = 1#1) :
    x (ix3 b n ⟨k.val + 1, by omega⟩) < x (ix3 b n ⟨k.val, by omega⟩) ∧ ⊥ < x (ix3 b n ⟨k.val + 1, by omega⟩) := by
  have e1 : extractStridedSlice S2x4096x7 ![0, 0, 1] x h1 (ix3 b n k) = x (ix3 b n ⟨k.val + 1, by omega⟩) := by
    unfold extractStridedSlice
    refine congrArg x (funext fun a => Fin.ext ?_)
    match a with
    | 0 => simp
    | 1 => simp
    | 2 => exact Nat.add_comm 1 k.val
  have e0 : extractStridedSlice S2x4096x7 ![0, 0, 0] x h0 (ix3 b n k) = x (ix3 b n ⟨k.val, by omega⟩) := by
    unfold extractStridedSlice
    refine congrArg x (funext fun a => Fin.ext ?_)
    match a with
    | 0 => simp
    | 1 => simp
    | 2 => simp
  rw [e1, e0, bot_bits] at h
  generalize x (ix3 b n ⟨k.val + 1, by omega⟩) = u at h ⊢
  generalize x (ix3 b n ⟨k.val, by omega⟩) = v at h ⊢
  change IntOp.andi (BitVec.ofBool (decide ((u : EReal) < v))) (BitVec.ofBool (decide ((⊥ : EReal) < u))) = 1#1 at h
  rw [Range.and_bits, Range.bit_one, Bool.and_eq_true] at h
  exact ⟨of_decide_eq_true h.1, of_decide_eq_true h.2⟩

theorem apart (Q K : FVec Ideal Rows.S2x4096x192 .f32) (h : Cert.Pre_ranks_apart.fn (F := Ideal) Q K = fun _ => 1#1) : Apart Q K :=
  apart_of Q K fun b n k => apart_bits _ _ _ b n k (congrFun h (ix3 b n k))

theorem frame : Cert.quiescent_Ranks := fun m ρ _ => Cert.Ranks.Gen.frame m ρ
theorem frameIdeal : Cert.quiescent_RanksIdeal := fun m ρ _ => Cert.RanksIdeal.Gen.frame m ρ
theorem frameReference : Cert.quiescent_RanksReferenceIdeal := fun m ρ _ =>
  (θ_run Cert.RanksReferenceIdeal.defs _ _).mono (fun r h => ⟨fun c => (h c).2.2, sem_eq_zero_of_no_sems (by decide) r.2⟩)
    (Cert.RanksReferenceIdeal.Value.run (F := Ideal) m ρ)

theorem preserves : Cert.preserves_Ranks_RanksIdeal :=
  ⟨IdealRules.named_const.statement Cert.RanksIdeal.κ "s" .f32 0x3D93CD3A#32 (((Real.sqrt 192)⁻¹ : ℝ) : EReal) rfl,
    IdealRules.named_const.statement Cert.RanksIdeal.κ "neg" .f32 0xF149F2CA#32 ⊥ rfl⟩

open Cert.RanksIdeal Cert.RanksIdeal.Gen RanksBlocks in
/-- The call's run, its two results as functions of its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = values (argQ m c) (argK m c)
      ∧ r.2.mem ((c.tc : Thread nD τ).loc main_v0_1) = indices (argQ m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun r h c => ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main (F := Ideal) m ρ)

theorem value : Cert.algebraic_RanksIdeal_RanksReferenceIdeal_pre_ranks_apart := by
  intro m ρ m' ρ' hpre hagree
  refine ⟨fun c => values (RanksBlocks.argQ m c) (RanksBlocks.argK m c), fun c => indices (RanksBlocks.argQ m c) (RanksBlocks.argK m c), run m ρ, ?_⟩
  refine (θ_run Cert.RanksReferenceIdeal.defs _ _).mono (fun _ h c => ⟨(h c).1.trans ?_, (h c).2.1.trans ?_, (h c).2.2⟩)
    (Cert.RanksReferenceIdeal.Value.run (F := Ideal) m' ρ')
  · rw [(hagree c).1, (hagree c).2]
    exact reference_values (RanksBlocks.argQ m c) (RanksBlocks.argK m c) (apart _ _ (hpre c))
  · rw [(hagree c).1, (hagree c).2]
    exact reference_indices (RanksBlocks.argQ m c) (RanksBlocks.argK m c) (apart _ _ (hpre c))

end Cert.Proof.RanksValue

end
-- ==== Proof.Affine.lean ====
/-
  The two linear maps of the first call, on the extended reals: a block's product and bias as the kernel writes them, and the same map
  as the reference writes it.
-/
module

public import proofs.«01_k».proof.Proof.Rows
public import Idealize.ShloMosaic.Lib.IdealHost
public import Idealize.ShloMosaic.Lib.Pointwise.Contract
public import Idealize.ShloMosaic.Lib.Pipeline.Value

@[expose] public section

noncomputable section

namespace Cert.Affine

open Idealize.ShloMosaic hiding ix1 ix2 ix3 eq_ix1 eq_ix2 eq_ix3
open Idealize.ShloMosaic.ValueIdx Cert.Rows
open scoped BigOperators

abbrev S2x4096x768 : Shape := ⟨3, ![2, 4096, 768]⟩
abbrev S1x4096x768 : Shape := ⟨3, ![1, 4096, 768]⟩
abbrev S4096x768 : Shape := ⟨2, ![4096, 768]⟩
abbrev S192x768 : Shape := ⟨2, ![192, 768]⟩
abbrev S768x192 : Shape := ⟨2, ![768, 192]⟩
abbrev S192 : Shape := ⟨1, ![192]⟩
abbrev S1x192 : Shape := ⟨2, ![1, 192]⟩
abbrev S1x1x192 : Shape := ⟨3, ![1, 1, 192]⟩

/-- The linear map: a product with the weights, transposed, and a bias. -/
def proj (X : FVec Ideal S2x4096x768 .f32) (W : FVec Ideal S192x768 .f32) (β : FVec Ideal S192 .f32) : FVec Ideal S2x4096x192 .f32 :=
  fun i => (∑ d : Fin 768, X (ix3 (i 0) (i 1) d) * W (ix2 (i 2) d)) + β (ix1 (i 2))

/-! ## The kernel's block -/

theorem castX : S1x4096x768.ShapeCasts S4096x768 := by decide
theorem castB : S1x192.ShapeCasts S1x192 := by decide
theorem castO : B4096x192.ShapeCasts B1x4096x192 := by decide
theorem castβ : S192.ShapeCasts S1x192 := by decide
theorem bcB : S1x192.Broadcasts B4096x192 := by decide

abbrev vproj (x : FVec Ideal S1x4096x768 .f32) (w : FVec Ideal S192x768 .f32) (β : FVec Ideal S1x192 .f32) : FVec Ideal B1x4096x192 .f32 :=
  shapeCast B1x4096x192 (addf (matmul (DotDims.transposedRhs 4096 768 192) none (shapeCast S4096x768 x castX) w (constant B4096x192 .f32 0x00000000#32))
    (broadcastTo B4096x192 (shapeCast S1x192 β castB) bcB)) castO

theorem vproj_apply (x : FVec Ideal S1x4096x768 .f32) (w : FVec Ideal S192x768 .f32) (β : FVec Ideal S1x192 .f32)
    (u : Fin 1) (n : Fin 4096) (j : Fin 192) :
    vproj x w β (ix3 u n j) = (∑ d : Fin 768, x (ix3 0 n d) * w (ix2 j d)) + β (ix2 0 j) := by
  unfold vproj
  rw [shapeCast_ab_1ab_apply]
  show FloatOps.matmul (DotDims.transposedRhs 4096 768 192) none (shapeCast S4096x768 x castX) w (constant B4096x192 .f32 0x00000000#32) (ix2 n j)
    + broadcastTo B4096x192 (shapeCast S1x192 β castB) bcB (ix2 n j) = _
  rw [Ideal.matmul_transposedRhs_apply, broadcastTo_1b_ab_apply, shapeCast_self]
  have h0 : (constant B4096x192 .f32 0x00000000#32 : FVec Ideal B4096x192 .f32) (ix2 n j) = (0 : EReal) := zero_bits
  rw [h0, zero_add]
  simp only [shapeCast_1ab_ab_apply]

theorem vproj_block (x : FVec Ideal S1x4096x768 .f32) (w : FVec Ideal S192x768 .f32) (β : FVec Ideal S1x192 .f32)
    (X : FVec Ideal S2x4096x768 .f32) (W : FVec Ideal S192x768 .f32) (B : FVec Ideal S192 .f32) (b : Fin 2)
    (hx : ∀ n d, x (ix3 0 n d) = X (ix3 b n d)) (hw : ∀ j d, w (ix2 j d) = W (ix2 j d)) (hβ : ∀ j, β (ix2 0 j) = B (ix1 j))
    (u : Fin 1) (n : Fin 4096) (j : Fin 192) : vproj x w β (ix3 u n j) = proj X W B (ix3 b n j) := by
  rw [vproj_apply]
  simp only [hx, hw, hβ]
  rfl

theorem bias_row (B : FVec Ideal S192 .f32) (j : Fin 192) : shapeCast S1x192 B castβ (ix2 0 j) = B (ix1 j) :=
  shapeCast_a_1a_apply B castβ 0 j

/-! ## The reference's -/

theorem ldot_wf : DotDims.WF S2x4096x768 S768x192 S2x4096x192 [2] [0] [0, 1] [1] [] [] := by decide
abbrev ldot : DotDims S2x4096x768 S768x192 S2x4096x192 where
  lhsContracting := [2]
  rhsContracting := [0]
  lhsNonContracting := [0, 1]
  rhsNonContracting := [1]
  lhsBatch := []
  rhsBatch := []
  wf := ldot_wf
theorem tr : S192x768.Transposes [1, 0] S768x192 := by decide
theorem bcβ : S192.BroadcastsInDim S1x1x192 (![2] : Fin 1 → Fin 3) := by decide
theorem bcβ' : S1x1x192.BroadcastsInDim S2x4096x192 (![0, 1, 2] : Fin 3 → Fin 3) := by decide

abbrev hproj (X : FVec Ideal S2x4096x768 .f32) (W : FVec Ideal S192x768 .f32) (β : FVec Ideal S192 .f32) : FVec Ideal S2x4096x192 .f32 :=
  addf (Host.dotGeneral ldot none X (transpose S768x192 [1, 0] W tr))
    (broadcastInDim S2x4096x192 ![0, 1, 2] bcβ' (broadcastInDim S1x1x192 ![2] bcβ β))

theorem hproj_eq (X : FVec Ideal S2x4096x768 .f32) (W : FVec Ideal S192x768 .f32) (β : FVec Ideal S192 .f32) : hproj X W β = proj X W β := by
  funext i
  obtain ⟨b, n, j, rfl⟩ : ∃ b n j, i = ix3 b n j := ⟨i 0, i 1, i 2, eq_ix3 i⟩
  show FloatOps.dotGeneral ldot none _ X (transpose S768x192 [1, 0] W tr) (ix3 b n j)
    + broadcastInDim S2x4096x192 ![0, 1, 2] bcβ' (broadcastInDim S1x1x192 ![2] bcβ β) (ix3 b n j) = _
  rw [Ideal.dotGeneral_apply, ldot.sum_contr₁ (a := 2) rfl (K := 768) rfl,
    broadcastInDim_apply ![0, 1, 2] bcβ' _ (ix3 b n j) (ix3 0 0 j) (fun a => match a with | ⟨0, _⟩ => rfl | ⟨1, _⟩ => rfl | ⟨2, _⟩ => rfl),
    broadcastInDim_apply ![2] bcβ _ (ix3 0 0 j) (ix1 j) (fun a => match a with | ⟨0, _⟩ => rfl)]
  refine congrArg (· + β (ix1 j)) (Finset.sum_congr rfl fun d _ => ?_)
  refine congrArg₂ (· * ·) (congrArg X (funext fun a => Fin.ext ?_)) (congrArg W (funext fun a => Fin.ext ?_))
  · match a with
    | 0 => rfl
    | 1 => rfl
    | 2 => rfl
  · match a with
    | 0 => rfl
    | 1 => rfl

end Cert.Affine

end
-- ==== Proof.LinearValue.lean ====
/-
  The claims of the linear call: what its two result arrays hold, and the reference's.
-/
module

public import proofs.«01_k».proof.Defs
public import proofs.«01_k».proof.Proof.Affine
public import proofs.«01_k».proof.Proof.Gen.Linear.Frame
public import proofs.«01_k».proof.Proof.Gen.LinearIdeal.Frame
public import proofs.«01_k».proof.Proof.Gen.LinearReferenceIdeal.Run
public import Idealize.ShloMosaic.Lib.Pipeline.ValueKit.Geometry

@[expose] public section

noncomputable section

namespace Cert.Proof.LinearValue

open Idealize.ShloMosaic hiding ix1 ix2 ix3 eq_ix1 eq_ix2 eq_ix3
open Idealize.ShloMosaic.ValueIdx Idealize.ShloMosaic.TcCoe Idealize.SL.Sem Cert.Affine

section
open Cert.LinearIdeal Cert.LinearIdeal.Gen

theorem zero3 : (![0, 0, 0] : Fin 3 → ℕ) = fun _ => 0 := by decide
theorem zero2 : (![0, 0] : Fin 2 → ℕ) = fun _ => 0 := by decide

variable (x : FVec Ideal Affine.S1x4096x768 .f32) (w : FVec Ideal Affine.S192x768 .f32) (β : FVec Ideal Affine.S1x192 .f32)
  (w' : FVec Ideal Affine.S192x768 .f32) (β' : FVec Ideal Affine.S1x192 .f32)

theorem out5_eq : out0_5 (F := Ideal) x w β w' β' = vproj x w β := by
  unfold out0_5
  rw [View.canon_unit_zero zero3, View.ld_unit_zero zero3, View.ld_unit_zero zero2, View.ld_unit_zero zero2]
  rfl
theorem out6_eq : out0_6 (F := Ideal) x w β w' β' = vproj x w' β' := by
  unfold out0_6
  rw [View.canon_unit_zero zero3, View.ld_unit_zero zero3, View.ld_unit_zero zero2, View.ld_unit_zero zero2]
  rfl

variable (m : (ℓ : Loc nD τ sig) → Buf (Elt Ideal) ℓ)

abbrev argX (c : Dev nD) : FVec Ideal Affine.S2x4096x768 .f32 := m ((c.tc : Thread nD τ).loc main_arg0)
abbrev argWq (c : Dev nD) : FVec Ideal Affine.S192x768 .f32 := m ((c.tc : Thread nD τ).loc main_arg1)
abbrev argBq (c : Dev nD) : FVec Ideal Affine.S192 .f32 := m ((c.tc : Thread nD τ).loc main_arg2)
abbrev argWk (c : Dev nD) : FVec Ideal Affine.S192x768 .f32 := m ((c.tc : Thread nD τ).loc main_arg3)
abbrev argBk (c : Dev nD) : FVec Ideal Affine.S192 .f32 := m ((c.tc : Thread nD τ).loc main_arg4)

theorem V_v0 (c : Dev nD) : V m c main_v0 = shapeCast Affine.S1x192 (argBq m c) castβ := by
  unfold V
  simp only [hostOps0]
  after_results
  rfl
theorem V_v1 (c : Dev nD) : V m c main_v1 = shapeCast Affine.S1x192 (argBk m c) castβ := by
  unfold V
  simp only [hostOps0]
  after_results
  rfl

theorem index0 : ∀ t : Fin cfg0.N, win0_0.index t = ![(grid0.coords t 0).val, 0, 0] :=
  (by decide +kernel : ∀ t : Fin grid0.N, win0_0.index t = ![(grid0.coords t 0).val, 0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![(grid0.coords t 0).val, 0, 0] :=
  (by decide +kernel : ∀ t : Fin grid0.N, win0_5.index t = ![(grid0.coords t 0).val, 0, 0])
theorem index6 : ∀ t : Fin cfg0.N, win0_6.index t = ![(grid0.coords t 0).val, 0, 0] :=
  (by decide +kernel : ∀ t : Fin grid0.N, win0_6.index t = ![(grid0.coords t 0).val, 0, 0])

theorem block0 (c : Dev nD) (t : Fin cfg0.N) (n : Fin 4096) (d : Fin 768) :
    iblk m c 0 t (ix3 0 n d) = argX m c (ix3 (grid0.coords t 0) n d) := by
  blk_simp [iblk]
  rw [V_main_arg0]
  refine congrArg (argX m c) ?_
  blk_ext [index0]
theorem block1 (c : Dev nD) (t : Fin cfg0.N) (j : Fin 192) (d : Fin 768) : iblk m c 1 t (ix2 j d) = argWq m c (ix2 j d) := by
  blk_simp [iblk]
  rw [V_main_arg1]
  refine congrArg (argWq m c) ?_
  blk_ext [index1]
theorem block3 (c : Dev nD) (t : Fin cfg0.N) (j : Fin 192) (d : Fin 768) : iblk m c 3 t (ix2 j d) = argWk m c (ix2 j d) := by
  blk_simp [iblk]
  rw [V_main_arg3]
  refine congrArg (argWk m c) ?_
  blk_ext [index3]
theorem block2 (c : Dev nD) (t : Fin cfg0.N) (j : Fin 192) : iblk m c 2 t (ix2 0 j) = argBq m c (ix1 j) := by
  blk_simp [iblk]
  rw [V_v0]
  refine Eq.trans (congrArg (shapeCast Affine.S1x192 (argBq m c) castβ) (?_ : _ = ix2 0 j)) (bias_row (argBq m c) j)
  blk_ext [index2]
theorem block4 (c : Dev nD) (t : Fin cfg0.N) (j : Fin 192) : iblk m c 4 t (ix2 0 j) = argBk m c (ix1 j) := by
  blk_simp [iblk]
  rw [V_v1]
  refine Eq.trans (congrArg (shapeCast Affine.S1x192 (argBk m c) castβ) (?_ : _ = ix2 0 j)) (bias_row (argBk m c) j)
  blk_ext [index4]

theorem final5 (c : Dev nD) : (dats m 0 c).arrAt 5 cfg0.N = proj (argX m c) (argWq m c) (argBq m c) := by
  refine (dats m 0 c).arrAt_eq_of_covers 5 _ (by decide +kernel) fun t hf y => ?_
  blk_simp
  rw [after0_5, out5_eq]
  change Rows.B1x4096x192.Idx at y
  refine (congrArg _ (eq_ix3 y)).trans
    ((vproj_block _ _ _ (argX m c) (argWq m c) (argBq m c) (grid0.coords t 0) (block0 m c t) (block1 m c t) (block2 m c t)
      (y 0) (y 1) (y 2)).trans (congrArg (proj (argX m c) (argWq m c) (argBq m c)) ?_))
  idx_bounds y
  blk_ext [index5]
theorem final6 (c : Dev nD) : (dats m 0 c).arrAt 6 cfg0.N = proj (argX m c) (argWk m c) (argBk m c) := by
  refine (dats m 0 c).arrAt_eq_of_covers 6 _ (by decide +kernel) fun t hf y => ?_
  blk_simp
  rw [after0_6, out6_eq]
  change Rows.B1x4096x192.Idx at y
  refine (congrArg _ (eq_ix3 y)).trans
    ((vproj_block _ _ _ (argX m c) (argWk m c) (argBk m c) (grid0.coords t 0) (block0 m c t) (block3 m c t) (block4 m c t)
      (y 0) (y 1) (y 2)).trans (congrArg (proj (argX m c) (argWk m c) (argBk m c)) ?_))
  idx_bounds y
  blk_ext [index6]

/-- The call's run, its two results as functions of its arguments. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = proj (argX m c) (argWq m c) (argBq m c)
      ∧ r.2.mem ((c.tc : Thread nD τ).loc main_v2_1) = proj (argX m c) (argWk m c) (argBk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun r h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main (F := Ideal) m ρ)

end

theorem frame : Cert.quiescent_Linear := fun m ρ _ => Cert.Linear.Gen.frame m ρ
theorem frameIdeal : Cert.quiescent_LinearIdeal := fun m ρ _ => Cert.LinearIdeal.Gen.frame m ρ
theorem frameReference : Cert.quiescent_LinearReferenceIdeal := fun m ρ _ =>
  (θ_run Cert.LinearReferenceIdeal.defs _ _).mono (fun r h => ⟨fun c => (h c).2.2, sem_eq_zero_of_no_sems (by decide) r.2⟩)
    (Cert.LinearReferenceIdeal.Value.run (F := Ideal) m ρ)

theorem value : Cert.algebraic_LinearIdeal_LinearReferenceIdeal := by
  intro m ρ m' ρ' _ hagree
  refine ⟨fun c => proj (argX m c) (argWq m c) (argBq m c), fun c => proj (argX m c) (argWk m c) (argBk m c), run m ρ, ?_⟩
  refine (θ_run Cert.LinearReferenceIdeal.defs _ _).mono (fun _ h c => ⟨(h c).1.trans ?_, (h c).2.1.trans ?_, (h c).2.2⟩)
    (Cert.LinearReferenceIdeal.Value.run (F := Ideal) m' ρ')
  · rw [(hagree c).1, (hagree c).2.1, (hagree c).2.2.1]
    exact hproj_eq (argX m c) (argWq m c) (argBq m c)
  · rw [(hagree c).1, (hagree c).2.2.2.1, (hagree c).2.2.2.2]
    exact hproj_eq (argX m c) (argWk m c) (argBk m c)

end Cert.Proof.LinearValue

end
-- ==== Proof.Scatter.lean ====
/-
  What one scatter of sixteen lanes writes, and what four of them leave: the values the kernel moves, stated of plain
  functions. A row's eight (index, value) pairs are written in ascending order onto a background (`rowFold`), so that
  of equal indices the last stays; the kernel's sixteen lanes are two such rows (`storeIdx_chunk`).
-/
module

public import Idealize.ShloMosaic.PureOps
public import Idealize.ShloMosaic.Lib.StableHlo

@[expose] public section

noncomputable section

namespace Cert.Proof.Scatter

open Idealize.ShloMosaic

/-- Eight (column, value) pairs written in ascending order over the background `z`, read at column `c`. -/
def rowFold {α : Type} (I : Fin 8 → BitVec 32) (V : Fin 8 → α) (z : α) (c : ℕ) : α :=
  (List.finRange 8).foldl (fun a k => if (I k).toNat = c then V k else a) z

/-- Writing the background over what was written leaves the background. -/
theorem rowFold_clear {α : Type} (I : Fin 8 → BitVec 32) (V : Fin 8 → α) (z : α) (c : ℕ) :
    rowFold I (fun _ => z) (rowFold I V z c) c = z := by
  have key : ∀ (L : List (Fin 8)) (a : α), (∀ k ∈ L, (I k).toNat ≠ c) ∨
      L.foldl (fun a k => if (I k).toNat = c then z else a) a = z := by
    intro L
    induction L with
    | nil => intro a; left; simp
    | cons k L ih =>
      intro a
      rw [List.foldl_cons]
      by_cases h : (I k).toNat = c
      · right
        rw [if_pos h]
        have : ∀ L : List (Fin 8), L.foldl (fun a k => if (I k).toNat = c then z else a) z = z := by
          intro L; induction L with
          | nil => rfl
          | cons k L ih => rw [List.foldl_cons, ite_self, ih]
        exact this L
      · rw [if_neg h]
        rcases ih a with h' | h'
        · left; intro k' hk'
          rcases List.mem_cons.mp hk' with rfl | hk'
          · exact h
          · exact h' k' hk'
        · right; exact h'
  have skip : ∀ (W : Fin 8 → α) (L : List (Fin 8)) (a : α), (∀ k ∈ L, (I k).toNat ≠ c) →
      L.foldl (fun a k => if (I k).toNat = c then W k else a) a = a := by
    intro W L
    induction L with
    | nil => intro a _; rfl
    | cons k L ih =>
      intro a h
      rw [List.foldl_cons, if_neg (h k (List.mem_cons_self ..)), ih a fun k' hk' => h k' (List.mem_cons_of_mem _ hk')]
  rcases key (List.finRange 8) (rowFold I V z c) with h | h
  · unfold rowFold
    rw [skip V _ z h, skip (fun _ => z) _ z h]
  · exact h

/-- The rows a subcore stages at once, and one vector's lanes. -/
abbrev SB : Shape := ⟨2, ![8, 4096]⟩
abbrev SL : Shape := ⟨1, ![16]⟩

variable {F : FTy → Type} [FloatOps F]

/-- A fold of functions, each step deciding pointwise, read at a point. -/
theorem foldl_at {ι β γ : Type} (L : List ι) (f : β → γ) (step : ι → (β → γ) → β → γ) (g : ι → γ → γ) (j : β)
    (h : ∀ k f', step k f' j = g k (f' j)) : (L.foldl (fun f k => step k f) f) j = L.foldl (fun a k => g k a) (f j) := by
  induction L generalizing f with
  | nil => rfl
  | cons k L ih => rw [List.foldl_cons, List.foldl_cons, ih, h]

/-- Lane `8 p + k` of sixteen. -/
abbrev lane (p : Fin 2) (k : Fin 8) : Fin 16 := ⟨8 * p.val + k.val, by omega⟩

/-- The sixteen lanes in order are the first eight, then the last eight. -/
theorem foldl_lanes {γ : Type} (g : γ → Fin 16 → γ) (a : γ) :
    (List.finRange 16).foldl g a
      = (List.finRange 8).foldl (fun a k => g a (lane 1 k)) ((List.finRange 8).foldl (fun a k => g a (lane 0 k)) a) := by
  simp only [List.finRange_succ, List.finRange_zero, List.map_cons, List.map_nil, List.foldl_cons, List.foldl_nil]
  rfl

theorem foldl_id {ι γ : Type} (L : List ι) (g : γ → ι → γ) (h : ∀ a k, g a k = a) (a : γ) : L.foldl g a = a := by
  induction L with
  | nil => rfl
  | cons k L ih => rw [List.foldl_cons, h, ih]

/-- One scatter of sixteen lanes whose rows are `2 q` (the first eight lanes) and `2 q + 1` (the last eight): the two
    rows with their eight pairs written, every other row as it was. -/
theorem storeIdx_chunk (f : Vec F SB .f32) (r v : IVec SL 32) (w : Vec F SL .f32)
    (h : ∀ a x, ((![r, v] : Fin 2 → IVec SL 32) a x).toNat < SB.size a) (q : ℕ)
    (hr : ∀ l : Fin 16, (r (Shape.ofLane (d := ![16]) l)).toNat = l.val / 8 + 2 * q) (x : SB.Idx) :
    storeIdx (F := F) (e := .f32) (s := SB) (d := ![16]) f ![r, v] w (fun _ => 1#1) false h x
      = if hx : (x 0).val / 2 = q then
          rowFold (fun k => v (Shape.ofLane (d := ![16]) (lane ⟨(x 0).val % 2, Nat.mod_lt _ (by decide)⟩ k)))
            (fun k => w (Shape.ofLane (d := ![16]) (lane ⟨(x 0).val % 2, Nat.mod_lt _ (by decide)⟩ k))) (f x) (x 1).val
        else f x := by
  unfold storeIdx
  refine (foldl_at (ι := Fin 16) (List.finRange 16) f _ (fun k a =>
    if (x 0).val = k.val / 8 + 2 * q ∧ (v (Shape.ofLane (d := ![16]) k)).toNat = (x 1).val
      then w (Shape.ofLane (d := ![16]) k) else a) x ?_).trans ?_
  rotate_left
  · rw [foldl_lanes]
    by_cases hx : (x 0).val / 2 = q
    · rw [dif_pos hx]
      unfold rowFold
      rcases Nat.mod_two_eq_zero_or_one (x 0).val with hm | hm
      · rw [foldl_id _ (fun a k => if (x 0).val = (lane 1 k).val / 8 + 2 * q ∧ _ then _ else a)
          (fun a k => if_neg (by rintro ⟨h1, -⟩; simp [lane] at h1; omega))]
        congr 1
        funext a k
        have e : (⟨(x 0).val % 2, Nat.mod_lt _ (by decide)⟩ : Fin 2) = 0 := Fin.ext hm
        rw [e]
        have e1 : (x 0).val = (lane 0 k).val / 8 + 2 * q := by simp [lane]; omega
        simp only [e1, true_and]
      · rw [foldl_id _ (fun a k => if (x 0).val = (lane 0 k).val / 8 + 2 * q ∧ _ then _ else a)
          (fun a k => if_neg (by rintro ⟨h1, -⟩; simp [lane] at h1; omega))]
        congr 1
        funext a k
        have e : (⟨(x 0).val % 2, Nat.mod_lt _ (by decide)⟩ : Fin 2) = 1 := Fin.ext hm
        rw [e]
        have e1 : (x 0).val = (lane 1 k).val / 8 + 2 * q := by simp [lane]; omega
        simp only [e1, true_and]
    · rw [dif_neg hx, foldl_id, foldl_id]
      · intro a k; exact if_neg (by rintro ⟨h1, -⟩; simp [lane] at h1; omega)
      · intro a k; exact if_neg (by rintro ⟨h1, -⟩; simp [lane] at h1; omega)
  · intro k f'
    have e : (∀ a, (x a).val = (idxAt (![r, v] : Fin 2 → IVec SL 32) h (Shape.ofLane (d := ![16]) k) a).val)
        ↔ ((x 0).val = k.val / 8 + 2 * q ∧ (v (Shape.ofLane (d := ![16]) k)).toNat = (x 1).val) := by
      rw [← hr k]
      constructor
      · intro H; exact ⟨H 0, (H 1).symm⟩
      · rintro ⟨H0, H1⟩ a
        match a with
        | 0 => exact H0
        | 1 => exact H1.symm
    exact if_congr e rfl rfl

/-- Row `R` of the scatter of the words `gI`, `gV` (eight a row) onto the background `z`, at column `c`. -/
def sc {α : Type} (z : α) (gI : ℕ → BitVec 32) (gV : ℕ → α) (R c : ℕ) : α :=
  rowFold (fun k => gI (8 * R + k.val)) (fun k => gV (8 * R + k.val)) z c

/-- Eight rows of the scatter, from row `B`. -/
def octF (z : Elt F .f32) (gI : ℕ → BitVec 32) (gV : ℕ → Elt F .f32) (B : ℕ) : Vec F SB .f32 :=
  fun x => sc z gI gV (B + (x 0).val) (x 1).val

/-- The first `2 q` rows of `a`, the others of `b`. -/
def mix {α : Type} (q : ℕ) (a b : SB.Idx → α) : SB.Idx → α := fun x => if (x 0).val / 2 < q then a x else b x

theorem mix_zero {α : Type} (a b : SB.Idx → α) : mix 0 a b = b := by
  funext x; exact if_neg (Nat.not_lt_zero _)

theorem mix_four {α : Type} (a b : SB.Idx → α) : mix 4 a b = a := by
  funext x; have : (x 0).val < 8 := (x 0).isLt; exact if_pos (by omega)

/-- Scattering pairs `16 q …` of the octet at `B` onto zeros fills rows `2 q`, `2 q + 1`. -/
theorem storeIdx_put (z : Elt F .f32) (gI : ℕ → BitVec 32) (gV : ℕ → Elt F .f32) (B q : ℕ) (r v : IVec SL 32) (w : Vec F SL .f32)
    (h : ∀ a x, ((![r, v] : Fin 2 → IVec SL 32) a x).toNat < SB.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = gV (8 * B + 16 * q + l.val)) :
    storeIdx (F := F) (e := .f32) (s := SB) (d := ![16]) (mix q (octF z gI gV B) (fun _ => z)) ![r, v] w (fun _ => 1#1) false h
      = mix (q + 1) (octF z gI gV B) (fun _ => z) := by
  funext x
  rw [storeIdx_chunk _ r v w h q hr x]
  by_cases hx : (x 0).val / 2 = q
  · rw [dif_pos hx]
    simp only [mix, if_neg (show ¬(x 0).val / 2 < q by omega), if_pos (show (x 0).val / 2 < q + 1 by omega), hv, hw, octF, sc]
    have e : ∀ k : Fin 8, 8 * B + 16 * q + (lane ⟨(x 0).val % 2, Nat.mod_lt _ (by decide)⟩ k).val = 8 * (B + (x 0).val) + k.val := by
      intro k; simp only [lane]; omega
    simp only [e]
  · rw [dif_neg hx]
    simp only [mix]
    exact if_congr (by omega) rfl rfl

/-- Scattering the background over pairs `16 q …` of an octet clears rows `2 q`, `2 q + 1`. -/
theorem storeIdx_clear (z : Elt F .f32) (gI : ℕ → BitVec 32) (gV : ℕ → Elt F .f32) (B q : ℕ) (r v : IVec SL 32) (w : Vec F SL .f32)
    (h : ∀ a x, ((![r, v] : Fin 2 → IVec SL 32) a x).toNat < SB.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = z) :
    storeIdx (F := F) (e := .f32) (s := SB) (d := ![16]) (mix q (fun _ => z) (octF z gI gV B)) ![r, v] w (fun _ => 1#1) false h
      = mix (q + 1) (fun _ => z) (octF z gI gV B) := by
  funext x
  rw [storeIdx_chunk _ r v w h q hr x]
  by_cases hx : (x 0).val / 2 = q
  · rw [dif_pos hx]
    simp only [mix, if_neg (show ¬(x 0).val / 2 < q by omega), if_pos (show (x 0).val / 2 < q + 1 by omega), hv, hw, octF, sc]
    have e : ∀ k : Fin 8, 8 * B + 16 * q + (lane ⟨(x 0).val % 2, Nat.mod_lt _ (by decide)⟩ k).val = 8 * (B + (x 0).val) + k.val := by
      intro k; simp only [lane]; omega
    simp only [e]
    exact rowFold_clear _ _ z _
  · rw [dif_neg hx]
    simp only [mix]
    exact if_congr (by omega) rfl rfl

end Cert.Proof.Scatter

end
-- ==== Proof.WholeForms.lean ====
/-
  The closed forms of the scatter task's offsets, conditions and lane rows, each decided over the loop's trips.
-/
module

public import proofs.«01_k».proof.Kernel
public import proofs.«01_k».proof.Proof.Gen.WholeIdeal
public import proofs.«01_k».proof.Proof.Gen.WholeIdeal.Skeleton

@[expose] public section

noncomputable section

namespace Cert.Proof.WholeIdeal

open Cert.WholeIdeal Cert.WholeIdeal.Gen

open Idealize.ShloMosaic

/-! ## The closed forms of the loop's words -/

theorem cond1_iff : ∀ k : Fin k2_t2_loop.trips, k2_cond1 k = 1#1 ↔ k.val % 2 = 0 := by decide +kernel
theorem cond3_iff : ∀ k : Fin k2_t2_loop.trips, k2_cond3 k = 1#1 ↔ k.val % 2 = 1 := by decide +kernel
theorem cond2_iff : ∀ k : Fin k2_t2_loop.trips, k2_cond2 k = 1#1 ↔ 2 ≤ k.val := by decide +kernel
theorem cond4_iff : ∀ k : Fin k2_t2_loop.trips, k2_cond4 k = 1#1 ↔ 2 ≤ k.val := by decide +kernel
theorem off3_eq : ∀ k : Fin k2_t2_loop.trips, 2 ≤ k.val → k2_off3 k = ![64 * (k.val - 2)] := by decide +kernel
theorem off4_eq : ∀ k : Fin k2_t2_loop.trips, 2 ≤ k.val → k2_off4 k = ![64 * (k.val - 2) + 16] := by decide +kernel
theorem off5_eq : ∀ k : Fin k2_t2_loop.trips, 2 ≤ k.val → k2_off5 k = ![64 * (k.val - 2) + 32] := by decide +kernel
theorem off6_eq : ∀ k : Fin k2_t2_loop.trips, 2 ≤ k.val → k2_off6 k = ![64 * (k.val - 2) + 48] := by decide +kernel
theorem off12_eq : ∀ k : Fin k2_t2_loop.trips, 2 ≤ k.val → k2_off12 k = ![64 * (k.val - 2)] := by decide +kernel
theorem off13_eq : ∀ k : Fin k2_t2_loop.trips, 2 ≤ k.val → k2_off13 k = ![64 * (k.val - 2) + 16] := by decide +kernel
theorem off14_eq : ∀ k : Fin k2_t2_loop.trips, 2 ≤ k.val → k2_off14 k = ![64 * (k.val - 2) + 32] := by decide +kernel
theorem off15_eq : ∀ k : Fin k2_t2_loop.trips, 2 ≤ k.val → k2_off15 k = ![64 * (k.val - 2) + 48] := by decide +kernel
theorem off2_eq : ∀ k : Fin k2_t1_loop.trips, k2_off2 k = ![k.val % 8, 16 * (k.val / 8)] := by decide +kernel

/-- The lanes' rows: lane `l` of chunk `q` lies in row `l / 8 + 2 q`. -/
abbrev rowv : IVec S16 32 := k2_pay1 k2_pay19 k2_pay20
theorem row4 : ∀ l : Fin 16, (k2_pay4 rowv (Shape.ofLane (d := ![16]) l)).toNat = l.val / 8 + 2 * 0 := by decide +kernel
theorem row5 : ∀ l : Fin 16, (k2_pay5 rowv (Shape.ofLane (d := ![16]) l)).toNat = l.val / 8 + 2 * 1 := by decide +kernel
theorem row6 : ∀ l : Fin 16, (k2_pay6 rowv (Shape.ofLane (d := ![16]) l)).toNat = l.val / 8 + 2 * 2 := by decide +kernel
theorem row7 : ∀ l : Fin 16, (k2_pay7 rowv (Shape.ofLane (d := ![16]) l)).toNat = l.val / 8 + 2 * 3 := by decide +kernel
theorem row8 : ∀ l : Fin 16, (k2_pay8 rowv (Shape.ofLane (d := ![16]) l)).toNat = l.val / 8 + 2 * 0 := by decide +kernel
theorem row9 : ∀ l : Fin 16, (k2_pay9 rowv (Shape.ofLane (d := ![16]) l)).toNat = l.val / 8 + 2 * 1 := by decide +kernel
theorem row10 : ∀ l : Fin 16, (k2_pay10 rowv (Shape.ofLane (d := ![16]) l)).toNat = l.val / 8 + 2 * 2 := by decide +kernel
theorem row11 : ∀ l : Fin 16, (k2_pay11 rowv (Shape.ofLane (d := ![16]) l)).toNat = l.val / 8 + 2 * 0 := by decide +kernel
theorem row12 : ∀ l : Fin 16, (k2_pay12 rowv (Shape.ofLane (d := ![16]) l)).toNat = l.val / 8 + 2 * 1 := by decide +kernel
theorem row13 : ∀ l : Fin 16, (k2_pay13 rowv (Shape.ofLane (d := ![16]) l)).toNat = l.val / 8 + 2 * 2 := by decide +kernel
theorem row14 : ∀ l : Fin 16, (k2_pay14 rowv (Shape.ofLane (d := ![16]) l)).toNat = l.val / 8 + 2 * 3 := by decide +kernel
theorem row15 : ∀ l : Fin 16, (k2_pay15 rowv (Shape.ofLane (d := ![16]) l)).toNat = l.val / 8 + 2 * 0 := by decide +kernel
theorem row16 : ∀ l : Fin 16, (k2_pay16 rowv (Shape.ofLane (d := ![16]) l)).toNat = l.val / 8 + 2 * 1 := by decide +kernel
theorem row17 : ∀ l : Fin 16, (k2_pay17 rowv (Shape.ofLane (d := ![16]) l)).toNat = l.val / 8 + 2 * 2 := by decide +kernel
theorem row2 : ∀ l : Fin 16, (k2_pay2 k2_pay19 k2_pay20 (Shape.ofLane (d := ![16]) l)).toNat = l.val / 8 + 2 * 3 := by decide +kernel
theorem row3 : ∀ l : Fin 16, (k2_pay3 k2_pay19 k2_pay20 (Shape.ofLane (d := ![16]) l)).toNat = l.val / 8 + 2 * 3 := by decide +kernel

end Cert.Proof.WholeIdeal

end
-- ==== Proof.WholeArrays.lean ====
/-
  The scatter call as the launch theorem sees it, its arrays, and the pieces of them a task works on: the worker's
  words, the worker's rows, the octets of rows; what the call leaves in the result (`outF`).
-/
module

public import proofs.«01_k».proof.Defs
public import proofs.«01_k».proof.Proof.Scatter
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit
public import Idealize.ShloMosaic.Lib.Transfers
public import Idealize.ShloMosaic.Lib.Tactic
public import proofs.«01_k».proof.Proof.WholeForms
public import proofs.«01_k».proof.Proof.Gen.WholeIdeal
public import proofs.«01_k».proof.Proof.Gen.WholeIdeal.Skeleton

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The staging cells' rounds. -/
abbrev UP : Type := URounds (GSem nD τ sig) Unit
/-- The handshakes' rounds beside the staging cells' rounds and the transfers' counters. -/
abbrev UU : Type := UH × (UP × Counters)

local notation "𝕄" => MT nD τ sig (HIx 1) (Elt F) ℕ UU ℕ

abbrev EH : Emb UH (MT nD τ sig (HIx 1) (Elt F) ℕ UU ℕ) := embL

/-! ## The memrefs and the arrays -/

abbrev aV : Memref sig .scVector .hbm S65536 .f32 := Memref.whole main_v4_scv
abbrev iV : Memref sig .scVector .hbm S65536 .i32 := Memref.whole main_v5_scv
abbrev oV : Memref sig .scVector .hbm S8192x4096 .f32 := Memref.whole main_v6_scv
/-- A task's scratch: the fetched indices, the fetched values, the two row buffers. -/
abbrev sI : Memref sig .scVector .vmem S2048 .i32 := Memref.whole cc2_scratch0
abbrev sX : Memref sig .scVector .vmem S2048 .f32 := Memref.whole cc2_scratch1
abbrev b0 : Memref sig .scVector .vmem S8x4096 .f32 := Memref.whole cc2_scratch2
abbrev b1 : Memref sig .scVector .vmem S8x4096 .f32 := Memref.whole cc2_scratch3

/-- The flat values, the flat indices and the result, as locations of device `d`. -/
abbrev aLoc (d : Dev nD) : Loc nD τ sig := (SparseCore.T d).loc main_v4
abbrev iLoc (d : Dev nD) : Loc nD τ sig := (SparseCore.T d).loc main_v5
abbrev oLoc (d : Dev nD) : Loc nD τ sig := (SparseCore.T d).loc main_v6

/-- The background: zero. -/
abbrev z : Elt F .f32 := (Scalar.ofBits .f32 0x00000000#32 : F .f32)

-- what the call finds in the flat values, the flat indices and the result
variable (CA : (d : Dev nD) → Buf (Elt F) (aLoc d)) (CI : (d : Dev nD) → Buf (Elt F) (iLoc d)) (CO : (d : Dev nD) → Buf (Elt F) (oLoc d))

/-- Word `n` of the flat indices, of the flat values. -/
def gI (d : Dev nD) (n : ℕ) : BitVec 32 := if h : n < 65536 then (CI d : S65536.Idx → BitVec 32) (fun | 0 => ⟨n, h⟩) else 0#32
def gV (d : Dev nD) (n : ℕ) : Elt F .f32 := if h : n < 65536 then (CA d : S65536.Idx → Elt F .f32) (fun | 0 => ⟨n, h⟩) else z

theorem gI_of (d : Dev nD) (x : S65536.Idx) (n : ℕ) (h : (x 0).val = n) : gI CI d n = (CI d : S65536.Idx → BitVec 32) x := by
  subst h
  unfold gI
  rw [dif_pos (show (x 0).val < 65536 from (x 0).isLt)]
  refine congrArg (CI d : S65536.Idx → BitVec 32) (funext fun a => ?_)
  match a with
  | 0 => rfl
theorem gV_of (d : Dev nD) (x : S65536.Idx) (n : ℕ) (h : (x 0).val = n) : gV CA d n = (CA d : S65536.Idx → Elt F .f32) x := by
  subst h
  unfold gV
  rw [dif_pos (show (x 0).val < 65536 from (x 0).isLt)]
  refine congrArg (CA d : S65536.Idx → Elt F .f32) (funext fun a => ?_)
  match a with
  | 0 => rfl

/-- What the call leaves in the result: row by row, the row's eight pairs written in order over zeros. -/
def outF (d : Dev nD) : Buf (Elt F) (oLoc d) := fun x : S8192x4096.Idx => sc z (gI CI d) (gV CA d) (x 0).val (x 1).val

/-- What the proof asks: every index names a column. -/
def IdxOK : Prop := ∀ (d : Dev nD) (n : ℕ), (gI CI d n).toNat < 4096

/-! ## The task's pieces -/

/-- The words of worker `w`, the rows of worker `w`, and the rows of the octets `lo ≤ · < hi`. -/
def wSet (w : ℕ) : Finset S65536.Idx := Finset.univ.filter fun x => (x 0).val / 2048 = w
def oSet (w : ℕ) : Finset S8192x4096.Idx := Finset.univ.filter fun x => (x 0).val / 256 = w
def qSet (lo hi : ℕ) : Finset S8192x4096.Idx := Finset.univ.filter fun x => lo ≤ (x 0).val / 8 ∧ (x 0).val / 8 < hi

theorem oSet_eq (w : ℕ) : oSet w = qSet (32 * w) (32 * w + 32) := by
  unfold oSet qSet; ext x; simp only [Finset.mem_filter, Finset.mem_univ, true_and]; omega

theorem qSet_union {lo mid hi : ℕ} (h : lo ≤ mid) (h' : mid ≤ hi) : qSet lo mid ∪ qSet mid hi = qSet lo hi := by
  unfold qSet; ext x; simp only [Finset.mem_union, Finset.mem_filter, Finset.mem_univ, true_and]; omega
theorem qSet_disjoint (lo mid hi : ℕ) : Disjoint (qSet lo mid) (qSet mid hi) := by
  unfold qSet; rw [Finset.disjoint_left]; intro x; simp only [Finset.mem_filter, Finset.mem_univ, true_and]; omega
theorem qSet_self (lo : ℕ) : qSet lo lo = ∅ := by
  unfold qSet; ext x; simp only [Finset.mem_filter, Finset.mem_univ, true_and, Finset.notMem_empty, iff_false]; omega

section Tile

variable (d : Dev nD) (L : grid2.Coords)

abbrev cV (L : grid2.Coords) : Fin τ.nSC := (L 0).castLE hcore2
abbrev jV (L : grid2.Coords) : Fin τ.nSub := (L 1).castLE hsub2
/-- The worker's number. -/
abbrev wid (L : grid2.Coords) : ℕ := 2 * (L 1).val + (L 0).val
theorem wid_lt : wid L < 32 := by unfold wid; have h0 : (L 0).val < 2 := (L 0).isLt; have h1 : (L 1).val < 16 := (L 1).isLt; omega

abbrev thr : Thread nD τ := V d (cV L) (jV L)

/-- The worker's fetched words. -/
def tI : S2048.Idx → BitVec 32 := fun x => gI CI d (2048 * wid L + (x 0).val)
def tX : S2048.Idx → Elt F .f32 := fun x => gV CA d (2048 * wid L + (x 0).val)

abbrev rectW : Rect S65536 := Rect.unit (s := S65536) (k2_off1 L) S2048.size (k2_off1_inb L)
abbrev aW : Memref sig .scVector .hbm S2048 .f32 := aV.slice (rectW L) (fun _ => rfl)
abbrev iW : Memref sig .scVector .hbm S2048 .i32 := iV.slice (rectW L) (fun _ => rfl)

theorem mem_rectW (x : S65536.Idx) : x ∈ (rectW L).set ↔ x ∈ wSet (wid L) := by
  rw [Rect.mem_set_unit]
  have e : k2_off1 L 0 = 4096 * (L 1).val + 2048 * (L 0).val := by rw [k2_off1_eq]; rfl
  simp only [wSet, Finset.mem_filter, Finset.mem_univ, true_and]
  have key : (k2_off1 L 0 ≤ (x 0).val ∧ (x 0).val < k2_off1 L 0 + 2048) ↔ (x 0).val / 2048 = wid L := by
    rw [e]; unfold wid; omega
  rw [← key]
  constructor
  · intro h; exact h 0
  · intro h a; obtain rfl : a = 0 := Subsingleton.elim _ _; exact h

theorem set_aW : (aW L).view.set = wSet (wid L) := by
  ext x
  refine (ValueKit.mem_set_slice_whole_iff main_v4_scv (rectW L) x (mem_rectW L x))
theorem set_iW : (iW L).view.set = wSet (wid L) := by
  ext x
  refine (ValueKit.mem_set_slice_whole_iff main_v5_scv (rectW L) x (mem_rectW L x))

theorem read_iW : (iW L).view.read (Elt F) (CI d) = tI CI d L := by
  funext x
  refine (View.read_apply _ _).trans ((cast_eq _ _).trans ?_)
  refine (gI_of CI d _ _ ?_).symm
  have e : k2_off1 L 0 = 4096 * (L 1).val + 2048 * (L 0).val := by rw [k2_off1_eq]; rfl
  have h := ValueKit.view_emb_slice_whole_unit_val main_v5_scv _ _ (k2_off1_inb L) x 0
  have h' : _ = k2_off1 L 0 + (x 0).val := h
  rw [e] at h'
  refine h'.trans ?_
  unfold wid; omega
theorem read_aW : (aW L).view.read (Elt F) (CA d) = tX CA d L := by
  funext x
  refine (View.read_apply _ _).trans ((cast_eq _ _).trans ?_)
  refine (gV_of CA d _ _ ?_).symm
  have e : k2_off1 L 0 = 4096 * (L 1).val + 2048 * (L 0).val := by rw [k2_off1_eq]; rfl
  have h := ValueKit.view_emb_slice_whole_unit_val main_v4_scv _ _ (k2_off1_inb L) x 0
  have h' : _ = k2_off1 L 0 + (x 0).val := h
  rw [e] at h'
  refine h'.trans ?_
  unfold wid; omega

/-! The output octets. -/

abbrev rectO (off : Fin 2 → ℕ) (h : ∀ a, off a + S8x4096.size a ≤ S8192x4096.size a) : Rect S8192x4096 :=
  Rect.unit (s := S8192x4096) off S8x4096.size h
abbrev oW (off : Fin 2 → ℕ) (h : ∀ a, off a + S8x4096.size a ≤ S8192x4096.size a) : Memref sig .scVector .hbm S8x4096 .f32 :=
  oV.slice (rectO off h) (fun _ => rfl)

/-- The rows copied out for octet `q` of the array are that octet's. -/
theorem set_oW {off : Fin 2 → ℕ} {h : ∀ a, off a + S8x4096.size a ≤ S8192x4096.size a} {q : ℕ} (e : off = ![8 * q, 0]) :
    (oW off h).view.set = qSet q (q + 1) := by
  ext x
  refine ValueKit.mem_set_slice_whole_iff main_v6_scv (rectO off h) x ?_
  rw [Rect.mem_set_unit]
  simp only [qSet, Finset.mem_filter, Finset.mem_univ, true_and]
  have h1 : (x 1).val < 4096 := (x 1).isLt
  subst e
  constructor
  · intro H
    have H0 : 8 * q ≤ (x 0).val ∧ (x 0).val < 8 * q + 8 := H 0
    omega
  · intro H a
    match a with
    | 0 => show 8 * q ≤ (x 0).val ∧ (x 0).val < 8 * q + 8; omega
    | 1 => show 0 ≤ (x 1).val ∧ (x 1).val < 0 + 4096; omega

/-- What an octet's copy leaves in its rows. -/
theorem write_oW {off : Fin 2 → ℕ} {h : ∀ a, off a + S8x4096.size a ≤ S8192x4096.size a} {q : ℕ} (e : off = ![8 * q, 0])
    (f : Buf (Elt F) (oLoc d)) (x : S8192x4096.Idx) (hx : x ∈ qSet q (q + 1)) :
    (oW off h).view.write (Elt F) f (octF z (gI CI d) (gV CA d) (8 * q)) Finset.univ x = outF CA CI d x := by
  rw [← set_oW (h := h) e] at hx
  obtain ⟨y, -, rfl⟩ := Finset.mem_map.mp hx
  refine (View.write_emb_of_mem (v := (oW off h).view) f _ (Finset.mem_univ y)).trans ((cast_eq _ _).trans ?_)
  have h0 := ValueKit.view_emb_slice_whole_unit_val main_v6_scv _ _ h y 0
  have h1 := ValueKit.view_emb_slice_whole_unit_val main_v6_scv _ _ h y 1
  have h0' : _ = 8 * q + (y 0).val := h0.trans (congrArg (· + (y 0).val) (congrFun e 0))
  have h1' : _ = (y 1).val := (h1.trans (congrArg (· + (y 1).val) (congrFun e 1))).trans (Nat.zero_add _)
  show sc z (gI CI d) (gV CA d) (8 * q + (y 0).val) (y 1).val = sc z (gI CI d) (gV CA d) _ _
  exact congrArg₂ (sc z (gI CI d) (gV CA d)) h0'.symm h1'.symm

end Tile

end Cert.Proof.WholeIdeal

end
-- ==== Proof.WholeSteps.lean ====
/-
  The task's steps: a load of sixteen words, one scatter of sixteen lanes into a row buffer, one clearing scatter.
-/
module

public import proofs.«01_k».proof.Proof.WholeArrays

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F] [Named F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid2.Coords)

abbrev ptsI : sProp 𝕄 := (sI : Memref sig .scVector .vmem S2048 .i32).view.loc (thr d L) ↦{fullShare} tI CI d L
abbrev ptsX : sProp 𝕄 := (sX : Memref sig .scVector .vmem S2048 .f32).view.loc (thr d L) ↦{fullShare} tX CA d L
abbrev ptsB0 (f : Buf (Elt F) ((thr d L).loc cc2_scratch2)) : sProp 𝕄 := (b0 : Memref sig .scVector .vmem S8x4096 .f32).view.loc (thr d L) ↦{fullShare} f
abbrev ptsB1 (f : Buf (Elt F) ((thr d L).loc cc2_scratch3)) : sProp 𝕄 := (b1 : Memref sig .scVector .vmem S8x4096 .f32).view.loc (thr d L) ↦{fullShare} f

theorem load_I {off : Fin 1 → ℕ} (h : ∀ a, off a + S16.size a ≤ S2048.size a) {n : ℕ} (e : off = ![n]) (l : Fin 16) :
    (sI : Memref sig .scVector .vmem S2048 .i32).view.readAt (Elt F) (Rect.unit (s := S2048) off S16.size h).toLoadRect (tI CI d L)
      (Shape.ofLane (d := ![16]) l) = gI CI d (2048 * wid L + n + l.val) := by
  simp only [View.readAt_apply, Memref.view_whole, View.read_whole]
  unfold tI
  rw [LoadRect.idx_apply]
  subst e
  refine congrArg (gI CI d) ?_
  show 2048 * wid L + (n + 1 * l.val) = 2048 * wid L + n + l.val
  omega
theorem load_X {off : Fin 1 → ℕ} (h : ∀ a, off a + S16.size a ≤ S2048.size a) {n : ℕ} (e : off = ![n]) (l : Fin 16) :
    (sX : Memref sig .scVector .vmem S2048 .f32).view.readAt (Elt F) (Rect.unit (s := S2048) off S16.size h).toLoadRect (tX CA d L)
      (Shape.ofLane (d := ![16]) l) = gV CA d (2048 * wid L + n + l.val) := by
  simp only [View.readAt_apply, Memref.view_whole, View.read_whole]
  unfold tX
  rw [LoadRect.idx_apply]
  subst e
  refine congrArg (gV CA d) ?_
  show 2048 * wid L + (n + 1 * l.val) = 2048 * wid L + n + l.val
  omega

theorem put0_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = gV (8 * B + 16 * q + l.val)) :
    View.write (Elt F) ((b0 : Memref sig .scVector .vmem S8x4096 .f32).access (Rect.whole S8x4096)) (mix q (octF z gI gV B) (fun _ => z))
      (storeIdx (View.read (Elt F) ((b0 : Memref sig .scVector .vmem S8x4096 .f32).access (Rect.whole S8x4096)) (mix q (octF z gI gV B) (fun _ => z))) ![r, v] w (fun _ => 1#1) false h)
      Finset.univ = mix (q + 1) (octF z gI gV B) (fun _ => z) := by
  refine (Memref.write_access_whole_univ _ (cc2_scratch2 : Ref sig .scVector) _ _).trans ?_
  refine Eq.trans (congrArg (fun f : Vec F SB .f32 => storeIdx (F := F) (e := .f32) (s := SB) (d := ![16]) f ![r, v] w (fun _ => 1#1) false h)
    (Memref.read_access_whole _ (cc2_scratch2 : Ref sig .scVector) _)) ?_
  exact storeIdx_put z gI gV B q r v w h hr hv hw
theorem clear0_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = z) :
    View.write (Elt F) ((b0 : Memref sig .scVector .vmem S8x4096 .f32).access (Rect.whole S8x4096)) (mix q (fun _ => z) (octF z gI gV B))
      (storeIdx (View.read (Elt F) ((b0 : Memref sig .scVector .vmem S8x4096 .f32).access (Rect.whole S8x4096)) (mix q (fun _ => z) (octF z gI gV B))) ![r, v] w (fun _ => 1#1) false h)
      Finset.univ = mix (q + 1) (fun _ => z) (octF z gI gV B) := by
  refine (Memref.write_access_whole_univ _ (cc2_scratch2 : Ref sig .scVector) _ _).trans ?_
  refine Eq.trans (congrArg (fun f : Vec F SB .f32 => storeIdx (F := F) (e := .f32) (s := SB) (d := ![16]) f ![r, v] w (fun _ => 1#1) false h)
    (Memref.read_access_whole _ (cc2_scratch2 : Ref sig .scVector) _)) ?_
  exact storeIdx_clear z gI gV B q r v w h hr hv hw
theorem put1_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = gV (8 * B + 16 * q + l.val)) :
    View.write (Elt F) ((b1 : Memref sig .scVector .vmem S8x4096 .f32).access (Rect.whole S8x4096)) (mix q (octF z gI gV B) (fun _ => z))
      (storeIdx (View.read (Elt F) ((b1 : Memref sig .scVector .vmem S8x4096 .f32).access (Rect.whole S8x4096)) (mix q (octF z gI gV B) (fun _ => z))) ![r, v] w (fun _ => 1#1) false h)
      Finset.univ = mix (q + 1) (octF z gI gV B) (fun _ => z) := by
  refine (Memref.write_access_whole_univ _ (cc2_scratch3 : Ref sig .scVector) _ _).trans ?_
  refine Eq.trans (congrArg (fun f : Vec F SB .f32 => storeIdx (F := F) (e := .f32) (s := SB) (d := ![16]) f ![r, v] w (fun _ => 1#1) false h)
    (Memref.read_access_whole _ (cc2_scratch3 : Ref sig .scVector) _)) ?_
  exact storeIdx_put z gI gV B q r v w h hr hv hw
theorem clear1_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = z) :
    View.write (Elt F) ((b1 : Memref sig .scVector .vmem S8x4096 .f32).access (Rect.whole S8x4096)) (mix q (fun _ => z) (octF z gI gV B))
      (storeIdx (View.read (Elt F) ((b1 : Memref sig .scVector .vmem S8x4096 .f32).access (Rect.whole S8x4096)) (mix q (fun _ => z) (octF z gI gV B))) ![r, v] w (fun _ => 1#1) false h)
      Finset.univ = mix (q + 1) (fun _ => z) (octF z gI gV B) := by
  refine (Memref.write_access_whole_univ _ (cc2_scratch3 : Ref sig .scVector) _ _).trans ?_
  refine Eq.trans (congrArg (fun f : Vec F SB .f32 => storeIdx (F := F) (e := .f32) (s := SB) (d := ![16]) f ![r, v] w (fun _ => 1#1) false h)
    (Memref.read_access_whole _ (cc2_scratch3 : Ref sig .scVector) _)) ?_
  exact storeIdx_clear z gI gV B q r v w h hr hv hw

/-- Lanes whose rows are `2 q`, `2 q + 1` and whose columns are below 4096 name positions of a row buffer. -/
theorem inb_of {row v : IVec S16 32} {q : ℕ} (hq : q < 4) (hr : ∀ l : Fin 16, (row (Shape.ofLane (d := ![16]) l)).toNat = l.val / 8 + 2 * q)
    (hv : ∀ l : Fin 16, (v (Shape.ofLane (d := ![16]) l)).toNat < 4096) : ∀ a x, ((![row, v] : Fin 2 → IVec S16 32) a x).toNat < S8x4096.size a := by
  intro a x
  have ex : x = Shape.ofLane (d := ![16]) (x 0) := by funext a; match a with | 0 => rfl
  rw [ex]
  match a with
  | 0 =>
    have := hr (x 0)
    have hx : (x 0).val < 16 := (x 0).isLt
    show (row (Shape.ofLane (d := ![16]) (x 0))).toNat < 8
    omega
  | 1 => exact hv (x 0)

theorem pts_b0 (f : Buf (Elt F) ((thr d L).loc cc2_scratch2)) :
    (((b0 : Memref sig .scVector .vmem S8x4096 .f32).access (.whole S8x4096)).loc (thr d L)
        ↦[((b0 : Memref sig .scVector .vmem S8x4096 .f32).access (.whole S8x4096)).set]{fullShare} f : sProp 𝕄) = ptsB0 d L f := by
  rw [show ((b0 : Memref sig .scVector .vmem S8x4096 .f32).access (.whole S8x4096)).set = Finset.univ from Memref.set_access_whole (cc2_scratch2 : Ref sig .scVector)]
theorem pts_b1 (f : Buf (Elt F) ((thr d L).loc cc2_scratch3)) :
    (((b1 : Memref sig .scVector .vmem S8x4096 .f32).access (.whole S8x4096)).loc (thr d L)
        ↦[((b1 : Memref sig .scVector .vmem S8x4096 .f32).access (.whole S8x4096)).set]{fullShare} f : sProp 𝕄) = ptsB1 d L f := by
  rw [show ((b1 : Memref sig .scVector .vmem S8x4096 .f32).access (.whole S8x4096)).set = Finset.univ from Memref.set_access_whole (cc2_scratch3 : Ref sig .scVector)]

/-- One scatter of the octet at `B` into row buffer 0: pairs `16 q …` of it. -/
theorem wp_put0 (hok : IdxOK CI) (B q n : ℕ) (hq : q < 4) {off : Fin 1 → ℕ} {inb inb' : ∀ a, off a + S16.size a ≤ S2048.size a} {hl hl'}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsX CA d L ∗ ptsB0 d L (mix q (octF z (gI CI d) (gV CA d) B) (fun _ => z)))
      ⊢ iprop((iprop(ptsI CI d L ∗ ptsX CA d L ∗ ptsB0 d L (mix (q + 1) (octF z (gI CI d) (gV CA d) B) (fun _ => z)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.load sX (Rect.unit (s := S2048) off S16.size inb').toLoadRect hl') fun w : Vec F S16 .f32 =>
             .op (.assume (C v) (dec v)) fun h => SparseCore.vectorStoreIdx b0 ![row, v] w (fun _ => 1#1) false (hC v h.down) hs >>= k) Q) := by
  iintro ⟨HI, HX, HB⟩ Hk
  iapply (wp_load 𝒱₀ (thr d L) none Set.univ (m := sI) (S := Finset.univ) (Finset.subset_univ _)) $$ HI; iintro HI
  iapply (wp_load 𝒱₀ (thr d L) none Set.univ (m := sX) (S := Finset.univ) (Finset.subset_univ _)) $$ HX; iintro HX
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b0 (F := F) d L _).symm) $$ HB
  iapply (SparseCore.wp_vectorStoreIdx 𝒱₀ (thr d L) none Set.univ (base := b0)) $$ HB'; iintro HB'
  iapply Hk
  isplitl [HI]; · iexact HI
  isplitl [HX]; · iexact HX
  ihave HB := (Entails.of_eq (pts_b0 (F := F) d L _)) $$ HB'
  refine Entails.of_eq (congrArg (ptsB0 d L) (put0_eq z (gI CI d) (gV CA d) B q row _ _ hinb hr ?_ ?_))
  · intro l; rw [load_I CI d L inb e l, hB]
  · intro l; rw [load_X CA d L inb' e l, hB]

/-- One clearing scatter of the octet at `B` out of row buffer 0: pairs `16 q …` of it. -/
theorem wp_clear0 (hok : IdxOK CI) (B q n : ℕ) (hq : q < 4) {off : Fin 1 → ℕ} {inb : ∀ a, off a + S16.size a ≤ S2048.size a} {hl}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsB0 d L (mix q (fun _ => z) (octF z (gI CI d) (gV CA d) B)))
      ⊢ iprop((iprop(ptsI CI d L ∗ ptsB0 d L (mix (q + 1) (fun _ => z) (octF z (gI CI d) (gV CA d) B)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.assume (C v) (dec v)) fun h => SparseCore.vectorStoreIdx b0 ![row, v] (k2_pay18 (F := F)) (fun _ => 1#1) false (hC v h.down) hs >>= k) Q) := by
  iintro ⟨HI, HB⟩ Hk
  iapply (wp_load 𝒱₀ (thr d L) none Set.univ (m := sI) (S := Finset.univ) (Finset.subset_univ _)) $$ HI; iintro HI
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b0 (F := F) d L _).symm) $$ HB
  iapply (SparseCore.wp_vectorStoreIdx 𝒱₀ (thr d L) none Set.univ (base := b0)) $$ HB'; iintro HB'
  iapply Hk
  isplitl [HI]; · iexact HI
  ihave HB := (Entails.of_eq (pts_b0 (F := F) d L _)) $$ HB'
  refine Entails.of_eq (congrArg (ptsB0 d L) (clear0_eq z (gI CI d) (gV CA d) B q row _ (k2_pay18 (F := F)) hinb hr ?_ ?_))
  · intro l; rw [load_I CI d L inb e l, hB]
  · intro l; rfl

/-- One scatter of the octet at `B` into row buffer 1: pairs `16 q …` of it. -/
theorem wp_put1 (hok : IdxOK CI) (B q n : ℕ) (hq : q < 4) {off : Fin 1 → ℕ} {inb inb' : ∀ a, off a + S16.size a ≤ S2048.size a} {hl hl'}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsX CA d L ∗ ptsB1 d L (mix q (octF z (gI CI d) (gV CA d) B) (fun _ => z)))
      ⊢ iprop((iprop(ptsI CI d L ∗ ptsX CA d L ∗ ptsB1 d L (mix (q + 1) (octF z (gI CI d) (gV CA d) B) (fun _ => z)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.load sX (Rect.unit (s := S2048) off S16.size inb').toLoadRect hl') fun w : Vec F S16 .f32 =>
             .op (.assume (C v) (dec v)) fun h => SparseCore.vectorStoreIdx b1 ![row, v] w (fun _ => 1#1) false (hC v h.down) hs >>= k) Q) := by
  iintro ⟨HI, HX, HB⟩ Hk
  iapply (wp_load 𝒱₀ (thr d L) none Set.univ (m := sI) (S := Finset.univ) (Finset.subset_univ _)) $$ HI; iintro HI
  iapply (wp_load 𝒱₀ (thr d L) none Set.univ (m := sX) (S := Finset.univ) (Finset.subset_univ _)) $$ HX; iintro HX
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b1 (F := F) d L _).symm) $$ HB
  iapply (SparseCore.wp_vectorStoreIdx 𝒱₀ (thr d L) none Set.univ (base := b1)) $$ HB'; iintro HB'
  iapply Hk
  isplitl [HI]; · iexact HI
  isplitl [HX]; · iexact HX
  ihave HB := (Entails.of_eq (pts_b1 (F := F) d L _)) $$ HB'
  refine Entails.of_eq (congrArg (ptsB1 d L) (put1_eq z (gI CI d) (gV CA d) B q row _ _ hinb hr ?_ ?_))
  · intro l; rw [load_I CI d L inb e l, hB]
  · intro l; rw [load_X CA d L inb' e l, hB]

/-- One clearing scatter of the octet at `B` out of row buffer 1: pairs `16 q …` of it. -/
theorem wp_clear1 (hok : IdxOK CI) (B q n : ℕ) (hq : q < 4) {off : Fin 1 → ℕ} {inb : ∀ a, off a + S16.size a ≤ S2048.size a} {hl}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsB1 d L (mix q (fun _ => z) (octF z (gI CI d) (gV CA d) B)))
      ⊢ iprop((iprop(ptsI CI d L ∗ ptsB1 d L (mix (q + 1) (fun _ => z) (octF z (gI CI d) (gV CA d) B)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.assume (C v) (dec v)) fun h => SparseCore.vectorStoreIdx b1 ![row, v] (k2_pay18 (F := F)) (fun _ => 1#1) false (hC v h.down) hs >>= k) Q) := by
  iintro ⟨HI, HB⟩ Hk
  iapply (wp_load 𝒱₀ (thr d L) none Set.univ (m := sI) (S := Finset.univ) (Finset.subset_univ _)) $$ HI; iintro HI
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b1 (F := F) d L _).symm) $$ HB
  iapply (SparseCore.wp_vectorStoreIdx 𝒱₀ (thr d L) none Set.univ (base := b1)) $$ HB'; iintro HB'
  iapply Hk
  isplitl [HI]; · iexact HI
  ihave HB := (Entails.of_eq (pts_b1 (F := F) d L _)) $$ HB'
  refine Entails.of_eq (congrArg (ptsB1 d L) (clear1_eq z (gI CI d) (gV CA d) B q row _ (k2_pay18 (F := F)) hinb hr ?_ ?_))
  · intro l; rw [load_I CI d L inb e l, hB]
  · intro l; rfl

end Cert.Proof.WholeIdeal

end
-- ==== Proof.WholeCopies.lean ====
/-
  The task: fetch, zero the two row buffers, build the octets of rows one after the other in the two buffers and copy
  them out; what it leaves in its rows.
-/
module

public import proofs.«01_k».proof.Proof.WholeSteps

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F] [Named F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid2.Coords)

theorem pts_src0 (f : Buf (Elt F) ((thr d L).loc cc2_scratch2)) :
    ((b0 : Memref sig .scVector .vmem S8x4096 .f32).view.loc (thr d L) ↦[(b0 : Memref sig .scVector .vmem S8x4096 .f32).view.set]{fullShare} f : sProp 𝕄)
      = ptsB0 d L f := by
  simp only [Memref.view_whole, View.set_whole]

/-- Row buffer 0 on its way to octet `q`'s rows; what its landing gives back. -/
abbrev Fl0 (q : ℕ) : sProp 𝕄 :=
  Transfers.Flight countersEmb (thr d L) (.dma cc2_scratch4.sem) none ((oW ![0, 0] inb_S8192x4096_S8x4096_0_0).view.dmaCredit)
    iprop((oLoc d ↦[qSet q (q + 1)]{fullShare} outF CA CI d) ∗ ptsB0 d L (octF z (gI CI d) (gV CA d) (8 * q)))

theorem wp_start0 {off : Fin 2 → ℕ} {inb : ∀ a, off a + S8x4096.size a ≤ S8192x4096.size a} {q : ℕ} (e : off = ![8 * q, 0]) {hs hd hm}
    {α : Type} {k : PUnit → Prog (TpuEff nD τ sig (Elt F) Λ₀ (thr d L).2) α} {Q : α → sProp 𝕄} :
    iprop(ptsB0 d L (octF z (gI CI d) (gV CA d) (8 * q)) ∗ (oLoc d ↦[qSet q (q + 1)]{fullShare} CO d) ∗ semVal (thr d L, .dma cc2_scratch4.sem) 0)
      ⊢ iprop((Fl0 CA CI d L q -∗ wp frame (wpE (defs₀ (F := F)) 𝒱₀ (thr d L) none) Set.univ (k ⟨⟩) Q)
          -∗ wp frame (wpE (defs₀ (F := F)) 𝒱₀ (thr d L) none) Set.univ
              (.op (.enqueueDma b0 (.here (oW off inb)) (.dma cc2_scratch4.sem) hs hd hm) k) Q) := by
  iintro ⟨HB, HO, HS⟩ Hk
  iapply (Transfers.wp_dmaLocal countersEmb 𝒱₀ (thr d L) none (src := b0) (dst := oW off inb) (fd := CO d) none
    ((oW ![0, 0] inb_S8192x4096_S8x4096_0_0).view.dmaCredit) rfl (View.dmaCredit_pos _ (by decide)) (Finset.Subset.refl _)) $$ [HB HO HS]
  · isplitl [HB]
    · iapply (Entails.of_eq (pts_src0 (F := F) d L _).symm); iexact HB
    isplitl [HO]
    · rw [set_oW (h := inb) e]; iexact HO
    · iexact HS
  iintro HF
  iapply Hk
  iapply (Transfers.Flight_mono countersEmb (thr d L) ?_) $$ HF
  rw [set_oW (h := inb) e]
  iintro ⟨HO, HB⟩
  isplitl [HO]
  · iapply (Entails.of_eq (pointsTo_congr fun x hx => ?_)) $$ HO
    simp only [ReadAs.apply, Memref.view_whole, View.read_whole]
    exact write_oW CA CI d e (CO d) x hx
  · iapply (Entails.of_eq (pts_src0 (F := F) d L _)); iexact HB

/-- The wait for row buffer 0's copy. -/
theorem wp_land0 (q : ℕ) {O : CellTallies nD τ sig (HIx 1)} {W : Waits sig (HIx 1)} (hO : ∀ g, O g none = 0) {hs hd}
    {α : Type} {k : PUnit → Prog (TpuEff nD τ sig (Elt F) Λ₀ (thr d L).2) α} {Q : α → sProp 𝕄} :
    iprop(levAts (K (F := F)).L (K (F := F)).lev ∗ Fl0 CA CI d L q ∗ owes (thr d L) O W)
      ⊢ iprop((iprop((oLoc d ↦[qSet q (q + 1)]{fullShare} outF CA CI d) ∗ ptsB0 d L (octF z (gI CI d) (gV CA d) (8 * q)) ∗ semVal (thr d L, .dma cc2_scratch4.sem) 0
              ∗ owes (thr d L) O (insert (SemLoc.dma cc2_scratch4.sem, none) W))
            -∗ wp frame (wpE (defs₀ (F := F)) 𝒱₀ (thr d L) none) Set.univ (k ⟨⟩) Q)
          -∗ wp frame (wpE (defs₀ (F := F)) 𝒱₀ (thr d L) none) Set.univ
              (.op (.waitDma2 cc2_scratch4.sem b0 (oW ![0, 0] inb_S8192x4096_S8x4096_0_0) hs hd) k) Q) := by
  iintro ⟨#Hlv, HF, HO⟩ Hk
  iapply (Transfers.wp_waitLocalO countersEmb 𝒱₀ (thr d L) none none rfl) $$ [HF HO]
  · isplitl [HF]; · iexact HF
    isplitl [HO]; · iexact HO
    iapply ((K (F := F)).mayWait_none (SemLoc.dma cc2_scratch4.sem) hO); iexact Hlv
  iintro ⟨⟨HD, HB⟩, HS, HO⟩
  iapply Hk
  isplitl [HD]; · iexact HD
  isplitl [HB]; · iexact HB
  isplitl [HS]; · iexact HS
  iexact HO

theorem pts_src1 (f : Buf (Elt F) ((thr d L).loc cc2_scratch3)) :
    ((b1 : Memref sig .scVector .vmem S8x4096 .f32).view.loc (thr d L) ↦[(b1 : Memref sig .scVector .vmem S8x4096 .f32).view.set]{fullShare} f : sProp 𝕄)
      = ptsB1 d L f := by
  simp only [Memref.view_whole, View.set_whole]

/-- Row buffer 1 on its way to octet `q`'s rows; what its landing gives back. -/
abbrev Fl1 (q : ℕ) : sProp 𝕄 :=
  Transfers.Flight countersEmb (thr d L) (.dma cc2_scratch5.sem) none ((oW ![0, 0] inb_S8192x4096_S8x4096_0_0).view.dmaCredit)
    iprop((oLoc d ↦[qSet q (q + 1)]{fullShare} outF CA CI d) ∗ ptsB1 d L (octF z (gI CI d) (gV CA d) (8 * q)))

theorem wp_start1 {off : Fin 2 → ℕ} {inb : ∀ a, off a + S8x4096.size a ≤ S8192x4096.size a} {q : ℕ} (e : off = ![8 * q, 0]) {hs hd hm}
    {α : Type} {k : PUnit → Prog (TpuEff nD τ sig (Elt F) Λ₀ (thr d L).2) α} {Q : α → sProp 𝕄} :
    iprop(ptsB1 d L (octF z (gI CI d) (gV CA d) (8 * q)) ∗ (oLoc d ↦[qSet q (q + 1)]{fullShare} CO d) ∗ semVal (thr d L, .dma cc2_scratch5.sem) 0)
      ⊢ iprop((Fl1 CA CI d L q -∗ wp frame (wpE (defs₀ (F := F)) 𝒱₀ (thr d L) none) Set.univ (k ⟨⟩) Q)
          -∗ wp frame (wpE (defs₀ (F := F)) 𝒱₀ (thr d L) none) Set.univ
              (.op (.enqueueDma b1 (.here (oW off inb)) (.dma cc2_scratch5.sem) hs hd hm) k) Q) := by
  iintro ⟨HB, HO, HS⟩ Hk
  iapply (Transfers.wp_dmaLocal countersEmb 𝒱₀ (thr d L) none (src := b1) (dst := oW off inb) (fd := CO d) none
    ((oW ![0, 0] inb_S8192x4096_S8x4096_0_0).view.dmaCredit) rfl (View.dmaCredit_pos _ (by decide)) (Finset.Subset.refl _)) $$ [HB HO HS]
  · isplitl [HB]
    · iapply (Entails.of_eq (pts_src1 (F := F) d L _).symm); iexact HB
    isplitl [HO]
    · rw [set_oW (h := inb) e]; iexact HO
    · iexact HS
  iintro HF
  iapply Hk
  iapply (Transfers.Flight_mono countersEmb (thr d L) ?_) $$ HF
  rw [set_oW (h := inb) e]
  iintro ⟨HO, HB⟩
  isplitl [HO]
  · iapply (Entails.of_eq (pointsTo_congr fun x hx => ?_)) $$ HO
    simp only [ReadAs.apply, Memref.view_whole, View.read_whole]
    exact write_oW CA CI d e (CO d) x hx
  · iapply (Entails.of_eq (pts_src1 (F := F) d L _)); iexact HB

/-- The wait for row buffer 1's copy. -/
theorem wp_land1 (q : ℕ) {O : CellTallies nD τ sig (HIx 1)} {W : Waits sig (HIx 1)} (hO : ∀ g, O g none = 0) {hs hd}
    {α : Type} {k : PUnit → Prog (TpuEff nD τ sig (Elt F) Λ₀ (thr d L).2) α} {Q : α → sProp 𝕄} :
    iprop(levAts (K (F := F)).L (K (F := F)).lev ∗ Fl1 CA CI d L q ∗ owes (thr d L) O W)
      ⊢ iprop((iprop((oLoc d ↦[qSet q (q + 1)]{fullShare} outF CA CI d) ∗ ptsB1 d L (octF z (gI CI d) (gV CA d) (8 * q)) ∗ semVal (thr d L, .dma cc2_scratch5.sem) 0
              ∗ owes (thr d L) O (insert (SemLoc.dma cc2_scratch5.sem, none) W))
            -∗ wp frame (wpE (defs₀ (F := F)) 𝒱₀ (thr d L) none) Set.univ (k ⟨⟩) Q)
          -∗ wp frame (wpE (defs₀ (F := F)) 𝒱₀ (thr d L) none) Set.univ
              (.op (.waitDma2 cc2_scratch5.sem b1 (oW ![0, 0] inb_S8192x4096_S8x4096_0_0) hs hd) k) Q) := by
  iintro ⟨#Hlv, HF, HO⟩ Hk
  iapply (Transfers.wp_waitLocalO countersEmb 𝒱₀ (thr d L) none none rfl) $$ [HF HO]
  · isplitl [HF]; · iexact HF
    isplitl [HO]; · iexact HO
    iapply ((K (F := F)).mayWait_none (SemLoc.dma cc2_scratch5.sem) hO); iexact Hlv
  iintro ⟨⟨HD, HB⟩, HS, HO⟩
  iapply Hk
  isplitl [HD]; · iexact HD
  isplitl [HB]; · iexact HB
  isplitl [HS]; · iexact HS
  iexact HO

end Cert.Proof.WholeIdeal

end
-- ==== Proof.WholeTrips.lean ====
/-
  The main loop: trip by trip an octet of rows is built in one of the two row buffers and sent, the octet two trips
  before it having landed and been cleared out of that buffer.
-/
module

public import proofs.«01_k».proof.Proof.WholeCopies

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F] [Named F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid2.Coords)

theorem trips2 : k2_t2_loop.trips = 32 := by decide +kernel
theorem trips1 : k2_t1_loop.trips = 2048 := by decide +kernel

/-- A program that comes down to the same rest whether or not its guarded piece runs. -/
theorem wp_via {α β : Type} {c : Prop} [Decidable c] {t : c → Prog (TpuEff nD τ sig (Elt F) Λ₀ (thr d L).2) α}
    {r : Prog (TpuEff nD τ sig (Elt F) Λ₀ (thr d L).2) α} {K : α → Prog (TpuEff nD τ sig (Elt F) Λ₀ (thr d L).2) β}
    {Q : β → sProp 𝕄} (P P' : sProp 𝕄)
    (skip : ¬ c → P ⊢ P')
    (run : ∀ h : c, (P' ⊢ wp frame (wpE (defs₀ (F := F)) 𝒱₀ (thr d L) none) Set.univ (r >>= K) Q)
      → P ⊢ wp frame (wpE (defs₀ (F := F)) 𝒱₀ (thr d L) none) Set.univ (t h >>= K) Q)
    (rest : P' ⊢ wp frame (wpE (defs₀ (F := F)) 𝒱₀ (thr d L) none) Set.univ (r >>= K) Q) :
    P ⊢ wp frame (wpE (defs₀ (F := F)) 𝒱₀ (thr d L) none) Set.univ ((if h : c then t h else r) >>= K) Q := by
  by_cases h : c
  · rw [dif_pos h]; exact run h rest
  · rw [dif_neg h]; exact (skip h).trans rest

-- what the thread owes, and the waits it has recorded
variable (O : CellTallies nD τ sig (HIx 1)) (W : Waits sig (HIx 1))

/-- A row buffer after `n` octets through it: zero before the first, on its way with the last one after. -/
def St0 (n : ℕ) : sProp 𝕄 :=
  if n = 0 then iprop(ptsB0 d L (fun _ => z) ∗ semVal (thr d L, .dma cc2_scratch4.sem) 0) else Fl0 CA CI d L (32 * wid L + 2 * (n - 1))
def St1 (n : ℕ) : sProp 𝕄 :=
  if n = 0 then iprop(ptsB1 d L (fun _ => z) ∗ semVal (thr d L, .dma cc2_scratch5.sem) 0) else Fl1 CA CI d L (32 * wid L + 2 * (n - 1) + 1)

/-- What the thread owes, with further waits of its own recorded. -/
def Ow : sProp 𝕄 := iprop(∃ W', ⌜∀ p ∈ W', p ∈ W ∨ p.2 = none⌝ ∗ owes (thr d L) O W')

theorem Ow_insert {W' : Waits sig (HIx 1)} (h : ∀ p ∈ W', p ∈ W ∨ p.2 = none) (s : SemLoc sig) :
    (owes (thr d L) O (insert (s, none) W') : sProp 𝕄) ⊢ Ow d L O W := by
  unfold Ow
  iintro HO
  iexists (insert (s, none) W'); isplitr
  · ipureintro; intro p hp; rcases Finset.mem_insert.mp hp with rfl | hp; exacts [.inr rfl, h p hp]
  · iexact HO

/-- The octets before octet `n` of the worker's rows are built. -/
abbrev Done (n : ℕ) : sProp 𝕄 := oLoc d ↦[qSet (32 * wid L) (32 * wid L + n)]{fullShare} outF CA CI d
abbrev Rest (k : ℕ) : sProp 𝕄 := oLoc d ↦[qSet (32 * wid L + k) (32 * wid L + 32)]{fullShare} CO d

theorem done_add (n : ℕ) {q : ℕ} (hq : q = 32 * wid L + n) :
    iprop(Done CA CI d L n ∗ oLoc d ↦[qSet q (q + 1)]{fullShare} outF CA CI d) ⊢ Done CA CI d L (n + 1) := by
  subst hq
  refine (pointsTo_union (qSet_disjoint _ _ _)).2.trans (Entails.of_eq ?_)
  rw [qSet_union (by omega) (by omega)]; rfl
theorem rest_take {k : ℕ} (hk : k < 32) {q : ℕ} (hq : q = 32 * wid L + k) :
    Rest CO d L k ⊢ iprop((oLoc d ↦[qSet q (q + 1)]{fullShare} CO d) ∗ Rest CO d L (k + 1)) := by
  subst hq
  refine (Entails.of_eq ?_).trans (pointsTo_union (qSet_disjoint _ _ _)).1
  rw [show 32 * wid L + (k + 1) = 32 * wid L + k + 1 from rfl, qSet_union (by omega) (by omega)]

/-- Before trip `k`. -/
def inv (k : ℕ) (_ : Unit) : sProp 𝕄 :=
  iprop(levAts (K (F := F)).L (K (F := F)).lev ∗ ptsI CI d L ∗ ptsX CA d L ∗ Rest CO d L k ∗ Done CA CI d L (k - 2)
    ∗ St0 CA CI d L ((k + 1) / 2) ∗ St1 CA CI d L (k / 2) ∗ Ow d L O W)

abbrev body2 := k2_t2_body (F := F) L aV (Memref.isWhole_whole _) iV (Memref.isWhole_whole _) oV (Memref.isWhole_whole _) sI (Memref.isWhole_whole _) sX (Memref.isWhole_whole _)
  b0 (Memref.isWhole_whole _) b1 (Memref.isWhole_whole _) cc2_scratch4 cc2_scratch5 cc2_scoped0 cc2_scoped1 k2_pay18 k2_pay19 k2_pay20

theorem trip0 (hok : IdxOK CI) (hO : ∀ g, O g none = 0) (k : Fin k2_t2_loop.trips) (hk : k.val % 2 = 0) (u : Unit) :
    inv CA CI CO d L O W k.val u ⊢ wp frame (wpE (defs₀ (F := F)) 𝒱₀ (thr d L) none) Set.univ (body2 L k u) (inv CA CI CO d L O W (k.val + 1)) := by
  have hlt : k.val < 32 := lt_of_lt_of_eq k.isLt trips2
  have hc1 : k2_cond1 k = 1#1 := by rw [cond1_iff]; omega
  have hc3 : ¬ k2_cond3 k = 1#1 := by rw [cond3_iff]; omega
  unfold inv body2 k2_t2_body
  simp only [dif_pos hc1, dif_neg hc3, k2_part2_eq_skeleton]
  unfold k2_part2_skel
  simp only [Prog.lift, Prog.bind_op, Prog.bind_ret, Prog.pure_eq_ret, bind_assoc]
  apply wp_via d L
    (P' := iprop(levAts (K (F := F)).L (K (F := F)).lev ∗ ptsI CI d L ∗ ptsX CA d L ∗ Rest CO d L k.val ∗ Done CA CI d L (k.val - 1)
      ∗ (ptsB0 d L (fun _ => z) ∗ semVal (thr d L, .dma cc2_scratch4.sem) 0) ∗ St1 CA CI d L ((k.val + 1) / 2) ∗ Ow d L O W))
  case skip =>
    intro h
    have h2 : ¬ 2 ≤ k.val := fun h' => h ((cond2_iff k).mpr h')
    rw [show k.val / 2 = 0 by omega, show (k.val + 1) / 2 = 0 by omega, show k.val - 2 = 0 by omega, show k.val - 1 = 0 by omega]
    unfold St0
    rw [if_pos rfl]
  case run =>
    intro h rest
    have h2 : 2 ≤ k.val := (cond2_iff k).mp h
    simp only [Prog.bind_op, Prog.bind_ret, bind_assoc] at rest ⊢
    rw [show St0 CA CI d L ((k.val + 1) / 2) = Fl0 CA CI d L (32 * wid L + (k.val - 2)) from by
      unfold St0; rw [if_neg (by omega), show 32 * wid L + 2 * ((k.val + 1) / 2 - 1) = 32 * wid L + (k.val - 2) by omega]]
    iintro ⟨#Hlv, HI, HX, HR, HD, HF, HS1, HO⟩
    unfold Ow
    icases HO with ⟨%W', %hW', HO⟩
    iapply (wp_land0 CA CI d L (32 * wid L + (k.val - 2)) hO) $$ [HF HO]
    · isplitr; · iexact Hlv
      isplitl [HF]; · iexact HF
      iexact HO
    iintro ⟨HQ, HB, HS, HO⟩
    ihave HB := (Entails.of_eq (congrArg (ptsB0 d L) (mix_zero (fun _ => z) (octF z (gI CI d) (gV CA d) (8 * (32 * wid L + (k.val - 2))))).symm)) $$ HB
    iapply (wp_clear0 CA CI d L hok (8 * (32 * wid L + (k.val - 2))) 0 (64 * (k.val - 2)) (by omega) _ (C := fun v => k2_chk1 k v _)
      (hC := fun v hv => k2_idx1_inb k v _ hv hc1 h) (fun v hv h1 h2 => hv) (off3_eq k h2) (by omega) row4) $$ [HI HB]
    · isplitl [HI]; · iexact HI
      iexact HB
    iintro ⟨HI, HB⟩
    iapply (wp_clear0 CA CI d L hok (8 * (32 * wid L + (k.val - 2))) 1 (64 * (k.val - 2) + 16) (by omega) _ (C := fun v => k2_chk2 k v _)
      (hC := fun v hv => k2_idx2_inb k v _ hv hc1 h) (fun v hv h1 h2 => hv) (off4_eq k h2) (by omega) row5) $$ [HI HB]
    · isplitl [HI]; · iexact HI
      iexact HB
    iintro ⟨HI, HB⟩
    iapply (wp_clear0 CA CI d L hok (8 * (32 * wid L + (k.val - 2))) 2 (64 * (k.val - 2) + 32) (by omega) _ (C := fun v => k2_chk3 k v _)
      (hC := fun v hv => k2_idx3_inb k v _ hv hc1 h) (fun v hv h1 h2 => hv) (off5_eq k h2) (by omega) row6) $$ [HI HB]
    · isplitl [HI]; · iexact HI
      iexact HB
    iintro ⟨HI, HB⟩
    iapply (wp_clear0 CA CI d L hok (8 * (32 * wid L + (k.val - 2))) 3 (64 * (k.val - 2) + 48) (by omega) _ (C := fun v => k2_chk4 k v _)
      (hC := fun v hv => k2_idx4_inb k v _ hv hc1 h) (fun v hv h1 h2 => hv) (off6_eq k h2) (by omega) row7) $$ [HI HB]
    · isplitl [HI]; · iexact HI
      iexact HB
    iintro ⟨HI, HB⟩
    ihave HB := (Entails.of_eq (congrArg (ptsB0 d L) (mix_four (fun _ => z) (octF z (gI CI d) (gV CA d) (8 * (32 * wid L + (k.val - 2))))))) $$ HB
    iapply rest
    isplitr; · iexact Hlv
    isplitl [HI]; · iexact HI
    isplitl [HX]; · iexact HX
    isplitl [HR]; · iexact HR
    isplitl [HD HQ]
    · rw [show k.val - 1 = k.val - 2 + 1 by omega]
      iapply (done_add CA CI d L (k.val - 2) rfl)
      isplitl [HD]; · iexact HD
      iexact HQ
    isplitl [HB HS]
    · isplitl [HB]; · iexact HB
      iexact HS
    isplitl [HS1]
    · iapply (Entails.of_eq (congrArg (St1 CA CI d L) (show _ = (k.val + 1) / 2 by omega))) $$ HS1
    iapply (Ow_insert d L O W hW' _) $$ HO
  simp only [Prog.bind_op, Prog.bind_ret, bind_assoc]
  iintro ⟨#Hlv, HI, HX, HR, HD, ⟨HB, HS⟩, HS1, HO⟩
  ihave HB := (Entails.of_eq (congrArg (ptsB0 d L) (mix_zero (octF z (gI CI d) (gV CA d) (8 * (32 * wid L + k.val))) (fun _ => z)).symm)) $$ HB
  iapply (wp_put0 CA CI d L hok (8 * (32 * wid L + k.val)) 0 (64 * k.val) (by omega) _ (C := fun v => k2_chk5 k v _)
    (hC := fun v hv => k2_idx5_inb k v _ hv hc1) (fun v hv h1 => hv) (k2_off7_eq k) (by omega) row8) $$ [HI HX HB]
  · isplitl [HI]; · iexact HI
    isplitl [HX]; · iexact HX
    iexact HB
  iintro ⟨HI, HX, HB⟩
  iapply (wp_put0 CA CI d L hok (8 * (32 * wid L + k.val)) 1 (64 * k.val + 16) (by omega) _ (C := fun v => k2_chk6 k v _)
    (hC := fun v hv => k2_idx6_inb k v _ hv hc1) (fun v hv h1 => hv) (k2_off8_eq k) (by omega) row9) $$ [HI HX HB]
  · isplitl [HI]; · iexact HI
    isplitl [HX]; · iexact HX
    iexact HB
  iintro ⟨HI, HX, HB⟩
  iapply (wp_put0 CA CI d L hok (8 * (32 * wid L + k.val)) 2 (64 * k.val + 32) (by omega) _ (C := fun v => k2_chk7 k v _)
    (hC := fun v hv => k2_idx7_inb k v _ hv hc1) (fun v hv h1 => hv) (k2_off9_eq k) (by omega) row10) $$ [HI HX HB]
  · isplitl [HI]; · iexact HI
    isplitl [HX]; · iexact HX
    iexact HB
  iintro ⟨HI, HX, HB⟩
  iapply (wp_put0 CA CI d L hok (8 * (32 * wid L + k.val)) 3 (64 * k.val + 48) (by omega) _ (C := fun v => k2_chk8 k v _)
    (hC := fun v hv => k2_idx8_inb k v _ hv hc1) (fun v hv h1 => hv) (k2_off10_eq k) (by omega) row2) $$ [HI HX HB]
  · isplitl [HI]; · iexact HI
    isplitl [HX]; · iexact HX
    iexact HB
  iintro ⟨HI, HX, HB⟩
  ihave HB := (Entails.of_eq (congrArg (ptsB0 d L) (mix_four (octF z (gI CI d) (gV CA d) (8 * (32 * wid L + k.val))) (fun _ => z)))) $$ HB
  ihave HR := (rest_take CO d L hlt rfl) $$ HR
  icases HR with ⟨HQ, HR⟩
  iapply (wp_start0 CA CI CO d L (q := 32 * wid L + k.val) ((k2_off11_eq L k).trans (congrArg (fun n => (![n, 0] : Fin 2 → ℕ)) (show _ = 8 * (32 * wid L + k.val) by unfold wid; omega)))) $$ [HB HQ HS]
  · isplitl [HB]; · iexact HB
    isplitl [HQ]; · iexact HQ
    iexact HS
  iintro HF
  rw [wp_ret]
  imodintro
  isplitr; · iexact Hlv
  isplitl [HI]; · iexact HI
  isplitl [HX]; · iexact HX
  isplitl [HR]; · iexact HR
  isplitl [HD]; · iexact HD
  isplitl [HF]
  · unfold St0
    rw [if_neg (by omega), show 32 * wid L + 2 * ((k.val + 1 + 1) / 2 - 1) = 32 * wid L + k.val by omega]
    iexact HF
  isplitl [HS1]
  · iapply (Entails.of_eq (congrArg (St1 CA CI d L) (show _ = (k.val + 1) / 2 by omega))) $$ HS1
  iexact HO

theorem trip1 (hok : IdxOK CI) (hO : ∀ g, O g none = 0) (k : Fin k2_t2_loop.trips) (hk : k.val % 2 = 1) (u : Unit) :
    inv CA CI CO d L O W k.val u ⊢ wp frame (wpE (defs₀ (F := F)) 𝒱₀ (thr d L) none) Set.univ (body2 L k u) (inv CA CI CO d L O W (k.val + 1)) := by
  have hlt : k.val < 32 := lt_of_lt_of_eq k.isLt trips2
  have hc1 : ¬ k2_cond1 k = 1#1 := by rw [cond1_iff]; omega
  have hc3 : k2_cond3 k = 1#1 := by rw [cond3_iff]; omega
  unfold inv body2 k2_t2_body
  simp only [dif_neg hc1, dif_pos hc3, k2_part3_eq_skeleton]
  unfold k2_part3_skel
  simp only [Prog.lift, Prog.bind_op, Prog.bind_ret, Prog.pure_eq_ret, bind_assoc]
  apply wp_via d L
    (P' := iprop(levAts (K (F := F)).L (K (F := F)).lev ∗ ptsI CI d L ∗ ptsX CA d L ∗ Rest CO d L k.val ∗ Done CA CI d L (k.val - 1)
      ∗ (ptsB1 d L (fun _ => z) ∗ semVal (thr d L, .dma cc2_scratch5.sem) 0) ∗ St0 CA CI d L ((k.val + 1 + 1) / 2) ∗ Ow d L O W))
  case skip =>
    intro h
    have h2 : ¬ 2 ≤ k.val := fun h' => h ((cond4_iff k).mpr h')
    rw [show k.val / 2 = 0 by omega, show (k.val + 1 + 1) / 2 = (k.val + 1) / 2 by omega, show k.val - 2 = 0 by omega, show k.val - 1 = 0 by omega]
    unfold St1
    rw [if_pos rfl]
    iintro ⟨#Hlv, HI, HX, HR, HD, HS0, HS1, HO⟩
    isplitr; · iexact Hlv
    isplitl [HI]; · iexact HI
    isplitl [HX]; · iexact HX
    isplitl [HR]; · iexact HR
    isplitl [HD]; · iexact HD
    isplitl [HS1]; · iexact HS1
    isplitl [HS0]; · iexact HS0
    iexact HO
  case run =>
    intro h rest
    have h2 : 2 ≤ k.val := (cond4_iff k).mp h
    simp only [Prog.bind_op, Prog.bind_ret, bind_assoc] at rest ⊢
    rw [show St1 CA CI d L (k.val / 2) = Fl1 CA CI d L (32 * wid L + (k.val - 2)) from by
      unfold St1; rw [if_neg (by omega), show 32 * wid L + 2 * (k.val / 2 - 1) + 1 = 32 * wid L + (k.val - 2) by omega]]
    iintro ⟨#Hlv, HI, HX, HR, HD, HS0, HF, HO⟩
    unfold Ow
    icases HO with ⟨%W', %hW', HO⟩
    iapply (wp_land1 CA CI d L (32 * wid L + (k.val - 2)) hO) $$ [HF HO]
    · isplitr; · iexact Hlv
      isplitl [HF]; · iexact HF
      iexact HO
    iintro ⟨HQ, HB, HS, HO⟩
    ihave HB := (Entails.of_eq (congrArg (ptsB1 d L) (mix_zero (fun _ => z) (octF z (gI CI d) (gV CA d) (8 * (32 * wid L + (k.val - 2))))).symm)) $$ HB
    iapply (wp_clear1 CA CI d L hok (8 * (32 * wid L + (k.val - 2))) 0 (64 * (k.val - 2)) (by omega) _ (C := fun v => k2_chk9 k v _)
      (hC := fun v hv => k2_idx9_inb k v _ hv hc3 h) (fun v hv h3 h4 => hv) (off12_eq k h2) (by omega) row11) $$ [HI HB]
    · isplitl [HI]; · iexact HI
      iexact HB
    iintro ⟨HI, HB⟩
    iapply (wp_clear1 CA CI d L hok (8 * (32 * wid L + (k.val - 2))) 1 (64 * (k.val - 2) + 16) (by omega) _ (C := fun v => k2_chk10 k v _)
      (hC := fun v hv => k2_idx10_inb k v _ hv hc3 h) (fun v hv h3 h4 => hv) (off13_eq k h2) (by omega) row12) $$ [HI HB]
    · isplitl [HI]; · iexact HI
      iexact HB
    iintro ⟨HI, HB⟩
    iapply (wp_clear1 CA CI d L hok (8 * (32 * wid L + (k.val - 2))) 2 (64 * (k.val - 2) + 32) (by omega) _ (C := fun v => k2_chk11 k v _)
      (hC := fun v hv => k2_idx11_inb k v _ hv hc3 h) (fun v hv h3 h4 => hv) (off14_eq k h2) (by omega) row13) $$ [HI HB]
    · isplitl [HI]; · iexact HI
      iexact HB
    iintro ⟨HI, HB⟩
    iapply (wp_clear1 CA CI d L hok (8 * (32 * wid L + (k.val - 2))) 3 (64 * (k.val - 2) + 48) (by omega) _ (C := fun v => k2_chk12 k v _)
      (hC := fun v hv => k2_idx12_inb k v _ hv hc3 h) (fun v hv h3 h4 => hv) (off15_eq k h2) (by omega) row14) $$ [HI HB]
    · isplitl [HI]; · iexact HI
      iexact HB
    iintro ⟨HI, HB⟩
    ihave HB := (Entails.of_eq (congrArg (ptsB1 d L) (mix_four (fun _ => z) (octF z (gI CI d) (gV CA d) (8 * (32 * wid L + (k.val - 2))))))) $$ HB
    iapply rest
    isplitr; · iexact Hlv
    isplitl [HI]; · iexact HI
    isplitl [HX]; · iexact HX
    isplitl [HR]; · iexact HR
    isplitl [HD HQ]
    · rw [show k.val - 1 = k.val - 2 + 1 by omega]
      iapply (done_add CA CI d L (k.val - 2) rfl)
      isplitl [HD]; · iexact HD
      iexact HQ
    isplitl [HB HS]
    · isplitl [HB]; · iexact HB
      iexact HS
    isplitl [HS0]
    · iapply (Entails.of_eq (congrArg (St0 CA CI d L) (show _ = (k.val + 1 + 1) / 2 by omega))) $$ HS0
    iapply (Ow_insert d L O W hW' _) $$ HO
  simp only [Prog.bind_op, Prog.bind_ret, bind_assoc]
  iintro ⟨#Hlv, HI, HX, HR, HD, ⟨HB, HS⟩, HS0, HO⟩
  ihave HB := (Entails.of_eq (congrArg (ptsB1 d L) (mix_zero (octF z (gI CI d) (gV CA d) (8 * (32 * wid L + k.val))) (fun _ => z)).symm)) $$ HB
  iapply (wp_put1 CA CI d L hok (8 * (32 * wid L + k.val)) 0 (64 * k.val) (by omega) _ (C := fun v => k2_chk13 k v _)
    (hC := fun v hv => k2_idx13_inb k v _ hv hc3) (fun v hv h3 => hv) (k2_off16_eq k) (by omega) row15) $$ [HI HX HB]
  · isplitl [HI]; · iexact HI
    isplitl [HX]; · iexact HX
    iexact HB
  iintro ⟨HI, HX, HB⟩
  iapply (wp_put1 CA CI d L hok (8 * (32 * wid L + k.val)) 1 (64 * k.val + 16) (by omega) _ (C := fun v => k2_chk14 k v _)
    (hC := fun v hv => k2_idx14_inb k v _ hv hc3) (fun v hv h3 => hv) (k2_off17_eq k) (by omega) row16) $$ [HI HX HB]
  · isplitl [HI]; · iexact HI
    isplitl [HX]; · iexact HX
    iexact HB
  iintro ⟨HI, HX, HB⟩
  iapply (wp_put1 CA CI d L hok (8 * (32 * wid L + k.val)) 2 (64 * k.val + 32) (by omega) _ (C := fun v => k2_chk15 k v _)
    (hC := fun v hv => k2_idx15_inb k v _ hv hc3) (fun v hv h3 => hv) (k2_off18_eq k) (by omega) row17) $$ [HI HX HB]
  · isplitl [HI]; · iexact HI
    isplitl [HX]; · iexact HX
    iexact HB
  iintro ⟨HI, HX, HB⟩
  iapply (wp_put1 CA CI d L hok (8 * (32 * wid L + k.val)) 3 (64 * k.val + 48) (by omega) _ (C := fun v => k2_chk16 k v _)
    (hC := fun v hv => k2_idx16_inb k v _ hv hc3) (fun v hv h3 => hv) (k2_off19_eq k) (by omega) row3) $$ [HI HX HB]
  · isplitl [HI]; · iexact HI
    isplitl [HX]; · iexact HX
    iexact HB
  iintro ⟨HI, HX, HB⟩
  ihave HB := (Entails.of_eq (congrArg (ptsB1 d L) (mix_four (octF z (gI CI d) (gV CA d) (8 * (32 * wid L + k.val))) (fun _ => z)))) $$ HB
  ihave HR := (rest_take CO d L hlt rfl) $$ HR
  icases HR with ⟨HQ, HR⟩
  iapply (wp_start1 CA CI CO d L (q := 32 * wid L + k.val) ((k2_off20_eq L k).trans (congrArg (fun n => (![n, 0] : Fin 2 → ℕ)) (show _ = 8 * (32 * wid L + k.val) by unfold wid; omega)))) $$ [HB HQ HS]
  · isplitl [HB]; · iexact HB
    isplitl [HQ]; · iexact HQ
    iexact HS
  iintro HF
  rw [wp_ret]
  imodintro
  isplitr; · iexact Hlv
  isplitl [HI]; · iexact HI
  isplitl [HX]; · iexact HX
  isplitl [HR]; · iexact HR
  isplitl [HD]; · iexact HD
  isplitl [HS0]
  · iapply (Entails.of_eq (congrArg (St0 CA CI d L) (show _ = (k.val + 1 + 1) / 2 by omega))) $$ HS0
  isplitl [HF]
  · unfold St1
    rw [if_neg (by omega), show 32 * wid L + 2 * ((k.val + 1) / 2 - 1) + 1 = 32 * wid L + k.val by omega]
    iexact HF
  iexact HO

end Cert.Proof.WholeIdeal

end
-- ==== Proof.WholeFetch.lean ====
/-
  The task, whole: fetch the worker's words, zero the two row buffers, run the main loop, take in the last two copies;
  what it leaves in the worker's rows.
-/
module

public import proofs.«01_k».proof.Proof.WholeTrips

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F] [Named F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid2.Coords)

variable (O : CellTallies nD τ sig (HIx 1))

/-! ## Zeroing the row buffers -/

/-- One trip's store zeroes the sixteen words of it. -/
theorem zero0_step (t : Fin k2_t1_loop.trips) (f : Buf (Elt F) ((thr d L).loc cc2_scratch2))
    (hf : ∀ x : S8x4096.Idx, (x 0).val + 8 * ((x 1).val / 16) < t.val → f x = z) (x : S8x4096.Idx)
    (hx : (x 0).val + 8 * ((x 1).val / 16) < t.val + 1) :
    ((b0 : Memref sig .scVector .vmem S8x4096 .f32).access (Rect.unit (s := S8x4096) (k2_off2 t) S1x16.size (k2_off2_inb t))).write (Elt F) f
      (shapeCast S1x16 (k2_pay18 (F := F)) shapeCasts_S16_S1x16) Finset.univ x = z := by
  by_cases hm : x ∈ ((b0 : Memref sig .scVector .vmem S8x4096 .f32).access (Rect.unit (s := S8x4096) (k2_off2 t) S1x16.size (k2_off2_inb t))).set
  · obtain ⟨y, -, rfl⟩ := Finset.mem_map.mp hm
    refine (View.write_emb_of_mem (v := (b0 : Memref sig .scVector .vmem S8x4096 .f32).access (Rect.unit (s := S8x4096) (k2_off2 t) S1x16.size (k2_off2_inb t)))
      f _ (Finset.mem_univ y)).trans ((cast_eq _ _).trans ?_)
    rfl
  · refine (View.write_of_not_mem _ _ _ (fun h => hm h)).trans (hf x ?_)
    by_contra hge
    refine hm ((ValueKit.mem_set_slice_whole_iff cc2_scratch2 (Rect.unit (s := S8x4096) (k2_off2 t) S1x16.size (k2_off2_inb t)) x
      (p := True) ?_).mpr trivial)
    refine iff_of_true ?_ trivial
    rw [Rect.mem_set_unit]
    have e0 : k2_off2 t 0 = t.val % 8 := congrFun (off2_eq t) 0
    have e1 : k2_off2 t 1 = 16 * (t.val / 8) := congrFun (off2_eq t) 1
    have h0 : (x 0).val < 8 := (x 0).isLt
    intro a
    match a with
    | 0 => show k2_off2 t 0 ≤ (x 0).val ∧ (x 0).val < k2_off2 t 0 + 1; rw [e0]; omega
    | 1 => show k2_off2 t 1 ≤ (x 1).val ∧ (x 1).val < k2_off2 t 1 + 16; rw [e1]; omega

/-- One trip's store zeroes the sixteen words of it. -/
theorem zero1_step (t : Fin k2_t1_loop.trips) (f : Buf (Elt F) ((thr d L).loc cc2_scratch3))
    (hf : ∀ x : S8x4096.Idx, (x 0).val + 8 * ((x 1).val / 16) < t.val → f x = z) (x : S8x4096.Idx)
    (hx : (x 0).val + 8 * ((x 1).val / 16) < t.val + 1) :
    ((b1 : Memref sig .scVector .vmem S8x4096 .f32).access (Rect.unit (s := S8x4096) (k2_off2 t) S1x16.size (k2_off2_inb t))).write (Elt F) f
      (shapeCast S1x16 (k2_pay18 (F := F)) shapeCasts_S16_S1x16) Finset.univ x = z := by
  by_cases hm : x ∈ ((b1 : Memref sig .scVector .vmem S8x4096 .f32).access (Rect.unit (s := S8x4096) (k2_off2 t) S1x16.size (k2_off2_inb t))).set
  · obtain ⟨y, -, rfl⟩ := Finset.mem_map.mp hm
    refine (View.write_emb_of_mem (v := (b1 : Memref sig .scVector .vmem S8x4096 .f32).access (Rect.unit (s := S8x4096) (k2_off2 t) S1x16.size (k2_off2_inb t)))
      f _ (Finset.mem_univ y)).trans ((cast_eq _ _).trans ?_)
    rfl
  · refine (View.write_of_not_mem _ _ _ (fun h => hm h)).trans (hf x ?_)
    by_contra hge
    refine hm ((ValueKit.mem_set_slice_whole_iff cc2_scratch3 (Rect.unit (s := S8x4096) (k2_off2 t) S1x16.size (k2_off2_inb t)) x
      (p := True) ?_).mpr trivial)
    refine iff_of_true ?_ trivial
    rw [Rect.mem_set_unit]
    have e0 : k2_off2 t 0 = t.val % 8 := congrFun (off2_eq t) 0
    have e1 : k2_off2 t 1 = 16 * (t.val / 8) := congrFun (off2_eq t) 1
    have h0 : (x 0).val < 8 := (x 0).isLt
    intro a
    match a with
    | 0 => show k2_off2 t 0 ≤ (x 0).val ∧ (x 0).val < k2_off2 t 0 + 1; rw [e0]; omega
    | 1 => show k2_off2 t 1 ≤ (x 1).val ∧ (x 1).val < k2_off2 t 1 + 16; rw [e1]; omega

/-- Before zeroing trip `t`: the pieces of the trips before are zero in both row buffers. -/
def zinv (t : ℕ) (_ : Unit) : sProp 𝕄 :=
  iprop((∃ f : Buf (Elt F) ((thr d L).loc cc2_scratch2), ⌜∀ x : S8x4096.Idx, (x 0).val + 8 * ((x 1).val / 16) < t → f x = z⌝ ∗ ptsB0 d L f)
    ∗ (∃ f : Buf (Elt F) ((thr d L).loc cc2_scratch3), ⌜∀ x : S8x4096.Idx, (x 0).val + 8 * ((x 1).val / 16) < t → f x = z⌝ ∗ ptsB1 d L f))

abbrev body1 := k2_t1_body (F := F) L aV (Memref.isWhole_whole _) iV (Memref.isWhole_whole _) oV (Memref.isWhole_whole _) sI (Memref.isWhole_whole _) sX (Memref.isWhole_whole _)
  b0 (Memref.isWhole_whole _) b1 (Memref.isWhole_whole _) cc2_scratch4 cc2_scratch5 cc2_scoped0 cc2_scoped1

theorem ztrip (t : Fin k2_t1_loop.trips) (u : Unit) :
    zinv (F := F) d L t.val u ⊢ wp frame (wpE (defs₀ (F := F)) 𝒱₀ (thr d L) none) Set.univ (body1 L t u) (zinv (F := F) d L (t.val + 1)) := by
  unfold zinv body1 k2_t1_body
  simp only [k2_part1_eq_skeleton]
  unfold k2_part1_skel
  simp only [Prog.lift, Prog.bind_op, Prog.bind_ret, Prog.pure_eq_ret]
  iintro ⟨⟨%f, %hf, H0⟩, ⟨%g, %hg, H1⟩⟩
  iapply (wp_load 𝒱₀ (thr d L) none Set.univ (m := b0) (S := Finset.univ) (Finset.subset_univ _)) $$ H0; iintro H0
  iapply (wp_store 𝒱₀ (thr d L) none Set.univ (m := b0) (r := Rect.unit (s := S8x4096) (k2_off2 t) S1x16.size (k2_off2_inb t)) (Mk := Finset.univ)
    (S := Finset.univ) (Finset.subset_univ _)) $$ H0; iintro H0
  iapply (wp_load 𝒱₀ (thr d L) none Set.univ (m := b1) (S := Finset.univ) (Finset.subset_univ _)) $$ H1; iintro H1
  iapply (wp_store 𝒱₀ (thr d L) none Set.univ (m := b1) (r := Rect.unit (s := S8x4096) (k2_off2 t) S1x16.size (k2_off2_inb t)) (Mk := Finset.univ)
    (S := Finset.univ) (Finset.subset_univ _)) $$ H1; iintro H1
  rw [wp_ret]
  imodintro
  isplitl [H0]
  · iexists _; isplitr; · ipureintro; exact zero0_step d L t f hf
    iexact H0
  · iexists _; isplitr; · ipureintro; exact zero1_step d L t g hg
    iexact H1

theorem all_zero {f : S8x4096.Idx → Elt F .f32} (hf : ∀ x : S8x4096.Idx, (x 0).val + 8 * ((x 1).val / 16) < k2_t1_loop.trips → f x = z) :
    f = fun _ => z := by
  funext x
  refine hf x ?_
  rw [trips1]
  have h0 : (x 0).val < 8 := (x 0).isLt
  have h1 : (x 1).val < 4096 := (x 1).isLt
  omega

/-! ## The fetches -/

/-- The fetch of the worker's indices, and its wait. -/
theorem wp_fetchI {W' : Waits sig (HIx 1)} (hO : ∀ g, O g none = 0) {hs hd hm hs' hd'}
    {α : Type} {k : PUnit → Prog (TpuEff nD τ sig (Elt F) Λ₀ (thr d L).2) α} {Q : α → sProp 𝕄} (f : Buf (Elt F) ((thr d L).loc cc2_scratch0)) :
    iprop(levAts (K (F := F)).L (K (F := F)).lev ∗ (iLoc d ↦[wSet (wid L)]{fullShare} CI d) ∗ ((thr d L).loc cc2_scratch0 ↦{fullShare} f)
        ∗ semVal (thr d L, .dma cc2_scoped0.sem) 0 ∗ owes (thr d L) O W')
      ⊢ iprop((iprop((iLoc d ↦[wSet (wid L)]{fullShare} CI d) ∗ ptsI CI d L ∗ semVal (thr d L, .dma cc2_scoped0.sem) 0
              ∗ owes (thr d L) O (insert (SemLoc.dma cc2_scoped0.sem, none) W'))
            -∗ wp frame (wpE (defs₀ (F := F)) 𝒱₀ (thr d L) none) Set.univ (k ⟨⟩) Q)
          -∗ wp frame (wpE (defs₀ (F := F)) 𝒱₀ (thr d L) none) Set.univ
              (.op (.enqueueDma (iW L) (.here sI) (.dma cc2_scoped0.sem) hs hd hm) fun _ =>
                .op (.waitDma2 cc2_scoped0.sem (iW L) sI hs' hd') k) Q) := by
  iintro ⟨#Hlv, HA, HB, HS, HO⟩ Hk
  iapply (Transfers.wp_dmaLocal countersEmb 𝒱₀ (thr d L) none (src := iW L) (dst := sI) (fs := CI d) (fd := f) (Sd := Finset.univ) none
    ((sI : Memref sig .scVector .vmem S2048 .i32).view.dmaCredit) rfl (View.dmaCredit_pos _ (by decide)) (Finset.subset_univ _)) $$ [HA HB HS]
  · isplitl [HA]
    · rw [set_iW L]; iexact HA
    isplitl [HB]; · iexact HB
    iexact HS
  iintro HF
  iapply (Transfers.wp_waitLocalO countersEmb 𝒱₀ (thr d L) none none rfl) $$ [HF HO]
  · isplitl [HF]; · iexact HF
    isplitl [HO]; · iexact HO
    iapply ((K (F := F)).mayWait_none (SemLoc.dma cc2_scoped0.sem) hO); iexact Hlv
  iintro ⟨⟨HB, HA⟩, HS, HO⟩
  iapply Hk
  isplitl [HA]; · rw [set_iW L]; iexact HA
  isplitl [HB]
  · iapply (Entails.of_eq (congrArg (fun f => ((thr d L).loc cc2_scratch0 ↦{fullShare} f : sProp 𝕄)) ?_)) $$ HB
    exact (View.write_whole_univ _ _ _).trans (read_iW CI d L)
  isplitl [HS]; · iexact HS
  iexact HO

/-- The fetch of the worker's values, and its wait. -/
theorem wp_fetchX {W' : Waits sig (HIx 1)} (hO : ∀ g, O g none = 0) {hs hd hm hs' hd'}
    {α : Type} {k : PUnit → Prog (TpuEff nD τ sig (Elt F) Λ₀ (thr d L).2) α} {Q : α → sProp 𝕄} (f : Buf (Elt F) ((thr d L).loc cc2_scratch1)) :
    iprop(levAts (K (F := F)).L (K (F := F)).lev ∗ (aLoc d ↦[wSet (wid L)]{fullShare} CA d) ∗ ((thr d L).loc cc2_scratch1 ↦{fullShare} f)
        ∗ semVal (thr d L, .dma cc2_scoped1.sem) 0 ∗ owes (thr d L) O W')
      ⊢ iprop((iprop((aLoc d ↦[wSet (wid L)]{fullShare} CA d) ∗ ptsX CA d L ∗ semVal (thr d L, .dma cc2_scoped1.sem) 0
              ∗ owes (thr d L) O (insert (SemLoc.dma cc2_scoped1.sem, none) W'))
            -∗ wp frame (wpE (defs₀ (F := F)) 𝒱₀ (thr d L) none) Set.univ (k ⟨⟩) Q)
          -∗ wp frame (wpE (defs₀ (F := F)) 𝒱₀ (thr d L) none) Set.univ
              (.op (.enqueueDma (aW L) (.here sX) (.dma cc2_scoped1.sem) hs hd hm) fun _ =>
                .op (.waitDma2 cc2_scoped1.sem (aW L) sX hs' hd') k) Q) := by
  iintro ⟨#Hlv, HA, HB, HS, HO⟩ Hk
  iapply (Transfers.wp_dmaLocal countersEmb 𝒱₀ (thr d L) none (src := aW L) (dst := sX) (fs := CA d) (fd := f) (Sd := Finset.univ) none
    ((sX : Memref sig .scVector .vmem S2048 .f32).view.dmaCredit) rfl (View.dmaCredit_pos _ (by decide)) (Finset.subset_univ _)) $$ [HA HB HS]
  · isplitl [HA]
    · rw [set_aW L]; iexact HA
    isplitl [HB]; · iexact HB
    iexact HS
  iintro HF
  iapply (Transfers.wp_waitLocalO countersEmb 𝒱₀ (thr d L) none none rfl) $$ [HF HO]
  · isplitl [HF]; · iexact HF
    isplitl [HO]; · iexact HO
    iapply ((K (F := F)).mayWait_none (SemLoc.dma cc2_scoped1.sem) hO); iexact Hlv
  iintro ⟨⟨HB, HA⟩, HS, HO⟩
  iapply Hk
  isplitl [HA]; · rw [set_aW L]; iexact HA
  isplitl [HB]
  · iapply (Entails.of_eq (congrArg (fun f => ((thr d L).loc cc2_scratch1 ↦{fullShare} f : sProp 𝕄)) ?_)) $$ HB
    exact (View.write_whole_univ _ _ _).trans (read_aW CA d L)
  isplitl [HS]; · iexact HS
  iexact HO

end Cert.Proof.WholeIdeal

end
-- ==== Proof.WholeTile.lean ====
/-
  The task, whole: fetch the worker's words, zero the two row buffers, run the main loop, take in the last two copies;
  what it leaves in the worker's rows.
-/
module

public import proofs.«01_k».proof.Proof.WholeFetch

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F] [Named F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid2.Coords)

variable (O : CellTallies nD τ sig (HIx 1)) (W : Waits sig (HIx 1))

/-! ## The task's own buffers and cells -/

abbrev cellA : GSem nD τ sig := (thr d L, .dma cc2_scoped0.sem)
abbrev cellB : GSem nD τ sig := (thr d L, .dma cc2_scoped1.sem)
abbrev cellC : GSem nD τ sig := (thr d L, .dma cc2_scratch4.sem)
abbrev cellD : GSem nD τ sig := (thr d L, .dma cc2_scratch5.sem)

theorem cell_ne {s s' : SemLoc sig} (h : s ≠ s') : ((thr d L, s) : GSem nD τ sig) ≠ (thr d L, s') := fun e => h (congrArg Prod.snd e)

/-- The four semaphores are among the subcore's own: they are them, at zero, and the rest. -/
theorem ownSems0_V :
    (ownSems0 (thr d L) : sProp 𝕄)
      = iprop(semVal (cellA d L) 0 ∗ semVal (cellB d L) 0 ∗ semVal (cellC d L) 0 ∗ semVal (cellD d L) 0
          ∗ bigSep (((((ownCells (thr d L)).erase (cellA d L)).erase (cellB d L)).erase (cellC d L)).erase (cellD d L)) fun g => semVal g 0) := by
  unfold SparseCore.Cfg.ownSems0
  rw [SparseCore.bigSep_erase' ((mem_ownCells (g := cellA d L)).mpr ⟨rfl, by show (SemLoc.dma cc2_scoped0.sem : SemLoc sig).isScoped .scVector = true; decide⟩),
    SparseCore.bigSep_erase' (Finset.mem_erase.mpr ⟨cell_ne d L (by decide), (mem_ownCells (g := cellB d L)).mpr ⟨rfl, by show (SemLoc.dma cc2_scoped1.sem : SemLoc sig).isScoped .scVector = true; decide⟩⟩),
    SparseCore.bigSep_erase' (Finset.mem_erase.mpr ⟨cell_ne d L (by decide), Finset.mem_erase.mpr ⟨cell_ne d L (by decide), (mem_ownCells (g := cellC d L)).mpr ⟨rfl, by show (SemLoc.dma cc2_scratch4.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cellD d L)).mpr ⟨rfl, by show (SemLoc.dma cc2_scratch5.sem : SemLoc sig).isScoped .scVector = true; decide⟩⟩⟩⟩)]

/-- The four scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f) ∗ (∃ f, (thr d L).loc cc2_scratch3 ↦{fullShare} f)
          ∗ bigSep (((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := (Proc.scVector (cV L) (jV L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := (Proc.scVector (cV L) (jV L)).devRef cc2_scratch3) rfl⟩⟩⟩)]

/-! ## The task -/

/-- What a worker is handed — its words of the two flat arrays, its rows of the result — and hands back. -/
abbrev goW (w : ℕ) : sProp 𝕄 :=
  iprop((aLoc d ↦[wSet w]{fullShare} CA d) ∗ (iLoc d ↦[wSet w]{fullShare} CI d) ∗ (oLoc d ↦[oSet w]{fullShare} CO d))
abbrev tdW (w : ℕ) : sProp 𝕄 :=
  iprop((aLoc d ↦[wSet w]{fullShare} CA d) ∗ (iLoc d ↦[wSet w]{fullShare} CI d) ∗ (oLoc d ↦[oSet w]{fullShare} outF CA CI d))

theorem inv_zero : iprop(levAts (K (F := F)).L (K (F := F)).lev ∗ ptsI CI d L ∗ ptsX CA d L ∗ (oLoc d ↦[oSet (wid L)]{fullShare} CO d)
      ∗ (ptsB0 d L (fun _ => z) ∗ semVal (cellC d L) 0) ∗ (ptsB1 d L (fun _ => z) ∗ semVal (cellD d L) 0) ∗ Ow d L O W)
    ⊢ inv CA CI CO d L O W 0 () := by
  unfold inv St0 St1
  rw [if_pos (by omega), if_pos (by omega), oSet_eq]
  iintro ⟨#Hlv, HI, HX, HR, H0, H1, HO⟩
  isplitr; · iexact Hlv
  isplitl [HI]; · iexact HI
  isplitl [HX]; · iexact HX
  isplitl [HR]; · iexact HR
  isplitl []
  · unfold Done
    rw [show 32 * wid L + (0 - 2) = 32 * wid L by omega, qSet_self]
    iapply (Entails.of_eq pointsTo_empty.symm)
    iempintro
  isplitl [H0]; · iexact H0
  isplitl [H1]; · iexact H1
  iexact HO

theorem inv_last : inv CA CI CO d L O W k2_t2_loop.trips ()
    ⊢ iprop(levAts (K (F := F)).L (K (F := F)).lev ∗ ptsI CI d L ∗ ptsX CA d L ∗ Done CA CI d L 30 ∗ Fl0 CA CI d L (32 * wid L + 30)
      ∗ Fl1 CA CI d L (32 * wid L + 31) ∗ Ow d L O W) := by
  rw [trips2]
  unfold inv St0 St1
  rw [if_neg (by omega), if_neg (by omega)]
  iintro ⟨#Hlv, HI, HX, -, HD, H0, H1, HO⟩
  isplitr; · iexact Hlv
  isplitl [HI]; · iexact HI
  isplitl [HX]; · iexact HX
  isplitl [HD]; · iexact HD
  isplitl [H0]; · iexact H0
  isplitl [H1]; · iexact H1
  iexact HO

theorem done_last : iprop(Done CA CI d L 30 ∗ (oLoc d ↦[qSet (32 * wid L + 30) (32 * wid L + 30 + 1)]{fullShare} outF CA CI d)
      ∗ (oLoc d ↦[qSet (32 * wid L + 31) (32 * wid L + 31 + 1)]{fullShare} outF CA CI d))
    ⊢ (oLoc d ↦[oSet (wid L)]{fullShare} outF CA CI d : sProp 𝕄) := by
  rw [oSet_eq]
  iintro ⟨HD, H0, H1⟩
  iapply (done_add CA CI d L 31 rfl)
  isplitr [H1]
  · iapply (done_add CA CI d L 30 rfl)
    isplitl [HD]; · iexact HD
    iexact H0
  · iexact H1

theorem tile_body (hF : (K (F := F)).Facts) (hok : IdxOK CI) (hO : ∀ g, O g none = 0) :
    iprop(levAts (K (F := F)).L (K (F := F)).lev ∗ emp ∗ goW CA CI CO d (wid L)
        ∗ scopedBufs (thr d L) ∗ scopedSems0 (thr d L) ∗ owes (thr d L) O W)
      ⊢ wp frame (wpE (defs₀ (F := F)) 𝒱₀ (thr d L) none) Set.univ
          (cc2_k L aV (Memref.isWhole_whole _) iV (Memref.isWhole_whole _) oV (Memref.isWhole_whole _)
            sI (Memref.isWhole_whole _) sX (Memref.isWhole_whole _) b0 (Memref.isWhole_whole _) b1 (Memref.isWhole_whole _)
            cc2_scratch4 cc2_scratch5 cc2_scoped0 cc2_scoped1)
          fun _ => iprop(tdW CA CI d (wid L) ∗ scopedBufs (thr d L) ∗ scopedSems0 (thr d L)
            ∗ ∃ W', ⌜∀ p ∈ W', p ∈ W ∨ p.2 = none⌝ ∗ owes (thr d L) O W') := by
  simp only [cc2_k_eq_skeleton]; unfold cc2_k_skel
  simp only [k2_part4_eq_skeleton]; unfold k2_part4_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, -, ⟨HA, HI, HO⟩, ⟨⟨%fs, Hs⟩, ⟨%fx, Hx⟩, ⟨%f0, H0⟩, ⟨%f1, H1⟩, Hbufs⟩, ⟨SA, SB, SC, SD, Hsems⟩, Hw⟩
  iapply (wp_fetchI CI d L O hO fs) $$ [HI Hs SA Hw]
  · isplitr; · iexact Hlv
    isplitl [HI]; · iexact HI
    isplitl [Hs]; · iexact Hs
    isplitl [SA]; · iexact SA
    iexact Hw
  iintro ⟨HI, Hs, SA, Hw⟩
  iapply (wp_fetchX CA d L O hO fx) $$ [HA Hx SB Hw]
  · isplitr; · iexact Hlv
    isplitl [HA]; · iexact HA
    isplitl [Hx]; · iexact Hx
    isplitl [SB]; · iexact SB
    iexact Hw
  iintro ⟨HA, Hx, SB, Hw⟩
  iapply (Scf.wp_for_bind frame (wpE (defs₀ (F := F)) 𝒱₀ (thr d L) none) Set.univ k2_t1_loop.lb k2_t1_loop.ub k2_t1_loop.st k2_t1_ok ⟨⟩ (body1 L)
    (zinv d L) (ztrip d L)) $$ [H0 H1]
  · unfold zinv
    isplitl [H0]
    · iexists f0; isplitr; · ipureintro; intro x hx; exact absurd hx (Nat.not_lt_zero _)
      iexact H0
    · iexists f1; isplitr; · ipureintro; intro x hx; exact absurd hx (Nat.not_lt_zero _)
      iexact H1
  iintro %u HZ
  unfold zinv
  icases HZ with ⟨⟨%g0, %hg0, H0⟩, ⟨%g1, %hg1, H1⟩⟩
  ihave H0 := (Entails.of_eq (congrArg (ptsB0 d L) (all_zero hg0))) $$ H0
  ihave H1 := (Entails.of_eq (congrArg (ptsB1 d L) (all_zero hg1))) $$ H1
  iapply (Scf.wp_for_bind frame (wpE (defs₀ (F := F)) 𝒱₀ (thr d L) none) Set.univ k2_t2_loop.lb k2_t2_loop.ub k2_t2_loop.st k2_t2_ok ⟨⟩ (body2 L)
    (inv CA CI CO d L O W) (fun k u => (Nat.mod_two_eq_zero_or_one k.val).elim (fun h => trip0 CA CI CO d L O W hok hO k h u) (fun h => trip1 CA CI CO d L O W hok hO k h u)))
    $$ [Hs Hx HO H0 H1 SC SD Hw]
  · iapply (inv_zero CA CI CO d L O W)
    isplitr; · iexact Hlv
    isplitl [Hs]; · iexact Hs
    isplitl [Hx]; · iexact Hx
    isplitl [HO]; · iexact HO
    isplitl [H0 SC]
    · isplitl [H0]; · iexact H0
      iexact SC
    isplitl [H1 SD]
    · isplitl [H1]; · iexact H1
      iexact SD
    unfold Ow
    iexists _; isplitr
    swap; · iexact Hw
    ipureintro
    intro p hp
    rcases Finset.mem_insert.mp hp with rfl | hp
    · exact .inr rfl
    rcases Finset.mem_insert.mp hp with rfl | hp
    · exact .inr rfl
    exact .inl hp
  iintro %u' HV
  ihave HV := (inv_last CA CI CO d L O W) $$ HV
  unfold Ow
  icases HV with ⟨-, Hs, Hx, HD, HF0, HF1, ⟨%W', %hW', Hw⟩⟩
  iapply (wp_land0 CA CI d L (32 * wid L + 30) hO) $$ [HF0 Hw]
  · isplitr; · iexact Hlv
    isplitl [HF0]; · iexact HF0
    iexact Hw
  iintro ⟨HQ0, H0, SC, Hw⟩
  iapply (wp_land1 CA CI d L (32 * wid L + 31) hO) $$ [HF1 Hw]
  · isplitr; · iexact Hlv
    isplitl [HF1]; · iexact HF1
    iexact Hw
  iintro ⟨HQ1, H1, SD, Hw⟩
  rw [wp_ret]
  imodintro
  isplitl [HA HI HD HQ0 HQ1]
  · isplitl [HA]; · iexact HA
    isplitl [HI]; · iexact HI
    iapply (done_last CA CI d L)
    isplitl [HD]; · iexact HD
    isplitl [HQ0]; · iexact HQ0
    iexact HQ1
  isplitl [Hs Hx H0 H1 Hbufs]
  · isplitl [Hs]; · iexists _; iexact Hs
    isplitl [Hx]; · iexists _; iexact Hx
    isplitl [H0]; · iexists _; iexact H0
    isplitl [H1]; · iexists _; iexact H1
    iexact Hbufs
  isplitl [SA SB SC SD Hsems]
  · isplitl [SA]; · iexact SA
    isplitl [SB]; · iexact SB
    isplitl [SC]; · iexact SC
    isplitl [SD]; · iexact SD
    iexact Hsems
  iexists _; isplitr
  swap; · iexact Hw
  ipureintro
  intro p hp
  rcases Finset.mem_insert.mp hp with rfl | hp
  · exact .inr rfl
  rcases Finset.mem_insert.mp hp with rfl | hp
  · exact .inr rfl
  exact hW' p hp

end Cert.Proof.WholeIdeal

end
-- ==== Proof.WholeCall.lean ====
/-
  The scatter call as the program starts it: each task's obligation is its body, and the three arrays split among the
  thirty-two workers and join again.
-/
module

public import proofs.«01_k».proof.Proof.WholeTile

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))

/-- Worker `2 · i + c` is core `c`'s task `i`: the call hands each core its workers' pieces, and takes them back with the
    result's rows written. -/
def P : (K (F := F)).Pay (nD := nD) (Val := Elt F) (Name := ℕ) (U := UU) where
  st := fun _ d c => bigSep (Finset.univ : Finset (Fin 16)) fun i => goW CA CI CO d (2 * i.val + c.val)
  dn := fun _ d c => bigSep (Finset.univ : Finset (Fin 16)) fun i => tdW CA CI d (2 * i.val + c.val)
  go := fun _ d c i => goW CA CI CO d (2 * i.val + c.val)
  td := fun _ d c i => tdW CA CI d (2 * i.val + c.val)
  x := fun _ _ => iprop(emp)

instance P_storable : (P CA CI CO).IsStorable where
  st _ d c := by unfold P goW; infer_instance
  dn _ d c := by unfold P tdW; infer_instance
  go _ d c i := by unfold P goW; infer_instance
  td _ d c i := by unfold P tdW; infer_instance

/-! ## A task -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_k (coordsV c s)
          aV (Memref.isWhole_whole _) iV (Memref.isWhole_whole _) oV (Memref.isWhole_whole _)
          sI (Memref.isWhole_whole _) sX (Memref.isWhole_whole _) b0 (Memref.isWhole_whole _) b1 (Memref.isWhole_whole _)
          cc2_scratch4 cc2_scratch5 cc2_scoped0 cc2_scoped1) ⟨⟩ c s := rfl

/-- A task records waits at the launch index `none` only: within what the launch allows its call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hok : IdxOK CI) : (K (F := F)).TileObl (D (F := F)) 𝒱 (P CA CI CO) v₀ 0 := by
  intro d c i O W hO _ _
  simp only [show (P CA CI CO).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body CA CI CO d (coordsV ⟨_, hc.1⟩ ⟨_, hc.2⟩) O W facts hok hO).trans (wp_mono frame _ _ fun _ => obl_post)

theorem vecSplit : (K (F := F)).VecSplit' (P CA CI CO) 0 := by
  intro d c
  show (bigSep (Finset.univ : Finset (Fin 16)) fun i => goW CA CI CO d (2 * i.val + c.val)) ⊢ |={Set.univ}=> iprop(
      (bigSep (Finset.univ : Finset (Fin 16)) fun i => goW CA CI CO d (2 * i.val + c.val))
      ∗ ((bigSep (Finset.univ : Finset (Fin 16)) fun i => tdW CA CI d (2 * i.val + c.val))
          -∗ bigSep (Finset.univ : Finset (Fin 16)) fun i => tdW CA CI d (2 * i.val + c.val)))
  iintro H; imodintro
  isplitl [H]; · iexact H
  iintro H; iexact H

/-! ## The arrays, worker by worker -/

/-- An array whose elements each belong to one of the thirty-two workers, as the workers' pieces by core and task. -/
theorem pts_workers (ℓ : Loc nD τ sig) (S : ℕ → Finset (Idx ℓ)) (w : Idx ℓ → ℕ) (hS : ∀ n x, x ∈ S n ↔ w x = n) (hw : ∀ x, w x < 32) (f : Buf (Elt F) ℓ) :
    (ℓ ↦{fullShare} f : sProp 𝕄) = bigSep (Finset.univ : Finset (Fin 2)) fun c =>
      bigSep (Finset.univ : Finset (Fin 16)) fun i => ℓ ↦[S (2 * i.val + c.val)]{fullShare} f := by
  have inner : ∀ c : Fin 2, (bigSep (Finset.univ : Finset (Fin 16)) fun i => (ℓ ↦[S (2 * i.val + c.val)]{fullShare} f : sProp 𝕄))
      = (ℓ ↦[(Finset.univ : Finset (Fin 16)).biUnion fun i => S (2 * i.val + c.val)]{fullShare} f) := fun c =>
    (pointsTo_biUnion _ _ fun i _ j _ hne => by
      rw [Finset.disjoint_left]; intro x hx hx'
      rw [hS] at hx hx'
      exact hne (Fin.ext (by omega))).symm
  rw [bigSep_congr fun c _ => inner c, ← pointsTo_biUnion]
  · refine congrArg (fun I => (ℓ ↦[I]{fullShare} f : sProp 𝕄)) (Finset.ext fun x => ?_)
    simp only [Finset.mem_univ, Finset.mem_biUnion, true_and, true_iff]
    have h := hw x
    exact ⟨⟨w x % 2, by omega⟩, ⟨w x / 2, by omega⟩, (hS _ _).2 (by show w x = 2 * (w x / 2) + w x % 2; omega)⟩
  · intro c _ c' _ hne
    rw [Finset.disjoint_left]; intro x hx hx'
    simp only [Finset.mem_univ, Finset.mem_biUnion, true_and, hS] at hx hx'
    obtain ⟨i, hi⟩ := hx
    obtain ⟨j, hj⟩ := hx'
    exact hne (Fin.ext (by have := c.isLt; have := c'.isLt; omega))

theorem pts_a (d : Dev nD) (f : Buf (Elt F) (aLoc d)) :
    (aLoc d ↦{fullShare} f : sProp 𝕄) = bigSep (Finset.univ : Finset (Fin 2)) fun c =>
      bigSep (Finset.univ : Finset (Fin 16)) fun i => aLoc d ↦[wSet (2 * i.val + c.val)]{fullShare} f :=
  pts_workers (aLoc d) wSet (fun x : S65536.Idx => (x 0).val / 2048)
    (fun n x => (Finset.mem_filter.trans (and_iff_right (Finset.mem_univ _)))) (fun x : S65536.Idx => by have h : (x 0).val < 65536 := (x 0).isLt; omega) f
theorem pts_i (d : Dev nD) (f : Buf (Elt F) (iLoc d)) :
    (iLoc d ↦{fullShare} f : sProp 𝕄) = bigSep (Finset.univ : Finset (Fin 2)) fun c =>
      bigSep (Finset.univ : Finset (Fin 16)) fun i => iLoc d ↦[wSet (2 * i.val + c.val)]{fullShare} f :=
  pts_workers (iLoc d) wSet (fun x : S65536.Idx => (x 0).val / 2048)
    (fun n x => (Finset.mem_filter.trans (and_iff_right (Finset.mem_univ _)))) (fun x : S65536.Idx => by have h : (x 0).val < 65536 := (x 0).isLt; omega) f
theorem pts_o (d : Dev nD) (f : Buf (Elt F) (oLoc d)) :
    (oLoc d ↦{fullShare} f : sProp 𝕄) = bigSep (Finset.univ : Finset (Fin 2)) fun c =>
      bigSep (Finset.univ : Finset (Fin 16)) fun i => oLoc d ↦[oSet (2 * i.val + c.val)]{fullShare} f :=
  pts_workers (oLoc d) oSet (fun x : S8192x4096.Idx => (x 0).val / 256)
    (fun n x => (Finset.mem_filter.trans (and_iff_right (Finset.mem_univ _)))) (fun x : S8192x4096.Idx => by have h : (x 0).val < 8192 := (x 0).isLt; omega) f

/-- What the call takes for the two SparseCores, and what it hands back. -/
theorem st0_eq (d : Dev nD) : (bigSep Finset.univ fun c : Fin ((K (F := F)).nCore 0) => (P CA CI CO).st 0 d c)
    = iprop((aLoc d ↦{fullShare} CA d) ∗ (iLoc d ↦{fullShare} CI d) ∗ oLoc d ↦{fullShare} CO d) := by
  rw [pts_a, pts_i, pts_o, ← bigSep_sep', ← bigSep_sep']
  refine bigSep_congr fun c _ => ?_
  rw [← bigSep_sep', ← bigSep_sep']
  rfl
theorem dn0_eq (d : Dev nD) : (bigSep Finset.univ fun c : Fin ((K (F := F)).nCore 0) => (P CA CI CO).dn 0 d c)
    = iprop((aLoc d ↦{fullShare} CA d) ∗ (iLoc d ↦{fullShare} CI d) ∗ oLoc d ↦{fullShare} outF CA CI d) := by
  rw [pts_a, pts_i, pts_o, ← bigSep_sep', ← bigSep_sep']
  refine bigSep_congr fun c _ => ?_
  rw [← bigSep_sep', ← bigSep_sep']
  rfl

/-! ## The launch element: the handshakes' rounds; nothing of the kernel's own -/

def u₀ : UU := (initOf (K (F := F)).hsCells (K (F := F)).hsToks, 1)

/-- Nothing, as often as one likes, is nothing. -/
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P CA CI CO).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

end Cert.Proof.WholeIdeal

end
-- ==== Proof.WholeProj.lean ====
/-
  The projections' region of the whole program: the body over its windows and the proof data the pipeline runs on.
-/
module

public import proofs.«01_k».proof.Proof.WholeArrays
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.WholeIdeal.Proj

open Cert.WholeIdeal Cert.WholeIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- What the TensorCore's buffers hold, device by device, when the region is entered. -/
abbrev Entry (F : FTy → Type) : Type := Dev nD → Valuation τ sig (Elt F)

variable (E₀ : Entry F)

/-- The block of window `w` at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (E₀ c (Proc.devRef .tc (Pipeline.arrRef spec0 w)))

/-! ## The rectangles the body reads and writes -/

abbrev rX : Rect S1x4096x768 := Rect.unit (s := S1x4096x768) ![0, 0, 0] S1x4096x768.size inb_S1x4096x768_S1x4096x768_0_0_0
abbrev rW : Rect S192x768 := Rect.unit (s := S192x768) ![0, 0] S192x768.size inb_S192x768_S192x768_0_0
abbrev rB : Rect S1x192 := Rect.unit (s := S1x192) ![0, 0] S1x192.size inb_S1x192_S1x192_0_0
abbrev rO : Rect S1x4096x192 := Rect.unit (s := S1x4096x192) ![0, 0, 0] S1x4096x192.size inb_S1x4096x192_S1x4096x192_0_0_0

/-! ## What the body leaves in its output windows -/

/-- Window 5's buffer after the body: one store over the whole block. -/
def out5 (x0 : Vec F S1x4096x768 .f32) (x1 : Vec F S192x768 .f32) (x2 : Vec F S1x192 .f32) (x3 : Vec F S192x768 .f32) (x4 : Vec F S1x192 .f32) : Vec F S1x4096x192 .f32 :=
  View.canon [⟨rO, k0_pay1 (View.ld x0 rX) (View.ld x1 rW) (View.ld x2 rB)⟩]
theorem cover5 (p0 : Vec F S1x4096x192 .f32) (y : S1x4096x192.Idx) :
    ∃ pc ∈ ([⟨rO, p0⟩] : List (View.Piece (Elt F) S1x4096x192 .f32)), y ∈ pc.1.set :=
  View.cover_of_tiled [⟨rO, p0⟩] S1x4096x192.size (by rfl) y

/-- Window 6's buffer after the body: one store over the whole block. -/
def out6 (x0 : Vec F S1x4096x768 .f32) (x1 : Vec F S192x768 .f32) (x2 : Vec F S1x192 .f32) (x3 : Vec F S192x768 .f32) (x4 : Vec F S1x192 .f32) : Vec F S1x4096x192 .f32 :=
  View.canon [⟨rO, k0_pay2 (View.ld x0 rX) (View.ld x3 rW) (View.ld x4 rB)⟩]
theorem cover6 (p0 : Vec F S1x4096x192 .f32) (y : S1x4096x192.Idx) :
    ∃ pc ∈ ([⟨rO, p0⟩] : List (View.Piece (Elt F) S1x4096x192 .f32)), y ∈ pc.1.set :=
  View.cover_of_tiled [⟨rO, p0⟩] S1x4096x192.size (by rfl) y

/-! ## The body -/

set_option maxHeartbeats 1000000 in
/-- The body, given its input windows at contents `x` and its output windows at anything, leaves the inputs alone and the
    outputs at `out`. -/
theorem sound_kernel (c : Dev nD) (E : Set ℕ) (i : grid0.Coords) (a0 : Memref sig .tc .vmem S1x4096x768 .f32) (h0 : a0.IsWhole) (a1 : Memref sig .tc .vmem S192x768 .f32) (h1 : a1.IsWhole) (a2 : Memref sig .tc .vmem S1x192 .f32) (h2 : a2.IsWhole) (a3 : Memref sig .tc .vmem S192x768 .f32) (h3 : a3.IsWhole) (a4 : Memref sig .tc .vmem S1x192 .f32) (h4 : a4.IsWhole) (a5 : Memref sig .tc .vmem S1x4096x192 .f32) (h5 : a5.IsWhole) (a6 : Memref sig .tc .vmem S1x4096x192 .f32) (h6 : a6.IsWhole)
    (x0 : Vec F S1x4096x768 .f32) (x1 : Vec F S192x768 .f32) (x2 : Vec F S1x192 .f32) (x3 : Vec F S192x768 .f32) (x4 : Vec F S1x192 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out5 x0 x1 x2 x3 x4) ∗ owns (c : Thread nD τ) a6 fullShare (out6 x0 x1 x2 x3 x4)) -∗ Q ⟨⟩))
      ⊢ wp frame (wpE (defs₀ (F := F)) Variants.none c none) E (cc0__proj_body i a0 h0 a1 h1 a2 h2 a3 h3 a4 h4 a5 h5 a6 h6) Q := by
  simp only [cc0__proj_body_eq_skeleton]; unfold cc0__proj_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (cover5 _)).trans rfl
  iexists _; isplitr
  swap; · iexact H6
  ipureintro
  exact (View.read_writes_eq_canon _ _ _ (cover6 _)).trans rfl

/-! ## The proof data: the arrays as found, the blocks in place, the invariant the scoped buffers the region does not stage,
    what the device owes the SparseCore call still to come, and nothing recorded above its level -/

/-- The pairs a wait before the SparseCore call may have recorded. -/
def low (c : Dev nD) : Set (SemLoc sig × HIx 1) := {p | (K (F := F)).lev ((SparseCore.T c : Thread nD τ), p.1) p.2 ≤ 0}

def dat (c : Dev nD) : Dat τ (Elt F) (HIx 1) ℕ UU ℕ cfg0 c where
  A w := E₀ c (Proc.devRef .tc (Pipeline.arrRef spec0 w))
  after w t := match w with
    | ⟨0, _⟩ => iblk E₀ c 0 t
    | ⟨1, _⟩ => iblk E₀ c 1 t
    | ⟨2, _⟩ => iblk E₀ c 2 t
    | ⟨3, _⟩ => iblk E₀ c 3 t
    | ⟨4, _⟩ => iblk E₀ c 4 t
    | ⟨5, _⟩ => out5 (iblk E₀ c 0 t) (iblk E₀ c 1 t) (iblk E₀ c 2 t) (iblk E₀ c 3 t) (iblk E₀ c 4 t)
    | ⟨6, _⟩ => out6 (iblk E₀ c 0 t) (iblk E₀ c 1 t) (iblk E₀ c 2 t) (iblk E₀ c 3 t) (iblk E₀ c 4 t)
  Φ _ := Pipeline.scopedRest spec0 c
  q _ := fullShare
  owed _ := (K (F := F)).Otc c 0
  recorded _ := low (F := F) c

theorem A_eq (c : Dev nD) (w : Fin cfg0.W) : (dat E₀ c).A w = E₀ c (Proc.devRef .tc (Pipeline.arrRef spec0 w)) := by
  dsimp only [dat]
theorem after0 (c : Dev nD) (t : Fin cfg0.N) : (dat E₀ c).after 0 t = iblk E₀ c 0 t := by dsimp only [dat]
theorem after1 (c : Dev nD) (t : Fin cfg0.N) : (dat E₀ c).after 1 t = iblk E₀ c 1 t := by dsimp only [dat]
theorem after2 (c : Dev nD) (t : Fin cfg0.N) : (dat E₀ c).after 2 t = iblk E₀ c 2 t := by dsimp only [dat]
theorem after3 (c : Dev nD) (t : Fin cfg0.N) : (dat E₀ c).after 3 t = iblk E₀ c 3 t := by dsimp only [dat]
theorem after4 (c : Dev nD) (t : Fin cfg0.N) : (dat E₀ c).after 4 t = iblk E₀ c 4 t := by dsimp only [dat]
theorem after5 (c : Dev nD) (t : Fin cfg0.N) : (dat E₀ c).after 5 t = out5 (iblk E₀ c 0 t) (iblk E₀ c 1 t) (iblk E₀ c 2 t) (iblk E₀ c 3 t) (iblk E₀ c 4 t) := by dsimp only [dat]
theorem after6 (c : Dev nD) (t : Fin cfg0.N) : (dat E₀ c).after 6 t = out6 (iblk E₀ c 0 t) (iblk E₀ c 1 t) (iblk E₀ c 2 t) (iblk E₀ c 3 t) (iblk E₀ c 4 t) := by dsimp only [dat]

/-- An input window holds its block at every point. -/
theorem before0 (c : Dev nD) (t : Fin cfg0.N) (d) : (dat E₀ c).before 0 t d = iblk E₀ c 0 t :=
  ((dat E₀ c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg0.N) (d) : (dat E₀ c).before 1 t d = iblk E₀ c 1 t :=
  ((dat E₀ c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin cfg0.N) (d) : (dat E₀ c).before 2 t d = iblk E₀ c 2 t :=
  ((dat E₀ c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (c : Dev nD) (t : Fin cfg0.N) (d) : (dat E₀ c).before 3 t d = iblk E₀ c 3 t :=
  ((dat E₀ c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)
theorem before4 (c : Dev nD) (t : Fin cfg0.N) (d) : (dat E₀ c).before 4 t d = iblk E₀ c 4 t :=
  ((dat E₀ c).before_in_eq_fetched 4 rfl (fun _ => rfl) (fun _ _ _ => rfl)
    (fun t => by rw [after4]; unfold Dat.blockOf iblk; rw [A_eq]; try rfl) t d).trans (by unfold Dat.fetched Dat.blockOf iblk; rw [A_eq]; try rfl)

/-! ## The body at a point -/

def bodyPre (c : Dev nD) (t : Fin cfg0.N) : sProp 𝕄 :=
  iprop((dat E₀ c).Φ t.castSucc ∗ (dat E₀ c).owesAt none t.castSucc
    ∗ (∃ d, owns (c : Thread nD τ) (st0_0 t) fullShare ((dat E₀ c).before 0 t d))
    ∗ (∃ d, owns (c : Thread nD τ) (st0_1 t) fullShare ((dat E₀ c).before 1 t d))
    ∗ (∃ d, owns (c : Thread nD τ) (st0_2 t) fullShare ((dat E₀ c).before 2 t d))
    ∗ (∃ d, owns (c : Thread nD τ) (st0_3 t) fullShare ((dat E₀ c).before 3 t d))
    ∗ (∃ d, owns (c : Thread nD τ) (st0_4 t) fullShare ((dat E₀ c).before 4 t d))
    ∗ (∃ d, owns (c : Thread nD τ) (st0_5 t) fullShare ((dat E₀ c).before 5 t d))
    ∗ (∃ d, owns (c : Thread nD τ) (st0_6 t) fullShare ((dat E₀ c).before 6 t d)))
def bodyPost (c : Dev nD) (t : Fin cfg0.N) : sProp 𝕄 :=
  iprop((dat E₀ c).Φ t.succ ∗ (dat E₀ c).owesAt none t.succ
    ∗ owns (c : Thread nD τ) (st0_0 t) fullShare ((dat E₀ c).after 0 t)
    ∗ owns (c : Thread nD τ) (st0_1 t) fullShare ((dat E₀ c).after 1 t)
    ∗ owns (c : Thread nD τ) (st0_2 t) fullShare ((dat E₀ c).after 2 t)
    ∗ owns (c : Thread nD τ) (st0_3 t) fullShare ((dat E₀ c).after 3 t)
    ∗ owns (c : Thread nD τ) (st0_4 t) fullShare ((dat E₀ c).after 4 t)
    ∗ owns (c : Thread nD τ) (st0_5 t) fullShare ((dat E₀ c).after 5 t)
    ∗ owns (c : Thread nD τ) (st0_6 t) fullShare ((dat E₀ c).after 6 t))

theorem sound_body (c : Dev nD) (t : Fin cfg0.N) :
    bodyPre E₀ c t ⊢ wp frame (wpE (defs₀ (F := F)) Variants.none c none) Set.univ (bodyAt0 t) (fun _ => bodyPost E₀ c t) := by
  unfold bodyPre bodyPost bodyAt0
  simp only [before0, before1, before2, before3, before4]
  rw [show (dat E₀ c).Φ t.succ = (dat E₀ c).Φ t.castSucc from rfl,
    show (dat E₀ c).owesAt none t.succ = (dat E₀ c).owesAt none t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk E₀ c 0 t) (iblk E₀ c 1 t) (iblk E₀ c 2 t) (iblk E₀ c 3 t) (iblk E₀ c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := rfl

theorem body_obligation (c : Dev nD) : BodyObligation (dat E₀ c) (defs₀ (F := F)) Variants.none none Set.univ := fun t => by
  rw [bigSep_W0, bigSep_W0, defs₀_row]
  exact triple_restated (sound_body E₀ c t) rfl .rfl fun _ => .rfl

end Cert.Proof.WholeIdeal.Proj

end
-- ==== Proof.WholeRank.lean ====
/-
  The ranking region of the whole program: the body over its windows and the proof data the pipeline runs on.
-/
module

public import proofs.«01_k».proof.Proof.WholeArrays
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.WholeIdeal.Rank

open Cert.WholeIdeal Cert.WholeIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- What the TensorCore's buffers hold, device by device, when the region is entered. -/
abbrev Entry (F : FTy → Type) : Type := Dev nD → Valuation τ sig (Elt F)

variable (E₀ : Entry F)

/-- The block of window `w` at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (E₀ c (Proc.devRef .tc (Pipeline.arrRef spec1 w)))

/-! ## The rectangles the body reads and writes -/

abbrev rQ : Rect S1x512x192 := Rect.unit (s := S1x512x192) ![0, 0, 0] S1x512x192.size inb_S1x512x192_S1x512x192_0_0_0
abbrev rK : Rect S1x4096x192 := Rect.unit (s := S1x4096x192) ![0, 0, 0] S1x4096x192.size inb_S1x4096x192_S1x4096x192_0_0_0
abbrev rV : Rect S1x512x8 := Rect.unit (s := S1x512x8) ![0, 0, 0] S1x512x8.size inb_S1x512x8_S1x512x8_0_0_0

/-! ## What the body leaves in its output windows -/

/-- The column numbers, and the scores once the first four ranks are struck out. -/
def cols : IVec S512x4096 32 := iota .tc S512x4096 32 [1] iota_S512x4096_d1_w32
def struck (x0 : Vec F S1x512x192 .f32) (x1 : Vec F S1x4096x192 .f32) : FVec F S512x4096 .f32 := k1_pay15 (View.ld x0 rQ) (View.ld x1 rK)

/-- Window 2's buffer after the body: one store over the whole block. -/
def out2 (x0 : Vec F S1x512x192 .f32) (x1 : Vec F S1x4096x192 .f32) : Vec F S1x512x8 .f32 :=
  View.canon [⟨rV, k1_pay1 (k1_pay4 (View.ld x0 rQ) (View.ld x1 rK)) (k1_pay8 (View.ld x0 rQ) (View.ld x1 rK)) (k1_pay12 (View.ld x0 rQ) (View.ld x1 rK)) (k1_pay16 (struck x0 x1)) (k1_pay20 (struck x0 x1)) (k1_pay24 (struck x0 x1)) (k1_pay28 (struck x0 x1)) (k1_pay32 (struck x0 x1))⟩]
theorem cover2 (p0 : Vec F S1x512x8 .f32) (y : S1x512x8.Idx) :
    ∃ pc ∈ ([⟨rV, p0⟩] : List (View.Piece (Elt F) S1x512x8 .f32)), y ∈ pc.1.set :=
  View.cover_of_tiled [⟨rV, p0⟩] S1x512x8.size (by rfl) y

/-- Window 3's buffer after the body: one store over the whole block. -/
def out3 (x0 : Vec F S1x512x192 .f32) (x1 : Vec F S1x4096x192 .f32) : Vec F S1x512x8 .i32 :=
  View.canon [⟨rV, k1_pay2 cols (k1_pay6 (View.ld x0 rQ) (View.ld x1 rK)) (k1_pay10 (View.ld x0 rQ) (View.ld x1 rK)) (k1_pay14 (View.ld x0 rQ) (View.ld x1 rK)) (k1_pay18 cols (struck x0 x1)) (k1_pay22 cols (struck x0 x1)) (k1_pay26 cols (struck x0 x1)) (k1_pay30 cols (struck x0 x1)) (k1_pay31 (struck x0 x1)) (k1_pay33 (struck x0 x1))⟩]
theorem cover3 (p0 : Vec F S1x512x8 .i32) (y : S1x512x8.Idx) :
    ∃ pc ∈ ([⟨rV, p0⟩] : List (View.Piece (Elt F) S1x512x8 .i32)), y ∈ pc.1.set :=
  View.cover_of_tiled [⟨rV, p0⟩] S1x512x8.size (by rfl) y

/-! ## The body -/

set_option maxHeartbeats 1000000 in
/-- The body, given its input windows at contents `x` and its output windows at anything, leaves the inputs alone and the
    outputs at `out`. -/
theorem sound_kernel (c : Dev nD) (E : Set ℕ) (i : grid1.Coords) (a0 : Memref sig .tc .vmem S1x512x192 .f32) (h0 : a0.IsWhole) (a1 : Memref sig .tc .vmem S1x4096x192 .f32) (h1 : a1.IsWhole) (a2 : Memref sig .tc .vmem S1x512x8 .f32) (h2 : a2.IsWhole) (a3 : Memref sig .tc .vmem S1x512x8 .i32) (h3 : a3.IsWhole)
    (x0 : Vec F S1x512x192 .f32) (x1 : Vec F S1x4096x192 .f32) (Q : PUnit → sProp 𝕄) :
    iprop(owns (c : Thread nD τ) a0 fullShare x0 ∗ owns (c : Thread nD τ) a1 fullShare x1 ∗ (∃ d, owns (c : Thread nD τ) a2 fullShare d) ∗ (∃ d, owns (c : Thread nD τ) a3 fullShare d)
        ∗ (iprop(owns (c : Thread nD τ) a0 fullShare x0 ∗ owns (c : Thread nD τ) a1 fullShare x1 ∗ owns (c : Thread nD τ) a2 fullShare (out2 x0 x1) ∗ owns (c : Thread nD τ) a3 fullShare (out3 x0 x1)) -∗ Q ⟨⟩))
      ⊢ wp frame (wpE (defs₀ (F := F)) Variants.none c none) E (cc1__tc_body i a0 h0 a1 h1 a2 h2 a3 h3) Q := by
  simp only [cc1__tc_body_eq_skeleton]; unfold cc1__tc_body_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (cover2 _)).trans rfl
  iexists _; isplitr
  swap; · iexact H3
  ipureintro
  exact (View.read_writes_eq_canon _ _ _ (cover3 _)).trans rfl

/-! ## The proof data: the arrays as found, the blocks in place, the invariant the scoped buffers the region does not stage,
    what the device owes the SparseCore call still to come, and nothing recorded above its level -/

/-- The pairs a wait before the SparseCore call may have recorded. -/
def low (c : Dev nD) : Set (SemLoc sig × HIx 1) := {p | (K (F := F)).lev ((SparseCore.T c : Thread nD τ), p.1) p.2 ≤ 0}

def dat (c : Dev nD) : Dat τ (Elt F) (HIx 1) ℕ UU ℕ cfg1 c where
  A w := E₀ c (Proc.devRef .tc (Pipeline.arrRef spec1 w))
  after w t := match w with
    | ⟨0, _⟩ => iblk E₀ c 0 t
    | ⟨1, _⟩ => iblk E₀ c 1 t
    | ⟨2, _⟩ => out2 (iblk E₀ c 0 t) (iblk E₀ c 1 t)
    | ⟨3, _⟩ => out3 (iblk E₀ c 0 t) (iblk E₀ c 1 t)
  Φ _ := Pipeline.scopedRest spec1 c
  q _ := fullShare
  owed _ := (K (F := F)).Otc c 0
  recorded _ := low (F := F) c

theorem A_eq (c : Dev nD) (w : Fin cfg1.W) : (dat E₀ c).A w = E₀ c (Proc.devRef .tc (Pipeline.arrRef spec1 w)) := by
  dsimp only [dat]
theorem after0 (c : Dev nD) (t : Fin cfg1.N) : (dat E₀ c).after 0 t = iblk E₀ c 0 t := by dsimp only [dat]
theorem after1 (c : Dev nD) (t : Fin cfg1.N) : (dat E₀ c).after 1 t = iblk E₀ c 1 t := by dsimp only [dat]
theorem after2 (c : Dev nD) (t : Fin cfg1.N) : (dat E₀ c).after 2 t = out2 (iblk E₀ c 0 t) (iblk E₀ c 1 t) := by dsimp only [dat]
theorem after3 (c : Dev nD) (t : Fin cfg1.N) : (dat E₀ c).after 3 t = out3 (iblk E₀ c 0 t) (iblk E₀ c 1 t) := by dsimp only [dat]

/-- An input window holds its block at every point. -/
theorem before0 (c : Dev nD) (t : Fin cfg1.N) (d) : (dat E₀ c).before 0 t d = iblk E₀ c 0 t :=
  ((dat E₀ c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg1.N) (d) : (dat E₀ c).before 1 t d = iblk E₀ c 1 t :=
  ((dat E₀ c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)

/-! ## The body at a point -/

def bodyPre (c : Dev nD) (t : Fin cfg1.N) : sProp 𝕄 :=
  iprop((dat E₀ c).Φ t.castSucc ∗ (dat E₀ c).owesAt none t.castSucc
    ∗ (∃ d, owns (c : Thread nD τ) (st1_0 t) fullShare ((dat E₀ c).before 0 t d))
    ∗ (∃ d, owns (c : Thread nD τ) (st1_1 t) fullShare ((dat E₀ c).before 1 t d))
    ∗ (∃ d, owns (c : Thread nD τ) (st1_2 t) fullShare ((dat E₀ c).before 2 t d))
    ∗ (∃ d, owns (c : Thread nD τ) (st1_3 t) fullShare ((dat E₀ c).before 3 t d)))
def bodyPost (c : Dev nD) (t : Fin cfg1.N) : sProp 𝕄 :=
  iprop((dat E₀ c).Φ t.succ ∗ (dat E₀ c).owesAt none t.succ
    ∗ owns (c : Thread nD τ) (st1_0 t) fullShare ((dat E₀ c).after 0 t)
    ∗ owns (c : Thread nD τ) (st1_1 t) fullShare ((dat E₀ c).after 1 t)
    ∗ owns (c : Thread nD τ) (st1_2 t) fullShare ((dat E₀ c).after 2 t)
    ∗ owns (c : Thread nD τ) (st1_3 t) fullShare ((dat E₀ c).after 3 t))

theorem sound_body (c : Dev nD) (t : Fin cfg1.N) :
    bodyPre E₀ c t ⊢ wp frame (wpE (defs₀ (F := F)) Variants.none c none) Set.univ (bodyAt1 t) (fun _ => bodyPost E₀ c t) := by
  unfold bodyPre bodyPost bodyAt1
  simp only [before0, before1]
  rw [show (dat E₀ c).Φ t.succ = (dat E₀ c).Φ t.castSucc from rfl,
    show (dat E₀ c).owesAt none t.succ = (dat E₀ c).owesAt none t.castSucc from rfl,
    after0, after1, after2, after3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk E₀ c 0 t) (iblk E₀ c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg1.N) :
    defs₀ (F := F) .tc cfg1.body (cfg1.bodyArgs t (cfg1.slots t)) = bodyAt1 t := rfl

theorem body_obligation (c : Dev nD) : BodyObligation (dat E₀ c) (defs₀ (F := F)) Variants.none none Set.univ := fun t => by
  rw [bigSep_W1, bigSep_W1, defs₀_row]
  exact triple_restated (sound_body E₀ c t) rfl .rfl fun _ => .rfl

end Cert.Proof.WholeIdeal.Rank

end
-- ==== Proof.WholeRegions.lean ====
/-
  The two TensorCore regions of the whole program, each as one step of @main: entered holding every array of the device,
  left with the region's arrays at what its pipeline leaves and the others as they were, what the device owes the
  SparseCore call unchanged throughout.
-/
module

public import proofs.«01_k».proof.Proof.WholeCall
public import proofs.«01_k».proof.Proof.WholeProj
public import proofs.«01_k».proof.Proof.WholeRank
public import Idealize.ShloMosaic.Lib.Pipeline.RegionArrays
public import Idealize.ShloMosaic.Lib.Pipeline.FrameTail

@[expose] public section

noncomputable section

namespace Cert.Proof.WholeIdeal

open Cert.WholeIdeal Cert.WholeIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Pipeline (Dat RegionSeg PLaunchFacts arrRef arrRefs pin afterRegion scopedRest)

variable {F : FTy → Type} [FloatOps F] [Named F]

local notation "𝕄" => MT nD τ sig (HIx 1) (Elt F) ℕ UU ℕ

/-! ## The proof data of both pipelines -/

/-- No pipeline prefetches a table. -/
abbrev adm : (p : Fin 2) → (pcfgs (F := F) p).Adm := fun p => (cfgs p).toPCfg_adm

variable (E₀ E₁ : Dev nD → Valuation τ sig (Elt F))

/-- The projections' pipeline from the arrays `E₀`, the ranking's from the arrays `E₁`. -/
def pdats : (p : Fin 2) → (c : Dev nD) → Dat τ (Elt F) (HIx 1) ℕ UU ℕ (pin (pcfgs (F := F)) adm p) c
  | 0, c => Proj.dat E₀ c
  | 1, c => Rank.dat E₁ c

/-- The stagings' own protocol, beside the handshakes'. -/
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP embR; infer_instance

theorem cells_inj : Function.Injective (Pipeline.cellOf (nD := nD) (τ := τ) (pin (pcfgs (F := F)) adm)) := cellOf_inj

/-! ## A region as a step of @main -/

/-- What the device owes the SparseCore call to come, its recorded waits at the lowest level. -/
def owing (c : Dev nD) : sProp 𝕄 := iprop(∃ W, ⌜(K (F := F)).WBelow (T c) W 0⌝ ∗ owes (T c) ((K (F := F)).Otc c 0) W)

variable (pd : (p : Fin 2) → (c : Dev nD) → Dat τ (Elt F) (HIx 1) ℕ UU ℕ (pin (pcfgs (F := F)) adm p) c)

/-- A waited-on pair is at the lowest level, one recorded before or one of the pipeline's own. -/
theorem low_of (p : Fin 2) (c : Dev nD) (W : Waits sig (HIx 1))
    (h : ∀ x ∈ W, (K (F := F)).lev (T c, x.1) x.2 ≤ 0 ∨ x ∈ (pin (pcfgs (F := F)) adm p).waitPairs none) :
    (K (F := F)).WBelow (T c) W 0 := fun x hx => by
  rcases h x hx with h | ⟨w, s, rfl⟩
  · exact h
  · exact le_of_eq ((K (F := F)).lev_none _)

/-- Region `p` over all the device's arrays. -/
def region (p : Fin 2) (kit : PLaunchFacts (nD := nD) (τ := τ) (pcfgs (F := F)) p) (E : Dev nD → Valuation τ sig (Elt F))
    (hK : (pcfgs (F := F) p).pre.K = 0)
    (hbody : ∀ c, Pipeline.BodyObligationLoose (pd p c) (defs₀ (F := F)) Variants.none none Set.univ)
    (hA : ∀ c w, (pd p c).arrAt w 0 = E c (Proc.devRef .tc (arrRef (pin (pcfgs (F := F)) adm p).spec w)))
    (hshare : ∀ c w, (pd p c).share w = fullShare)
    (hΦ : ∀ c t, (pd p c).Φ t = scopedRest (pin (pcfgs (F := F)) adm p).spec c)
    (howed : ∀ c t, (pd p c).owed t = (K (F := F)).Otc c 0)
    (hrec : ∀ c t, (pd p c).recorded t = {x | (K (F := F)).lev ((T c : Thread nD τ), x.1) x.2 ≤ 0}) :
    RegionSeg (pcfgs (F := F)) adm pd none (defs₀ (F := F)) Variants.none (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_of_cut (pin (pcfgs (F := F)) adm) pd none p c 0 ((K (F := F)).Otc c 0) (howed c)
    (fun _ _ => Finset.mem_univ _) (fun _ _ => le_of_eq ((K (F := F)).lev_none _))
    (fun g i h => ⟨Finset.mem_univ _, lt_of_lt_of_le (Nat.succ_pos _) ((K (F := F)).lev_of_Otc_pos h)⟩)
  pre c := iprop(held (T c) (Pipeline.ucRefs τ sig) (E c) ∗ owing (F := F) c)
  post c := iprop(held (T c) (Pipeline.ucRefs τ sig) (afterRegion (pd p c) (E c)) ∗ owing (F := F) c)
  X _ := iprop(emp)
  Y _ := iprop(emp)
  Z c := held (T c) (Pipeline.ucRefs τ sig \ arrRefs (pcfgs (F := F) p).spec) (E c)
  hentry c := by
    rw [Pipeline.ownSems0_none, Pipeline.prefHeld_of_none _ hK,
      held_sub_split (T c) (Pipeline.arrRefs_sub_ucRefs (pcfgs (F := F) p).spec kit.win.arr_unscoped) (E c),
      Pipeline.arrays_held (pcfgs (F := F)) adm pd p kit c (hshare c) ((pd p c).arrAt · 0) (E c) (hA c)]
    unfold owing
    iintro ⟨⟨⟨Ha, HZ⟩, %W, %hW, HO⟩, -, -⟩
    imodintro
    isplitl [Ha]; · iexact Ha
    isplitr; · iempintro
    isplitl [HO]
    · unfold Dat.owesAt Pipeline.owesWithin Dat.bound
      rw [howed c 0, hrec c 0]
      iexists W; isplitr; · ipureintro; exact fun x hx => Or.inl (hW x hx)
      iexact HO
    isplitr; · iempintro
    iexact HZ
  hin c := by
    rw [hΦ c 0]
    iintro ⟨-, -, Hr⟩
    iexact Hr
  hout c := by
    rw [hΦ c _, Pipeline.ownSems0_none]
    iintro Hr
    isplitr; · iempintro
    isplitr; · iempintro
    iexact Hr
  hexit c := by
    rw [held_sub_split (T c) (Pipeline.arrRefs_sub_ucRefs (pcfgs (F := F) p).spec kit.win.arr_unscoped) (afterRegion (pd p c) (E c)),
      Pipeline.arrays_held (pcfgs (F := F)) adm pd p kit c (hshare c) ((pd p c).arrAt · (pin (pcfgs (F := F)) adm p).N) (afterRegion (pd p c) (E c))
        (fun w => (Pipeline.afterRegion_arr (pd p c) (E c) kit.win.arr_inj w).symm),
      held_congr (T c) (S := Pipeline.ucRefs τ sig \ arrRefs (pcfgs (F := F) p).spec) (V := afterRegion (pd p c) (E c)) (V' := E c) (fun b hb => by
        unfold afterRegion
        rw [dif_neg]
        rintro ⟨w, rfl⟩
        exact (Finset.mem_sdiff.mp hb).2 (Finset.mem_map_of_mem _ (Finset.mem_image_of_mem _ (Finset.mem_univ w))))]
    unfold owing
    iintro ⟨Ha, HO, -, HZ⟩
    imodintro
    isplitl [Ha HZ]
    · isplitl [Ha] <;> iassumption
    unfold Dat.owesAt Pipeline.owesWithin Dat.bound
    rw [howed c (Fin.last _), hrec c (Fin.last _)]
    icases HO with ⟨%W, %hW, HO⟩; iexists W; isplitr
    · ipureintro; exact low_of p c W fun x hx => hW hx
    iexact HO

/-- What the launch deals one device for region `p`'s stagings. -/
def deal (p : Fin 2) (c : Dev nD) : sProp 𝕄 :=
  iprop(Pipeline.cellsGhost (pin (pcfgs (F := F)) adm) EP p c ∗ Pipeline.toksInit (pin (pcfgs (F := F)) adm) EP p c)

/-- A TensorCore program run under the whole table. -/
theorem wp_outer (c : Dev nD) (p : Prog (TpuEff nD τ sig (Elt F) (Pipeline.Sig Λ₀ (Fin 2) fun p => (pcfgs (F := F) p).Adm) .tc) PUnit) (Q : PUnit → sProp 𝕄) :
    wp frame (wpE (D (F := F)) 𝒱 (T c) none) Set.univ p Q
      ⊢ wp frame (wpE ((K (F := F)).defs (D (F := F))) 𝒱 (T c) none) Set.univ (SparseCore.liftProg p) Q :=
  (K (F := F)).wp_liftProg (D (F := F)) 𝒱 (T c) Set.univ none p Q

/-- Region `p` as @main enters it. -/
theorem wp_region [∀ e, Nonempty (Elt F e)] (p : Fin 2)
    (R : RegionSeg (pcfgs (F := F)) adm pd none (defs₀ (F := F)) Variants.none (K (F := F)).L (K (F := F)).lev p)
    (c : Dev nD) (Q : PUnit → sProp 𝕄) :
    iprop((iprop(boundary (T c : Thread nD τ) ∗ R.post c) -∗ Q ⟨⟩)
        ∗ boundary (T c : Thread nD τ) ∗ R.pre c ∗ levAts (K (F := F)).L (K (F := F)).lev ∗ deal (F := F) p c)
      ⊢ wp frame (wpE ((K (F := F)).defs (D (F := F))) 𝒱 (T c) none) Set.univ
          (Prog.lift (.customCall (SparseCore.inner (Pipeline.entry p)) ())) Q := by
  have e : (Prog.lift (.customCall (SparseCore.inner (Pipeline.entry p)) ())
        : Prog (TpuEff nD τ sig (Elt F) (SparseCore.Sig (Pipeline.Sig Λ₀ (Fin 2) fun p => (pcfgs (F := F) p).Adm) 1) .tc) PUnit)
      = SparseCore.liftProg (.op (.customCall (Pipeline.entry p) ()) fun _ => .ret ⟨⟩) := rfl
  rw [e]
  have hv : ∀ u ∈ (none : Option (Variants.lift Variants.none).V),
      (Variants.lift Variants.none).lt (.inr ((pin (pcfgs (F := F)) adm p).tripCount + 1)) u := fun u hu => nomatch hu
  have h := RegionSeg.wp (pcfgs (F := F)) adm pd none cells_inj EP (defs₀ (F := F)) Variants.none (K (F := F)).L (K (F := F)).lev R c none
    hv (fun _ => (.ret ⟨⟩ : Prog (TpuEff nD τ sig (Elt F) (Pipeline.Sig Λ₀ (Fin 2) fun p => (pcfgs (F := F) p).Adm) .tc) PUnit)) Q
  unfold deal
  iintro ⟨Hk, Hb, Hp, HL, Hg, Ht⟩
  iapply (wp_outer c (.op (.customCall (Pipeline.entry p) ()) fun _ => .ret ⟨⟩) Q)
  iapply h
  isplitl [Hk]
  · iintro H
    rw [wp_ret]; imodintro
    iapply Hk; iexact H
  isplitl [Hb]; · iexact Hb
  isplitl [Hp]; · iexact Hp
  isplitl [HL]; · iexact HL
  isplitl [Hg] <;> iassumption

/-! ## The two regions -/

set_option maxHeartbeats 2000000 in
theorem obl0 (c : Dev nD) : Pipeline.BodyObligationLoose (pdats E₀ E₁ 0 c) (defs₀ (F := F)) Variants.none none Set.univ :=
  (Proj.body_obligation E₀ c).loose
set_option maxHeartbeats 2000000 in
theorem obl1 (c : Dev nD) : Pipeline.BodyObligationLoose (pdats E₀ E₁ 1 c) (defs₀ (F := F)) Variants.none none Set.univ :=
  (Rank.body_obligation E₁ c).loose

theorem inv0 (c : Dev nD) (t) : (pdats E₀ E₁ 0 c).Φ t = scopedRest (pin (pcfgs (F := F)) adm 0).spec c :=
  show (Proj.dat E₀ c).Φ t = scopedRest spec0 c from by dsimp only [Proj.dat]
theorem owed0 (c : Dev nD) (t) : (pdats E₀ E₁ 0 c).owed t = (K (F := F)).Otc c 0 :=
  show (Proj.dat E₀ c).owed t = (K (F := F)).Otc c 0 from by dsimp only [Proj.dat]
theorem rec0 (c : Dev nD) (t) : (pdats E₀ E₁ 0 c).recorded t = {x | (K (F := F)).lev ((T c : Thread nD τ), x.1) x.2 ≤ 0} :=
  show (Proj.dat E₀ c).recorded t = Proj.low (F := F) c from by dsimp only [Proj.dat]
theorem inv1 (c : Dev nD) (t) : (pdats E₀ E₁ 1 c).Φ t = scopedRest (pin (pcfgs (F := F)) adm 1).spec c :=
  show (Rank.dat E₁ c).Φ t = scopedRest spec1 c from by dsimp only [Rank.dat]
theorem owed1 (c : Dev nD) (t) : (pdats E₀ E₁ 1 c).owed t = (K (F := F)).Otc c 0 :=
  show (Rank.dat E₁ c).owed t = (K (F := F)).Otc c 0 from by dsimp only [Rank.dat]
theorem rec1 (c : Dev nD) (t) : (pdats E₀ E₁ 1 c).recorded t = {x | (K (F := F)).lev ((T c : Thread nD τ), x.1) x.2 ≤ 0} :=
  show (Rank.dat E₁ c).recorded t = Rank.low (F := F) c from by dsimp only [Rank.dat]

def region0 : RegionSeg (pcfgs (F := F)) adm (pdats E₀ E₁) none (defs₀ (F := F)) Variants.none (K (F := F)).L (K (F := F)).lev 0 :=
  region (pdats E₀ E₁) 0 launch0.toP E₀ rfl (obl0 E₀ E₁) (fun c w => Proj.A_eq E₀ c w)
    (fun c => (Proj.dat E₀ c).share_full fun _ => rfl) (inv0 E₀ E₁) (owed0 E₀ E₁) (rec0 E₀ E₁)
def region1 : RegionSeg (pcfgs (F := F)) adm (pdats E₀ E₁) none (defs₀ (F := F)) Variants.none (K (F := F)).L (K (F := F)).lev 1 :=
  region (pdats E₀ E₁) 1 launch1.toP E₁ rfl (obl1 E₀ E₁) (fun c w => Rank.A_eq E₁ c w)
    (fun c => (Rank.dat E₁ c).share_full fun _ => rfl) (inv1 E₀ E₁) (owed1 E₀ E₁) (rec1 E₀ E₁)

/-! ## The launch element: the handshakes' rounds and the stagings' -/

def uW : UU := (initOf (K (F := F)).hsCells (K (F := F)).hsToks,
  (initOf (Pipeline.cells (pin (pcfgs (F := F)) adm) (cells_inj (F := F))) (Pipeline.launchToks (pin (pcfgs (F := F)) adm) (cells_inj (F := F))), 1))

variable (CA : (d : Dev nD) → Buf (Elt F) (aLoc d)) (CI : (d : Dev nD) → Buf (Elt F) (iLoc d)) (CO : (d : Dev nD) → Buf (Elt F) (oLoc d))

/-- What one device is dealt for both regions. -/
def deals (c : Dev nD) : sProp 𝕄 := iprop(deal (F := F) 0 c ∗ deal (F := F) 1 c)

theorem huW : (ownU (uW (F := F)) : sProp 𝕄)
    ⊢ |={Set.univ}=> iprop(BI.own (EH (initOf (K (F := F)).hsCells (K (F := F)).hsToks)) ∗ (bigSep Finset.univ fun c : Dev nD => deals (F := F) c)
        ∗ bigSep Finset.univ fun thr : Thread nD τ => bigSep Finset.univ fun q : Fin 1 => (P CA CI CO).x q thr) := by
  unfold uW
  iintro Hu
  ihave H := (ownU_pair _ _) $$ Hu
  icases H with ⟨HH, HR⟩
  ihave H := (own_pair_emb embR _ _) $$ HR
  icases H with ⟨HP, -⟩
  ihave HP := (Entails.of_eq (show (BI.own (((Emb.inl : Emb UP (UP × Counters)).trans embR) _) : sProp 𝕄) = BI.own (EP _) from rfl)) $$ HP
  imod (Pipeline.fund_ghost (pin (pcfgs (F := F)) adm) EP (cells_inj (F := F))) $$ HP with ⟨Hg, Ht⟩
  imodintro
  isplitl [HH]; · iexact HH
  isplitl [Hg Ht]
  · rw [show (fun c : Dev nD => deals (F := F) c) = fun c => iprop((bigSep Finset.univ fun p : Fin 2 => Pipeline.cellsGhost (pin (pcfgs (F := F)) adm) EP p c)
        ∗ bigSep Finset.univ fun p : Fin 2 => Pipeline.toksInit (pin (pcfgs (F := F)) adm) EP p c) from funext fun c => by
      unfold deals deal
      rw [← bigSep_sep', show (Finset.univ : Finset (Fin 2)) = {0, 1} by decide, SparseCore.bigSep_insert' (by decide), bigSep_singleton],
      bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

end Cert.Proof.WholeIdeal

end
-- ==== Proof.WholeLaunch.lean ====
/-
  The whole program's run: the reshapes of the biases, the two TensorCore regions, the reshapes of the ranking, the scatter
  call, the reshape of the result, over one valuation of the device's arrays at each step; what every run ends with.
-/
module

public import proofs.«01_k».proof.Proof.WholeRegions

@[expose] public section

noncomputable section

namespace Cert.Proof.WholeIdeal

open Cert.WholeIdeal Cert.WholeIdeal.Gen
open Cert.Proof.Scatter

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Pipeline (ucRefs afterRegion)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The arrays, step by step -/

abbrev tc' (r : Ref sig .tc) : DevRef τ sig := Proc.devRef .tc r
abbrev a' : DevRef τ sig := tc' main_v4
abbrev i' : DevRef τ sig := tc' main_v5
abbrev o' : DevRef τ sig := tc' main_v6
abbrev y' : DevRef τ sig := tc' main_v7

abbrev opQ : HloOp τ sig (Elt F) := StableHlo.reshape main_arg2 main_v0 (rfl : (.f32 : EltTy) = .f32) shapeCasts_S192_S1x192
abbrev opK : HloOp τ sig (Elt F) := StableHlo.reshape main_arg4 main_v1 (rfl : (.f32 : EltTy) = .f32) shapeCasts_S192_S1x192
abbrev opA : HloOp τ sig (Elt F) := StableHlo.reshape main_v3_0 main_v4 (rfl : (.f32 : EltTy) = .f32) shapeCasts_S2x4096x8_S65536
abbrev opI : HloOp τ sig (Elt F) := StableHlo.reshape main_v3_1 main_v5 (rfl : (.i32 : EltTy) = .i32) shapeCasts_S2x4096x8_S65536
abbrev opY : HloOp τ sig (Elt F) := StableHlo.reshape main_v6 main_v7 (rfl : (.f32 : EltTy) = .f32) shapeCasts_S8192x4096_S2x4096x4096

def V0 (d : Dev nD) : Valuation τ sig (Elt F) := fun b => m (d, b)
def V1 (d : Dev nD) : Valuation τ sig (Elt F) := (opQ (F := F)).result (V0 m d)
/-- What the projections find, -/
def V2 (d : Dev nD) : Valuation τ sig (Elt F) := (opK (F := F)).result (V1 m d)
/-- the ranking, -/
def V3 (d : Dev nD) : Valuation τ sig (Elt F) := afterRegion (Proj.dat (V2 m) d) (V2 m d)
def V4 (d : Dev nD) : Valuation τ sig (Elt F) := afterRegion (Rank.dat (V3 m) d) (V3 m d)
def V5 (d : Dev nD) : Valuation τ sig (Elt F) := (opA (F := F)).result (V4 m d)
/-- the scatter call, -/
def V6 (d : Dev nD) : Valuation τ sig (Elt F) := (opI (F := F)).result (V5 m d)
def CA (d : Dev nD) : Buf (Elt F) (aLoc d) := V6 m d a'
def CI (d : Dev nD) : Buf (Elt F) (iLoc d) := V6 m d i'
def CO (d : Dev nD) : Buf (Elt F) (oLoc d) := V6 m d o'
def V7 (d : Dev nD) : Valuation τ sig (Elt F) := Function.update (V6 m d) o' (outF (CA m) (CI m) d)
/-- and what the program leaves. -/
def V8 (d : Dev nD) : Valuation τ sig (Elt F) := (opY (F := F)).result (V7 m d)

theorem mem_uc (r : Ref sig .tc) (h : r.isScoped = false) : tc' r ∈ ucRefs τ sig :=
  Finset.mem_filter.mpr ⟨StableHlo.devRef_mem_tcRefs _, fun h' => Bool.false_ne_true (h.symm.trans h')⟩

theorem hQ : (opQ (F := F)).bufs ⊆ ucRefs τ sig := show ({tc' main_arg2, tc' main_v0} : Finset (DevRef τ sig)) ⊆ ucRefs τ sig by decide
theorem hK : (opK (F := F)).bufs ⊆ ucRefs τ sig := show ({tc' main_arg4, tc' main_v1} : Finset (DevRef τ sig)) ⊆ ucRefs τ sig by decide
theorem hA : (opA (F := F)).bufs ⊆ ucRefs τ sig := show ({tc' main_v3_0, tc' main_v4} : Finset (DevRef τ sig)) ⊆ ucRefs τ sig by decide
theorem hI : (opI (F := F)).bufs ⊆ ucRefs τ sig := show ({tc' main_v3_1, tc' main_v5} : Finset (DevRef τ sig)) ⊆ ucRefs τ sig by decide
theorem hY : (opY (F := F)).bufs ⊆ ucRefs τ sig := show ({tc' main_v6, tc' main_v7} : Finset (DevRef τ sig)) ⊆ ucRefs τ sig by decide

/-- The scatter call's three arrays, out of the rest and back. -/
abbrev S3 : Finset (DevRef τ sig) := {a', i', o'}
theorem S3_sub : S3 ⊆ ucRefs τ sig := by decide
theorem held_S3 (d : Dev nD) (W : Valuation τ sig (Elt F)) :
    (held (T d) S3 W : sProp 𝕄) = iprop((aLoc d ↦{fullShare} W a') ∗ (iLoc d ↦{fullShare} W i') ∗ oLoc d ↦{fullShare} W o') := by
  unfold held S3
  rw [SparseCore.bigSep_insert' (by decide), SparseCore.bigSep_insert' (by decide), bigSep_singleton]
theorem held_call (d : Dev nD) : (held (T d) (ucRefs τ sig) ((opI (F := F)).result (V5 m d)) : sProp 𝕄)
    = iprop(((aLoc d ↦{fullShare} CA m d) ∗ (iLoc d ↦{fullShare} CI m d) ∗ oLoc d ↦{fullShare} CO m d) ∗ held (T d) (ucRefs τ sig \ S3) (V6 m d)) := by
  show (held (T d) (ucRefs τ sig) (V6 m d) : sProp 𝕄) = _
  rw [held_sub_split (T d) S3_sub, held_S3]; rfl
theorem held_back (d : Dev nD) : (held (T d) (ucRefs τ sig) (V7 m d) : sProp 𝕄)
    = iprop(((aLoc d ↦{fullShare} CA m d) ∗ (iLoc d ↦{fullShare} CI m d) ∗ oLoc d ↦{fullShare} outF (CA m) (CI m) d)
      ∗ held (T d) (ucRefs τ sig \ S3) (V6 m d)) := by
  rw [held_sub_split (T d) S3_sub, held_S3,
    show V7 m d a' = CA m d from Function.update_of_ne (show a' ≠ o' by decide) _ _,
    show V7 m d i' = CI m d from Function.update_of_ne (show i' ≠ o' by decide) _ _,
    show V7 m d o' = outF (CA m) (CI m) d from Function.update_self _ _ _,
    held_congr (T d) (S := ucRefs τ sig \ S3) (V := V7 m d) (V' := V6 m d) (fun b hb =>
      Function.update_of_ne (fun e => (Finset.mem_sdiff.mp hb).2 (by rw [e]; decide)) _ _)]

theorem unscoped_held (d : Dev nD) : (unscopedBufs d (fun b => m ((SparseCore.T d).loc b)) : sProp 𝕄) = held (T d) (ucRefs τ sig) (V0 m d) :=
  Pipeline.unscopedBufs_held d (V0 m d)

/-! ## What the device holds of the SparseCore launch -/

/-- All of it but what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_eq (d : Dev nD) : ((K (F := F)).tcSt EH d 0 : sProp 𝕄) = iprop(owing (F := F) d ∗ tcRest (F := F) d) := rfl

theorem region0_pre (E₀ E₁ : Dev nD → Valuation τ sig (Elt F)) (d : Dev nD) :
    (region0 E₀ E₁).pre d = iprop(held (T d) (ucRefs τ sig) (E₀ d) ∗ owing (F := F) d) := rfl
theorem region0_post (E₀ E₁ : Dev nD → Valuation τ sig (Elt F)) (d : Dev nD) :
    (region0 E₀ E₁).post d = iprop(held (T d) (ucRefs τ sig) (afterRegion (Proj.dat E₀ d) (E₀ d)) ∗ owing (F := F) d) := rfl
theorem region1_pre (E₀ E₁ : Dev nD → Valuation τ sig (Elt F)) (d : Dev nD) :
    (region1 E₀ E₁).pre d = iprop(held (T d) (ucRefs τ sig) (E₁ d) ∗ owing (F := F) d) := rfl
theorem region1_post (E₀ E₁ : Dev nD → Valuation τ sig (Elt F)) (d : Dev nD) :
    (region1 E₀ E₁).post d = iprop(held (T d) (ucRefs τ sig) (afterRegion (Rank.dat E₁ d) (E₁ d)) ∗ owing (F := F) d) := rfl

/-! ## @main -/

/-- What @main leaves the claim: every array of the device. -/
abbrev FIN (d : Dev nD) : sProp 𝕄 := held (T d) (ucRefs τ sig) (V8 m d)

theorem hmain [∀ e, Nonempty (Elt F e)] (κ : GSem nD τ sig → ℕ) (d : Dev nD) :
    iprop((K (F := F)).ctx EH (P (CA m) (CI m) (CO m)) κ ∗ (K (F := F)).tcSt EH d 0 ∗ (K (F := F)).tcRes m ρ d ∗ deals (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd deals
  rw [unscoped_held, tcSt_eq]
  simp only [main, wp_bind, wp_pure]
  iintro ⟨#Hctx, ⟨Hw, Hst⟩, ⟨Hb, Hheld, Hts, -⟩, ⟨Hd0, Hd1⟩⟩
  ihave #HL := ((K (F := F)).ctx_levAts κ) $$ Hctx
  iapply (wp_hlo_within 𝒱 (SparseCore.T d) none Set.univ (op := opQ) (S := ucRefs τ sig) hQ (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opK) (S := ucRefs τ sig) hK (V := V1 m d)) $$ [Hb Hheld]
  · isplitl [Hb]; · iexact Hb
    iexact Hheld
  iintro ⟨Hb, Hheld⟩
  rw [wp_ret]; imodintro
  iapply (wp_region (pdats (V2 m) (V3 m)) 0 (region0 (V2 m) (V3 m)) d _)
  isplitr [Hb Hheld Hw Hd0]
  · rw [region0_post]
    iintro ⟨Hb, Hheld, Hw⟩
    iapply (wp_region (pdats (V2 m) (V3 m)) 1 (region1 (V2 m) (V3 m)) d _)
    isplitr [Hb Hheld Hw Hd1]
    · rw [region1_post]
      iintro ⟨Hb, Hheld, Hw⟩
      iapply (wp_hlo_within 𝒱 (SparseCore.T d) none Set.univ (op := opA) (S := ucRefs τ sig) hA (V := V4 m d)) $$ [Hb Hheld]
      · isplitl [Hb]; · iexact Hb
        iexact Hheld
      iintro ⟨Hb, Hheld⟩
      rw [wp_ret]; imodintro
      iapply (wp_hlo_within 𝒱 (SparseCore.T d) none Set.univ (op := opI) (S := ucRefs τ sig) hI (V := V5 m d)) $$ [Hb Hheld]
      · isplitl [Hb]; · iexact Hb
        iexact Hheld
      iintro ⟨Hb, Hheld⟩
      rw [wp_ret]; imodintro
      ihave Hh := (Entails.of_eq (held_call m d)) $$ Hheld
      icases Hh with ⟨Hc, Hrest⟩
      iapply ((K (F := F)).wp_run (D (F := F)) 𝒱 (EH := EH) (P := P (CA m) (CI m) (CO m)) κ d 0)
      isplitr; · iexact Hctx
      isplitl [Hst Hw]
      · rw [show ((0 : Fin 1).val) = 0 from rfl, tcSt_eq]
        isplitl [Hw] <;> iassumption
      isplitl [Hc]
      · rw [st0_eq]; iexact Hc
      iintro ⟨Hst, Hdn⟩
      ihave Hc := (Entails.of_eq (dn0_eq (CA m) (CI m) (CO m) d)) $$ Hdn
      iapply (wp_hlo_within 𝒱 (SparseCore.T d) none Set.univ (op := opY) (S := ucRefs τ sig) hY (V := V7 m d)) $$ [Hb Hc Hrest]
      · isplitl [Hb]; · iexact Hb
        rw [held_back]
        isplitl [Hc] <;> iassumption
      iintro ⟨Hb, Hheld⟩
      rw [wp_ret]; imodintro; imodintro
      isplitl [Hst]; · iexact Hst
      isplitl [Hheld]; · iexact Hheld
      isplitl [Hb] <;> iassumption
    isplitl [Hb]; · iexact Hb
    isplitl [Hheld Hw]
    · rw [region1_pre]; isplitl [Hheld]; · iexact Hheld
      iexact Hw
    isplitr; · iexact HL
    iexact Hd1
  isplitl [Hb]; · iexact Hb
  isplitl [Hheld Hw]
  · rw [region0_pre]; isplitl [Hheld]; · iexact Hheld
    iexact Hw
  isplitr; · iexact HL
  iexact Hd0

/-! ## The run -/

/-- A held array is what memory has. -/
theorem mem_of_held (d : Dev nD) (r : Ref sig .tc) (h : r.isScoped = false) (W : Valuation τ sig (Elt F)) (s' : Phys nD τ sig (Elt F)) :
    iprop(held (T d) (ucRefs τ sig) W ∗ SI s') ⊢ (⌜s'.mem.mem ((T d : Thread nD τ).loc r) = W (tc' r)⌝ : sProp 𝕄) := by
  rw [held_sub_split (T d) (Finset.singleton_subset_iff.mpr (mem_uc r h)), show (held (T d) {tc' r} W : sProp 𝕄)
    = ((T d : Thread nD τ).loc r ↦{fullShare} W (tc' r)) from by unfold held; rw [bigSep_singleton]]
  iintro ⟨⟨Hx, -⟩, HSI⟩
  ihave H := (SI_pointsTo_agree (st := s') (ℓ := (T d : Thread nD τ).loc r) (I := Finset.univ) (q := fullShare) (f := W (tc' r))) $$ [HSI Hx]
  · isplitl [HSI] <;> iassumption
  icases H with %h1
  ipureintro
  exact funext fun i => h1 i (Finset.mem_univ i)

abbrev at' (d : Dev nD) (r : Ref sig .tc) : Loc nD τ sig := (T d : Thread nD τ).loc r

/-- The arguments and the result, as the program leaves them. -/
def fq (d : Dev nD) (s' : Phys nD τ sig (Elt F)) : Prop :=
  s'.mem.mem (at' d main_arg0) = V8 m d (tc' main_arg0) ∧ s'.mem.mem (at' d main_arg1) = V8 m d (tc' main_arg1)
    ∧ s'.mem.mem (at' d main_arg2) = V8 m d (tc' main_arg2) ∧ s'.mem.mem (at' d main_arg3) = V8 m d (tc' main_arg3)
    ∧ s'.mem.mem (at' d main_arg4) = V8 m d (tc' main_arg4) ∧ s'.mem.mem (at' d main_v7) = V8 m d y'

theorem hfin (d : Dev nD) (s' : Phys nD τ sig (Elt F)) : iprop(FIN m d ∗ SI s') ⊢ (⌜fq m d s'⌝ : sProp 𝕄) := by
  iintro H
  ihave H := (persistent_entails_right (mem_of_held d main_arg0 rfl (V8 m d) s')) $$ H
  icases H with ⟨%h0, H⟩
  ihave H := (persistent_entails_right (mem_of_held d main_arg1 rfl (V8 m d) s')) $$ H
  icases H with ⟨%h1, H⟩
  ihave H := (persistent_entails_right (mem_of_held d main_arg2 rfl (V8 m d) s')) $$ H
  icases H with ⟨%h2, H⟩
  ihave H := (persistent_entails_right (mem_of_held d main_arg3 rfl (V8 m d) s')) $$ H
  icases H with ⟨%h3, H⟩
  ihave H := (persistent_entails_right (mem_of_held d main_arg4 rfl (V8 m d) s')) $$ H
  icases H with ⟨%h4, H⟩
  ihave H := (mem_of_held d main_v7 rfl (V8 m d) s') $$ H
  icases H with %h5
  ipureintro
  exact ⟨h0, h1, h2, h3, h4, h5⟩

theorem run_main [∀ e, Nonempty (Elt F e)] (hok : IdxOK (CI m)) :
    θ_run (Cert.WholeIdeal.defs (F := F)) (Cert.WholeIdeal.threads (F := F)) ⟨m, fun _ => 0, ρ⟩
      (fun r => (∀ d : Dev nD, r.2.mem (at' d main_arg0) = V8 m d (tc' main_arg0) ∧ r.2.mem (at' d main_arg1) = V8 m d (tc' main_arg1)
        ∧ r.2.mem (at' d main_arg2) = V8 m d (tc' main_arg2) ∧ r.2.mem (at' d main_arg3) = V8 m d (tc' main_arg3)
        ∧ r.2.mem (at' d main_arg4) = V8 m d (tc' main_arg4) ∧ r.2.mem (at' d main_v7) = V8 m d y') ∧ r.2.sem = fun _ => 0) :=
  SparseCore.Cfg.θ_run_sc_quiescent (K := K (F := F)) (D := D (F := F)) (𝒱 := 𝒱) (EH := EH) (P := P (CA m) (CI m) (CO m)) (A := ∅) facts v₀
    (fun q hq => match q with | 0 => nomatch hq)
    (fun q _ => match q with | 0 => tileObl (CA m) (CI m) (CO m) hok)
    (fun q _ => match q with | 0 => SparseCore.Cfg.VecSplit.of_plain (vecSplit (CA m) (CI m) (CO m)))
    m ρ main (fun d => deals (F := F) d) (FIN m) (uW (F := F)) (sep_elim_left.trans (huW (CA m) (CI m) (CO m))) (hmain m ρ) (fq m) (hfin m) _ (fun _ h hz => ⟨h, hz⟩)

/-! ## The arguments are as launched -/

/-- No step writes an array named neither as a reshape's result, nor a region's, nor the call's. -/
theorem V8_arg (d : Dev nD) (r : Ref sig .tc)
    (h0 : tc' r ∉ ({tc' main_v0, tc' main_v1, a', i', o', y'} : Finset (DevRef τ sig)))
    (hp : ∀ w, Pipeline.arrRef spec0 w = r → (cfg0.win w).isOut = false)
    (hr : ∀ w, Pipeline.arrRef spec1 w = r → (cfg1.win w).isOut = false) : V8 m d (tc' r) = m (at' d r) := by
  simp only [Finset.mem_insert, Finset.mem_singleton, not_or] at h0
  obtain ⟨n0, n1, na, ni, no, ny⟩ := h0
  have e8 : V8 m d (tc' r) = V7 m d (tc' r) := (opY (F := F)).result_of_not_mem (V7 m d) (b := tc' r) (show tc' r ∉ ({y'} : Finset (DevRef τ sig)) from Finset.notMem_singleton.mpr ny)
  have e7 : V7 m d (tc' r) = V6 m d (tc' r) := Function.update_of_ne no _ _
  have e6 : V6 m d (tc' r) = V5 m d (tc' r) := (opI (F := F)).result_of_not_mem (V5 m d) (b := tc' r) (show tc' r ∉ ({i'} : Finset (DevRef τ sig)) from Finset.notMem_singleton.mpr ni)
  have e5 : V5 m d (tc' r) = V4 m d (tc' r) := (opA (F := F)).result_of_not_mem (V4 m d) (b := tc' r) (show tc' r ∉ ({a'} : Finset (DevRef τ sig)) from Finset.notMem_singleton.mpr na)
  have e4 : V4 m d (tc' r) = V3 m d (tc' r) := by
    unfold V4
    by_cases hw : ∃ w, Pipeline.arrRef spec1 w = r
    · obtain ⟨w, rfl⟩ := hw
      exact (Pipeline.afterRegion_arr (Rank.dat (V3 m) d) (V3 m d) launch1.win.arr_inj w).trans
        (((Rank.dat (V3 m) d).arrAt_in w (hr w rfl) _).trans (Rank.A_eq (V3 m) d w))
    · exact Pipeline.afterRegion_of_not_arr (Rank.dat (V3 m) d) (V3 m d) fun w e => hw ⟨w, e.symm⟩
  have e3 : V3 m d (tc' r) = V2 m d (tc' r) := by
    unfold V3
    by_cases hw : ∃ w, Pipeline.arrRef spec0 w = r
    · obtain ⟨w, rfl⟩ := hw
      exact (Pipeline.afterRegion_arr (Proj.dat (V2 m) d) (V2 m d) launch0.win.arr_inj w).trans
        (((Proj.dat (V2 m) d).arrAt_in w (hp w rfl) _).trans (Proj.A_eq (V2 m) d w))
    · exact Pipeline.afterRegion_of_not_arr (Proj.dat (V2 m) d) (V2 m d) fun w e => hw ⟨w, e.symm⟩
  have e2 : V2 m d (tc' r) = V1 m d (tc' r) := (opK (F := F)).result_of_not_mem (V1 m d) (b := tc' r) (show tc' r ∉ ({tc' main_v1} : Finset (DevRef τ sig)) from Finset.notMem_singleton.mpr n1)
  have e1 : V1 m d (tc' r) = V0 m d (tc' r) := (opQ (F := F)).result_of_not_mem (V0 m d) (b := tc' r) (show tc' r ∉ ({tc' main_v0} : Finset (DevRef τ sig)) from Finset.notMem_singleton.mpr n0)
  exact e8.trans (e7.trans (e6.trans (e5.trans (e4.trans (e3.trans (e2.trans e1))))))

theorem arg0 (d : Dev nD) : V8 m d (tc' main_arg0) = m (at' d main_arg0) := V8_arg m d main_arg0 (by decide) (by decide) (by decide)
theorem arg1 (d : Dev nD) : V8 m d (tc' main_arg1) = m (at' d main_arg1) := V8_arg m d main_arg1 (by decide) (by decide) (by decide)
theorem arg2 (d : Dev nD) : V8 m d (tc' main_arg2) = m (at' d main_arg2) := V8_arg m d main_arg2 (by decide) (by decide) (by decide)
theorem arg3 (d : Dev nD) : V8 m d (tc' main_arg3) = m (at' d main_arg3) := V8_arg m d main_arg3 (by decide) (by decide) (by decide)
theorem arg4 (d : Dev nD) : V8 m d (tc' main_arg4) = m (at' d main_arg4) := V8_arg m d main_arg4 (by decide) (by decide) (by decide)

/-- The flat indices are the ranking's, the flat values too, -/
theorem CI_eq (d : Dev nD) : CI m d = (shapeCast S65536 (V4 m d (tc' main_v3_1) : S2x4096x8.Idx → Elt F .i32) shapeCasts_S2x4096x8_S65536 : S65536.Idx → Elt F .i32) := by
  unfold CI V6
  refine (StableHlo.reshape_result (τ := τ) (Val := Elt F) main_v3_1 main_v5 (rfl : (.i32 : EltTy) = .i32) shapeCasts_S2x4096x8_S65536 _ _ _).trans ?_
  exact congrArg (fun f : S2x4096x8.Idx → Elt F .i32 => (shapeCast S65536 f shapeCasts_S2x4096x8_S65536 : S65536.Idx → Elt F .i32))
    ((opA (F := F)).result_of_not_mem (V4 m d) (b := tc' main_v3_1) (show tc' main_v3_1 ∉ ({a'} : Finset (DevRef τ sig)) by decide))
theorem CA_eq (d : Dev nD) : CA m d = (shapeCast S65536 (V4 m d (tc' main_v3_0) : S2x4096x8.Idx → Elt F .f32) shapeCasts_S2x4096x8_S65536 : S65536.Idx → Elt F .f32) := by
  unfold CA V6
  refine ((opI (F := F)).result_of_not_mem (V5 m d) (b := a') (show a' ∉ ({i'} : Finset (DevRef τ sig)) by decide)).trans ?_
  exact StableHlo.reshape_result (τ := τ) (Val := Elt F) main_v3_0 main_v4 (rfl : (.f32 : EltTy) = .f32) shapeCasts_S2x4096x8_S65536 _ _ _
/-- and the result is what the call left, reshaped. -/
theorem V8_y (d : Dev nD) : V8 m d y'
    = (shapeCast S2x4096x4096 (outF (CA m) (CI m) d : S8192x4096.Idx → Elt F .f32) shapeCasts_S8192x4096_S2x4096x4096 : S2x4096x4096.Idx → Elt F .f32) := by
  unfold V8
  refine (StableHlo.reshape_result (τ := τ) (Val := Elt F) main_v6 main_v7 (rfl : (.f32 : EltTy) = .f32) shapeCasts_S8192x4096_S2x4096x4096 _ _ _).trans ?_
  exact congrArg (fun f : S8192x4096.Idx → Elt F .f32 => (shapeCast S2x4096x4096 f shapeCasts_S8192x4096_S2x4096x4096 : S2x4096x4096.Idx → Elt F .f32))
    (Function.update_self _ _ _)

/-- Indices below the row's length keep the call within its rows. -/
theorem idxOK_of (h : ∀ (d : Dev nD) (x : S2x4096x8.Idx), ((V4 m d (tc' main_v3_1) : S2x4096x8.Idx → BitVec 32) x).toNat < 4096) : IdxOK (CI m) := by
  intro d n
  unfold gI
  split
  · rw [CI_eq]; exact h d _
  · decide

end Cert.Proof.WholeIdeal

end
-- ==== Proof.WholeBlocks.lean ====
/-
  What the whole program's arrays hold over the extended reals: the projections' two results, the ranking's two, and the
  result, as functions of the arguments.
-/
module

public import proofs.«01_k».proof.Proof.WholeLaunch
public import proofs.«01_k».proof.Proof.Affine
public import proofs.«01_k».proof.Proof.Rows
public import Idealize.ShloMosaic.Lib.Pipeline.ValueKit.Geometry

@[expose] public section

noncomputable section

namespace Cert.Proof.WholeIdeal

open Cert.WholeIdeal Cert.WholeIdeal.Gen
open Idealize.ShloMosaic hiding ix1 ix2 ix3 eq_ix1 eq_ix2 eq_ix3
open Idealize.ShloMosaic.ValueIdx Idealize.ShloMosaic.TcCoe Idealize.SL.Sem
open Cert.Rows Cert.Affine

/-! ## The ranking body's payloads are the operations of the rounds -/

section
variable (q : FVec Ideal B1x512x192 .f32) (k : FVec Ideal B1x4096x192 .f32)

theorem pay3 : k1_pay3 (F := Ideal) q k = vafter ⊥ (vscore scale q k) 0 := rfl
theorem pay7 : k1_pay7 (F := Ideal) q k = vafter ⊥ (vscore scale q k) 1 := rfl
theorem pay11 : k1_pay11 (F := Ideal) q k = vafter ⊥ (vscore scale q k) 2 := by
  show vdrop ⊥ (k1_pay7 (F := Ideal) q k) = _
  rw [pay7]; rfl
theorem pay15 : k1_pay15 (F := Ideal) q k = vafter ⊥ (vscore scale q k) 3 := by
  show vdrop ⊥ (k1_pay11 (F := Ideal) q k) = _
  rw [pay11]; rfl
theorem pay19 : k1_pay19 (F := Ideal) (k1_pay15 q k) = vafter ⊥ (vscore scale q k) 4 := by
  show vdrop ⊥ (k1_pay15 (F := Ideal) q k) = _
  rw [pay15]; rfl
theorem pay23 : k1_pay23 (F := Ideal) (k1_pay15 q k) = vafter ⊥ (vscore scale q k) 5 := by
  show vdrop ⊥ (k1_pay19 (F := Ideal) (k1_pay15 q k)) = _
  rw [pay19]; rfl
theorem pay27 : k1_pay27 (F := Ideal) (k1_pay15 q k) = vafter ⊥ (vscore scale q k) 6 := by
  show vdrop ⊥ (k1_pay23 (F := Ideal) (k1_pay15 q k)) = _
  rw [pay23]; rfl
theorem pay31 : k1_pay31 (F := Ideal) (k1_pay15 q k) = vafter ⊥ (vscore scale q k) 7 := by
  show vdrop ⊥ (k1_pay27 (F := Ideal) (k1_pay15 q k)) = _
  rw [pay27]; rfl

theorem top0 : k1_pay4 (F := Ideal) q k = vtop (vafter ⊥ (vscore scale q k) 0) :=
  (show k1_pay4 (F := Ideal) q k = vtop (k1_pay3 (F := Ideal) q k) from rfl).trans (congrArg vtop (pay3 q k))
theorem pick0 : k1_pay6 (F := Ideal) q k = vpick (vafter ⊥ (vscore scale q k) 0) :=
  (show k1_pay6 (F := Ideal) q k = vpick (k1_pay3 (F := Ideal) q k) from rfl).trans (congrArg vpick (pay3 q k))
theorem top1 : k1_pay8 (F := Ideal) q k = vtop (vafter ⊥ (vscore scale q k) 1) :=
  (show k1_pay8 (F := Ideal) q k = vtop (k1_pay7 (F := Ideal) q k) from rfl).trans (congrArg vtop (pay7 q k))
theorem pick1 : k1_pay10 (F := Ideal) q k = vpick (vafter ⊥ (vscore scale q k) 1) :=
  (show k1_pay10 (F := Ideal) q k = vpick (k1_pay7 (F := Ideal) q k) from rfl).trans (congrArg vpick (pay7 q k))
theorem top2 : k1_pay12 (F := Ideal) q k = vtop (vafter ⊥ (vscore scale q k) 2) :=
  (show k1_pay12 (F := Ideal) q k = vtop (k1_pay11 (F := Ideal) q k) from rfl).trans (congrArg vtop (pay11 q k))
theorem pick2 : k1_pay14 (F := Ideal) q k = vpick (vafter ⊥ (vscore scale q k) 2) :=
  (show k1_pay14 (F := Ideal) q k = vpick (k1_pay11 (F := Ideal) q k) from rfl).trans (congrArg vpick (pay11 q k))
theorem top3 : k1_pay16 (F := Ideal) (k1_pay15 q k) = vtop (vafter ⊥ (vscore scale q k) 3) :=
  (show k1_pay16 (F := Ideal) (k1_pay15 q k) = vtop (k1_pay15 (F := Ideal) q k) from rfl).trans (congrArg vtop (pay15 q k))
theorem pick3 : k1_pay18 (F := Ideal) (iota .tc S512x4096 32 [1] iota_S512x4096_d1_w32) (k1_pay15 q k) = vpick (vafter ⊥ (vscore scale q k) 3) :=
  (show k1_pay18 (F := Ideal) (iota .tc S512x4096 32 [1] iota_S512x4096_d1_w32) (k1_pay15 q k) = vpick (k1_pay15 (F := Ideal) q k) from rfl).trans (congrArg vpick (pay15 q k))
theorem top4 : k1_pay20 (F := Ideal) (k1_pay15 q k) = vtop (vafter ⊥ (vscore scale q k) 4) :=
  (show k1_pay20 (F := Ideal) (k1_pay15 q k) = vtop (k1_pay19 (F := Ideal) (k1_pay15 q k)) from rfl).trans (congrArg vtop (pay19 q k))
theorem pick4 : k1_pay22 (F := Ideal) (iota .tc S512x4096 32 [1] iota_S512x4096_d1_w32) (k1_pay15 q k) = vpick (vafter ⊥ (vscore scale q k) 4) :=
  (show k1_pay22 (F := Ideal) (iota .tc S512x4096 32 [1] iota_S512x4096_d1_w32) (k1_pay15 q k) = vpick (k1_pay19 (F := Ideal) (k1_pay15 q k)) from rfl).trans (congrArg vpick (pay19 q k))
theorem top5 : k1_pay24 (F := Ideal) (k1_pay15 q k) = vtop (vafter ⊥ (vscore scale q k) 5) :=
  (show k1_pay24 (F := Ideal) (k1_pay15 q k) = vtop (k1_pay23 (F := Ideal) (k1_pay15 q k)) from rfl).trans (congrArg vtop (pay23 q k))
theorem pick5 : k1_pay26 (F := Ideal) (iota .tc S512x4096 32 [1] iota_S512x4096_d1_w32) (k1_pay15 q k) = vpick (vafter ⊥ (vscore scale q k) 5) :=
  (show k1_pay26 (F := Ideal) (iota .tc S512x4096 32 [1] iota_S512x4096_d1_w32) (k1_pay15 q k) = vpick (k1_pay23 (F := Ideal) (k1_pay15 q k)) from rfl).trans (congrArg vpick (pay23 q k))
theorem top6 : k1_pay28 (F := Ideal) (k1_pay15 q k) = vtop (vafter ⊥ (vscore scale q k) 6) :=
  (show k1_pay28 (F := Ideal) (k1_pay15 q k) = vtop (k1_pay27 (F := Ideal) (k1_pay15 q k)) from rfl).trans (congrArg vtop (pay27 q k))
theorem pick6 : k1_pay30 (F := Ideal) (iota .tc S512x4096 32 [1] iota_S512x4096_d1_w32) (k1_pay15 q k) = vpick (vafter ⊥ (vscore scale q k) 6) :=
  (show k1_pay30 (F := Ideal) (iota .tc S512x4096 32 [1] iota_S512x4096_d1_w32) (k1_pay15 q k) = vpick (k1_pay27 (F := Ideal) (k1_pay15 q k)) from rfl).trans (congrArg vpick (pay27 q k))
theorem top7 : k1_pay32 (F := Ideal) (k1_pay15 q k) = vtop (vafter ⊥ (vscore scale q k) 7) :=
  (show k1_pay32 (F := Ideal) (k1_pay15 q k) = vtop (k1_pay31 (F := Ideal) (k1_pay15 q k)) from rfl).trans (congrArg vtop (pay31 q k))

theorem pay1 (a b c d e f g h : FVec Ideal B512x1 .f32) : k1_pay1 (F := Ideal) a b c d e f g h = vsoft ![a, b, c, d, e, f, g, h] := rfl
theorem pay2 (a b c d e f g : IVec B512x1 32) (w : FVec Ideal B512x4096 .f32) :
    k1_pay2 (F := Ideal) (iota .tc S512x4096 32 [1] iota_S512x4096_d1_w32) a b c d e f g w
      (broadcastTo S512x4096 (vtop w) broadcasts_S512x1_S512x4096) = vcols ![a, b, c, d, e, f, g, vpick w] := by
  have h : ∀ x : IVec B512x1 32, x = vpick w → shapeCast B1x512x8 (concatenate S512x8 1 [⟨S512x1, a⟩, ⟨S512x1, b⟩, ⟨S512x1, c⟩, ⟨S512x1, d⟩,
      ⟨S512x1, e⟩, ⟨S512x1, f⟩, ⟨S512x1, g⟩, ⟨S512x1, x⟩]
      concatenates_S512x1_S512x1_S512x1_S512x1_S512x1_S512x1_S512x1_S512x1_S512x8_d1) shapeCasts_S512x8_S1x512x8
        = vcols ![a, b, c, d, e, f, g, vpick w] := by
    intro x hx
    subst hx
    generalize vpick w = x
    rfl
  exact h _ rfl
theorem pay33 : k1_pay33 (F := Ideal) (k1_pay15 q k)
    = broadcastTo S512x4096 (vtop (vafter ⊥ (vscore scale q k) 7)) broadcasts_S512x1_S512x4096 :=
  congrArg (fun v => broadcastTo S512x4096 v broadcasts_S512x1_S512x4096) (top7 q k)

theorem eight {α : Type} (f : ℕ → α) : (![f 0, f 1, f 2, f 3, f 4, f 5, f 6, f 7] : Fin 8 → α) = fun i => f i.val := by
  funext i
  match i with
  | 0 => rfl
  | 1 => rfl
  | 2 => rfl
  | 3 => rfl
  | 4 => rfl
  | 5 => rfl
  | 6 => rfl
  | 7 => rfl

theorem zero3 : (![0, 0, 0] : Fin 3 → ℕ) = fun _ => 0 := by decide

theorem zero2 : (![0, 0] : Fin 2 → ℕ) = fun _ => 0 := by decide

theorem rank_out2 : Rank.out2 (F := Ideal) q k = vsoft (fun i => vtop (vafter ⊥ (vscore scale q k) i.val)) := by
  unfold Rank.out2 Rank.struck
  rw [View.canon_unit_zero zero3, View.ld_unit_zero zero3, View.ld_unit_zero zero3]
  rw [top0, top1, top2, top3, top4, top5, top6, top7, pay1]
  exact congrArg vsoft (eight fun i => vtop (vafter ⊥ (vscore scale q k) i))

theorem rank_out3 : Rank.out3 (F := Ideal) q k = vcols (fun i => vpick (vafter ⊥ (vscore scale q k) i.val)) := by
  unfold Rank.out3 Rank.struck Rank.cols
  rw [View.canon_unit_zero zero3, View.ld_unit_zero zero3, View.ld_unit_zero zero3]
  rw [pick0, pick1, pick2, pick3, pick4, pick5, pick6, pay31, pay33, pay2]
  exact congrArg vcols (eight fun i => vpick (vafter ⊥ (vscore scale q k) i))

end

section
variable (x : FVec Ideal Affine.S1x4096x768 .f32) (w : FVec Ideal Affine.S192x768 .f32) (β : FVec Ideal Affine.S1x192 .f32)
  (w' : FVec Ideal Affine.S192x768 .f32) (β' : FVec Ideal Affine.S1x192 .f32)

theorem proj_out5 : Proj.out5 (F := Ideal) x w β w' β' = vproj x w β := by
  unfold Proj.out5
  rw [View.canon_unit_zero zero3, View.ld_unit_zero zero3, View.ld_unit_zero zero2, View.ld_unit_zero zero2]
  rfl
theorem proj_out6 : Proj.out6 (F := Ideal) x w β w' β' = vproj x w' β' := by
  unfold Proj.out6
  rw [View.canon_unit_zero zero3, View.ld_unit_zero zero3, View.ld_unit_zero zero2, View.ld_unit_zero zero2]
  rfl
end

/-! ## The arguments -/

variable (m : (ℓ : Loc nD τ sig) → Buf (Elt Ideal) ℓ)

abbrev argX (c : Dev nD) : FVec Ideal Affine.S2x4096x768 .f32 := m (at' c main_arg0)
abbrev argWq (c : Dev nD) : FVec Ideal Affine.S192x768 .f32 := m (at' c main_arg1)
abbrev argBq (c : Dev nD) : FVec Ideal Affine.S192 .f32 := m (at' c main_arg2)
abbrev argWk (c : Dev nD) : FVec Ideal Affine.S192x768 .f32 := m (at' c main_arg3)
abbrev argBk (c : Dev nD) : FVec Ideal Affine.S192 .f32 := m (at' c main_arg4)

/-- The reshapes of the biases write only theirs. -/
theorem V2_else (c : Dev nD) (r : Ref sig .tc) (h0 : tc' r ≠ tc' main_v0) (h1 : tc' r ≠ tc' main_v1) : V2 m c (tc' r) = m (at' c r) :=
  ((opK (F := Ideal)).result_of_not_mem (V1 m c) (b := tc' r) (show tc' r ∉ ({tc' main_v1} : Finset (DevRef τ sig)) from Finset.notMem_singleton.mpr h1)).trans
    ((opQ (F := Ideal)).result_of_not_mem (V0 m c) (b := tc' r) (show tc' r ∉ ({tc' main_v0} : Finset (DevRef τ sig)) from Finset.notMem_singleton.mpr h0))
theorem V2_arg0 (c : Dev nD) : V2 m c (Proc.devRef .tc main_arg0) = argX m c := V2_else m c main_arg0 (by decide) (by decide)
theorem V2_arg1 (c : Dev nD) : V2 m c (Proc.devRef .tc main_arg1) = argWq m c := V2_else m c main_arg1 (by decide) (by decide)
theorem V2_arg3 (c : Dev nD) : V2 m c (Proc.devRef .tc main_arg3) = argWk m c := V2_else m c main_arg3 (by decide) (by decide)
theorem V2_v1 (c : Dev nD) : V2 m c (Proc.devRef .tc main_v1) = shapeCast Affine.S1x192 (argBk m c) castβ := by
  unfold V2
  refine (StableHlo.reshape_result (τ := τ) (Val := Elt Ideal) main_arg4 main_v1 (rfl : (.f32 : EltTy) = .f32) shapeCasts_S192_S1x192 _ _ _).trans ?_
  exact congrArg (fun f : FVec Ideal Affine.S192 .f32 => shapeCast Affine.S1x192 f castβ)
    ((opQ (F := Ideal)).result_of_not_mem (V0 m c) (b := tc' main_arg4) (show tc' main_arg4 ∉ ({tc' main_v0} : Finset (DevRef τ sig)) by decide))
theorem V2_v0 (c : Dev nD) : V2 m c (Proc.devRef .tc main_v0) = shapeCast Affine.S1x192 (argBq m c) castβ := by
  unfold V2
  refine ((opK (F := Ideal)).result_of_not_mem (V1 m c) (b := tc' main_v0) (show tc' main_v0 ∉ ({tc' main_v1} : Finset (DevRef τ sig)) by decide)).trans ?_
  exact StableHlo.reshape_result (τ := τ) (Val := Elt Ideal) main_arg2 main_v0 (rfl : (.f32 : EltTy) = .f32) shapeCasts_S192_S1x192 _ _ _

/-! ## The projections -/

namespace Proj

theorem index0 : ∀ t : Fin cfg0.N, win0_0.index t = ![(grid0.coords t 0).val, 0, 0] :=
  (by decide +kernel : ∀ t : Fin grid0.N, win0_0.index t = ![(grid0.coords t 0).val, 0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![(grid0.coords t 0).val, 0, 0] :=
  (by decide +kernel : ∀ t : Fin grid0.N, win0_5.index t = ![(grid0.coords t 0).val, 0, 0])
theorem index6 : ∀ t : Fin cfg0.N, win0_6.index t = ![(grid0.coords t 0).val, 0, 0] :=
  (by decide +kernel : ∀ t : Fin grid0.N, win0_6.index t = ![(grid0.coords t 0).val, 0, 0])

theorem block0 (c : Dev nD) (t : Fin cfg0.N) (n : Fin 4096) (d : Fin 768) :
    iblk (V2 m) c 0 t (ix3 0 n d) = argX m c (ix3 (grid0.coords t 0) n d) := by
  blk_simp [Proj.iblk]
  rw [V2_arg0]
  refine congrArg (argX m c) ?_
  blk_ext [index0]
theorem block1 (c : Dev nD) (t : Fin cfg0.N) (j : Fin 192) (d : Fin 768) : iblk (V2 m) c 1 t (ix2 j d) = argWq m c (ix2 j d) := by
  blk_simp [Proj.iblk]
  rw [V2_arg1]
  refine congrArg (argWq m c) ?_
  blk_ext [index1]
theorem block3 (c : Dev nD) (t : Fin cfg0.N) (j : Fin 192) (d : Fin 768) : iblk (V2 m) c 3 t (ix2 j d) = argWk m c (ix2 j d) := by
  blk_simp [Proj.iblk]
  rw [V2_arg3]
  refine congrArg (argWk m c) ?_
  blk_ext [index3]
theorem block2 (c : Dev nD) (t : Fin cfg0.N) (j : Fin 192) : iblk (V2 m) c 2 t (ix2 0 j) = argBq m c (ix1 j) := by
  blk_simp [Proj.iblk]
  rw [V2_v0]
  refine Eq.trans (congrArg (shapeCast Affine.S1x192 (argBq m c) castβ) (?_ : _ = ix2 0 j)) (bias_row (argBq m c) j)
  blk_ext [index2]
theorem block4 (c : Dev nD) (t : Fin cfg0.N) (j : Fin 192) : iblk (V2 m) c 4 t (ix2 0 j) = argBk m c (ix1 j) := by
  blk_simp [Proj.iblk]
  rw [V2_v1]
  refine Eq.trans (congrArg (shapeCast Affine.S1x192 (argBk m c) castβ) (?_ : _ = ix2 0 j)) (bias_row (argBk m c) j)
  blk_ext [index4]

theorem final5 (c : Dev nD) : (Proj.dat (V2 m) c).arrAt 5 cfg0.N = proj (argX m c) (argWq m c) (argBq m c) := by
  refine (Proj.dat (V2 m) c).arrAt_eq_of_covers 5 _ (by decide +kernel) fun t hf y => ?_
  blk_simp
  rw [after5, proj_out5]
  change Rows.B1x4096x192.Idx at y
  refine (congrArg _ (eq_ix3 y)).trans
    ((vproj_block _ _ _ (argX m c) (argWq m c) (argBq m c) (grid0.coords t 0) (block0 m c t) (block1 m c t) (block2 m c t)
      (y 0) (y 1) (y 2)).trans (congrArg (proj (argX m c) (argWq m c) (argBq m c)) ?_))
  idx_bounds y
  blk_ext [index5]
theorem final6 (c : Dev nD) : (Proj.dat (V2 m) c).arrAt 6 cfg0.N = proj (argX m c) (argWk m c) (argBk m c) := by
  refine (Proj.dat (V2 m) c).arrAt_eq_of_covers 6 _ (by decide +kernel) fun t hf y => ?_
  blk_simp
  rw [after6, proj_out6]
  change Rows.B1x4096x192.Idx at y
  refine (congrArg _ (eq_ix3 y)).trans
    ((vproj_block _ _ _ (argX m c) (argWk m c) (argBk m c) (grid0.coords t 0) (block0 m c t) (block3 m c t) (block4 m c t)
      (y 0) (y 1) (y 2)).trans (congrArg (proj (argX m c) (argWk m c) (argBk m c)) ?_))
  idx_bounds y
  blk_ext [index6]

end Proj

/-- The two matrices the ranking reads. -/
abbrev projQ (c : Dev nD) : FVec Ideal Rows.S2x4096x192 .f32 := proj (argX m c) (argWq m c) (argBq m c)
abbrev projK (c : Dev nD) : FVec Ideal Rows.S2x4096x192 .f32 := proj (argX m c) (argWk m c) (argBk m c)

theorem V3_q (c : Dev nD) : V3 m c (Proc.devRef .tc main_v2_0) = projQ m c := by
  unfold V3
  exact (Pipeline.afterRegion_arr (Proj.dat (V2 m) c) (V2 m c) launch0.win.arr_inj 5).trans (Proj.final5 m c)
theorem V3_k (c : Dev nD) : V3 m c (Proc.devRef .tc main_v2_1) = projK m c := by
  unfold V3
  exact (Pipeline.afterRegion_arr (Proj.dat (V2 m) c) (V2 m c) launch0.win.arr_inj 6).trans (Proj.final6 m c)

/-! ## The ranking -/

namespace Rank

theorem index0 : ∀ t : Fin cfg1.N, win1_0.index t = ![(grid1.coords t 0).val, (grid1.coords t 1).val, 0] :=
  (by decide +kernel : ∀ t : Fin grid1.N, win1_0.index t = ![(grid1.coords t 0).val, (grid1.coords t 1).val, 0])
theorem index1 : ∀ t : Fin cfg1.N, win1_1.index t = ![(grid1.coords t 0).val, 0, 0] :=
  (by decide +kernel : ∀ t : Fin grid1.N, win1_1.index t = ![(grid1.coords t 0).val, 0, 0])
theorem index2 : ∀ t : Fin cfg1.N, win1_2.index t = ![(grid1.coords t 0).val, (grid1.coords t 1).val, 0] :=
  (by decide +kernel : ∀ t : Fin grid1.N, win1_2.index t = ![(grid1.coords t 0).val, (grid1.coords t 1).val, 0])
theorem index3 : ∀ t : Fin cfg1.N, win1_3.index t = ![(grid1.coords t 0).val, (grid1.coords t 1).val, 0] :=
  (by decide +kernel : ∀ t : Fin grid1.N, win1_3.index t = ![(grid1.coords t 0).val, (grid1.coords t 1).val, 0])

theorem block0 (c : Dev nD) (t : Fin cfg1.N) (r : Fin 512) (n : Fin 4096) (hn : n.val = (grid1.coords t 1).val * 512 + r.val) (d : Fin 192) :
    iblk (V3 m) c 0 t (ix3 0 r d) = projQ m c (ix3 (grid1.coords t 0) n d) := by
  blk_simp [Rank.iblk]
  rw [V3_q]
  refine congrArg (projQ m c) ?_
  blk_ext [index0, hn]

theorem block1 (c : Dev nD) (t : Fin cfg1.N) (n : Fin 4096) (d : Fin 192) :
    iblk (V3 m) c 1 t (ix3 0 n d) = projK m c (ix3 (grid1.coords t 0) n d) := by
  blk_simp [Rank.iblk]
  rw [V3_k]
  refine congrArg (projK m c) ?_
  blk_ext [index1]

theorem rowOf_lt (t : Fin cfg1.N) (r : Fin 512) : (grid1.coords t 1).val * 512 + r.val < 4096 := by
  have : (grid1.coords t 1).val < 8 := (grid1.coords t 1).isLt
  omega

theorem final2 (c : Dev nD) : (Rank.dat (V3 m) c).arrAt 2 cfg1.N = values (projQ m c) (projK m c) := by
  refine (Rank.dat (V3 m) c).arrAt_eq_of_covers 2 _ (by decide +kernel) fun t hf y => ?_
  blk_simp
  rw [after2, rank_out2]
  change S1x512x8.Idx at y
  refine (congrArg _ (eq_ix3 y)).trans
    ((vsoft_block _ _ (projQ m c) (projK m c) (grid1.coords t 0) ⟨_, rowOf_lt t (y 1)⟩ (y 1) (fun d => block0 m c t (y 1) _ rfl d)
      (fun n d => block1 m c t n d) (y 0) (y 2)).trans (congrArg (values (projQ m c) (projK m c)) ?_))
  idx_bounds y
  blk_ext [index2]

theorem final3 (c : Dev nD) : (Rank.dat (V3 m) c).arrAt 3 cfg1.N = indices (projQ m c) (projK m c) := by
  refine (Rank.dat (V3 m) c).arrAt_eq_of_covers 3 _ (by decide +kernel) fun t hf y => ?_
  blk_simp
  rw [after3, rank_out3]
  change S1x512x8.Idx at y
  refine (congrArg _ (eq_ix3 y)).trans
    ((vcols_block _ _ (projQ m c) (projK m c) (grid1.coords t 0) ⟨_, rowOf_lt t (y 1)⟩ (y 1) (fun d => block0 m c t (y 1) _ rfl d)
      (fun n d => block1 m c t n d) (y 0) (y 2)).trans (congrArg (indices (projQ m c) (projK m c)) ?_))
  idx_bounds y
  blk_ext [index3]

end Rank

theorem V4_values (c : Dev nD) : V4 m c (tc' main_v3_0) = values (projQ m c) (projK m c) := by
  unfold V4
  exact (Pipeline.afterRegion_arr (Rank.dat (V3 m) c) (V3 m c) launch1.win.arr_inj 2).trans (Rank.final2 m c)
theorem V4_indices (c : Dev nD) : V4 m c (tc' main_v3_1) = indices (projQ m c) (projK m c) := by
  unfold V4
  exact (Pipeline.afterRegion_arr (Rank.dat (V3 m) c) (V3 m c) launch1.win.arr_inj 3).trans (Rank.final3 m c)

/-- The ranking's columns are the row's. -/
theorem idxOK : IdxOK (CI m) := idxOK_of m fun d x => by
  rw [V4_indices]
  show ((indices (projQ m d) (projK m d)) x).toNat < 4096
  exact pick_lt _

end Cert.Proof.WholeIdeal

end
-- ==== Proof.Reference.lean ====
/-
  What the reference computes: its scatter, read at one element, is the fold of the row's eight pairs over zero.
-/
module

public import proofs.«01_k».proof.Proof.Scatter
public import proofs.«01_k».proof.Proof.Gen.ReferenceIdeal
public import proofs.«01_k».proof.Proof.Gen.ReferenceIdeal.Run
public import Idealize.ShloMosaic.Lib.Routing.OpsPair
public import Idealize.ShloMosaic.Lib.Pipeline.ValueKit.Tiles

@[expose] public section

noncomputable section

namespace Cert.Proof.Reference

open Idealize.ShloMosaic Idealize.ShloMosaic.TcCoe Idealize.SL.Sem Idealize.ShloMosaic.Routing
open Cert.Proof.Scatter Cert.ReferenceIdeal Cert.ReferenceIdeal.Gen

/-! ## The fold over all the updates, read at one row -/

theorem foldl_same {ι γ : Type} (L : List ι) (g : γ → ι → γ) (h : ∀ k ∈ L, ∀ a, g a k = a) (a : γ) : L.foldl g a = a := by
  induction L generalizing a with
  | nil => rfl
  | cons k L ih => rw [List.foldl_cons, h k (List.mem_cons_self ..), ih fun k' hk' => h k' (List.mem_cons_of_mem _ hk')]

theorem foldl_step {ι γ : Type} (L : List ι) (f g : γ → ι → γ) (a : γ) (h : ∀ a k, f a k = g a k) : L.foldl f a = L.foldl g a := by
  rw [show f = g from funext fun a => funext fun k => h a k]

/-- Of all the updates in order, eight a row, those of row `ρ` alone reach the elements of row `ρ`. -/
theorem fold_row {α : Type} (N ρ : ℕ) (hρ : 8 * ρ + 8 ≤ N) (I : ℕ → BitVec 32) (V : ℕ → α) (z : α) (c : ℕ) :
    (List.finRange N).foldl (fun a n => if n.val / 8 = ρ ∧ (I n.val).toNat = c then V n.val else a) z = sc z I V ρ c := by
  have e1 : (List.finRange N).foldl (fun a n => if n.val / 8 = ρ ∧ (I n.val).toNat = c then V n.val else a) z
      = (List.range N).foldl (fun a n => if n / 8 = ρ ∧ (I n).toNat = c then V n else a) z := by
    rw [← List.map_coe_finRange_eq_range, List.foldl_map]
  have e2 : sc z I V ρ c = (List.range' (8 * ρ) 8).foldl (fun a n => if n / 8 = ρ ∧ (I n).toNat = c then V n else a) z := by
    unfold sc rowFold
    rw [List.range'_eq_map_range, ← List.map_coe_finRange_eq_range, List.map_map, List.foldl_map]
    congr 1
    funext a k
    have hk : (8 * ρ + k.val) / 8 = ρ := by omega
    show _ = if (8 * ρ + k.val) / 8 = ρ ∧ _ then _ else _
    simp only [hk, true_and, Function.comp]
  have e3 : List.range N = List.range' 0 (8 * ρ) ++ (List.range' (8 * ρ) 8 ++ List.range' (8 * ρ + 8) (N - (8 * ρ + 8))) := by
    rw [List.range'_append_1]
    have h := List.range'_append_1 (s := 0) (m := 8 * ρ) (n := 8 + (N - (8 * ρ + 8)))
    rw [Nat.zero_add] at h
    rw [h, List.range_eq_range']
    congr 1
    omega
  rw [e1, e2, e3, List.foldl_append, List.foldl_append]
  rw [foldl_same (List.range' 0 (8 * ρ)) _ (fun k hk a => if_neg fun h => by rw [List.mem_range'_1] at hk; omega)]
  exact foldl_same _ _ (fun k hk a => if_neg fun h => by rw [List.mem_range'_1] at hk; omega) _

/-! ## Where an update lands -/

abbrev dims : ScatterDims S2x4096x4096 S2x4096x8x3 S2x4096x8 := scatter_S2x4096x4096_S2x4096x8x3_S2x4096x8_n_012_012_3

/-- The word of update `j` for axis `q`. -/
def at4 (j : S2x4096x8.Idx) (q : Fin 3) : S2x4096x8x3.Idx := fun | 0 => j 0 | 1 => j 1 | 2 => j 2 | 3 => q

theorem start_eq (idx : IVec S2x4096x8x3 32) (j : S2x4096x8.Idx) (q : Fin 3) : dims.start j idx q = (idx (at4 j q)).toInt := by
  unfold ScatterDims.start
  have hq : q ∈ dims.scatterDimsToOperandDims := by revert q; decide
  rw [dif_pos hq]
  refine congrArg (fun x => (idx x).toInt) (funext fun b => Fin.ext ?_)
  match q, b with
  | 0, 0 => rfl
  | 0, 1 => rfl
  | 0, 2 => rfl
  | 0, 3 => rfl
  | 1, 0 => rfl
  | 1, 1 => rfl
  | 1, 2 => rfl
  | 1, 3 => rfl
  | 2, 0 => rfl
  | 2, 1 => rfl
  | 2, 2 => rfl
  | 2, 3 => rfl

theorem window_eq (j : S2x4096x8.Idx) (q : Fin 3) : dims.window j q = 0 := by
  unfold ScatterDims.window
  rw [dif_neg (by revert q; decide)]

/-- Update `j` lands at `ι` exactly when its three words, read signed, are `ι`'s coordinates. -/
theorem lands (idx : IVec S2x4096x8x3 32) (j : S2x4096x8.Idx) (ι : S2x4096x4096.Idx) :
    dims.resultIdx? j idx = some ι ↔ ∀ q : Fin 3, (idx (at4 j q)).toInt = ((ι q).val : Int) := by
  rw [resultIdx?_eq_some]
  refine forall_congr' fun q => ?_
  rw [start_eq, window_eq]
  simp

/-! ## The words -/

/-- Update `j` in a column of words. -/
def col (j : S2x4096x8.Idx) : S2x4096x8x1.Idx := fun | 0 => j 0 | 1 => j 1 | 2 => j 2 | 3 => ⟨0, Nat.one_pos⟩

/-- Three columns side by side, read. -/
theorem concat3 (x0 x1 x2 : S2x4096x8x1.Idx → BitVec 32)
    (h : Shape.Concatenates [S2x4096x8x1, S2x4096x8x1, S2x4096x8x1] S2x4096x8x3 3) (j : S2x4096x8.Idx) (q : Fin 3) :
    concatenate S2x4096x8x3 3 [⟨S2x4096x8x1, x0⟩, ⟨S2x4096x8x1, x1⟩, ⟨S2x4096x8x1, x2⟩] h (at4 j q)
      = (![x0, x1, x2] : Fin 3 → S2x4096x8x1.Idx → BitVec 32) q (col j) := by
  have key : ∀ i : S2x4096x8x1.Idx, (i 3).val = 0 → (∀ b : Fin 4, b ≠ 3 → (i b).val = (at4 j q b).val) → i = col j := by
    intro i h3 hb
    funext b
    refine Fin.ext ?_
    match b with
    | 0 => exact hb 0 (by decide)
    | 1 => exact hb 1 (by decide)
    | 2 => exact hb 2 (by decide)
    | 3 => exact h3
  have piece : ∀ (p : Fin 3) (x : S2x4096x8x1.Idx → BitVec 32), (q = p → (![x0, x1, x2] : Fin 3 → S2x4096x8x1.Idx → BitVec 32) q = x) →
      PieceAt (t := S2x4096x8x3) 3 (at4 j q) ((![x0, x1, x2] : Fin 3 → S2x4096x8x1.Idx → BitVec 32) q (col j)) S2x4096x8x1 x p.val := by
    intro p x hx hq _ i h0 hb
    rw [hx (Fin.ext hq), key i h0 hb]
  refine concatenate_unit_eq _ _ _ _ _ rfl ⟨piece 0 x0 ?_, piece 1 x1 ?_, piece 2 x2 ?_, trivial⟩
  · rintro rfl; rfl
  · rintro rfl; rfl
  · rintro rfl; rfl

/-- A word below 4096, read signed. -/
theorem toInt_small (x : BitVec 32) (h : x.toNat < 4096) : x.toInt = (x.toNat : Int) := by
  rw [BitVec.toInt_eq_toNat_cond, if_pos (by omega)]

/-- The words of the updates: the batch, the row and the column, each wrapped as jnp wraps an index. -/
def words (a : IVec S2x4096x8 32) : IVec S2x4096x8x3 32 :=
  concatenate S2x4096x8x3 3
    [⟨S2x4096x8x1, broadcastInDim S2x4096x8x1 ![0, 1, 2] bcast_S2x4096x8_S2x4096x8x1_0_1_2 (broadcastInDim S2x4096x8 ![0, 1, 2] bcast_S2x1x1_S2x4096x8_0_1_2
        (select (cmpi .slt (broadcastInDim S2x1x1 ![0] bcast_S2_S2x1x1_0 (iotaInDim S2 32 0)) (broadcastInDim S2x1x1 ![] bcast_S_S2x1x1 (constantI S_ 32 0#32)))
          (addi (broadcastInDim S2x1x1 ![0] bcast_S2_S2x1x1_0 (iotaInDim S2 32 0)) (broadcastInDim S2x1x1 ![] bcast_S_S2x1x1 (constantI S_ 32 2#32)))
          (broadcastInDim S2x1x1 ![0] bcast_S2_S2x1x1_0 (iotaInDim S2 32 0))))⟩,
     ⟨S2x4096x8x1, broadcastInDim S2x4096x8x1 ![0, 1, 2] bcast_S2x4096x8_S2x4096x8x1_0_1_2 (broadcastInDim S2x4096x8 ![0, 1, 2] bcast_S1x4096x1_S2x4096x8_0_1_2
        (select (cmpi .slt (broadcastInDim S1x4096x1 ![1] bcast_S4096_S1x4096x1_1 (iotaInDim S4096 32 0)) (broadcastInDim S1x4096x1 ![] bcast_S_S1x4096x1 (constantI S_ 32 0#32)))
          (addi (broadcastInDim S1x4096x1 ![1] bcast_S4096_S1x4096x1_1 (iotaInDim S4096 32 0)) (broadcastInDim S1x4096x1 ![] bcast_S_S1x4096x1 (constantI S_ 32 4096#32)))
          (broadcastInDim S1x4096x1 ![1] bcast_S4096_S1x4096x1_1 (iotaInDim S4096 32 0))))⟩,
     ⟨S2x4096x8x1, broadcastInDim S2x4096x8x1 ![0, 1, 2] bcast_S2x4096x8_S2x4096x8x1_0_1_2
        (select (cmpi .slt a (broadcastInDim S2x4096x8 ![] bcast_S_S2x4096x8 (constantI S_ 32 0#32)))
          (addi a (broadcastInDim S2x4096x8 ![] bcast_S_S2x4096x8 (constantI S_ 32 4096#32))) a)⟩]
    concatenates_S2x4096x8x1_S2x4096x8x1_S2x4096x8x1_S2x4096x8x3_d3

theorem word_batch (a : IVec S2x4096x8 32) (j : S2x4096x8.Idx) : (words a (at4 j 0)).toInt = ((j 0).val : Int) := by
  have hj : (j 0).val < 2 := (j 0).isLt
  have e : (BitVec.ofNat 32 (j 0).val).toNat = (j 0).val := by rw [BitVec.toNat_ofNat]; exact Nat.mod_eq_of_lt (by omega)
  unfold words
  rw [concat3]
  show (Scalar.select (IntOp.cmpi .slt (BitVec.ofNat 32 (j 0).val) 0#32) _ (BitVec.ofNat 32 (j 0).val)).toInt = _
  rw [wrap_of_lt _ _ (by rw [e]; omega), toInt_small _ (by rw [e]; omega), e]

theorem word_row (a : IVec S2x4096x8 32) (j : S2x4096x8.Idx) : (words a (at4 j 1)).toInt = ((j 1).val : Int) := by
  have hj : (j 1).val < 4096 := (j 1).isLt
  have e : (BitVec.ofNat 32 (j 1).val).toNat = (j 1).val := by rw [BitVec.toNat_ofNat]; exact Nat.mod_eq_of_lt (by omega)
  unfold words
  rw [concat3]
  show (Scalar.select (IntOp.cmpi .slt (BitVec.ofNat 32 (j 1).val) 0#32) _ (BitVec.ofNat 32 (j 1).val)).toInt = _
  rw [wrap_of_lt _ _ (by rw [e]; omega), toInt_small _ (by rw [e]; omega), e]

theorem word_col (a : IVec S2x4096x8 32) (j : S2x4096x8.Idx) (h : (a j).toNat < 4096) : (words a (at4 j 2)).toInt = ((a j).toNat : Int) := by
  have ej : ∀ x : S2x4096x8.Idx, (x 0).val = (j 0).val → (x 1).val = (j 1).val → (x 2).val = (j 2).val → x = j := by
    intro x h0 h1 h2
    funext b
    match b with
    | 0 => exact Fin.ext h0
    | 1 => exact Fin.ext h1
    | 2 => exact Fin.ext h2
  have hx : ∃ x : S2x4096x8.Idx, ((x 0).val = (j 0).val ∧ (x 1).val = (j 1).val ∧ (x 2).val = (j 2).val)
      ∧ words a (at4 j 2) = Scalar.select (IntOp.cmpi .slt (a x) 0#32) (IntOp.addi (a x) 4096#32) (a x) := by
    refine ⟨_, ?_, by unfold words; rw [concat3]; exact rfl⟩
    exact ⟨rfl, rfl, rfl⟩
  obtain ⟨x, ⟨h0, h1, h2⟩, hx⟩ := hx
  rw [hx, ej x h0 h1 h2, wrap_of_lt _ _ (by omega), toInt_small _ h]

/-! ## The result -/

variable {F : FTy → Type} [FloatOps F]

theorem numel_eq : S2x4096x8.numel = 65536 := by
  simp [Shape.numel, Fin.prod_univ_succ]

/-- Element `n` of an array of eight a row, in row-major order. -/
def flat {α : Type} (x : S2x4096x8.Idx → α) (d : α) (n : ℕ) : α :=
  if h : n < S2x4096x8.numel then x (S2x4096x8.rowMajor.symm ⟨n, h⟩) else d

theorem flat_of {α : Type} (x : S2x4096x8.Idx → α) (d : α) (n : Fin S2x4096x8.numel) : flat x d n.val = x (S2x4096x8.rowMajor.symm n) :=
  dif_pos n.isLt

theorem flat_out {α : Type} (x : S2x4096x8.Idx → α) (d : α) (n : ℕ) (h : ¬ n < 65536) : flat x d n = d :=
  dif_neg (show ¬ n < S2x4096x8.numel by rw [numel_eq]; exact h)

/-- The reference's array. -/
def out (x : S2x4096x8.Idx → Elt F .f32) (a : IVec S2x4096x8 32) : S2x4096x4096.Idx → Elt F .f32 :=
  Host.scatter dims (fun _ b => b) (broadcastInDim S2x4096x4096 ![] bcast_S_S2x4096x4096 (constant S_ .f32 0x00000000#32)) (words a) x

theorem out_eq (x : S2x4096x8.Idx → Elt F .f32) (a : IVec S2x4096x8 32) (ha : ∀ j, (a j).toNat < 4096) (ι : S2x4096x4096.Idx) :
    out x a ι = sc (Scalar.ofBits .f32 0x00000000#32 : F .f32) (flat a 0#32) (flat x (Scalar.ofBits .f32 0x00000000#32 : F .f32))
      (4096 * (ι 0).val + (ι 1).val) (ι 2).val := by
  have h0 : (ι 0).val < 2 := (ι 0).isLt
  have h1 : (ι 1).val < 4096 := (ι 1).isLt
  refine (scatter_at dims _ _ _ _ ι).trans (Eq.trans ?_ (fold_row S2x4096x8.numel (4096 * (ι 0).val + (ι 1).val)
    (by rw [numel_eq]; omega) (flat a 0#32) (flat x _) _ (ι 2).val))
  refine foldl_step _ _ _ _ fun r n => ?_
  refine if_congr ?_ (flat_of x _ n).symm rfl
  rw [lands, flat_of]
  have hn := Shape.rowMajor_val_three (S2x4096x8.rowMajor.symm n)
  rw [Equiv.apply_symm_apply] at hn
  have hn' : n.val = ((S2x4096x8.rowMajor.symm n 0).val * 4096 + (S2x4096x8.rowMajor.symm n 1).val) * 8 + (S2x4096x8.rowMajor.symm n 2).val := hn
  generalize S2x4096x8.rowMajor.symm n = j at hn' ⊢
  have j1 : (j 1).val < 4096 := (j 1).isLt
  have j2 : (j 2).val < 8 := (j 2).isLt
  constructor
  · intro H
    have e0 := H 0
    have e1 := H 1
    have e2 := H 2
    rw [word_batch] at e0
    rw [word_row] at e1
    rw [word_col _ _ (ha j)] at e2
    omega
  · rintro ⟨e, e2⟩ q
    match q with
    | 0 => rw [word_batch]; omega
    | 1 => rw [word_row]; omega
    | 2 => rw [word_col _ _ (ha j)]; exact congrArg Nat.cast e2

/-- The reference's run: its result holds `out` of its arguments, and those are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.Reference

end
-- ==== Proof.Masked.lean ====
/-
  The masked softmax on the extended reals: scores outside the eight largest of a row replaced by minus infinity, the softmax over
  the whole row, is the softmax of the eight alone, written at their columns over zero.
-/
module

public import proofs.«01_k».proof.Proof.Ranking
public import proofs.«01_k».proof.Proof.Reference

@[expose] public section

noncomputable section

namespace Cert.Masked

open Idealize.ShloMosaic hiding ix1 ix2 ix3 eq_ix1 eq_ix2 eq_ix3
open Idealize.ShloMosaic.ValueIdx Cert.Rows Cert.Rounds Cert.Ranking
open Cert.Proof.Scatter Cert.Proof
open scoped BigOperators

/-! ## Eight pairs at distinct columns -/

theorem foldl_const {α : Type} (L : List (Fin 8)) (I : Fin 8 → BitVec 32) (V : Fin 8 → α) (c : ℕ) (v : α)
    (hV : ∀ k, (I k).toNat = c → V k = v) : ∀ a, (a = v ∨ ∃ k ∈ L, (I k).toNat = c) →
      L.foldl (fun a k => if (I k).toNat = c then V k else a) a = v := by
  induction L with
  | nil => rintro a (h | ⟨k, hk, -⟩); exacts [h, absurd hk (List.not_mem_nil)]
  | cons k L ih =>
    intro a h
    rw [List.foldl_cons]
    refine ih _ ?_
    by_cases hk : (I k).toNat = c
    · rw [if_pos hk]; exact Or.inl (hV k hk)
    · rw [if_neg hk]
      rcases h with h | ⟨k', hk', e⟩
      · exact Or.inl h
      · rcases List.mem_cons.mp hk' with rfl | hk'
        · exact absurd e hk
        · exact Or.inr ⟨k', hk', e⟩

theorem fold_hit {α : Type} (I : Fin 8 → BitVec 32) (V : Fin 8 → α) (z : α) (c : ℕ) (k : Fin 8) (hk : (I k).toNat = c)
    (hI : ∀ j, (I j).toNat = c → j = k) : rowFold I V z c = V k :=
  foldl_const _ I V c (V k) (fun j hj => congrArg V (hI j hj)) z (Or.inr ⟨k, List.mem_finRange k, hk⟩)

theorem fold_miss {α : Type} (I : Fin 8 → BitVec 32) (V : Fin 8 → α) (z : α) (c : ℕ) (h : ∀ k, (I k).toNat ≠ c) : rowFold I V z c = z :=
  foldl_const _ I V c z (fun j hj => absurd hj (h j)) z (Or.inl rfl)

theorem fold_congr {α : Type} {I I' : Fin 8 → BitVec 32} {V V' : Fin 8 → α} (z : α) (c : ℕ) (hI : ∀ k, I k = I' k) (hV : ∀ k, V k = V' k) :
    rowFold I V z c = rowFold I' V' z c := by
  rw [show I = I' from funext hI, show V = V' from funext hV]

/-! ## Row `n` of batch `b` of a scatter of eight a row -/

/-- The eight of the row, of an array flattened. -/
theorem flat_at {α : Type} (x : Rows.S2x4096x8.Idx → α) (d : α) (b : Fin 2) (n : Fin 4096) (k : Fin 8) :
    Reference.flat x d (8 * (4096 * b.val + n.val) + k.val) = x (ix3 b n k) := by
  have h := Shape.rowMajor_val_three (ix3 b n k : Rows.S2x4096x8.Idx)
  have h' : (Rows.S2x4096x8.rowMajor (ix3 b n k)).val = (b.val * 4096 + n.val) * 8 + k.val := h
  rw [show 8 * (4096 * b.val + n.val) + k.val = (Rows.S2x4096x8.rowMajor (ix3 b n k)).val by omega]
  refine (Reference.flat_of x d _).trans ?_
  exact congrArg x (Equiv.symm_apply_apply _ _)

/-- The scatter at column `c` of the row: the row's eight pairs in order. -/
theorem out_row (x : FVec Ideal Rows.S2x4096x8 .f32) (a : IVec Rows.S2x4096x8 32) (ha : ∀ j, (a j).toNat < 4096) (b : Fin 2) (n c : Fin 4096) :
    Reference.out (F := Ideal) x a (ix3 b n c) = rowFold (fun k => a (ix3 b n k)) (fun k => x (ix3 b n k)) (0 : EReal) c.val := by
  refine (Reference.out_eq (F := Ideal) x a ha (ix3 b n c)).trans ?_
  rw [show (Scalar.ofBits .f32 0x00000000#32 : Ideal .f32) = (0 : EReal) from zero_bits]
  exact fold_congr (0 : EReal) c.val (fun k => flat_at a _ b n k) (fun k => flat_at x _ b n k)

/-! ## The masked scores -/

theorem bc8 : S_.BroadcastsInDim Rows.S2x4096x8 (![] : Fin 0 → Fin 3) := by decide
theorem hbF : S2x4096x1.BroadcastsInDim S2x4096x4096 (![0, 1, 2] : Fin 3 → Fin 3) := by decide
theorem hrF : S2x4096x4096.ReducesTo [2] S2x4096 := by decide
theorem hF : S2x4096x4096.Reduces [2] S2x4096 := by decide

/-- One at the columns named, zero elsewhere. -/
abbrev mask (a : IVec Rows.S2x4096x8 32) : FVec Ideal S2x4096x4096 .f32 :=
  Reference.out (F := Ideal) (broadcastInDim Rows.S2x4096x8 ![] bc8 (constant (F := Ideal) S_ .f32 0x3F800000#32)) a

/-- The scores where the mask is one, minus infinity elsewhere. -/
abbrev masked (Q K : FVec Ideal Rows.S2x4096x192 .f32) : FVec Ideal S2x4096x4096 .f32 :=
  select (cmpf .oeq (mask (top8 (hscores Q K)).2) (broadcastInDim S2x4096x4096 ![] bcs (constant (F := Ideal) S_ .f32 0x3F800000#32)))
    (hscores Q K) (broadcastInDim S2x4096x4096 ![] bcs (constant (F := Ideal) S_ .f32 0xFF800000#32))

theorem one_bits : (FloatOps.ofBits .f32 0x3F800000#32 : Ideal .f32) = (1 : EReal) := Ideal.ofBits_one_f32

theorem select_at (u x : FVec Ideal S2x4096x4096 .f32) (i : S2x4096x4096.Idx) :
    select (cmpf .oeq u (broadcastInDim S2x4096x4096 ![] bcs (constant (F := Ideal) S_ .f32 0x3F800000#32))) x
      (broadcastInDim S2x4096x4096 ![] bcs (constant (F := Ideal) S_ .f32 0xFF800000#32)) i = if u i = (1 : EReal) then x i else ⊥ := by
  show (if BitVec.ofBool (decide ((u i : EReal) = FloatOps.ofBits (F := Ideal) .f32 0x3F800000#32)) = 1
    then x i else FloatOps.ofBits (F := Ideal) .f32 0xFF800000#32) = _
  rw [one_bits, bot_bits]
  simp only [ofBool_one]

section
variable (Q K : FVec Ideal Rows.S2x4096x192 .f32) (b : Fin 2) (n : Fin 4096)

/-- The columns of the row's eight largest. -/
abbrev place (k : Fin 8) : Fin 4096 := src (scores Q K b n) (k.castLE (by omega))

theorem place_word (k : Fin 8) : ((top8 (hscores Q K)).2 (ix3 b n k)).toNat = (place Q K b n k).val := by
  rw [top8_snd, line_scores, BitVec.toNat_ofNat]
  have := (place Q K b n k).isLt
  exact Nat.mod_eq_of_lt (by omega)

theorem word_lt (j : Rows.S2x4096x8.Idx) : ((top8 (hscores Q K)).2 j).toNat < 4096 := by
  rw [eq_ix3 j]
  exact lt_of_eq_of_lt (place_word Q K (j 0) (j 1) (j 2)) (place Q K (j 0) (j 1) (j 2)).isLt

theorem mask_row (c : Fin 4096) : mask (top8 (hscores Q K)).2 (ix3 b n c)
    = rowFold (fun k => (top8 (hscores Q K)).2 (ix3 b n k)) (fun _ => (1 : EReal)) (0 : EReal) c.val := by
  refine (out_row _ _ (word_lt Q K) b n c).trans ?_
  exact fold_congr (0 : EReal) c.val (fun _ => rfl) (fun _ => one_bits)

variable (h : Ranked (scores Q K b n) (place Q K b n))

theorem masked_at (c : Fin 4096) : masked Q K (ix3 b n c)
    = if mask (top8 (hscores Q K)).2 (ix3 b n c) = (1 : EReal) then scores Q K b n c else ⊥ := by
  refine (select_at (mask (top8 (hscores Q K)).2) (hscores Q K) (ix3 b n c)).trans ?_
  rw [hscores_apply]

theorem masked_on (k : Fin 8) : masked Q K (ix3 b n (place Q K b n k)) = scores Q K b n (place Q K b n k) := by
  rw [masked_at, mask_row, if_pos]
  exact foldl_const _ _ _ _ _ (fun _ _ => rfl) _ (Or.inr ⟨k, List.mem_finRange k, place_word Q K b n k⟩)

theorem masked_off (c : Fin 4096) (hc : ∀ k, place Q K b n k ≠ c) : masked Q K (ix3 b n c) = ⊥ := by
  rw [masked_at, mask_row, if_neg]
  rw [fold_miss _ _ _ _ fun k e => hc k (Fin.ext ((place_word Q K b n k).symm.trans e))]
  exact zero_ne_one

include h

theorem top_masked : (top fun c : Fin 4096 => masked Q K (ix3 b n c)) = scores Q K b n (place Q K b n 0) := by
  refine le_antisymm (top_le _ _ fun c => ?_) ?_
  · by_cases hc : ∃ k, place Q K b n k = c
    · obtain ⟨k, rfl⟩ := hc
      rw [masked_on]
      rcases Nat.eq_zero_or_pos k.val with h0 | h0
      · rw [show k = 0 from Fin.ext h0]
      · exact (h.desc 0 k h0).le
    · rw [masked_off Q K b n c fun k e => hc ⟨k, e⟩]
      exact bot_le
  · rw [← masked_on Q K b n 0]
    exact le_top (fun c : Fin 4096 => masked Q K (ix3 b n c)) (place Q K b n 0)

theorem total : (∑ c : Fin 4096, Ideal.exp (masked Q K (ix3 b n c) - scores Q K b n (place Q K b n 0)))
    = ∑ k : Fin 8, Ideal.exp (scores Q K b n (place Q K b n k) - scores Q K b n (place Q K b n 0)) := by
  refine (Fintype.sum_of_injective (place Q K b n) h.inj _ _ (fun c hc => ?_) fun k => ?_).symm
  · rw [masked_off Q K b n c fun k e => hc ⟨k, e⟩, sub_eq_add_neg, EReal.bot_add]
    rfl
  · rw [masked_on]

end

theorem exp_nonneg (x : EReal) : 0 ≤ Ideal.exp x := by
  induction x using EReal.rec with
  | bot => exact le_of_eq Ideal.exp_bot.symm
  | coe r => rw [Ideal.exp_coe]; exact_mod_cast (Real.exp_pos r).le
  | top => rw [Ideal.exp_top]; exact le_top

/-- The eight's exponentials add up to no less than one. -/
theorem total_ne (v : Fin 8 → EReal) (hb : ⊥ < v 0) (ht : v 0 < ⊤) : (∑ k : Fin 8, Ideal.exp (v k - v 0)) ≠ 0 := by
  have e : Ideal.exp (v 0 - v 0) = 1 := by
    rw [EReal.sub_self ht.ne hb.ne', show (0 : EReal) = ((0 : ℝ) : EReal) from rfl, Ideal.exp_coe, Real.exp_zero]
    rfl
  have h1 : (1 : EReal) ≤ ∑ k : Fin 8, Ideal.exp (v k - v 0) := by
    rw [← e]
    exact Finset.single_le_sum (f := fun k : Fin 8 => Ideal.exp (v k - v 0)) (fun k _ => exp_nonneg _) (Finset.mem_univ 0)
  intro h0
  rw [h0] at h1
  exact absurd h1 (not_le.mpr zero_lt_one)

/-! ## The masked softmax is the scatter of the eight weights -/

theorem masked_soft (Q K : FVec Ideal Rows.S2x4096x192 .f32) (h : Apart Q K) (ht : ∀ b n, scores Q K b n (place Q K b n 0) < ⊤) :
    hsoft hbF hrF (masked Q K) = Reference.out (F := Ideal) (values Q K) (indices Q K) := by
  funext i
  obtain ⟨b, n, c, rfl⟩ : ∃ b n c, i = ix3 b n c := ⟨i 0, i 1, i 2, eq_ix3 i⟩
  have hR : Ranked (scores Q K b n) (place Q K b n) := h b n
  have hw : ∀ k : Fin 8, (indices Q K (ix3 b n k)).toNat = (place Q K b n k).val := fun k => by
    rw [← reference_indices Q K h]; exact place_word Q K b n k
  refine (hsoft_apply hbF hrF hF _ b n c).trans ?_
  rw [top_masked Q K b n hR, total Q K b n hR]
  refine Eq.trans ?_ (out_row (values Q K) (indices Q K) (fun j => pick_lt _) b n c).symm
  by_cases hc : ∃ k, place Q K b n k = c
  · obtain ⟨k, rfl⟩ := hc
    rw [masked_on, fold_hit (fun k => indices Q K (ix3 b n k)) (fun k => values Q K (ix3 b n k)) (0 : EReal) _ k (hw k) fun j hj => hR.inj (Fin.ext ((hw j).symm.trans hj))]
    show _ = soft (fun j => top (after (scores Q K b n) j.val)) k
    rw [show (fun j : Fin 8 => top (after (scores Q K b n) j.val)) = fun j => scores Q K b n (place Q K b n j) from funext fun j => (hR.round j).1]
    rfl
  · rw [masked_off Q K b n c fun k e => hc ⟨k, e⟩, fold_miss (fun k => indices Q K (ix3 b n k)) (fun k => values Q K (ix3 b n k)) (0 : EReal) _ fun k e => hc ⟨k, Fin.ext ((hw k).symm.trans e)⟩,
      sub_eq_add_neg, EReal.bot_add, Ideal.exp_bot]
    unfold Ideal.div
    rw [if_neg (total_ne (fun k => scores Q K b n (place Q K b n k)) (hR.fin 0) (ht b n)), zero_mul]

end Cert.Masked

end
-- ==== Proof.WholeValue.lean ====
/-
  The whole program's claims over the extended reals: its precondition read, its result and the reference's joined.
-/
module

public import proofs.«01_k».proof.Defs
public import proofs.«01_k».proof.Proof.WholeBlocks
public import proofs.«01_k».proof.Proof.Masked
public import proofs.«01_k».proof.Proof.Range
public import proofs.«01_k».proof.Proof.RanksValue
public import proofs.«01_k».proof.Proof.Gen.MathsIdeal.Run
public import proofs.«01_k».proof.Proof.Gen.Pre_scores_apart

@[expose] public section

noncomputable section

namespace Cert.Proof.WholeIdeal

open Cert.WholeIdeal Cert.WholeIdeal.Gen
open Cert.Proof.Scatter
open Idealize.ShloMosaic hiding ix1 ix2 ix3 eq_ix1 eq_ix2 eq_ix3
open Idealize.ShloMosaic.ValueIdx Idealize.ShloMosaic.TcCoe Idealize.SL.Sem
open Cert.Rows Cert.Affine Cert.Ranking Cert.Masked

/-! ## The result as a scatter of the ranking -/

section
variable (m : (ℓ : Loc nD τ sig) → Buf (Elt Ideal) ℓ)

/-- A flat array reshaped from eight a row holds the row-major elements. -/
theorem cast_flat {α : Type} (x : Cert.WholeIdeal.S2x4096x8.Idx → α) (d : α) (n : ℕ) (h : n < 65536) :
    (shapeCast S65536 x shapeCasts_S2x4096x8_S65536 : S65536.Idx → α) (fun | 0 => ⟨n, h⟩) = Reference.flat x d n := by
  unfold Reference.flat
  rw [dif_pos (show n < Cert.ReferenceIdeal.S2x4096x8.numel by rw [Reference.numel_eq]; exact h)]
  refine congrArg x (Equiv.injective Cert.WholeIdeal.S2x4096x8.rowMajor (Fin.ext ?_))
  refine (Shape.rowMajor_reshapeEquiv _ _).trans ?_
  rw [Shape.rowMajor_val_one]
  exact (congrArg Fin.val (Equiv.apply_symm_apply Cert.WholeIdeal.S2x4096x8.rowMajor _)).symm

theorem gI_flat (d : Dev nD) : gI (CI m) d = Reference.flat (indices (projQ m d) (projK m d)) 0#32 := by
  funext n
  unfold gI
  split
  · next h => rw [CI_eq, V4_indices]; exact cast_flat _ _ n h
  · next h => exact (Reference.flat_out _ _ n h).symm
theorem gV_flat (d : Dev nD) : gV (CA m) d = Reference.flat (α := Elt Ideal .f32) (values (projQ m d) (projK m d)) z := by
  funext n
  unfold gV
  split
  · next h => rw [CA_eq, V4_values]; exact cast_flat _ _ n h
  · next h => exact (Reference.flat_out _ _ n h).symm

theorem result_eq (d : Dev nD) : V8 m d y' = Reference.out (F := Ideal) (values (projQ m d) (projK m d)) (indices (projQ m d) (projK m d)) := by
  rw [V8_y]
  funext ι
  refine Eq.trans ?_ (Reference.out_eq (F := Ideal) (values (projQ m d) (projK m d)) (indices (projQ m d) (projK m d)) (fun j => pick_lt _) ι).symm
  have e := Shape.rowMajor_reshapeEquiv (s := S8192x4096) (s' := Cert.WholeIdeal.S2x4096x4096) shapeCasts_S8192x4096_S2x4096x4096 ι
  show sc z (gI (CI m) d) (gV (CA m) d) ((Shape.reshapeEquiv (s := S8192x4096) (s' := Cert.WholeIdeal.S2x4096x4096) shapeCasts_S8192x4096_S2x4096x4096 ι) 0).val
    ((Shape.reshapeEquiv (s := S8192x4096) (s' := Cert.WholeIdeal.S2x4096x4096) shapeCasts_S8192x4096_S2x4096x4096 ι) 1).val = _
  rw [gI_flat, gV_flat]
  generalize Shape.reshapeEquiv (s := S8192x4096) (s' := Cert.WholeIdeal.S2x4096x4096) shapeCasts_S8192x4096_S2x4096x4096 ι = p at e ⊢
  rw [Shape.rowMajor_val_two, Shape.rowMajor_val_three] at e
  have e' : (p 0).val * 4096 + (p 1).val = ((ι 0).val * 4096 + (ι 1).val) * 4096 + (ι 2).val := e
  have p1 : (p 1).val < 4096 := (p 1).isLt
  have i2 : (ι 2).val < 4096 := (ι 2).isLt
  rw [show (p 0).val = 4096 * (ι 0).val + (ι 1).val by omega, show (p 1).val = (ι 2).val by omega]

/-- The program's run: its result is the scatter of the ranking of the projections, its arguments unchanged. -/
theorem run (ρ : Dev nD → PrngReg) :
    θ_run (Cert.WholeIdeal.defs (F := Ideal)) (Cert.WholeIdeal.threads (F := Ideal)) ⟨m, fun _ => 0, ρ⟩ fun r => (∀ c : Dev nD,
      r.2.mem (at' c main_v7) = Reference.out (F := Ideal) (values (projQ m c) (projK m c)) (indices (projQ m c) (projK m c))
      ∧ r.2.mem (at' c main_arg0) = m (at' c main_arg0) ∧ r.2.mem (at' c main_arg1) = m (at' c main_arg1)
      ∧ r.2.mem (at' c main_arg2) = m (at' c main_arg2) ∧ r.2.mem (at' c main_arg3) = m (at' c main_arg3)
      ∧ r.2.mem (at' c main_arg4) = m (at' c main_arg4)) ∧ r.2.sem = fun _ => 0 :=
  (θ_run (Cert.WholeIdeal.defs (F := Ideal)) _ _).mono (fun r h => ⟨fun c => by
      obtain ⟨h0, h1, h2, h3, h4, h7⟩ := h.1 c
      exact ⟨h7.trans (result_eq m c), h0.trans (arg0 m c), h1.trans (arg1 m c), h2.trans (arg2 m c), h3.trans (arg3 m c), h4.trans (arg4 m c)⟩, h.2⟩)
    (run_main (F := Ideal) m ρ (idxOK m))

end

/-! ## The precondition, read -/

theorem top_bits : (FloatOps.ofBits .f32 0x7F800000#32 : Ideal .f32) = (⊤ : EReal) := by
  show Ideal.ofBits .f32 0x7F800000#32 = ⊤
  simp [Ideal.ofBits, Ideal.ieee]

theorem and_one (x y : BitVec 1) (h : IntOp.andi x y = 1#1) : x = 1#1 ∧ y = 1#1 := by
  revert x y; decide

/-- The third comparison of the precondition at a position. -/
theorem below_bits (x : FVec Ideal Rows.S2x4096x8 .f32) (h0 : Rows.S2x4096x8.Slices ![0, 0, 0] RanksValue.S2x4096x7) (b : Fin 2) (n : Fin 4096) (k : Fin 7)
    (h : FloatOps.cmpf .olt (extractStridedSlice RanksValue.S2x4096x7 ![0, 0, 0] x h0 (ix3 b n k)) (FloatOps.ofBits (F := Ideal) .f32 0x7F800000#32) = 1#1) :
    x (ix3 b n ⟨k.val, by omega⟩) < ⊤ := by
  have e0 : extractStridedSlice RanksValue.S2x4096x7 ![0, 0, 0] x h0 (ix3 b n k) = x (ix3 b n ⟨k.val, by omega⟩) := by
    unfold extractStridedSlice
    refine congrArg x (funext fun a => Fin.ext ?_)
    match a with
    | 0 => simp
    | 1 => simp
    | 2 => simp
  rw [e0, top_bits] at h
  generalize x (ix3 b n ⟨k.val, by omega⟩) = v at h ⊢
  change BitVec.ofBool (decide ((v : EReal) < ⊤)) = 1#1 at h
  rw [Range.bit_one] at h
  exact of_decide_eq_true h

section
variable (X : FVec Ideal Affine.S2x4096x768 .f32) (Wq Wk : FVec Ideal Affine.S192x768 .f32) (bq bk : FVec Ideal Affine.S192 .f32)
  (h : Cert.Pre_scores_apart.fn (F := Ideal) X Wq bq Wk bk = fun _ => 1#1)
include h

theorem pre_at (b : Fin 2) (n : Fin 4096) (k : Fin 7) :
    ((top8 (hscores (hproj X Wq bq) (hproj X Wk bk))).1 (ix3 b n ⟨k.val + 1, by omega⟩) < (top8 (hscores (hproj X Wq bq) (hproj X Wk bk))).1 (ix3 b n ⟨k.val, by omega⟩)
      ∧ ⊥ < (top8 (hscores (hproj X Wq bq) (hproj X Wk bk))).1 (ix3 b n ⟨k.val + 1, by omega⟩))
    ∧ (top8 (hscores (hproj X Wq bq) (hproj X Wk bk))).1 (ix3 b n ⟨k.val, by omega⟩) < ⊤ :=
  have h' := and_one _ _ (congrFun h (ix3 b n k))
  ⟨RanksValue.apart_bits _ _ _ b n k h'.1, below_bits _ _ b n k h'.2⟩

theorem apart : Apart (proj X Wq bq) (proj X Wk bk) := by
  rw [← hproj_eq, ← hproj_eq]
  exact apart_of _ _ fun b n k => (pre_at X Wq Wk bq bk h b n k).1

theorem below (b : Fin 2) (n : Fin 4096) :
    scores (proj X Wq bq) (proj X Wk bk) b n (place (proj X Wq bq) (proj X Wk bk) b n 0) < ⊤ := by
  rw [← hproj_eq, ← hproj_eq]
  have := (pre_at X Wq Wk bq bk h b n 0).2
  rw [top8_fst, line_scores] at this
  exact this
end

/-! ## The reference's result -/

theorem reference_eq (m' : (ℓ : Loc Cert.MathsIdeal.nD Cert.MathsIdeal.τ Cert.MathsIdeal.sig) → Buf (Elt Ideal) ℓ) (c : Dev Cert.MathsIdeal.nD) :
    Cert.MathsIdeal.Value.res_main_v55 m' c = hsoft hbF hrF (masked
      (hproj (m' ((c.tc : Thread Cert.MathsIdeal.nD Cert.MathsIdeal.τ).loc Cert.MathsIdeal.main_arg0))
        (m' ((c.tc : Thread Cert.MathsIdeal.nD Cert.MathsIdeal.τ).loc Cert.MathsIdeal.main_arg1))
        (m' ((c.tc : Thread Cert.MathsIdeal.nD Cert.MathsIdeal.τ).loc Cert.MathsIdeal.main_arg2)))
      (hproj (m' ((c.tc : Thread Cert.MathsIdeal.nD Cert.MathsIdeal.τ).loc Cert.MathsIdeal.main_arg0))
        (m' ((c.tc : Thread Cert.MathsIdeal.nD Cert.MathsIdeal.τ).loc Cert.MathsIdeal.main_arg3))
        (m' ((c.tc : Thread Cert.MathsIdeal.nD Cert.MathsIdeal.τ).loc Cert.MathsIdeal.main_arg4)))) := rfl

/-! ## The claims -/

theorem frame : Cert.quiescent_WholeIdeal := fun m ρ _ =>
  (θ_run (Cert.WholeIdeal.defs (F := Ideal)) _ _).mono (fun _ h => ⟨fun c => (h.1 c).2, h.2⟩) (run m ρ)
theorem frameReference : Cert.quiescent_MathsIdeal := fun m ρ _ =>
  (θ_run Cert.MathsIdeal.defs _ _).mono (fun r h => ⟨fun c => (h c).2, sem_eq_zero_of_no_sems (by decide) r.2⟩)
    (Cert.MathsIdeal.Value.run (F := Ideal) m ρ)

theorem joined (X : FVec Ideal Affine.S2x4096x768 .f32) (Wq Wk : FVec Ideal Affine.S192x768 .f32) (bq bk : FVec Ideal Affine.S192 .f32)
    (h : Cert.Pre_scores_apart.fn (F := Ideal) X Wq bq Wk bk = fun _ => 1#1) :
    hsoft hbF hrF (masked (hproj X Wq bq) (hproj X Wk bk))
      = Reference.out (F := Ideal) (values (proj X Wq bq) (proj X Wk bk)) (indices (proj X Wq bq) (proj X Wk bk)) := by
  rw [hproj_eq, hproj_eq]
  exact masked_soft _ _ (apart X Wq Wk bq bk h) (below X Wq Wk bq bk h)

/-- The reference's run from a memory that agrees with the program's on the arguments. -/
theorem run_reference (m : (ℓ : Loc nD τ sig) → Buf (Elt Ideal) ℓ) (m' : (ℓ : Loc Cert.MathsIdeal.nD Cert.MathsIdeal.τ Cert.MathsIdeal.sig) → Buf (Elt Ideal) ℓ)
    (c : Dev nD) (hpre : Cert.Pre_scores_apart.fn (F := Ideal) (argX m c) (argWq m c) (argBq m c) (argWk m c) (argBk m c) = fun _ => 1#1)
    (h0 : m' ((c.tc : Thread Cert.MathsIdeal.nD Cert.MathsIdeal.τ).loc Cert.MathsIdeal.main_arg0) = argX m c)
    (h1 : m' ((c.tc : Thread Cert.MathsIdeal.nD Cert.MathsIdeal.τ).loc Cert.MathsIdeal.main_arg1) = argWq m c)
    (h2 : m' ((c.tc : Thread Cert.MathsIdeal.nD Cert.MathsIdeal.τ).loc Cert.MathsIdeal.main_arg2) = argBq m c)
    (h3 : m' ((c.tc : Thread Cert.MathsIdeal.nD Cert.MathsIdeal.τ).loc Cert.MathsIdeal.main_arg3) = argWk m c)
    (h4 : m' ((c.tc : Thread Cert.MathsIdeal.nD Cert.MathsIdeal.τ).loc Cert.MathsIdeal.main_arg4) = argBk m c) :
    Cert.MathsIdeal.Value.res_main_v55 m' c
      = Reference.out (F := Ideal) (values (projQ m c) (projK m c)) (indices (projQ m c) (projK m c)) := by
  rw [reference_eq, h0, h1, h2, h3, h4]
  exact joined _ _ _ _ _ hpre

theorem value : Cert.algebraic_WholeIdeal_MathsIdeal_pre_scores_apart := by
  intro m ρ m' ρ' hpre hagree
  have hrun := run m ρ
  have href := Cert.MathsIdeal.Value.run (F := Ideal) m' ρ'
  have heq := fun c : Dev nD => run_reference m m' c (hpre c) (hagree c).1 (hagree c).2.1 (hagree c).2.2.1 (hagree c).2.2.2.1 (hagree c).2.2.2.2
  exact ⟨fun c => Reference.out (F := Ideal) (values (projQ m c) (projK m c)) (indices (projQ m c) (projK m c)),
    (θ_run (Cert.WholeIdeal.defs (F := Ideal)) _ _).mono (fun _ h => h.1) hrun,
    (θ_run Cert.MathsIdeal.defs _ _).mono (fun _ h c => ⟨(h c).1.trans (heq c), (h c).2⟩) href⟩

end Cert.Proof.WholeIdeal

end
-- ==== Proof.FormsIdeal.lean ====
/-
  The closed forms of the scatter task's offsets, conditions and lane rows, each decided over the loop's trips.
-/
module

public import proofs.«01_k».proof.Kernel
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic

/-! ## The closed forms of the loop's words -/

theorem cond1_iff : ∀ k : Fin k0_t2_loop.trips, k0_cond1 k = 1#1 ↔ k.val % 2 = 0 := by decide +kernel
theorem cond3_iff : ∀ k : Fin k0_t2_loop.trips, k0_cond3 k = 1#1 ↔ k.val % 2 = 1 := by decide +kernel
theorem cond2_iff : ∀ k : Fin k0_t2_loop.trips, k0_cond2 k = 1#1 ↔ 2 ≤ k.val := by decide +kernel
theorem cond4_iff : ∀ k : Fin k0_t2_loop.trips, k0_cond4 k = 1#1 ↔ 2 ≤ k.val := by decide +kernel
theorem off3_eq : ∀ k : Fin k0_t2_loop.trips, 2 ≤ k.val → k0_off3 k = ![64 * (k.val - 2)] := by decide +kernel
theorem off4_eq : ∀ k : Fin k0_t2_loop.trips, 2 ≤ k.val → k0_off4 k = ![64 * (k.val - 2) + 16] := by decide +kernel
theorem off5_eq : ∀ k : Fin k0_t2_loop.trips, 2 ≤ k.val → k0_off5 k = ![64 * (k.val - 2) + 32] := by decide +kernel
theorem off6_eq : ∀ k : Fin k0_t2_loop.trips, 2 ≤ k.val → k0_off6 k = ![64 * (k.val - 2) + 48] := by decide +kernel
theorem off12_eq : ∀ k : Fin k0_t2_loop.trips, 2 ≤ k.val → k0_off12 k = ![64 * (k.val - 2)] := by decide +kernel
theorem off13_eq : ∀ k : Fin k0_t2_loop.trips, 2 ≤ k.val → k0_off13 k = ![64 * (k.val - 2) + 16] := by decide +kernel
theorem off14_eq : ∀ k : Fin k0_t2_loop.trips, 2 ≤ k.val → k0_off14 k = ![64 * (k.val - 2) + 32] := by decide +kernel
theorem off15_eq : ∀ k : Fin k0_t2_loop.trips, 2 ≤ k.val → k0_off15 k = ![64 * (k.val - 2) + 48] := by decide +kernel
theorem off2_eq : ∀ k : Fin k0_t1_loop.trips, k0_off2 k = ![k.val % 8, 16 * (k.val / 8)] := by decide +kernel

/-- The lanes' rows: lane `l` of chunk `q` lies in row `l / 8 + 2 q`. -/
abbrev rowv : IVec S16 32 := k0_pay1 k0_pay19 k0_pay20
theorem row4 : ∀ l : Fin 16, (k0_pay4 rowv (Shape.ofLane (d := ![16]) l)).toNat = l.val / 8 + 2 * 0 := by decide +kernel
theorem row5 : ∀ l : Fin 16, (k0_pay5 rowv (Shape.ofLane (d := ![16]) l)).toNat = l.val / 8 + 2 * 1 := by decide +kernel
theorem row6 : ∀ l : Fin 16, (k0_pay6 rowv (Shape.ofLane (d := ![16]) l)).toNat = l.val / 8 + 2 * 2 := by decide +kernel
theorem row7 : ∀ l : Fin 16, (k0_pay7 rowv (Shape.ofLane (d := ![16]) l)).toNat = l.val / 8 + 2 * 3 := by decide +kernel
theorem row8 : ∀ l : Fin 16, (k0_pay8 rowv (Shape.ofLane (d := ![16]) l)).toNat = l.val / 8 + 2 * 0 := by decide +kernel
theorem row9 : ∀ l : Fin 16, (k0_pay9 rowv (Shape.ofLane (d := ![16]) l)).toNat = l.val / 8 + 2 * 1 := by decide +kernel
theorem row10 : ∀ l : Fin 16, (k0_pay10 rowv (Shape.ofLane (d := ![16]) l)).toNat = l.val / 8 + 2 * 2 := by decide +kernel
theorem row11 : ∀ l : Fin 16, (k0_pay11 rowv (Shape.ofLane (d := ![16]) l)).toNat = l.val / 8 + 2 * 0 := by decide +kernel
theorem row12 : ∀ l : Fin 16, (k0_pay12 rowv (Shape.ofLane (d := ![16]) l)).toNat = l.val / 8 + 2 * 1 := by decide +kernel
theorem row13 : ∀ l : Fin 16, (k0_pay13 rowv (Shape.ofLane (d := ![16]) l)).toNat = l.val / 8 + 2 * 2 := by decide +kernel
theorem row14 : ∀ l : Fin 16, (k0_pay14 rowv (Shape.ofLane (d := ![16]) l)).toNat = l.val / 8 + 2 * 3 := by decide +kernel
theorem row15 : ∀ l : Fin 16, (k0_pay15 rowv (Shape.ofLane (d := ![16]) l)).toNat = l.val / 8 + 2 * 0 := by decide +kernel
theorem row16 : ∀ l : Fin 16, (k0_pay16 rowv (Shape.ofLane (d := ![16]) l)).toNat = l.val / 8 + 2 * 1 := by decide +kernel
theorem row17 : ∀ l : Fin 16, (k0_pay17 rowv (Shape.ofLane (d := ![16]) l)).toNat = l.val / 8 + 2 * 2 := by decide +kernel
theorem row2 : ∀ l : Fin 16, (k0_pay2 k0_pay19 k0_pay20 (Shape.ofLane (d := ![16]) l)).toNat = l.val / 8 + 2 * 3 := by decide +kernel
theorem row3 : ∀ l : Fin 16, (k0_pay3 k0_pay19 k0_pay20 (Shape.ofLane (d := ![16]) l)).toNat = l.val / 8 + 2 * 3 := by decide +kernel

end Cert.Proof.KernelIdeal

end
-- ==== Proof.ArraysIdeal.lean ====
/-
  The scatter call as the launch theorem sees it, its arrays, and the pieces of them a task works on: the worker's
  words, the worker's rows, the octets of rows; what the call leaves in the result (`outF`).
-/
module

public import proofs.«01_k».proof.Defs
public import proofs.«01_k».proof.Proof.Scatter
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit
public import Idealize.ShloMosaic.Lib.Transfers
public import Idealize.ShloMosaic.Lib.Tactic
public import proofs.«01_k».proof.Proof.FormsIdeal
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The handshakes' rounds beside the transfers' counters. -/
abbrev UU : Type := UH × Counters

local notation "𝕄" => MT nD τ sig (HIx 1) (Elt F) ℕ UU ℕ

abbrev EH : Emb UH (MT nD τ sig (HIx 1) (Elt F) ℕ UU ℕ) := embL

/-! ## The memrefs and the arrays -/

abbrev aV : Memref sig .scVector .hbm S65536 .f32 := Memref.whole main_v0_scv
abbrev iV : Memref sig .scVector .hbm S65536 .i32 := Memref.whole main_v1_scv
abbrev oV : Memref sig .scVector .hbm S8192x4096 .f32 := Memref.whole main_v2_scv
/-- A task's scratch: the fetched indices, the fetched values, the two row buffers. -/
abbrev sI : Memref sig .scVector .vmem S2048 .i32 := Memref.whole cc0_scratch0
abbrev sX : Memref sig .scVector .vmem S2048 .f32 := Memref.whole cc0_scratch1
abbrev b0 : Memref sig .scVector .vmem S8x4096 .f32 := Memref.whole cc0_scratch2
abbrev b1 : Memref sig .scVector .vmem S8x4096 .f32 := Memref.whole cc0_scratch3

/-- The flat values, the flat indices and the result, as locations of device `d`. -/
abbrev aLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

variable [FloatOps F]

/-- The background: zero. -/
abbrev z : Elt F .f32 := (Scalar.ofBits .f32 0x00000000#32 : F .f32)

-- what the call finds in the flat values, the flat indices and the result
variable (CA : (d : Dev nD) → Buf (Elt F) (aLoc d)) (CI : (d : Dev nD) → Buf (Elt F) (iLoc d)) (CO : (d : Dev nD) → Buf (Elt F) (oLoc d))

/-- Word `n` of the flat indices, of the flat values. -/
def gI (d : Dev nD) (n : ℕ) : BitVec 32 := if h : n < 65536 then (CI d : S65536.Idx → BitVec 32) (fun | 0 => ⟨n, h⟩) else 0#32
def gV (d : Dev nD) (n : ℕ) : Elt F .f32 := if h : n < 65536 then (CA d : S65536.Idx → Elt F .f32) (fun | 0 => ⟨n, h⟩) else z

theorem gI_of (d : Dev nD) (x : S65536.Idx) (n : ℕ) (h : (x 0).val = n) : gI CI d n = (CI d : S65536.Idx → BitVec 32) x := by
  subst h
  unfold gI
  rw [dif_pos (show (x 0).val < 65536 from (x 0).isLt)]
  refine congrArg (CI d : S65536.Idx → BitVec 32) (funext fun a => ?_)
  match a with
  | 0 => rfl
theorem gV_of (d : Dev nD) (x : S65536.Idx) (n : ℕ) (h : (x 0).val = n) : gV CA d n = (CA d : S65536.Idx → Elt F .f32) x := by
  subst h
  unfold gV
  rw [dif_pos (show (x 0).val < 65536 from (x 0).isLt)]
  refine congrArg (CA d : S65536.Idx → Elt F .f32) (funext fun a => ?_)
  match a with
  | 0 => rfl

/-- What the call leaves in the result: row by row, the row's eight pairs written in order over zeros. -/
def outF (d : Dev nD) : Buf (Elt F) (oLoc d) := fun x : S8192x4096.Idx => sc z (gI CI d) (gV CA d) (x 0).val (x 1).val

/-- What the proof asks: every index names a column. -/
def IdxOK : Prop := ∀ (d : Dev nD) (n : ℕ), (gI CI d n).toNat < 4096

/-! ## The task's pieces -/

/-- The words of worker `w`, the rows of worker `w`, and the rows of the octets `lo ≤ · < hi`. -/
def wSet (w : ℕ) : Finset S65536.Idx := Finset.univ.filter fun x => (x 0).val / 2048 = w
def oSet (w : ℕ) : Finset S8192x4096.Idx := Finset.univ.filter fun x => (x 0).val / 256 = w
def qSet (lo hi : ℕ) : Finset S8192x4096.Idx := Finset.univ.filter fun x => lo ≤ (x 0).val / 8 ∧ (x 0).val / 8 < hi

theorem oSet_eq (w : ℕ) : oSet w = qSet (32 * w) (32 * w + 32) := by
  unfold oSet qSet; ext x; simp only [Finset.mem_filter, Finset.mem_univ, true_and]; omega

theorem qSet_union {lo mid hi : ℕ} (h : lo ≤ mid) (h' : mid ≤ hi) : qSet lo mid ∪ qSet mid hi = qSet lo hi := by
  unfold qSet; ext x; simp only [Finset.mem_union, Finset.mem_filter, Finset.mem_univ, true_and]; omega
theorem qSet_disjoint (lo mid hi : ℕ) : Disjoint (qSet lo mid) (qSet mid hi) := by
  unfold qSet; rw [Finset.disjoint_left]; intro x; simp only [Finset.mem_filter, Finset.mem_univ, true_and]; omega
theorem qSet_self (lo : ℕ) : qSet lo lo = ∅ := by
  unfold qSet; ext x; simp only [Finset.mem_filter, Finset.mem_univ, true_and, Finset.notMem_empty, iff_false]; omega

section Tile

variable (d : Dev nD) (L : grid0.Coords)

abbrev cV (L : grid0.Coords) : Fin τ.nSC := (L 0).castLE hcore0
abbrev jV (L : grid0.Coords) : Fin τ.nSub := (L 1).castLE hsub0
/-- The worker's number. -/
abbrev wid (L : grid0.Coords) : ℕ := 2 * (L 1).val + (L 0).val
theorem wid_lt : wid L < 32 := by unfold wid; have h0 : (L 0).val < 2 := (L 0).isLt; have h1 : (L 1).val < 16 := (L 1).isLt; omega

abbrev thr : Thread nD τ := V d (cV L) (jV L)

/-- The worker's fetched words. -/
def tI : S2048.Idx → BitVec 32 := fun x => gI CI d (2048 * wid L + (x 0).val)
def tX : S2048.Idx → Elt F .f32 := fun x => gV CA d (2048 * wid L + (x 0).val)

abbrev rectW : Rect S65536 := Rect.unit (s := S65536) (k0_off1 L) S2048.size (k0_off1_inb L)
abbrev aW : Memref sig .scVector .hbm S2048 .f32 := aV.slice (rectW L) (fun _ => rfl)
abbrev iW : Memref sig .scVector .hbm S2048 .i32 := iV.slice (rectW L) (fun _ => rfl)

theorem mem_rectW (x : S65536.Idx) : x ∈ (rectW L).set ↔ x ∈ wSet (wid L) := by
  rw [Rect.mem_set_unit]
  have e : k0_off1 L 0 = 4096 * (L 1).val + 2048 * (L 0).val := by rw [k0_off1_eq]; rfl
  simp only [wSet, Finset.mem_filter, Finset.mem_univ, true_and]
  have key : (k0_off1 L 0 ≤ (x 0).val ∧ (x 0).val < k0_off1 L 0 + 2048) ↔ (x 0).val / 2048 = wid L := by
    rw [e]; unfold wid; omega
  rw [← key]
  constructor
  · intro h; exact h 0
  · intro h a; obtain rfl : a = 0 := Subsingleton.elim _ _; exact h

theorem set_aW : (aW L).view.set = wSet (wid L) := by
  ext x
  refine (ValueKit.mem_set_slice_whole_iff main_v0_scv (rectW L) x (mem_rectW L x))
theorem set_iW : (iW L).view.set = wSet (wid L) := by
  ext x
  refine (ValueKit.mem_set_slice_whole_iff main_v1_scv (rectW L) x (mem_rectW L x))

theorem read_iW : (iW L).view.read (Elt F) (CI d) = tI CI d L := by
  funext x
  refine (View.read_apply _ _).trans ((cast_eq _ _).trans ?_)
  refine (gI_of CI d _ _ ?_).symm
  have e : k0_off1 L 0 = 4096 * (L 1).val + 2048 * (L 0).val := by rw [k0_off1_eq]; rfl
  have h := ValueKit.view_emb_slice_whole_unit_val main_v1_scv _ _ (k0_off1_inb L) x 0
  have h' : _ = k0_off1 L 0 + (x 0).val := h
  rw [e] at h'
  refine h'.trans ?_
  unfold wid; omega
theorem read_aW : (aW L).view.read (Elt F) (CA d) = tX CA d L := by
  funext x
  refine (View.read_apply _ _).trans ((cast_eq _ _).trans ?_)
  refine (gV_of CA d _ _ ?_).symm
  have e : k0_off1 L 0 = 4096 * (L 1).val + 2048 * (L 0).val := by rw [k0_off1_eq]; rfl
  have h := ValueKit.view_emb_slice_whole_unit_val main_v0_scv _ _ (k0_off1_inb L) x 0
  have h' : _ = k0_off1 L 0 + (x 0).val := h
  rw [e] at h'
  refine h'.trans ?_
  unfold wid; omega

/-! The output octets. -/

abbrev rectO (off : Fin 2 → ℕ) (h : ∀ a, off a + S8x4096.size a ≤ S8192x4096.size a) : Rect S8192x4096 :=
  Rect.unit (s := S8192x4096) off S8x4096.size h
abbrev oW (off : Fin 2 → ℕ) (h : ∀ a, off a + S8x4096.size a ≤ S8192x4096.size a) : Memref sig .scVector .hbm S8x4096 .f32 :=
  oV.slice (rectO off h) (fun _ => rfl)

/-- The rows copied out for octet `q` of the array are that octet's. -/
theorem set_oW {off : Fin 2 → ℕ} {h : ∀ a, off a + S8x4096.size a ≤ S8192x4096.size a} {q : ℕ} (e : off = ![8 * q, 0]) :
    (oW off h).view.set = qSet q (q + 1) := by
  ext x
  refine ValueKit.mem_set_slice_whole_iff main_v2_scv (rectO off h) x ?_
  rw [Rect.mem_set_unit]
  simp only [qSet, Finset.mem_filter, Finset.mem_univ, true_and]
  have h1 : (x 1).val < 4096 := (x 1).isLt
  subst e
  constructor
  · intro H
    have H0 : 8 * q ≤ (x 0).val ∧ (x 0).val < 8 * q + 8 := H 0
    omega
  · intro H a
    match a with
    | 0 => show 8 * q ≤ (x 0).val ∧ (x 0).val < 8 * q + 8; omega
    | 1 => show 0 ≤ (x 1).val ∧ (x 1).val < 0 + 4096; omega

/-- What an octet's copy leaves in its rows. -/
theorem write_oW {off : Fin 2 → ℕ} {h : ∀ a, off a + S8x4096.size a ≤ S8192x4096.size a} {q : ℕ} (e : off = ![8 * q, 0])
    (f : Buf (Elt F) (oLoc d)) (x : S8192x4096.Idx) (hx : x ∈ qSet q (q + 1)) :
    (oW off h).view.write (Elt F) f (octF z (gI CI d) (gV CA d) (8 * q)) Finset.univ x = outF CA CI d x := by
  rw [← set_oW (h := h) e] at hx
  obtain ⟨y, -, rfl⟩ := Finset.mem_map.mp hx
  refine (View.write_emb_of_mem (v := (oW off h).view) f _ (Finset.mem_univ y)).trans ((cast_eq _ _).trans ?_)
  have h0 := ValueKit.view_emb_slice_whole_unit_val main_v2_scv _ _ h y 0
  have h1 := ValueKit.view_emb_slice_whole_unit_val main_v2_scv _ _ h y 1
  have h0' : _ = 8 * q + (y 0).val := h0.trans (congrArg (· + (y 0).val) (congrFun e 0))
  have h1' : _ = (y 1).val := (h1.trans (congrArg (· + (y 1).val) (congrFun e 1))).trans (Nat.zero_add _)
  show sc z (gI CI d) (gV CA d) (8 * q + (y 0).val) (y 1).val = sc z (gI CI d) (gV CA d) _ _
  exact congrArg₂ (sc z (gI CI d) (gV CA d)) h0'.symm h1'.symm

end Tile

end Cert.Proof.KernelIdeal

end
-- ==== Proof.StepsIdeal.lean ====
/-
  The task's steps: a load of sixteen words, one scatter of sixteen lanes into a row buffer, one clearing scatter.
-/
module

public import proofs.«01_k».proof.Proof.ArraysIdeal

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid0.Coords)

abbrev ptsI : sProp 𝕄 := (sI : Memref sig .scVector .vmem S2048 .i32).view.loc (thr d L) ↦{fullShare} tI CI d L
abbrev ptsX : sProp 𝕄 := (sX : Memref sig .scVector .vmem S2048 .f32).view.loc (thr d L) ↦{fullShare} tX CA d L
abbrev ptsB0 (f : Buf (Elt F) ((thr d L).loc cc0_scratch2)) : sProp 𝕄 := (b0 : Memref sig .scVector .vmem S8x4096 .f32).view.loc (thr d L) ↦{fullShare} f
abbrev ptsB1 (f : Buf (Elt F) ((thr d L).loc cc0_scratch3)) : sProp 𝕄 := (b1 : Memref sig .scVector .vmem S8x4096 .f32).view.loc (thr d L) ↦{fullShare} f

theorem load_I {off : Fin 1 → ℕ} (h : ∀ a, off a + S16.size a ≤ S2048.size a) {n : ℕ} (e : off = ![n]) (l : Fin 16) :
    (sI : Memref sig .scVector .vmem S2048 .i32).view.readAt (Elt F) (Rect.unit (s := S2048) off S16.size h).toLoadRect (tI CI d L)
      (Shape.ofLane (d := ![16]) l) = gI CI d (2048 * wid L + n + l.val) := by
  simp only [View.readAt_apply, Memref.view_whole, View.read_whole]
  unfold tI
  rw [LoadRect.idx_apply]
  subst e
  refine congrArg (gI CI d) ?_
  show 2048 * wid L + (n + 1 * l.val) = 2048 * wid L + n + l.val
  omega
theorem load_X {off : Fin 1 → ℕ} (h : ∀ a, off a + S16.size a ≤ S2048.size a) {n : ℕ} (e : off = ![n]) (l : Fin 16) :
    (sX : Memref sig .scVector .vmem S2048 .f32).view.readAt (Elt F) (Rect.unit (s := S2048) off S16.size h).toLoadRect (tX CA d L)
      (Shape.ofLane (d := ![16]) l) = gV CA d (2048 * wid L + n + l.val) := by
  simp only [View.readAt_apply, Memref.view_whole, View.read_whole]
  unfold tX
  rw [LoadRect.idx_apply]
  subst e
  refine congrArg (gV CA d) ?_
  show 2048 * wid L + (n + 1 * l.val) = 2048 * wid L + n + l.val
  omega

theorem put0_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = gV (8 * B + 16 * q + l.val)) :
    View.write (Elt F) ((b0 : Memref sig .scVector .vmem S8x4096 .f32).access (Rect.whole S8x4096)) (mix q (octF z gI gV B) (fun _ => z))
      (storeIdx (View.read (Elt F) ((b0 : Memref sig .scVector .vmem S8x4096 .f32).access (Rect.whole S8x4096)) (mix q (octF z gI gV B) (fun _ => z))) ![r, v] w (fun _ => 1#1) false h)
      Finset.univ = mix (q + 1) (octF z gI gV B) (fun _ => z) := by
  refine (Memref.write_access_whole_univ _ (cc0_scratch2 : Ref sig .scVector) _ _).trans ?_
  refine Eq.trans (congrArg (fun f : Vec F SB .f32 => storeIdx (F := F) (e := .f32) (s := SB) (d := ![16]) f ![r, v] w (fun _ => 1#1) false h)
    (Memref.read_access_whole _ (cc0_scratch2 : Ref sig .scVector) _)) ?_
  exact storeIdx_put z gI gV B q r v w h hr hv hw
theorem clear0_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = z) :
    View.write (Elt F) ((b0 : Memref sig .scVector .vmem S8x4096 .f32).access (Rect.whole S8x4096)) (mix q (fun _ => z) (octF z gI gV B))
      (storeIdx (View.read (Elt F) ((b0 : Memref sig .scVector .vmem S8x4096 .f32).access (Rect.whole S8x4096)) (mix q (fun _ => z) (octF z gI gV B))) ![r, v] w (fun _ => 1#1) false h)
      Finset.univ = mix (q + 1) (fun _ => z) (octF z gI gV B) := by
  refine (Memref.write_access_whole_univ _ (cc0_scratch2 : Ref sig .scVector) _ _).trans ?_
  refine Eq.trans (congrArg (fun f : Vec F SB .f32 => storeIdx (F := F) (e := .f32) (s := SB) (d := ![16]) f ![r, v] w (fun _ => 1#1) false h)
    (Memref.read_access_whole _ (cc0_scratch2 : Ref sig .scVector) _)) ?_
  exact storeIdx_clear z gI gV B q r v w h hr hv hw
theorem put1_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = gV (8 * B + 16 * q + l.val)) :
    View.write (Elt F) ((b1 : Memref sig .scVector .vmem S8x4096 .f32).access (Rect.whole S8x4096)) (mix q (octF z gI gV B) (fun _ => z))
      (storeIdx (View.read (Elt F) ((b1 : Memref sig .scVector .vmem S8x4096 .f32).access (Rect.whole S8x4096)) (mix q (octF z gI gV B) (fun _ => z))) ![r, v] w (fun _ => 1#1) false h)
      Finset.univ = mix (q + 1) (octF z gI gV B) (fun _ => z) := by
  refine (Memref.write_access_whole_univ _ (cc0_scratch3 : Ref sig .scVector) _ _).trans ?_
  refine Eq.trans (congrArg (fun f : Vec F SB .f32 => storeIdx (F := F) (e := .f32) (s := SB) (d := ![16]) f ![r, v] w (fun _ => 1#1) false h)
    (Memref.read_access_whole _ (cc0_scratch3 : Ref sig .scVector) _)) ?_
  exact storeIdx_put z gI gV B q r v w h hr hv hw
theorem clear1_eq (z : Elt F .f32) (gI : ℕ → BitVec 32) (gV : ℕ → Elt F .f32) (B q : ℕ) (r v : IVec S16 32) (w : Vec F S16 .f32)
    (h : ∀ a x, ((![r, v] : Fin 2 → IVec S16 32) a x).toNat < S8x4096.size a)
    (hr : ∀ l : Fin 16, (r (Shape.ofLane (d := ![16]) l)).toNat = l.val / 8 + 2 * q)
    (hv : ∀ l : Fin 16, v (Shape.ofLane (d := ![16]) l) = gI (8 * B + 16 * q + l.val))
    (hw : ∀ l : Fin 16, w (Shape.ofLane (d := ![16]) l) = z) :
    View.write (Elt F) ((b1 : Memref sig .scVector .vmem S8x4096 .f32).access (Rect.whole S8x4096)) (mix q (fun _ => z) (octF z gI gV B))
      (storeIdx (View.read (Elt F) ((b1 : Memref sig .scVector .vmem S8x4096 .f32).access (Rect.whole S8x4096)) (mix q (fun _ => z) (octF z gI gV B))) ![r, v] w (fun _ => 1#1) false h)
      Finset.univ = mix (q + 1) (fun _ => z) (octF z gI gV B) := by
  refine (Memref.write_access_whole_univ _ (cc0_scratch3 : Ref sig .scVector) _ _).trans ?_
  refine Eq.trans (congrArg (fun f : Vec F SB .f32 => storeIdx (F := F) (e := .f32) (s := SB) (d := ![16]) f ![r, v] w (fun _ => 1#1) false h)
    (Memref.read_access_whole _ (cc0_scratch3 : Ref sig .scVector) _)) ?_
  exact storeIdx_clear z gI gV B q r v w h hr hv hw

/-- Lanes whose rows are `2 q`, `2 q + 1` and whose columns are below 4096 name positions of a row buffer. -/
theorem inb_of {row v : IVec S16 32} {q : ℕ} (hq : q < 4) (hr : ∀ l : Fin 16, (row (Shape.ofLane (d := ![16]) l)).toNat = l.val / 8 + 2 * q)
    (hv : ∀ l : Fin 16, (v (Shape.ofLane (d := ![16]) l)).toNat < 4096) : ∀ a x, ((![row, v] : Fin 2 → IVec S16 32) a x).toNat < S8x4096.size a := by
  intro a x
  have ex : x = Shape.ofLane (d := ![16]) (x 0) := by funext a; match a with | 0 => rfl
  rw [ex]
  match a with
  | 0 =>
    have := hr (x 0)
    have hx : (x 0).val < 16 := (x 0).isLt
    show (row (Shape.ofLane (d := ![16]) (x 0))).toNat < 8
    omega
  | 1 => exact hv (x 0)

theorem pts_b0 (f : Buf (Elt F) ((thr d L).loc cc0_scratch2)) :
    (((b0 : Memref sig .scVector .vmem S8x4096 .f32).access (.whole S8x4096)).loc (thr d L)
        ↦[((b0 : Memref sig .scVector .vmem S8x4096 .f32).access (.whole S8x4096)).set]{fullShare} f : sProp 𝕄) = ptsB0 d L f := by
  rw [show ((b0 : Memref sig .scVector .vmem S8x4096 .f32).access (.whole S8x4096)).set = Finset.univ from Memref.set_access_whole (cc0_scratch2 : Ref sig .scVector)]
theorem pts_b1 (f : Buf (Elt F) ((thr d L).loc cc0_scratch3)) :
    (((b1 : Memref sig .scVector .vmem S8x4096 .f32).access (.whole S8x4096)).loc (thr d L)
        ↦[((b1 : Memref sig .scVector .vmem S8x4096 .f32).access (.whole S8x4096)).set]{fullShare} f : sProp 𝕄) = ptsB1 d L f := by
  rw [show ((b1 : Memref sig .scVector .vmem S8x4096 .f32).access (.whole S8x4096)).set = Finset.univ from Memref.set_access_whole (cc0_scratch3 : Ref sig .scVector)]

/-- One scatter of the octet at `B` into row buffer 0: pairs `16 q …` of it. -/
theorem wp_put0 (hok : IdxOK CI) (B q n : ℕ) (hq : q < 4) {off : Fin 1 → ℕ} {inb inb' : ∀ a, off a + S16.size a ≤ S2048.size a} {hl hl'}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsX CA d L ∗ ptsB0 d L (mix q (octF z (gI CI d) (gV CA d) B) (fun _ => z)))
      ⊢ iprop((iprop(ptsI CI d L ∗ ptsX CA d L ∗ ptsB0 d L (mix (q + 1) (octF z (gI CI d) (gV CA d) B) (fun _ => z)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.load sX (Rect.unit (s := S2048) off S16.size inb').toLoadRect hl') fun w : Vec F S16 .f32 =>
             .op (.assume (C v) (dec v)) fun h => SparseCore.vectorStoreIdx b0 ![row, v] w (fun _ => 1#1) false (hC v h.down) hs >>= k) Q) := by
  iintro ⟨HI, HX, HB⟩ Hk
  iapply (wp_load 𝒱₀ (thr d L) none Set.univ (m := sI) (S := Finset.univ) (Finset.subset_univ _)) $$ HI; iintro HI
  iapply (wp_load 𝒱₀ (thr d L) none Set.univ (m := sX) (S := Finset.univ) (Finset.subset_univ _)) $$ HX; iintro HX
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b0 (F := F) d L _).symm) $$ HB
  iapply (SparseCore.wp_vectorStoreIdx 𝒱₀ (thr d L) none Set.univ (base := b0)) $$ HB'; iintro HB'
  iapply Hk
  isplitl [HI]; · iexact HI
  isplitl [HX]; · iexact HX
  ihave HB := (Entails.of_eq (pts_b0 (F := F) d L _)) $$ HB'
  refine Entails.of_eq (congrArg (ptsB0 d L) (put0_eq z (gI CI d) (gV CA d) B q row _ _ hinb hr ?_ ?_))
  · intro l; rw [load_I CI d L inb e l, hB]
  · intro l; rw [load_X CA d L inb' e l, hB]

/-- One clearing scatter of the octet at `B` out of row buffer 0: pairs `16 q …` of it. -/
theorem wp_clear0 (hok : IdxOK CI) (B q n : ℕ) (hq : q < 4) {off : Fin 1 → ℕ} {inb : ∀ a, off a + S16.size a ≤ S2048.size a} {hl}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsB0 d L (mix q (fun _ => z) (octF z (gI CI d) (gV CA d) B)))
      ⊢ iprop((iprop(ptsI CI d L ∗ ptsB0 d L (mix (q + 1) (fun _ => z) (octF z (gI CI d) (gV CA d) B)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.assume (C v) (dec v)) fun h => SparseCore.vectorStoreIdx b0 ![row, v] (k0_pay18 (F := F)) (fun _ => 1#1) false (hC v h.down) hs >>= k) Q) := by
  iintro ⟨HI, HB⟩ Hk
  iapply (wp_load 𝒱₀ (thr d L) none Set.univ (m := sI) (S := Finset.univ) (Finset.subset_univ _)) $$ HI; iintro HI
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b0 (F := F) d L _).symm) $$ HB
  iapply (SparseCore.wp_vectorStoreIdx 𝒱₀ (thr d L) none Set.univ (base := b0)) $$ HB'; iintro HB'
  iapply Hk
  isplitl [HI]; · iexact HI
  ihave HB := (Entails.of_eq (pts_b0 (F := F) d L _)) $$ HB'
  refine Entails.of_eq (congrArg (ptsB0 d L) (clear0_eq z (gI CI d) (gV CA d) B q row _ (k0_pay18 (F := F)) hinb hr ?_ ?_))
  · intro l; rw [load_I CI d L inb e l, hB]
  · intro l; rfl

/-- One scatter of the octet at `B` into row buffer 1: pairs `16 q …` of it. -/
theorem wp_put1 (hok : IdxOK CI) (B q n : ℕ) (hq : q < 4) {off : Fin 1 → ℕ} {inb inb' : ∀ a, off a + S16.size a ≤ S2048.size a} {hl hl'}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsX CA d L ∗ ptsB1 d L (mix q (octF z (gI CI d) (gV CA d) B) (fun _ => z)))
      ⊢ iprop((iprop(ptsI CI d L ∗ ptsX CA d L ∗ ptsB1 d L (mix (q + 1) (octF z (gI CI d) (gV CA d) B) (fun _ => z)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.load sX (Rect.unit (s := S2048) off S16.size inb').toLoadRect hl') fun w : Vec F S16 .f32 =>
             .op (.assume (C v) (dec v)) fun h => SparseCore.vectorStoreIdx b1 ![row, v] w (fun _ => 1#1) false (hC v h.down) hs >>= k) Q) := by
  iintro ⟨HI, HX, HB⟩ Hk
  iapply (wp_load 𝒱₀ (thr d L) none Set.univ (m := sI) (S := Finset.univ) (Finset.subset_univ _)) $$ HI; iintro HI
  iapply (wp_load 𝒱₀ (thr d L) none Set.univ (m := sX) (S := Finset.univ) (Finset.subset_univ _)) $$ HX; iintro HX
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b1 (F := F) d L _).symm) $$ HB
  iapply (SparseCore.wp_vectorStoreIdx 𝒱₀ (thr d L) none Set.univ (base := b1)) $$ HB'; iintro HB'
  iapply Hk
  isplitl [HI]; · iexact HI
  isplitl [HX]; · iexact HX
  ihave HB := (Entails.of_eq (pts_b1 (F := F) d L _)) $$ HB'
  refine Entails.of_eq (congrArg (ptsB1 d L) (put1_eq z (gI CI d) (gV CA d) B q row _ _ hinb hr ?_ ?_))
  · intro l; rw [load_I CI d L inb e l, hB]
  · intro l; rw [load_X CA d L inb' e l, hB]

/-- One clearing scatter of the octet at `B` out of row buffer 1: pairs `16 q …` of it. -/
theorem wp_clear1 (hok : IdxOK CI) (B q n : ℕ) (hq : q < 4) {off : Fin 1 → ℕ} {inb : ∀ a, off a + S16.size a ≤ S2048.size a} {hl}
    (row : IVec S16 32) (C : IVec S16 32 → Prop) {dec : ∀ v, Decidable (C v)}
    (hC : ∀ v, C v → ∀ a x, ((![row, v] : Fin 2 → IVec S16 32) a x).toNat < S8x4096.size a) {hs}
    {α : Type} {k : PUnit → Prog (TpuEff nD τ sig (Elt F) Λ₀ (thr d L).2) α} {Q : α → sProp 𝕄}
    (hC' : ∀ v, (∀ a x, ((![row, v] : Fin 2 → IVec S16 32) a x).toNat < S8x4096.size a) → C v)
    (e : off = ![n]) (hB : 2048 * wid L + n = 8 * B + 16 * q)
    (hr : ∀ l : Fin 16, (row (Shape.ofLane (d := ![16]) l)).toNat = l.val / 8 + 2 * q) :
    iprop(ptsI CI d L ∗ ptsB1 d L (mix q (fun _ => z) (octF z (gI CI d) (gV CA d) B)))
      ⊢ iprop((iprop(ptsI CI d L ∗ ptsB1 d L (mix (q + 1) (fun _ => z) (octF z (gI CI d) (gV CA d) B)))
            -∗ wp frame (wpE (defs₀ (F := F)) 𝒱₀ (thr d L) none) Set.univ (k ⟨⟩) Q)
          -∗ wp frame (wpE (defs₀ (F := F)) 𝒱₀ (thr d L) none) Set.univ
            (.op (.load sI (Rect.unit (s := S2048) off S16.size inb).toLoadRect hl) fun v : Vec F S16 .i32 =>
             .op (.assume (C v) (dec v)) fun h => SparseCore.vectorStoreIdx b1 ![row, v] (k0_pay18 (F := F)) (fun _ => 1#1) false (hC v h.down) hs >>= k) Q) := by
  iintro ⟨HI, HB⟩ Hk
  iapply (wp_load 𝒱₀ (thr d L) none Set.univ (m := sI) (S := Finset.univ) (Finset.subset_univ _)) $$ HI; iintro HI
  have hinb := inb_of hq hr (v := (sI : Memref sig .scVector .vmem S2048 .i32).view.readAt (Elt F) (Rect.unit (s := S2048) off S16.size inb).toLoadRect (tI CI d L))
    (fun l => by rw [load_I CI d L inb e l]; exact hok d _)
  rw [wp_assume_of _ _ _ _ (hC' _ hinb)]
  ihave HB' := (Entails.of_eq (pts_b1 (F := F) d L _).symm) $$ HB
  iapply (SparseCore.wp_vectorStoreIdx 𝒱₀ (thr d L) none Set.univ (base := b1)) $$ HB'; iintro HB'
  iapply Hk
  isplitl [HI]; · iexact HI
  ihave HB := (Entails.of_eq (pts_b1 (F := F) d L _)) $$ HB'
  refine Entails.of_eq (congrArg (ptsB1 d L) (clear1_eq z (gI CI d) (gV CA d) B q row _ (k0_pay18 (F := F)) hinb hr ?_ ?_))
  · intro l; rw [load_I CI d L inb e l, hB]
  · intro l; rfl

end Cert.Proof.KernelIdeal

end
-- ==== Proof.CopiesIdeal.lean ====
/-
  The task: fetch, zero the two row buffers, build the octets of rows one after the other in the two buffers and copy
  them out; what it leaves in its rows.
-/
module

public import proofs.«01_k».proof.Proof.StepsIdeal

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid0.Coords)

theorem pts_src0 (f : Buf (Elt F) ((thr d L).loc cc0_scratch2)) :
    ((b0 : Memref sig .scVector .vmem S8x4096 .f32).view.loc (thr d L) ↦[(b0 : Memref sig .scVector .vmem S8x4096 .f32).view.set]{fullShare} f : sProp 𝕄)
      = ptsB0 d L f := by
  simp only [Memref.view_whole, View.set_whole]

/-- Row buffer 0 on its way to octet `q`'s rows; what its landing gives back. -/
abbrev Fl0 (q : ℕ) : sProp 𝕄 :=
  Transfers.Flight countersEmb (thr d L) (.dma cc0_scratch4.sem) none ((oW ![0, 0] inb_S8192x4096_S8x4096_0_0).view.dmaCredit)
    iprop((oLoc d ↦[qSet q (q + 1)]{fullShare} outF CA CI d) ∗ ptsB0 d L (octF z (gI CI d) (gV CA d) (8 * q)))

theorem wp_start0 {off : Fin 2 → ℕ} {inb : ∀ a, off a + S8x4096.size a ≤ S8192x4096.size a} {q : ℕ} (e : off = ![8 * q, 0]) {hs hd hm}
    {α : Type} {k : PUnit → Prog (TpuEff nD τ sig (Elt F) Λ₀ (thr d L).2) α} {Q : α → sProp 𝕄} :
    iprop(ptsB0 d L (octF z (gI CI d) (gV CA d) (8 * q)) ∗ (oLoc d ↦[qSet q (q + 1)]{fullShare} CO d) ∗ semVal (thr d L, .dma cc0_scratch4.sem) 0)
      ⊢ iprop((Fl0 CA CI d L q -∗ wp frame (wpE (defs₀ (F := F)) 𝒱₀ (thr d L) none) Set.univ (k ⟨⟩) Q)
          -∗ wp frame (wpE (defs₀ (F := F)) 𝒱₀ (thr d L) none) Set.univ
              (.op (.enqueueDma b0 (.here (oW off inb)) (.dma cc0_scratch4.sem) hs hd hm) k) Q) := by
  iintro ⟨HB, HO, HS⟩ Hk
  iapply (Transfers.wp_dmaLocal countersEmb 𝒱₀ (thr d L) none (src := b0) (dst := oW off inb) (fd := CO d) none
    ((oW ![0, 0] inb_S8192x4096_S8x4096_0_0).view.dmaCredit) rfl (View.dmaCredit_pos _ (by decide)) (Finset.Subset.refl _)) $$ [HB HO HS]
  · isplitl [HB]
    · iapply (Entails.of_eq (pts_src0 (F := F) d L _).symm); iexact HB
    isplitl [HO]
    · rw [set_oW (h := inb) e]; iexact HO
    · iexact HS
  iintro HF
  iapply Hk
  iapply (Transfers.Flight_mono countersEmb (thr d L) ?_) $$ HF
  rw [set_oW (h := inb) e]
  iintro ⟨HO, HB⟩
  isplitl [HO]
  · iapply (Entails.of_eq (pointsTo_congr fun x hx => ?_)) $$ HO
    simp only [ReadAs.apply, Memref.view_whole, View.read_whole]
    exact write_oW CA CI d e (CO d) x hx
  · iapply (Entails.of_eq (pts_src0 (F := F) d L _)); iexact HB

/-- The wait for row buffer 0's copy. -/
theorem wp_land0 (q : ℕ) {O : CellTallies nD τ sig (HIx 1)} {W : Waits sig (HIx 1)} (hO : ∀ g, O g none = 0) {hs hd}
    {α : Type} {k : PUnit → Prog (TpuEff nD τ sig (Elt F) Λ₀ (thr d L).2) α} {Q : α → sProp 𝕄} :
    iprop(levAts (K (F := F)).L (K (F := F)).lev ∗ Fl0 CA CI d L q ∗ owes (thr d L) O W)
      ⊢ iprop((iprop((oLoc d ↦[qSet q (q + 1)]{fullShare} outF CA CI d) ∗ ptsB0 d L (octF z (gI CI d) (gV CA d) (8 * q)) ∗ semVal (thr d L, .dma cc0_scratch4.sem) 0
              ∗ owes (thr d L) O (insert (SemLoc.dma cc0_scratch4.sem, none) W))
            -∗ wp frame (wpE (defs₀ (F := F)) 𝒱₀ (thr d L) none) Set.univ (k ⟨⟩) Q)
          -∗ wp frame (wpE (defs₀ (F := F)) 𝒱₀ (thr d L) none) Set.univ
              (.op (.waitDma2 cc0_scratch4.sem b0 (oW ![0, 0] inb_S8192x4096_S8x4096_0_0) hs hd) k) Q) := by
  iintro ⟨#Hlv, HF, HO⟩ Hk
  iapply (Transfers.wp_waitLocalO countersEmb 𝒱₀ (thr d L) none none rfl) $$ [HF HO]
  · isplitl [HF]; · iexact HF
    isplitl [HO]; · iexact HO
    iapply ((K (F := F)).mayWait_none (SemLoc.dma cc0_scratch4.sem) hO); iexact Hlv
  iintro ⟨⟨HD, HB⟩, HS, HO⟩
  iapply Hk
  isplitl [HD]; · iexact HD
  isplitl [HB]; · iexact HB
  isplitl [HS]; · iexact HS
  iexact HO

theorem pts_src1 (f : Buf (Elt F) ((thr d L).loc cc0_scratch3)) :
    ((b1 : Memref sig .scVector .vmem S8x4096 .f32).view.loc (thr d L) ↦[(b1 : Memref sig .scVector .vmem S8x4096 .f32).view.set]{fullShare} f : sProp 𝕄)
      = ptsB1 d L f := by
  simp only [Memref.view_whole, View.set_whole]

/-- Row buffer 1 on its way to octet `q`'s rows; what its landing gives back. -/
abbrev Fl1 (q : ℕ) : sProp 𝕄 :=
  Transfers.Flight countersEmb (thr d L) (.dma cc0_scratch5.sem) none ((oW ![0, 0] inb_S8192x4096_S8x4096_0_0).view.dmaCredit)
    iprop((oLoc d ↦[qSet q (q + 1)]{fullShare} outF CA CI d) ∗ ptsB1 d L (octF z (gI CI d) (gV CA d) (8 * q)))

theorem wp_start1 {off : Fin 2 → ℕ} {inb : ∀ a, off a + S8x4096.size a ≤ S8192x4096.size a} {q : ℕ} (e : off = ![8 * q, 0]) {hs hd hm}
    {α : Type} {k : PUnit → Prog (TpuEff nD τ sig (Elt F) Λ₀ (thr d L).2) α} {Q : α → sProp 𝕄} :
    iprop(ptsB1 d L (octF z (gI CI d) (gV CA d) (8 * q)) ∗ (oLoc d ↦[qSet q (q + 1)]{fullShare} CO d) ∗ semVal (thr d L, .dma cc0_scratch5.sem) 0)
      ⊢ iprop((Fl1 CA CI d L q -∗ wp frame (wpE (defs₀ (F := F)) 𝒱₀ (thr d L) none) Set.univ (k ⟨⟩) Q)
          -∗ wp frame (wpE (defs₀ (F := F)) 𝒱₀ (thr d L) none) Set.univ
              (.op (.enqueueDma b1 (.here (oW off inb)) (.dma cc0_scratch5.sem) hs hd hm) k) Q) := by
  iintro ⟨HB, HO, HS⟩ Hk
  iapply (Transfers.wp_dmaLocal countersEmb 𝒱₀ (thr d L) none (src := b1) (dst := oW off inb) (fd := CO d) none
    ((oW ![0, 0] inb_S8192x4096_S8x4096_0_0).view.dmaCredit) rfl (View.dmaCredit_pos _ (by decide)) (Finset.Subset.refl _)) $$ [HB HO HS]
  · isplitl [HB]
    · iapply (Entails.of_eq (pts_src1 (F := F) d L _).symm); iexact HB
    isplitl [HO]
    · rw [set_oW (h := inb) e]; iexact HO
    · iexact HS
  iintro HF
  iapply Hk
  iapply (Transfers.Flight_mono countersEmb (thr d L) ?_) $$ HF
  rw [set_oW (h := inb) e]
  iintro ⟨HO, HB⟩
  isplitl [HO]
  · iapply (Entails.of_eq (pointsTo_congr fun x hx => ?_)) $$ HO
    simp only [ReadAs.apply, Memref.view_whole, View.read_whole]
    exact write_oW CA CI d e (CO d) x hx
  · iapply (Entails.of_eq (pts_src1 (F := F) d L _)); iexact HB

/-- The wait for row buffer 1's copy. -/
theorem wp_land1 (q : ℕ) {O : CellTallies nD τ sig (HIx 1)} {W : Waits sig (HIx 1)} (hO : ∀ g, O g none = 0) {hs hd}
    {α : Type} {k : PUnit → Prog (TpuEff nD τ sig (Elt F) Λ₀ (thr d L).2) α} {Q : α → sProp 𝕄} :
    iprop(levAts (K (F := F)).L (K (F := F)).lev ∗ Fl1 CA CI d L q ∗ owes (thr d L) O W)
      ⊢ iprop((iprop((oLoc d ↦[qSet q (q + 1)]{fullShare} outF CA CI d) ∗ ptsB1 d L (octF z (gI CI d) (gV CA d) (8 * q)) ∗ semVal (thr d L, .dma cc0_scratch5.sem) 0
              ∗ owes (thr d L) O (insert (SemLoc.dma cc0_scratch5.sem, none) W))
            -∗ wp frame (wpE (defs₀ (F := F)) 𝒱₀ (thr d L) none) Set.univ (k ⟨⟩) Q)
          -∗ wp frame (wpE (defs₀ (F := F)) 𝒱₀ (thr d L) none) Set.univ
              (.op (.waitDma2 cc0_scratch5.sem b1 (oW ![0, 0] inb_S8192x4096_S8x4096_0_0) hs hd) k) Q) := by
  iintro ⟨#Hlv, HF, HO⟩ Hk
  iapply (Transfers.wp_waitLocalO countersEmb 𝒱₀ (thr d L) none none rfl) $$ [HF HO]
  · isplitl [HF]; · iexact HF
    isplitl [HO]; · iexact HO
    iapply ((K (F := F)).mayWait_none (SemLoc.dma cc0_scratch5.sem) hO); iexact Hlv
  iintro ⟨⟨HD, HB⟩, HS, HO⟩
  iapply Hk
  isplitl [HD]; · iexact HD
  isplitl [HB]; · iexact HB
  isplitl [HS]; · iexact HS
  iexact HO

end Cert.Proof.KernelIdeal

end
-- ==== Proof.TripsIdeal.lean ====
/-
  The main loop: trip by trip an octet of rows is built in one of the two row buffers and sent, the octet two trips
  before it having landed and been cleared out of that buffer.
-/
module

public import proofs.«01_k».proof.Proof.CopiesIdeal

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid0.Coords)

theorem trips2 : k0_t2_loop.trips = 32 := by decide +kernel
theorem trips1 : k0_t1_loop.trips = 2048 := by decide +kernel

/-- A program that comes down to the same rest whether or not its guarded piece runs. -/
theorem wp_via {α β : Type} {c : Prop} [Decidable c] {t : c → Prog (TpuEff nD τ sig (Elt F) Λ₀ (thr d L).2) α}
    {r : Prog (TpuEff nD τ sig (Elt F) Λ₀ (thr d L).2) α} {K : α → Prog (TpuEff nD τ sig (Elt F) Λ₀ (thr d L).2) β}
    {Q : β → sProp 𝕄} (P P' : sProp 𝕄)
    (skip : ¬ c → P ⊢ P')
    (run : ∀ h : c, (P' ⊢ wp frame (wpE (defs₀ (F := F)) 𝒱₀ (thr d L) none) Set.univ (r >>= K) Q)
      → P ⊢ wp frame (wpE (defs₀ (F := F)) 𝒱₀ (thr d L) none) Set.univ (t h >>= K) Q)
    (rest : P' ⊢ wp frame (wpE (defs₀ (F := F)) 𝒱₀ (thr d L) none) Set.univ (r >>= K) Q) :
    P ⊢ wp frame (wpE (defs₀ (F := F)) 𝒱₀ (thr d L) none) Set.univ ((if h : c then t h else r) >>= K) Q := by
  by_cases h : c
  · rw [dif_pos h]; exact run h rest
  · rw [dif_neg h]; exact (skip h).trans rest

-- what the thread owes, and the waits it has recorded
variable (O : CellTallies nD τ sig (HIx 1)) (W : Waits sig (HIx 1))

/-- A row buffer after `n` octets through it: zero before the first, on its way with the last one after. -/
def St0 (n : ℕ) : sProp 𝕄 :=
  if n = 0 then iprop(ptsB0 d L (fun _ => z) ∗ semVal (thr d L, .dma cc0_scratch4.sem) 0) else Fl0 CA CI d L (32 * wid L + 2 * (n - 1))
def St1 (n : ℕ) : sProp 𝕄 :=
  if n = 0 then iprop(ptsB1 d L (fun _ => z) ∗ semVal (thr d L, .dma cc0_scratch5.sem) 0) else Fl1 CA CI d L (32 * wid L + 2 * (n - 1) + 1)

/-- What the thread owes, with further waits of its own recorded. -/
def Ow : sProp 𝕄 := iprop(∃ W', ⌜∀ p ∈ W', p ∈ W ∨ p.2 = none⌝ ∗ owes (thr d L) O W')

theorem Ow_insert {W' : Waits sig (HIx 1)} (h : ∀ p ∈ W', p ∈ W ∨ p.2 = none) (s : SemLoc sig) :
    (owes (thr d L) O (insert (s, none) W') : sProp 𝕄) ⊢ Ow d L O W := by
  unfold Ow
  iintro HO
  iexists (insert (s, none) W'); isplitr
  · ipureintro; intro p hp; rcases Finset.mem_insert.mp hp with rfl | hp; exacts [.inr rfl, h p hp]
  · iexact HO

/-- The octets before octet `n` of the worker's rows are built. -/
abbrev Done (n : ℕ) : sProp 𝕄 := oLoc d ↦[qSet (32 * wid L) (32 * wid L + n)]{fullShare} outF CA CI d
abbrev Rest (k : ℕ) : sProp 𝕄 := oLoc d ↦[qSet (32 * wid L + k) (32 * wid L + 32)]{fullShare} CO d

theorem done_add (n : ℕ) {q : ℕ} (hq : q = 32 * wid L + n) :
    iprop(Done CA CI d L n ∗ oLoc d ↦[qSet q (q + 1)]{fullShare} outF CA CI d) ⊢ Done CA CI d L (n + 1) := by
  subst hq
  refine (pointsTo_union (qSet_disjoint _ _ _)).2.trans (Entails.of_eq ?_)
  rw [qSet_union (by omega) (by omega)]; rfl
theorem rest_take {k : ℕ} (hk : k < 32) {q : ℕ} (hq : q = 32 * wid L + k) :
    Rest CO d L k ⊢ iprop((oLoc d ↦[qSet q (q + 1)]{fullShare} CO d) ∗ Rest CO d L (k + 1)) := by
  subst hq
  refine (Entails.of_eq ?_).trans (pointsTo_union (qSet_disjoint _ _ _)).1
  rw [show 32 * wid L + (k + 1) = 32 * wid L + k + 1 from rfl, qSet_union (by omega) (by omega)]

/-- Before trip `k`. -/
def inv (k : ℕ) (_ : Unit) : sProp 𝕄 :=
  iprop(levAts (K (F := F)).L (K (F := F)).lev ∗ ptsI CI d L ∗ ptsX CA d L ∗ Rest CO d L k ∗ Done CA CI d L (k - 2)
    ∗ St0 CA CI d L ((k + 1) / 2) ∗ St1 CA CI d L (k / 2) ∗ Ow d L O W)

abbrev body2 := k0_t2_body (F := F) L aV (Memref.isWhole_whole _) iV (Memref.isWhole_whole _) oV (Memref.isWhole_whole _) sI (Memref.isWhole_whole _) sX (Memref.isWhole_whole _)
  b0 (Memref.isWhole_whole _) b1 (Memref.isWhole_whole _) cc0_scratch4 cc0_scratch5 cc0_scoped0 cc0_scoped1 k0_pay18 k0_pay19 k0_pay20

theorem trip0 (hok : IdxOK CI) (hO : ∀ g, O g none = 0) (k : Fin k0_t2_loop.trips) (hk : k.val % 2 = 0) (u : Unit) :
    inv CA CI CO d L O W k.val u ⊢ wp frame (wpE (defs₀ (F := F)) 𝒱₀ (thr d L) none) Set.univ (body2 L k u) (inv CA CI CO d L O W (k.val + 1)) := by
  have hlt : k.val < 32 := lt_of_lt_of_eq k.isLt trips2
  have hc1 : k0_cond1 k = 1#1 := by rw [cond1_iff]; omega
  have hc3 : ¬ k0_cond3 k = 1#1 := by rw [cond3_iff]; omega
  unfold inv body2 k0_t2_body
  simp only [dif_pos hc1, dif_neg hc3, k0_part2_eq_skeleton]
  unfold k0_part2_skel
  simp only [Prog.lift, Prog.bind_op, Prog.bind_ret, Prog.pure_eq_ret, bind_assoc]
  apply wp_via d L
    (P' := iprop(levAts (K (F := F)).L (K (F := F)).lev ∗ ptsI CI d L ∗ ptsX CA d L ∗ Rest CO d L k.val ∗ Done CA CI d L (k.val - 1)
      ∗ (ptsB0 d L (fun _ => z) ∗ semVal (thr d L, .dma cc0_scratch4.sem) 0) ∗ St1 CA CI d L ((k.val + 1) / 2) ∗ Ow d L O W))
  case skip =>
    intro h
    have h2 : ¬ 2 ≤ k.val := fun h' => h ((cond2_iff k).mpr h')
    rw [show k.val / 2 = 0 by omega, show (k.val + 1) / 2 = 0 by omega, show k.val - 2 = 0 by omega, show k.val - 1 = 0 by omega]
    unfold St0
    rw [if_pos rfl]
  case run =>
    intro h rest
    have h2 : 2 ≤ k.val := (cond2_iff k).mp h
    simp only [Prog.bind_op, Prog.bind_ret, bind_assoc] at rest ⊢
    rw [show St0 CA CI d L ((k.val + 1) / 2) = Fl0 CA CI d L (32 * wid L + (k.val - 2)) from by
      unfold St0; rw [if_neg (by omega), show 32 * wid L + 2 * ((k.val + 1) / 2 - 1) = 32 * wid L + (k.val - 2) by omega]]
    iintro ⟨#Hlv, HI, HX, HR, HD, HF, HS1, HO⟩
    unfold Ow
    icases HO with ⟨%W', %hW', HO⟩
    iapply (wp_land0 CA CI d L (32 * wid L + (k.val - 2)) hO) $$ [HF HO]
    · isplitr; · iexact Hlv
      isplitl [HF]; · iexact HF
      iexact HO
    iintro ⟨HQ, HB, HS, HO⟩
    ihave HB := (Entails.of_eq (congrArg (ptsB0 d L) (mix_zero (fun _ => z) (octF z (gI CI d) (gV CA d) (8 * (32 * wid L + (k.val - 2))))).symm)) $$ HB
    iapply (wp_clear0 CA CI d L hok (8 * (32 * wid L + (k.val - 2))) 0 (64 * (k.val - 2)) (by omega) _ (C := fun v => k0_chk1 k v _)
      (hC := fun v hv => k0_idx1_inb k v _ hv hc1 h) (fun v hv h1 h2 => hv) (off3_eq k h2) (by omega) row4) $$ [HI HB]
    · isplitl [HI]; · iexact HI
      iexact HB
    iintro ⟨HI, HB⟩
    iapply (wp_clear0 CA CI d L hok (8 * (32 * wid L + (k.val - 2))) 1 (64 * (k.val - 2) + 16) (by omega) _ (C := fun v => k0_chk2 k v _)
      (hC := fun v hv => k0_idx2_inb k v _ hv hc1 h) (fun v hv h1 h2 => hv) (off4_eq k h2) (by omega) row5) $$ [HI HB]
    · isplitl [HI]; · iexact HI
      iexact HB
    iintro ⟨HI, HB⟩
    iapply (wp_clear0 CA CI d L hok (8 * (32 * wid L + (k.val - 2))) 2 (64 * (k.val - 2) + 32) (by omega) _ (C := fun v => k0_chk3 k v _)
      (hC := fun v hv => k0_idx3_inb k v _ hv hc1 h) (fun v hv h1 h2 => hv) (off5_eq k h2) (by omega) row6) $$ [HI HB]
    · isplitl [HI]; · iexact HI
      iexact HB
    iintro ⟨HI, HB⟩
    iapply (wp_clear0 CA CI d L hok (8 * (32 * wid L + (k.val - 2))) 3 (64 * (k.val - 2) + 48) (by omega) _ (C := fun v => k0_chk4 k v _)
      (hC := fun v hv => k0_idx4_inb k v _ hv hc1 h) (fun v hv h1 h2 => hv) (off6_eq k h2) (by omega) row7) $$ [HI HB]
    · isplitl [HI]; · iexact HI
      iexact HB
    iintro ⟨HI, HB⟩
    ihave HB := (Entails.of_eq (congrArg (ptsB0 d L) (mix_four (fun _ => z) (octF z (gI CI d) (gV CA d) (8 * (32 * wid L + (k.val - 2))))))) $$ HB
    iapply rest
    isplitr; · iexact Hlv
    isplitl [HI]; · iexact HI
    isplitl [HX]; · iexact HX
    isplitl [HR]; · iexact HR
    isplitl [HD HQ]
    · rw [show k.val - 1 = k.val - 2 + 1 by omega]
      iapply (done_add CA CI d L (k.val - 2) rfl)
      isplitl [HD]; · iexact HD
      iexact HQ
    isplitl [HB HS]
    · isplitl [HB]; · iexact HB
      iexact HS
    isplitl [HS1]
    · iapply (Entails.of_eq (congrArg (St1 CA CI d L) (show _ = (k.val + 1) / 2 by omega))) $$ HS1
    iapply (Ow_insert d L O W hW' _) $$ HO
  simp only [Prog.bind_op, Prog.bind_ret, bind_assoc]
  iintro ⟨#Hlv, HI, HX, HR, HD, ⟨HB, HS⟩, HS1, HO⟩
  ihave HB := (Entails.of_eq (congrArg (ptsB0 d L) (mix_zero (octF z (gI CI d) (gV CA d) (8 * (32 * wid L + k.val))) (fun _ => z)).symm)) $$ HB
  iapply (wp_put0 CA CI d L hok (8 * (32 * wid L + k.val)) 0 (64 * k.val) (by omega) _ (C := fun v => k0_chk5 k v _)
    (hC := fun v hv => k0_idx5_inb k v _ hv hc1) (fun v hv h1 => hv) (k0_off7_eq k) (by omega) row8) $$ [HI HX HB]
  · isplitl [HI]; · iexact HI
    isplitl [HX]; · iexact HX
    iexact HB
  iintro ⟨HI, HX, HB⟩
  iapply (wp_put0 CA CI d L hok (8 * (32 * wid L + k.val)) 1 (64 * k.val + 16) (by omega) _ (C := fun v => k0_chk6 k v _)
    (hC := fun v hv => k0_idx6_inb k v _ hv hc1) (fun v hv h1 => hv) (k0_off8_eq k) (by omega) row9) $$ [HI HX HB]
  · isplitl [HI]; · iexact HI
    isplitl [HX]; · iexact HX
    iexact HB
  iintro ⟨HI, HX, HB⟩
  iapply (wp_put0 CA CI d L hok (8 * (32 * wid L + k.val)) 2 (64 * k.val + 32) (by omega) _ (C := fun v => k0_chk7 k v _)
    (hC := fun v hv => k0_idx7_inb k v _ hv hc1) (fun v hv h1 => hv) (k0_off9_eq k) (by omega) row10) $$ [HI HX HB]
  · isplitl [HI]; · iexact HI
    isplitl [HX]; · iexact HX
    iexact HB
  iintro ⟨HI, HX, HB⟩
  iapply (wp_put0 CA CI d L hok (8 * (32 * wid L + k.val)) 3 (64 * k.val + 48) (by omega) _ (C := fun v => k0_chk8 k v _)
    (hC := fun v hv => k0_idx8_inb k v _ hv hc1) (fun v hv h1 => hv) (k0_off10_eq k) (by omega) row2) $$ [HI HX HB]
  · isplitl [HI]; · iexact HI
    isplitl [HX]; · iexact HX
    iexact HB
  iintro ⟨HI, HX, HB⟩
  ihave HB := (Entails.of_eq (congrArg (ptsB0 d L) (mix_four (octF z (gI CI d) (gV CA d) (8 * (32 * wid L + k.val))) (fun _ => z)))) $$ HB
  ihave HR := (rest_take CO d L hlt rfl) $$ HR
  icases HR with ⟨HQ, HR⟩
  iapply (wp_start0 CA CI CO d L (q := 32 * wid L + k.val) ((k0_off11_eq L k).trans (congrArg (fun n => (![n, 0] : Fin 2 → ℕ)) (show _ = 8 * (32 * wid L + k.val) by unfold wid; omega)))) $$ [HB HQ HS]
  · isplitl [HB]; · iexact HB
    isplitl [HQ]; · iexact HQ
    iexact HS
  iintro HF
  rw [wp_ret]
  imodintro
  isplitr; · iexact Hlv
  isplitl [HI]; · iexact HI
  isplitl [HX]; · iexact HX
  isplitl [HR]; · iexact HR
  isplitl [HD]; · iexact HD
  isplitl [HF]
  · unfold St0
    rw [if_neg (by omega), show 32 * wid L + 2 * ((k.val + 1 + 1) / 2 - 1) = 32 * wid L + k.val by omega]
    iexact HF
  isplitl [HS1]
  · iapply (Entails.of_eq (congrArg (St1 CA CI d L) (show _ = (k.val + 1) / 2 by omega))) $$ HS1
  iexact HO

theorem trip1 (hok : IdxOK CI) (hO : ∀ g, O g none = 0) (k : Fin k0_t2_loop.trips) (hk : k.val % 2 = 1) (u : Unit) :
    inv CA CI CO d L O W k.val u ⊢ wp frame (wpE (defs₀ (F := F)) 𝒱₀ (thr d L) none) Set.univ (body2 L k u) (inv CA CI CO d L O W (k.val + 1)) := by
  have hlt : k.val < 32 := lt_of_lt_of_eq k.isLt trips2
  have hc1 : ¬ k0_cond1 k = 1#1 := by rw [cond1_iff]; omega
  have hc3 : k0_cond3 k = 1#1 := by rw [cond3_iff]; omega
  unfold inv body2 k0_t2_body
  simp only [dif_neg hc1, dif_pos hc3, k0_part3_eq_skeleton]
  unfold k0_part3_skel
  simp only [Prog.lift, Prog.bind_op, Prog.bind_ret, Prog.pure_eq_ret, bind_assoc]
  apply wp_via d L
    (P' := iprop(levAts (K (F := F)).L (K (F := F)).lev ∗ ptsI CI d L ∗ ptsX CA d L ∗ Rest CO d L k.val ∗ Done CA CI d L (k.val - 1)
      ∗ (ptsB1 d L (fun _ => z) ∗ semVal (thr d L, .dma cc0_scratch5.sem) 0) ∗ St0 CA CI d L ((k.val + 1 + 1) / 2) ∗ Ow d L O W))
  case skip =>
    intro h
    have h2 : ¬ 2 ≤ k.val := fun h' => h ((cond4_iff k).mpr h')
    rw [show k.val / 2 = 0 by omega, show (k.val + 1 + 1) / 2 = (k.val + 1) / 2 by omega, show k.val - 2 = 0 by omega, show k.val - 1 = 0 by omega]
    unfold St1
    rw [if_pos rfl]
    iintro ⟨#Hlv, HI, HX, HR, HD, HS0, HS1, HO⟩
    isplitr; · iexact Hlv
    isplitl [HI]; · iexact HI
    isplitl [HX]; · iexact HX
    isplitl [HR]; · iexact HR
    isplitl [HD]; · iexact HD
    isplitl [HS1]; · iexact HS1
    isplitl [HS0]; · iexact HS0
    iexact HO
  case run =>
    intro h rest
    have h2 : 2 ≤ k.val := (cond4_iff k).mp h
    simp only [Prog.bind_op, Prog.bind_ret, bind_assoc] at rest ⊢
    rw [show St1 CA CI d L (k.val / 2) = Fl1 CA CI d L (32 * wid L + (k.val - 2)) from by
      unfold St1; rw [if_neg (by omega), show 32 * wid L + 2 * (k.val / 2 - 1) + 1 = 32 * wid L + (k.val - 2) by omega]]
    iintro ⟨#Hlv, HI, HX, HR, HD, HS0, HF, HO⟩
    unfold Ow
    icases HO with ⟨%W', %hW', HO⟩
    iapply (wp_land1 CA CI d L (32 * wid L + (k.val - 2)) hO) $$ [HF HO]
    · isplitr; · iexact Hlv
      isplitl [HF]; · iexact HF
      iexact HO
    iintro ⟨HQ, HB, HS, HO⟩
    ihave HB := (Entails.of_eq (congrArg (ptsB1 d L) (mix_zero (fun _ => z) (octF z (gI CI d) (gV CA d) (8 * (32 * wid L + (k.val - 2))))).symm)) $$ HB
    iapply (wp_clear1 CA CI d L hok (8 * (32 * wid L + (k.val - 2))) 0 (64 * (k.val - 2)) (by omega) _ (C := fun v => k0_chk9 k v _)
      (hC := fun v hv => k0_idx9_inb k v _ hv hc3 h) (fun v hv h3 h4 => hv) (off12_eq k h2) (by omega) row11) $$ [HI HB]
    · isplitl [HI]; · iexact HI
      iexact HB
    iintro ⟨HI, HB⟩
    iapply (wp_clear1 CA CI d L hok (8 * (32 * wid L + (k.val - 2))) 1 (64 * (k.val - 2) + 16) (by omega) _ (C := fun v => k0_chk10 k v _)
      (hC := fun v hv => k0_idx10_inb k v _ hv hc3 h) (fun v hv h3 h4 => hv) (off13_eq k h2) (by omega) row12) $$ [HI HB]
    · isplitl [HI]; · iexact HI
      iexact HB
    iintro ⟨HI, HB⟩
    iapply (wp_clear1 CA CI d L hok (8 * (32 * wid L + (k.val - 2))) 2 (64 * (k.val - 2) + 32) (by omega) _ (C := fun v => k0_chk11 k v _)
      (hC := fun v hv => k0_idx11_inb k v _ hv hc3 h) (fun v hv h3 h4 => hv) (off14_eq k h2) (by omega) row13) $$ [HI HB]
    · isplitl [HI]; · iexact HI
      iexact HB
    iintro ⟨HI, HB⟩
    iapply (wp_clear1 CA CI d L hok (8 * (32 * wid L + (k.val - 2))) 3 (64 * (k.val - 2) + 48) (by omega) _ (C := fun v => k0_chk12 k v _)
      (hC := fun v hv => k0_idx12_inb k v _ hv hc3 h) (fun v hv h3 h4 => hv) (off15_eq k h2) (by omega) row14) $$ [HI HB]
    · isplitl [HI]; · iexact HI
      iexact HB
    iintro ⟨HI, HB⟩
    ihave HB := (Entails.of_eq (congrArg (ptsB1 d L) (mix_four (fun _ => z) (octF z (gI CI d) (gV CA d) (8 * (32 * wid L + (k.val - 2))))))) $$ HB
    iapply rest
    isplitr; · iexact Hlv
    isplitl [HI]; · iexact HI
    isplitl [HX]; · iexact HX
    isplitl [HR]; · iexact HR
    isplitl [HD HQ]
    · rw [show k.val - 1 = k.val - 2 + 1 by omega]
      iapply (done_add CA CI d L (k.val - 2) rfl)
      isplitl [HD]; · iexact HD
      iexact HQ
    isplitl [HB HS]
    · isplitl [HB]; · iexact HB
      iexact HS
    isplitl [HS0]
    · iapply (Entails.of_eq (congrArg (St0 CA CI d L) (show _ = (k.val + 1 + 1) / 2 by omega))) $$ HS0
    iapply (Ow_insert d L O W hW' _) $$ HO
  simp only [Prog.bind_op, Prog.bind_ret, bind_assoc]
  iintro ⟨#Hlv, HI, HX, HR, HD, ⟨HB, HS⟩, HS0, HO⟩
  ihave HB := (Entails.of_eq (congrArg (ptsB1 d L) (mix_zero (octF z (gI CI d) (gV CA d) (8 * (32 * wid L + k.val))) (fun _ => z)).symm)) $$ HB
  iapply (wp_put1 CA CI d L hok (8 * (32 * wid L + k.val)) 0 (64 * k.val) (by omega) _ (C := fun v => k0_chk13 k v _)
    (hC := fun v hv => k0_idx13_inb k v _ hv hc3) (fun v hv h3 => hv) (k0_off16_eq k) (by omega) row15) $$ [HI HX HB]
  · isplitl [HI]; · iexact HI
    isplitl [HX]; · iexact HX
    iexact HB
  iintro ⟨HI, HX, HB⟩
  iapply (wp_put1 CA CI d L hok (8 * (32 * wid L + k.val)) 1 (64 * k.val + 16) (by omega) _ (C := fun v => k0_chk14 k v _)
    (hC := fun v hv => k0_idx14_inb k v _ hv hc3) (fun v hv h3 => hv) (k0_off17_eq k) (by omega) row16) $$ [HI HX HB]
  · isplitl [HI]; · iexact HI
    isplitl [HX]; · iexact HX
    iexact HB
  iintro ⟨HI, HX, HB⟩
  iapply (wp_put1 CA CI d L hok (8 * (32 * wid L + k.val)) 2 (64 * k.val + 32) (by omega) _ (C := fun v => k0_chk15 k v _)
    (hC := fun v hv => k0_idx15_inb k v _ hv hc3) (fun v hv h3 => hv) (k0_off18_eq k) (by omega) row17) $$ [HI HX HB]
  · isplitl [HI]; · iexact HI
    isplitl [HX]; · iexact HX
    iexact HB
  iintro ⟨HI, HX, HB⟩
  iapply (wp_put1 CA CI d L hok (8 * (32 * wid L + k.val)) 3 (64 * k.val + 48) (by omega) _ (C := fun v => k0_chk16 k v _)
    (hC := fun v hv => k0_idx16_inb k v _ hv hc3) (fun v hv h3 => hv) (k0_off19_eq k) (by omega) row3) $$ [HI HX HB]
  · isplitl [HI]; · iexact HI
    isplitl [HX]; · iexact HX
    iexact HB
  iintro ⟨HI, HX, HB⟩
  ihave HB := (Entails.of_eq (congrArg (ptsB1 d L) (mix_four (octF z (gI CI d) (gV CA d) (8 * (32 * wid L + k.val))) (fun _ => z)))) $$ HB
  ihave HR := (rest_take CO d L hlt rfl) $$ HR
  icases HR with ⟨HQ, HR⟩
  iapply (wp_start1 CA CI CO d L (q := 32 * wid L + k.val) ((k0_off20_eq L k).trans (congrArg (fun n => (![n, 0] : Fin 2 → ℕ)) (show _ = 8 * (32 * wid L + k.val) by unfold wid; omega)))) $$ [HB HQ HS]
  · isplitl [HB]; · iexact HB
    isplitl [HQ]; · iexact HQ
    iexact HS
  iintro HF
  rw [wp_ret]
  imodintro
  isplitr; · iexact Hlv
  isplitl [HI]; · iexact HI
  isplitl [HX]; · iexact HX
  isplitl [HR]; · iexact HR
  isplitl [HD]; · iexact HD
  isplitl [HS0]
  · iapply (Entails.of_eq (congrArg (St0 CA CI d L) (show _ = (k.val + 1 + 1) / 2 by omega))) $$ HS0
  isplitl [HF]
  · unfold St1
    rw [if_neg (by omega), show 32 * wid L + 2 * ((k.val + 1) / 2 - 1) + 1 = 32 * wid L + k.val by omega]
    iexact HF
  iexact HO

end Cert.Proof.KernelIdeal

end
-- ==== Proof.FetchIdeal.lean ====
/-
  The task, whole: fetch the worker's words, zero the two row buffers, run the main loop, take in the last two copies;
  what it leaves in the worker's rows.
-/
module

public import proofs.«01_k».proof.Proof.TripsIdeal

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid0.Coords)

variable (O : CellTallies nD τ sig (HIx 1))

/-! ## Zeroing the row buffers -/

/-- One trip's store zeroes the sixteen words of it. -/
theorem zero0_step (t : Fin k0_t1_loop.trips) (f : Buf (Elt F) ((thr d L).loc cc0_scratch2))
    (hf : ∀ x : S8x4096.Idx, (x 0).val + 8 * ((x 1).val / 16) < t.val → f x = z) (x : S8x4096.Idx)
    (hx : (x 0).val + 8 * ((x 1).val / 16) < t.val + 1) :
    ((b0 : Memref sig .scVector .vmem S8x4096 .f32).access (Rect.unit (s := S8x4096) (k0_off2 t) S1x16.size (k0_off2_inb t))).write (Elt F) f
      (shapeCast S1x16 (k0_pay18 (F := F)) shapeCasts_S16_S1x16) Finset.univ x = z := by
  by_cases hm : x ∈ ((b0 : Memref sig .scVector .vmem S8x4096 .f32).access (Rect.unit (s := S8x4096) (k0_off2 t) S1x16.size (k0_off2_inb t))).set
  · obtain ⟨y, -, rfl⟩ := Finset.mem_map.mp hm
    refine (View.write_emb_of_mem (v := (b0 : Memref sig .scVector .vmem S8x4096 .f32).access (Rect.unit (s := S8x4096) (k0_off2 t) S1x16.size (k0_off2_inb t)))
      f _ (Finset.mem_univ y)).trans ((cast_eq _ _).trans ?_)
    rfl
  · refine (View.write_of_not_mem _ _ _ (fun h => hm h)).trans (hf x ?_)
    by_contra hge
    refine hm ((ValueKit.mem_set_slice_whole_iff cc0_scratch2 (Rect.unit (s := S8x4096) (k0_off2 t) S1x16.size (k0_off2_inb t)) x
      (p := True) ?_).mpr trivial)
    refine iff_of_true ?_ trivial
    rw [Rect.mem_set_unit]
    have e0 : k0_off2 t 0 = t.val % 8 := congrFun (off2_eq t) 0
    have e1 : k0_off2 t 1 = 16 * (t.val / 8) := congrFun (off2_eq t) 1
    have h0 : (x 0).val < 8 := (x 0).isLt
    intro a
    match a with
    | 0 => show k0_off2 t 0 ≤ (x 0).val ∧ (x 0).val < k0_off2 t 0 + 1; rw [e0]; omega
    | 1 => show k0_off2 t 1 ≤ (x 1).val ∧ (x 1).val < k0_off2 t 1 + 16; rw [e1]; omega

/-- One trip's store zeroes the sixteen words of it. -/
theorem zero1_step (t : Fin k0_t1_loop.trips) (f : Buf (Elt F) ((thr d L).loc cc0_scratch3))
    (hf : ∀ x : S8x4096.Idx, (x 0).val + 8 * ((x 1).val / 16) < t.val → f x = z) (x : S8x4096.Idx)
    (hx : (x 0).val + 8 * ((x 1).val / 16) < t.val + 1) :
    ((b1 : Memref sig .scVector .vmem S8x4096 .f32).access (Rect.unit (s := S8x4096) (k0_off2 t) S1x16.size (k0_off2_inb t))).write (Elt F) f
      (shapeCast S1x16 (k0_pay18 (F := F)) shapeCasts_S16_S1x16) Finset.univ x = z := by
  by_cases hm : x ∈ ((b1 : Memref sig .scVector .vmem S8x4096 .f32).access (Rect.unit (s := S8x4096) (k0_off2 t) S1x16.size (k0_off2_inb t))).set
  · obtain ⟨y, -, rfl⟩ := Finset.mem_map.mp hm
    refine (View.write_emb_of_mem (v := (b1 : Memref sig .scVector .vmem S8x4096 .f32).access (Rect.unit (s := S8x4096) (k0_off2 t) S1x16.size (k0_off2_inb t)))
      f _ (Finset.mem_univ y)).trans ((cast_eq _ _).trans ?_)
    rfl
  · refine (View.write_of_not_mem _ _ _ (fun h => hm h)).trans (hf x ?_)
    by_contra hge
    refine hm ((ValueKit.mem_set_slice_whole_iff cc0_scratch3 (Rect.unit (s := S8x4096) (k0_off2 t) S1x16.size (k0_off2_inb t)) x
      (p := True) ?_).mpr trivial)
    refine iff_of_true ?_ trivial
    rw [Rect.mem_set_unit]
    have e0 : k0_off2 t 0 = t.val % 8 := congrFun (off2_eq t) 0
    have e1 : k0_off2 t 1 = 16 * (t.val / 8) := congrFun (off2_eq t) 1
    have h0 : (x 0).val < 8 := (x 0).isLt
    intro a
    match a with
    | 0 => show k0_off2 t 0 ≤ (x 0).val ∧ (x 0).val < k0_off2 t 0 + 1; rw [e0]; omega
    | 1 => show k0_off2 t 1 ≤ (x 1).val ∧ (x 1).val < k0_off2 t 1 + 16; rw [e1]; omega

/-- Before zeroing trip `t`: the pieces of the trips before are zero in both row buffers. -/
def zinv (t : ℕ) (_ : Unit) : sProp 𝕄 :=
  iprop((∃ f : Buf (Elt F) ((thr d L).loc cc0_scratch2), ⌜∀ x : S8x4096.Idx, (x 0).val + 8 * ((x 1).val / 16) < t → f x = z⌝ ∗ ptsB0 d L f)
    ∗ (∃ f : Buf (Elt F) ((thr d L).loc cc0_scratch3), ⌜∀ x : S8x4096.Idx, (x 0).val + 8 * ((x 1).val / 16) < t → f x = z⌝ ∗ ptsB1 d L f))

abbrev body1 := k0_t1_body (F := F) L aV (Memref.isWhole_whole _) iV (Memref.isWhole_whole _) oV (Memref.isWhole_whole _) sI (Memref.isWhole_whole _) sX (Memref.isWhole_whole _)
  b0 (Memref.isWhole_whole _) b1 (Memref.isWhole_whole _) cc0_scratch4 cc0_scratch5 cc0_scoped0 cc0_scoped1

theorem ztrip (t : Fin k0_t1_loop.trips) (u : Unit) :
    zinv (F := F) d L t.val u ⊢ wp frame (wpE (defs₀ (F := F)) 𝒱₀ (thr d L) none) Set.univ (body1 L t u) (zinv (F := F) d L (t.val + 1)) := by
  unfold zinv body1 k0_t1_body
  simp only [k0_part1_eq_skeleton]
  unfold k0_part1_skel
  simp only [Prog.lift, Prog.bind_op, Prog.bind_ret, Prog.pure_eq_ret]
  iintro ⟨⟨%f, %hf, H0⟩, ⟨%g, %hg, H1⟩⟩
  iapply (wp_load 𝒱₀ (thr d L) none Set.univ (m := b0) (S := Finset.univ) (Finset.subset_univ _)) $$ H0; iintro H0
  iapply (wp_store 𝒱₀ (thr d L) none Set.univ (m := b0) (r := Rect.unit (s := S8x4096) (k0_off2 t) S1x16.size (k0_off2_inb t)) (Mk := Finset.univ)
    (S := Finset.univ) (Finset.subset_univ _)) $$ H0; iintro H0
  iapply (wp_load 𝒱₀ (thr d L) none Set.univ (m := b1) (S := Finset.univ) (Finset.subset_univ _)) $$ H1; iintro H1
  iapply (wp_store 𝒱₀ (thr d L) none Set.univ (m := b1) (r := Rect.unit (s := S8x4096) (k0_off2 t) S1x16.size (k0_off2_inb t)) (Mk := Finset.univ)
    (S := Finset.univ) (Finset.subset_univ _)) $$ H1; iintro H1
  rw [wp_ret]
  imodintro
  isplitl [H0]
  · iexists _; isplitr; · ipureintro; exact zero0_step d L t f hf
    iexact H0
  · iexists _; isplitr; · ipureintro; exact zero1_step d L t g hg
    iexact H1

theorem all_zero {f : S8x4096.Idx → Elt F .f32} (hf : ∀ x : S8x4096.Idx, (x 0).val + 8 * ((x 1).val / 16) < k0_t1_loop.trips → f x = z) :
    f = fun _ => z := by
  funext x
  refine hf x ?_
  rw [trips1]
  have h0 : (x 0).val < 8 := (x 0).isLt
  have h1 : (x 1).val < 4096 := (x 1).isLt
  omega

/-! ## The fetches -/

/-- The fetch of the worker's indices, and its wait. -/
theorem wp_fetchI {W' : Waits sig (HIx 1)} (hO : ∀ g, O g none = 0) {hs hd hm hs' hd'}
    {α : Type} {k : PUnit → Prog (TpuEff nD τ sig (Elt F) Λ₀ (thr d L).2) α} {Q : α → sProp 𝕄} (f : Buf (Elt F) ((thr d L).loc cc0_scratch0)) :
    iprop(levAts (K (F := F)).L (K (F := F)).lev ∗ (iLoc d ↦[wSet (wid L)]{fullShare} CI d) ∗ ((thr d L).loc cc0_scratch0 ↦{fullShare} f)
        ∗ semVal (thr d L, .dma cc0_scoped0.sem) 0 ∗ owes (thr d L) O W')
      ⊢ iprop((iprop((iLoc d ↦[wSet (wid L)]{fullShare} CI d) ∗ ptsI CI d L ∗ semVal (thr d L, .dma cc0_scoped0.sem) 0
              ∗ owes (thr d L) O (insert (SemLoc.dma cc0_scoped0.sem, none) W'))
            -∗ wp frame (wpE (defs₀ (F := F)) 𝒱₀ (thr d L) none) Set.univ (k ⟨⟩) Q)
          -∗ wp frame (wpE (defs₀ (F := F)) 𝒱₀ (thr d L) none) Set.univ
              (.op (.enqueueDma (iW L) (.here sI) (.dma cc0_scoped0.sem) hs hd hm) fun _ =>
                .op (.waitDma2 cc0_scoped0.sem (iW L) sI hs' hd') k) Q) := by
  iintro ⟨#Hlv, HA, HB, HS, HO⟩ Hk
  iapply (Transfers.wp_dmaLocal countersEmb 𝒱₀ (thr d L) none (src := iW L) (dst := sI) (fs := CI d) (fd := f) (Sd := Finset.univ) none
    ((sI : Memref sig .scVector .vmem S2048 .i32).view.dmaCredit) rfl (View.dmaCredit_pos _ (by decide)) (Finset.subset_univ _)) $$ [HA HB HS]
  · isplitl [HA]
    · rw [set_iW L]; iexact HA
    isplitl [HB]; · iexact HB
    iexact HS
  iintro HF
  iapply (Transfers.wp_waitLocalO countersEmb 𝒱₀ (thr d L) none none rfl) $$ [HF HO]
  · isplitl [HF]; · iexact HF
    isplitl [HO]; · iexact HO
    iapply ((K (F := F)).mayWait_none (SemLoc.dma cc0_scoped0.sem) hO); iexact Hlv
  iintro ⟨⟨HB, HA⟩, HS, HO⟩
  iapply Hk
  isplitl [HA]; · rw [set_iW L]; iexact HA
  isplitl [HB]
  · iapply (Entails.of_eq (congrArg (fun f => ((thr d L).loc cc0_scratch0 ↦{fullShare} f : sProp 𝕄)) ?_)) $$ HB
    exact (View.write_whole_univ _ _ _).trans (read_iW CI d L)
  isplitl [HS]; · iexact HS
  iexact HO

/-- The fetch of the worker's values, and its wait. -/
theorem wp_fetchX {W' : Waits sig (HIx 1)} (hO : ∀ g, O g none = 0) {hs hd hm hs' hd'}
    {α : Type} {k : PUnit → Prog (TpuEff nD τ sig (Elt F) Λ₀ (thr d L).2) α} {Q : α → sProp 𝕄} (f : Buf (Elt F) ((thr d L).loc cc0_scratch1)) :
    iprop(levAts (K (F := F)).L (K (F := F)).lev ∗ (aLoc d ↦[wSet (wid L)]{fullShare} CA d) ∗ ((thr d L).loc cc0_scratch1 ↦{fullShare} f)
        ∗ semVal (thr d L, .dma cc0_scoped1.sem) 0 ∗ owes (thr d L) O W')
      ⊢ iprop((iprop((aLoc d ↦[wSet (wid L)]{fullShare} CA d) ∗ ptsX CA d L ∗ semVal (thr d L, .dma cc0_scoped1.sem) 0
              ∗ owes (thr d L) O (insert (SemLoc.dma cc0_scoped1.sem, none) W'))
            -∗ wp frame (wpE (defs₀ (F := F)) 𝒱₀ (thr d L) none) Set.univ (k ⟨⟩) Q)
          -∗ wp frame (wpE (defs₀ (F := F)) 𝒱₀ (thr d L) none) Set.univ
              (.op (.enqueueDma (aW L) (.here sX) (.dma cc0_scoped1.sem) hs hd hm) fun _ =>
                .op (.waitDma2 cc0_scoped1.sem (aW L) sX hs' hd') k) Q) := by
  iintro ⟨#Hlv, HA, HB, HS, HO⟩ Hk
  iapply (Transfers.wp_dmaLocal countersEmb 𝒱₀ (thr d L) none (src := aW L) (dst := sX) (fs := CA d) (fd := f) (Sd := Finset.univ) none
    ((sX : Memref sig .scVector .vmem S2048 .f32).view.dmaCredit) rfl (View.dmaCredit_pos _ (by decide)) (Finset.subset_univ _)) $$ [HA HB HS]
  · isplitl [HA]
    · rw [set_aW L]; iexact HA
    isplitl [HB]; · iexact HB
    iexact HS
  iintro HF
  iapply (Transfers.wp_waitLocalO countersEmb 𝒱₀ (thr d L) none none rfl) $$ [HF HO]
  · isplitl [HF]; · iexact HF
    isplitl [HO]; · iexact HO
    iapply ((K (F := F)).mayWait_none (SemLoc.dma cc0_scoped1.sem) hO); iexact Hlv
  iintro ⟨⟨HB, HA⟩, HS, HO⟩
  iapply Hk
  isplitl [HA]; · rw [set_aW L]; iexact HA
  isplitl [HB]
  · iapply (Entails.of_eq (congrArg (fun f => ((thr d L).loc cc0_scratch1 ↦{fullShare} f : sProp 𝕄)) ?_)) $$ HB
    exact (View.write_whole_univ _ _ _).trans (read_aW CA d L)
  isplitl [HS]; · iexact HS
  iexact HO

end Cert.Proof.KernelIdeal

end
-- ==== Proof.TileIdeal.lean ====
/-
  The task, whole: fetch the worker's words, zero the two row buffers, run the main loop, take in the last two copies;
  what it leaves in the worker's rows.
-/
module

public import proofs.«01_k».proof.Proof.FetchIdeal

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))
variable (d : Dev nD) (L : grid0.Coords)

variable (O : CellTallies nD τ sig (HIx 1)) (W : Waits sig (HIx 1))

/-! ## The task's own buffers and cells -/

abbrev cellA : GSem nD τ sig := (thr d L, .dma cc0_scoped0.sem)
abbrev cellB : GSem nD τ sig := (thr d L, .dma cc0_scoped1.sem)
abbrev cellC : GSem nD τ sig := (thr d L, .dma cc0_scratch4.sem)
abbrev cellD : GSem nD τ sig := (thr d L, .dma cc0_scratch5.sem)

theorem cell_ne {s s' : SemLoc sig} (h : s ≠ s') : ((thr d L, s) : GSem nD τ sig) ≠ (thr d L, s') := fun e => h (congrArg Prod.snd e)

/-- The four semaphores are among the subcore's own: they are them, at zero, and the rest. -/
theorem ownSems0_V :
    (ownSems0 (thr d L) : sProp 𝕄)
      = iprop(semVal (cellA d L) 0 ∗ semVal (cellB d L) 0 ∗ semVal (cellC d L) 0 ∗ semVal (cellD d L) 0
          ∗ bigSep (((((ownCells (thr d L)).erase (cellA d L)).erase (cellB d L)).erase (cellC d L)).erase (cellD d L)) fun g => semVal g 0) := by
  unfold SparseCore.Cfg.ownSems0
  rw [SparseCore.bigSep_erase' ((mem_ownCells (g := cellA d L)).mpr ⟨rfl, by show (SemLoc.dma cc0_scoped0.sem : SemLoc sig).isScoped .scVector = true; decide⟩),
    SparseCore.bigSep_erase' (Finset.mem_erase.mpr ⟨cell_ne d L (by decide), (mem_ownCells (g := cellB d L)).mpr ⟨rfl, by show (SemLoc.dma cc0_scoped1.sem : SemLoc sig).isScoped .scVector = true; decide⟩⟩),
    SparseCore.bigSep_erase' (Finset.mem_erase.mpr ⟨cell_ne d L (by decide), Finset.mem_erase.mpr ⟨cell_ne d L (by decide), (mem_ownCells (g := cellC d L)).mpr ⟨rfl, by show (SemLoc.dma cc0_scratch4.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cellD d L)).mpr ⟨rfl, by show (SemLoc.dma cc0_scratch5.sem : SemLoc sig).isScoped .scVector = true; decide⟩⟩⟩⟩)]

/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

/-! ## The task -/

/-- What a worker is handed — its words of the two flat arrays, its rows of the result — and hands back. -/
abbrev goW (w : ℕ) : sProp 𝕄 :=
  iprop((aLoc d ↦[wSet w]{fullShare} CA d) ∗ (iLoc d ↦[wSet w]{fullShare} CI d) ∗ (oLoc d ↦[oSet w]{fullShare} CO d))
abbrev tdW (w : ℕ) : sProp 𝕄 :=
  iprop((aLoc d ↦[wSet w]{fullShare} CA d) ∗ (iLoc d ↦[wSet w]{fullShare} CI d) ∗ (oLoc d ↦[oSet w]{fullShare} outF CA CI d))

theorem inv_zero : iprop(levAts (K (F := F)).L (K (F := F)).lev ∗ ptsI CI d L ∗ ptsX CA d L ∗ (oLoc d ↦[oSet (wid L)]{fullShare} CO d)
      ∗ (ptsB0 d L (fun _ => z) ∗ semVal (cellC d L) 0) ∗ (ptsB1 d L (fun _ => z) ∗ semVal (cellD d L) 0) ∗ Ow d L O W)
    ⊢ inv CA CI CO d L O W 0 () := by
  unfold inv St0 St1
  rw [if_pos (by omega), if_pos (by omega), oSet_eq]
  iintro ⟨#Hlv, HI, HX, HR, H0, H1, HO⟩
  isplitr; · iexact Hlv
  isplitl [HI]; · iexact HI
  isplitl [HX]; · iexact HX
  isplitl [HR]; · iexact HR
  isplitl []
  · unfold Done
    rw [show 32 * wid L + (0 - 2) = 32 * wid L by omega, qSet_self]
    iapply (Entails.of_eq pointsTo_empty.symm)
    iempintro
  isplitl [H0]; · iexact H0
  isplitl [H1]; · iexact H1
  iexact HO

theorem inv_last : inv CA CI CO d L O W k0_t2_loop.trips ()
    ⊢ iprop(levAts (K (F := F)).L (K (F := F)).lev ∗ ptsI CI d L ∗ ptsX CA d L ∗ Done CA CI d L 30 ∗ Fl0 CA CI d L (32 * wid L + 30)
      ∗ Fl1 CA CI d L (32 * wid L + 31) ∗ Ow d L O W) := by
  rw [trips2]
  unfold inv St0 St1
  rw [if_neg (by omega), if_neg (by omega)]
  iintro ⟨#Hlv, HI, HX, -, HD, H0, H1, HO⟩
  isplitr; · iexact Hlv
  isplitl [HI]; · iexact HI
  isplitl [HX]; · iexact HX
  isplitl [HD]; · iexact HD
  isplitl [H0]; · iexact H0
  isplitl [H1]; · iexact H1
  iexact HO

theorem done_last : iprop(Done CA CI d L 30 ∗ (oLoc d ↦[qSet (32 * wid L + 30) (32 * wid L + 30 + 1)]{fullShare} outF CA CI d)
      ∗ (oLoc d ↦[qSet (32 * wid L + 31) (32 * wid L + 31 + 1)]{fullShare} outF CA CI d))
    ⊢ (oLoc d ↦[oSet (wid L)]{fullShare} outF CA CI d : sProp 𝕄) := by
  rw [oSet_eq]
  iintro ⟨HD, H0, H1⟩
  iapply (done_add CA CI d L 31 rfl)
  isplitr [H1]
  · iapply (done_add CA CI d L 30 rfl)
    isplitl [HD]; · iexact HD
    iexact H0
  · iexact H1

theorem tile_body (hF : (K (F := F)).Facts) (hok : IdxOK CI) (hO : ∀ g, O g none = 0) :
    iprop(levAts (K (F := F)).L (K (F := F)).lev ∗ emp ∗ goW CA CI CO d (wid L)
        ∗ scopedBufs (thr d L) ∗ scopedSems0 (thr d L) ∗ owes (thr d L) O W)
      ⊢ wp frame (wpE (defs₀ (F := F)) 𝒱₀ (thr d L) none) Set.univ
          (cc0_k L aV (Memref.isWhole_whole _) iV (Memref.isWhole_whole _) oV (Memref.isWhole_whole _)
            sI (Memref.isWhole_whole _) sX (Memref.isWhole_whole _) b0 (Memref.isWhole_whole _) b1 (Memref.isWhole_whole _)
            cc0_scratch4 cc0_scratch5 cc0_scoped0 cc0_scoped1)
          fun _ => iprop(tdW CA CI d (wid L) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  simp only [k0_part4_eq_skeleton]; unfold k0_part4_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, -, ⟨HA, HI, HO⟩, ⟨⟨%fs, Hs⟩, ⟨%fx, Hx⟩, ⟨%f0, H0⟩, ⟨%f1, H1⟩, Hbufs⟩, ⟨SA, SB, SC, SD, Hsems⟩, Hw⟩
  iapply (wp_fetchI CI d L O hO fs) $$ [HI Hs SA Hw]
  · isplitr; · iexact Hlv
    isplitl [HI]; · iexact HI
    isplitl [Hs]; · iexact Hs
    isplitl [SA]; · iexact SA
    iexact Hw
  iintro ⟨HI, Hs, SA, Hw⟩
  iapply (wp_fetchX CA d L O hO fx) $$ [HA Hx SB Hw]
  · isplitr; · iexact Hlv
    isplitl [HA]; · iexact HA
    isplitl [Hx]; · iexact Hx
    isplitl [SB]; · iexact SB
    iexact Hw
  iintro ⟨HA, Hx, SB, Hw⟩
  iapply (Scf.wp_for_bind frame (wpE (defs₀ (F := F)) 𝒱₀ (thr d L) none) Set.univ k0_t1_loop.lb k0_t1_loop.ub k0_t1_loop.st k0_t1_ok ⟨⟩ (body1 L)
    (zinv d L) (ztrip d L)) $$ [H0 H1]
  · unfold zinv
    isplitl [H0]
    · iexists f0; isplitr; · ipureintro; intro x hx; exact absurd hx (Nat.not_lt_zero _)
      iexact H0
    · iexists f1; isplitr; · ipureintro; intro x hx; exact absurd hx (Nat.not_lt_zero _)
      iexact H1
  iintro %u HZ
  unfold zinv
  icases HZ with ⟨⟨%g0, %hg0, H0⟩, ⟨%g1, %hg1, H1⟩⟩
  ihave H0 := (Entails.of_eq (congrArg (ptsB0 d L) (all_zero hg0))) $$ H0
  ihave H1 := (Entails.of_eq (congrArg (ptsB1 d L) (all_zero hg1))) $$ H1
  iapply (Scf.wp_for_bind frame (wpE (defs₀ (F := F)) 𝒱₀ (thr d L) none) Set.univ k0_t2_loop.lb k0_t2_loop.ub k0_t2_loop.st k0_t2_ok ⟨⟩ (body2 L)
    (inv CA CI CO d L O W) (fun k u => (Nat.mod_two_eq_zero_or_one k.val).elim (fun h => trip0 CA CI CO d L O W hok hO k h u) (fun h => trip1 CA CI CO d L O W hok hO k h u)))
    $$ [Hs Hx HO H0 H1 SC SD Hw]
  · iapply (inv_zero CA CI CO d L O W)
    isplitr; · iexact Hlv
    isplitl [Hs]; · iexact Hs
    isplitl [Hx]; · iexact Hx
    isplitl [HO]; · iexact HO
    isplitl [H0 SC]
    · isplitl [H0]; · iexact H0
      iexact SC
    isplitl [H1 SD]
    · isplitl [H1]; · iexact H1
      iexact SD
    unfold Ow
    iexists _; isplitr
    swap; · iexact Hw
    ipureintro
    intro p hp
    rcases Finset.mem_insert.mp hp with rfl | hp
    · exact .inr rfl
    rcases Finset.mem_insert.mp hp with rfl | hp
    · exact .inr rfl
    exact .inl hp
  iintro %u' HV
  ihave HV := (inv_last CA CI CO d L O W) $$ HV
  unfold Ow
  icases HV with ⟨-, Hs, Hx, HD, HF0, HF1, ⟨%W', %hW', Hw⟩⟩
  iapply (wp_land0 CA CI d L (32 * wid L + 30) hO) $$ [HF0 Hw]
  · isplitr; · iexact Hlv
    isplitl [HF0]; · iexact HF0
    iexact Hw
  iintro ⟨HQ0, H0, SC, Hw⟩
  iapply (wp_land1 CA CI d L (32 * wid L + 31) hO) $$ [HF1 Hw]
  · isplitr; · iexact Hlv
    isplitl [HF1]; · iexact HF1
    iexact Hw
  iintro ⟨HQ1, H1, SD, Hw⟩
  rw [wp_ret]
  imodintro
  isplitl [HA HI HD HQ0 HQ1]
  · isplitl [HA]; · iexact HA
    isplitl [HI]; · iexact HI
    iapply (done_last CA CI d L)
    isplitl [HD]; · iexact HD
    isplitl [HQ0]; · iexact HQ0
    iexact HQ1
  isplitl [Hs Hx H0 H1 Hbufs]
  · isplitl [Hs]; · iexists _; iexact Hs
    isplitl [Hx]; · iexists _; iexact Hx
    isplitl [H0]; · iexists _; iexact H0
    isplitl [H1]; · iexists _; iexact H1
    iexact Hbufs
  isplitl [SA SB SC SD Hsems]
  · isplitl [SA]; · iexact SA
    isplitl [SB]; · iexact SB
    isplitl [SC]; · iexact SC
    isplitl [SD]; · iexact SD
    iexact Hsems
  iexists _; isplitr
  swap; · iexact Hw
  ipureintro
  intro p hp
  rcases Finset.mem_insert.mp hp with rfl | hp
  · exact .inr rfl
  rcases Finset.mem_insert.mp hp with rfl | hp
  · exact .inr rfl
  exact hW' p hp

end Cert.Proof.KernelIdeal

end
-- ==== Proof.CallIdeal.lean ====
/-
  The scatter call as the program starts it: each task's obligation is its body, and the three arrays split among the
  thirty-two workers and join again.
-/
module

public import proofs.«01_k».proof.Proof.TileIdeal

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (CA : (d : Dev nD) → Buf (Elt F) (aLoc d)) (CI : (d : Dev nD) → Buf (Elt F) (iLoc d)) (CO : (d : Dev nD) → Buf (Elt F) (oLoc d))

/-- Worker `2 · i + c` is core `c`'s task `i`: the call hands each core its workers' pieces, and takes them back with the
    result's rows written. -/
def P : (K (F := F)).Pay (nD := nD) (Val := Elt F) (Name := ℕ) (U := UU) where
  st := fun _ d c => bigSep (Finset.univ : Finset (Fin 16)) fun i => goW CA CI CO d (2 * i.val + c.val)
  dn := fun _ d c => bigSep (Finset.univ : Finset (Fin 16)) fun i => tdW CA CI d (2 * i.val + c.val)
  go := fun _ d c i => goW CA CI CO d (2 * i.val + c.val)
  td := fun _ d c i => tdW CA CI d (2 * i.val + c.val)
  x := fun _ _ => iprop(emp)

instance P_storable : (P CA CI CO).IsStorable where
  st _ d c := by unfold P goW; infer_instance
  dn _ d c := by unfold P tdW; infer_instance
  go _ d c i := by unfold P goW; infer_instance
  td _ d c i := by unfold P tdW; infer_instance

/-! ## A task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          aV (Memref.isWhole_whole _) iV (Memref.isWhole_whole _) oV (Memref.isWhole_whole _)
          sI (Memref.isWhole_whole _) sX (Memref.isWhole_whole _) b0 (Memref.isWhole_whole _) b1 (Memref.isWhole_whole _)
          cc0_scratch4 cc0_scratch5 cc0_scoped0 cc0_scoped1) ⟨⟩ c s := rfl

/-- A task records waits at the launch index `none` only: within what the launch allows its call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hok : IdxOK CI) : (K (F := F)).TileObl (D (F := F)) 𝒱 (P CA CI CO) v₀ 0 := by
  intro d c i O W hO _ _
  simp only [show (P CA CI CO).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body CA CI CO d (coordsV ⟨_, hc.1⟩ ⟨_, hc.2⟩) O W facts hok hO).trans (wp_mono frame _ _ fun _ => obl_post)

theorem vecSplit : (K (F := F)).VecSplit' (P CA CI CO) 0 := by
  intro d c
  show (bigSep (Finset.univ : Finset (Fin 16)) fun i => goW CA CI CO d (2 * i.val + c.val)) ⊢ |={Set.univ}=> iprop(
      (bigSep (Finset.univ : Finset (Fin 16)) fun i => goW CA CI CO d (2 * i.val + c.val))
      ∗ ((bigSep (Finset.univ : Finset (Fin 16)) fun i => tdW CA CI d (2 * i.val + c.val))
          -∗ bigSep (Finset.univ : Finset (Fin 16)) fun i => tdW CA CI d (2 * i.val + c.val)))
  iintro H; imodintro
  isplitl [H]; · iexact H
  iintro H; iexact H

/-! ## The arrays, worker by worker -/

/-- An array whose elements each belong to one of the thirty-two workers, as the workers' pieces by core and task. -/
theorem pts_workers (ℓ : Loc nD τ sig) (S : ℕ → Finset (Idx ℓ)) (w : Idx ℓ → ℕ) (hS : ∀ n x, x ∈ S n ↔ w x = n) (hw : ∀ x, w x < 32) (f : Buf (Elt F) ℓ) :
    (ℓ ↦{fullShare} f : sProp 𝕄) = bigSep (Finset.univ : Finset (Fin 2)) fun c =>
      bigSep (Finset.univ : Finset (Fin 16)) fun i => ℓ ↦[S (2 * i.val + c.val)]{fullShare} f := by
  have inner : ∀ c : Fin 2, (bigSep (Finset.univ : Finset (Fin 16)) fun i => (ℓ ↦[S (2 * i.val + c.val)]{fullShare} f : sProp 𝕄))
      = (ℓ ↦[(Finset.univ : Finset (Fin 16)).biUnion fun i => S (2 * i.val + c.val)]{fullShare} f) := fun c =>
    (pointsTo_biUnion _ _ fun i _ j _ hne => by
      rw [Finset.disjoint_left]; intro x hx hx'
      rw [hS] at hx hx'
      exact hne (Fin.ext (by omega))).symm
  rw [bigSep_congr fun c _ => inner c, ← pointsTo_biUnion]
  · refine congrArg (fun I => (ℓ ↦[I]{fullShare} f : sProp 𝕄)) (Finset.ext fun x => ?_)
    simp only [Finset.mem_univ, Finset.mem_biUnion, true_and, true_iff]
    have h := hw x
    exact ⟨⟨w x % 2, by omega⟩, ⟨w x / 2, by omega⟩, (hS _ _).2 (by show w x = 2 * (w x / 2) + w x % 2; omega)⟩
  · intro c _ c' _ hne
    rw [Finset.disjoint_left]; intro x hx hx'
    simp only [Finset.mem_univ, Finset.mem_biUnion, true_and, hS] at hx hx'
    obtain ⟨i, hi⟩ := hx
    obtain ⟨j, hj⟩ := hx'
    exact hne (Fin.ext (by have := c.isLt; have := c'.isLt; omega))

theorem pts_a (d : Dev nD) (f : Buf (Elt F) (aLoc d)) :
    (aLoc d ↦{fullShare} f : sProp 𝕄) = bigSep (Finset.univ : Finset (Fin 2)) fun c =>
      bigSep (Finset.univ : Finset (Fin 16)) fun i => aLoc d ↦[wSet (2 * i.val + c.val)]{fullShare} f :=
  pts_workers (aLoc d) wSet (fun x : S65536.Idx => (x 0).val / 2048)
    (fun n x => (Finset.mem_filter.trans (and_iff_right (Finset.mem_univ _)))) (fun x : S65536.Idx => by have h : (x 0).val < 65536 := (x 0).isLt; omega) f
theorem pts_i (d : Dev nD) (f : Buf (Elt F) (iLoc d)) :
    (iLoc d ↦{fullShare} f : sProp 𝕄) = bigSep (Finset.univ : Finset (Fin 2)) fun c =>
      bigSep (Finset.univ : Finset (Fin 16)) fun i => iLoc d ↦[wSet (2 * i.val + c.val)]{fullShare} f :=
  pts_workers (iLoc d) wSet (fun x : S65536.Idx => (x 0).val / 2048)
    (fun n x => (Finset.mem_filter.trans (and_iff_right (Finset.mem_univ _)))) (fun x : S65536.Idx => by have h : (x 0).val < 65536 := (x 0).isLt; omega) f
theorem pts_o (d : Dev nD) (f : Buf (Elt F) (oLoc d)) :
    (oLoc d ↦{fullShare} f : sProp 𝕄) = bigSep (Finset.univ : Finset (Fin 2)) fun c =>
      bigSep (Finset.univ : Finset (Fin 16)) fun i => oLoc d ↦[oSet (2 * i.val + c.val)]{fullShare} f :=
  pts_workers (oLoc d) oSet (fun x : S8192x4096.Idx => (x 0).val / 256)
    (fun n x => (Finset.mem_filter.trans (and_iff_right (Finset.mem_univ _)))) (fun x : S8192x4096.Idx => by have h : (x 0).val < 8192 := (x 0).isLt; omega) f

/-- What the call takes for the two SparseCores, and what it hands back. -/
theorem st0_eq (d : Dev nD) : (bigSep Finset.univ fun c : Fin ((K (F := F)).nCore 0) => (P CA CI CO).st 0 d c)
    = iprop((aLoc d ↦{fullShare} CA d) ∗ (iLoc d ↦{fullShare} CI d) ∗ oLoc d ↦{fullShare} CO d) := by
  rw [pts_a, pts_i, pts_o, ← bigSep_sep', ← bigSep_sep']
  refine bigSep_congr fun c _ => ?_
  rw [← bigSep_sep', ← bigSep_sep']
  rfl
theorem dn0_eq (d : Dev nD) : (bigSep Finset.univ fun c : Fin ((K (F := F)).nCore 0) => (P CA CI CO).dn 0 d c)
    = iprop((aLoc d ↦{fullShare} CA d) ∗ (iLoc d ↦{fullShare} CI d) ∗ oLoc d ↦{fullShare} outF CA CI d) := by
  rw [pts_a, pts_i, pts_o, ← bigSep_sep', ← bigSep_sep']
  refine bigSep_congr fun c _ => ?_
  rw [← bigSep_sep', ← bigSep_sep']
  rfl

/-! ## The launch element: the handshakes' rounds; nothing of the kernel's own -/

def u₀ : UU := (initOf (K (F := F)).hsCells (K (F := F)).hsToks, 1)

/-- Nothing, as often as one likes, is nothing. -/
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P CA CI CO).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

end Cert.Proof.KernelIdeal

end
-- ==== Proof.LaunchIdeal.lean ====
/-
  The program: the two reshapes of the arguments, the scatter call over them, the reshape of what it left; the run of
  the whole program, its arguments unchanged and its result named, and the frame claim.
-/
module

public import proofs.«01_k».proof.Proof.CallIdeal

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main on the TensorCore -/

abbrev r0' : DevRef τ sig := Proc.devRef .tc (main_arg0 : Ref sig .tc)
abbrev r1' : DevRef τ sig := Proc.devRef .tc (main_arg1 : Ref sig .tc)
abbrev a' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev y' : DevRef τ sig := Proc.devRef .tc (main_v3 : Ref sig .tc)
abbrev opA : HloOp τ sig (Elt F) := StableHlo.reshape main_arg0 main_v0 (rfl : (.f32 : EltTy) = .f32) shapeCasts_S2x4096x8_S65536
abbrev opI : HloOp τ sig (Elt F) := StableHlo.reshape main_arg1 main_v1 (rfl : (.i32 : EltTy) = .i32) shapeCasts_S2x4096x8_S65536
abbrev opY : HloOp τ sig (Elt F) := StableHlo.reshape main_v2 main_v3 (rfl : (.f32 : EltTy) = .f32) shapeCasts_S8192x4096_S2x4096x4096

/-- The arguments and the result, as locations of device `d`. -/
abbrev xLoc (d : Dev nD) : Loc nD τ sig := (SparseCore.T d).loc main_arg0
abbrev jLoc (d : Dev nD) : Loc nD τ sig := (SparseCore.T d).loc main_arg1
abbrev yLoc (d : Dev nD) : Loc nD τ sig := (SparseCore.T d).loc main_v3

/-- The TensorCore's arrays, all unscoped. -/
abbrev S6 : Finset (DevRef τ sig) := {r0', r1', a', i', o', y'}

theorem held_S6 (d : Dev nD) (W : Valuation τ sig (Elt F)) :
    (held (T d) S6 W : sProp 𝕄) = iprop((xLoc d ↦{fullShare} W r0') ∗ (jLoc d ↦{fullShare} W r1') ∗ (aLoc d ↦{fullShare} W a')
      ∗ (iLoc d ↦{fullShare} W i') ∗ (oLoc d ↦{fullShare} W o') ∗ yLoc d ↦{fullShare} W y') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (jLoc d ↦{fullShare} W main_arg1) ∗ (aLoc d ↦{fullShare} W main_v0)
      ∗ (iLoc d ↦{fullShare} W main_v1) ∗ (oLoc d ↦{fullShare} W main_v2) ∗ yLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the first reshape; after the second; after the call; after the last reshape. -/
def V0 (d : Dev nD) : Valuation τ sig (Elt F) := fun b => m (d, b)
def V1 (d : Dev nD) : Valuation τ sig (Elt F) := (opA (F := F)).result (V0 m d)
def V2 (d : Dev nD) : Valuation τ sig (Elt F) := (opI (F := F)).result (V1 m d)

/-- What the call finds in its arrays. -/
def CA (d : Dev nD) : Buf (Elt F) (aLoc d) := V2 m d a'
def CI (d : Dev nD) : Buf (Elt F) (iLoc d) := V2 m d i'
def CO (d : Dev nD) : Buf (Elt F) (oLoc d) := V2 m d o'

def V3 (d : Dev nD) : Valuation τ sig (Elt F) := Function.update (V2 m d) o' (outF (CA m) (CI m) d)
def V4 (d : Dev nD) : Valuation τ sig (Elt F) := (opY (F := F)).result (V3 m d)

theorem unscoped_held (d : Dev nD) : (unscopedBufs d (fun b => m ((SparseCore.T d).loc b)) : sProp 𝕄) = held (T d) S6 (V0 m d) := by
  rw [unscopedBufs_eq, held_S6]; rfl

theorem V2_r0 (d : Dev nD) : V2 m d r0' = m (xLoc d) :=
  ((opI (F := F)).result_of_not_mem (V1 m d) (b := r0') (show r0' ∉ ({i'} : Finset (DevRef τ sig)) by decide)).trans
    ((opA (F := F)).result_of_not_mem (V0 m d) (b := r0') (show r0' ∉ ({a'} : Finset (DevRef τ sig)) by decide))
theorem V2_r1 (d : Dev nD) : V2 m d r1' = m (jLoc d) :=
  ((opI (F := F)).result_of_not_mem (V1 m d) (b := r1') (show r1' ∉ ({i'} : Finset (DevRef τ sig)) by decide)).trans
    ((opA (F := F)).result_of_not_mem (V0 m d) (b := r1') (show r1' ∉ ({a'} : Finset (DevRef τ sig)) by decide))

theorem V3_r0 (d : Dev nD) : V3 m d r0' = m (xLoc d) := (Function.update_of_ne (show r0' ≠ o' by decide) _ _).trans (V2_r0 m d)
theorem V3_r1 (d : Dev nD) : V3 m d r1' = m (jLoc d) := (Function.update_of_ne (show r1' ≠ o' by decide) _ _).trans (V2_r1 m d)
theorem V3_a (d : Dev nD) : V3 m d a' = CA m d := Function.update_of_ne (show a' ≠ o' by decide) _ _
theorem V3_i (d : Dev nD) : V3 m d i' = CI m d := Function.update_of_ne (show i' ≠ o' by decide) _ _
theorem V3_o (d : Dev nD) : V3 m d o' = outF (CA m) (CI m) d := Function.update_self _ _ _
theorem V3_y (d : Dev nD) : V3 m d y' = V2 m d y' := Function.update_of_ne (show y' ≠ o' by decide) _ _
theorem V4_r0 (d : Dev nD) : V4 m d r0' = m (xLoc d) :=
  ((opY (F := F)).result_of_not_mem (V3 m d) (b := r0') (show r0' ∉ ({y'} : Finset (DevRef τ sig)) by decide)).trans (V3_r0 m d)
theorem V4_r1 (d : Dev nD) : V4 m d r1' = m (jLoc d) :=
  ((opY (F := F)).result_of_not_mem (V3 m d) (b := r1') (show r1' ∉ ({y'} : Finset (DevRef τ sig)) by decide)).trans (V3_r1 m d)

theorem hA : (opA (F := F)).bufs ⊆ S6 := show ({r0', a'} : Finset (DevRef τ sig)) ⊆ S6 by decide
theorem hI : (opI (F := F)).bufs ⊆ S6 := show ({r1', i'} : Finset (DevRef τ sig)) ⊆ S6 by decide
theorem hY : (opY (F := F)).bufs ⊆ S6 := show ({o', y'} : Finset (DevRef τ sig)) ⊆ S6 by decide

/-- The arrays after the call, each under its name; after the last reshape. -/
theorem held_in (d : Dev nD) : (held (T d) S6 (V3 m d) : sProp 𝕄) = iprop((xLoc d ↦{fullShare} V2 m d r0') ∗ (jLoc d ↦{fullShare} V2 m d r1')
    ∗ (aLoc d ↦{fullShare} CA m d) ∗ (iLoc d ↦{fullShare} CI m d) ∗ (oLoc d ↦{fullShare} outF (CA m) (CI m) d) ∗ yLoc d ↦{fullShare} V2 m d y') := by
  rw [held_S6, V3_r0, V3_r1, V3_a, V3_i, V3_o, V3_y, V2_r0, V2_r1]
theorem held_out (d : Dev nD) : (held (T d) S6 ((opY (F := F)).result (V3 m d)) : sProp 𝕄)
    = iprop((xLoc d ↦{fullShare} m (xLoc d)) ∗ (jLoc d ↦{fullShare} m (jLoc d)) ∗ (aLoc d ↦{fullShare} V4 m d a')
      ∗ (iLoc d ↦{fullShare} V4 m d i') ∗ (oLoc d ↦{fullShare} V4 m d o') ∗ yLoc d ↦{fullShare} V4 m d y') := by
  rw [show (opY (F := F)).result (V3 m d) = V4 m d from rfl, held_S6, V4_r0, V4_r1]

/-- What @main leaves the claim: the arguments at their launch contents, the result at its value. -/
abbrev FIN (d : Dev nD) : sProp 𝕄 := iprop((xLoc d ↦{fullShare} m (xLoc d)) ∗ (jLoc d ↦{fullShare} m (jLoc d)) ∗ yLoc d ↦{fullShare} V4 m d y')

theorem hmain (κ : GSem nD τ sig → ℕ) (d : Dev nD) :
    iprop((K (F := F)).ctx EH (P (CA m) (CI m) (CO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S6) hA (V := V0 m d)) $$ [Hb Hheld]
  · isplitl [Hb] <;> iassumption
  iintro ⟨Hb, Hheld⟩
  rw [wp_ret]; imodintro
  iapply (wp_hlo_within 𝒱 (SparseCore.T d) none Set.univ (op := opI) (S := S6) hI (V := (opA (F := F)).result (V0 m d))) $$ [Hb Hheld]
  · isplitl [Hb] <;> iassumption
  iintro ⟨Hb, Hheld⟩
  rw [wp_ret]; imodintro
  ihave Hh := (Entails.of_eq (held_S6 (F := F) d ((opI (F := F)).result ((opA (F := F)).result (V0 m d))))) $$ Hheld
  icases Hh with ⟨Hx, Hj, Ha, Hi, Ho, Hy⟩
  iapply ((K (F := F)).wp_run (D (F := F)) 𝒱 (EH := EH) (P := P (CA m) (CI m) (CO m)) κ d 0) $$ [Hst Hx Hj Ha Hi Ho Hy Hb Hts]
  isplitr; · iexact Hctx
  isplitl [Hst]; · iexact Hst
  isplitl [Ha Hi Ho]
  · rw [st0_eq]
    isplitl [Ha]; · iexact Ha
    isplitl [Hi]; · iexact Hi
    iexact Ho
  iintro ⟨Hst, Hdn⟩
  ihave Hdn' := (Entails.of_eq (dn0_eq (CA m) (CI m) (CO m) d)) $$ Hdn
  icases Hdn' with ⟨Ha, Hi, Ho⟩
  iapply (wp_hlo_within 𝒱 (SparseCore.T d) none Set.univ (op := opY) (S := S6) hY (V := V3 m d)) $$ [Hb Hx Hj Ha Hi Ho Hy]
  · isplitl [Hb]; · iexact Hb
    rw [held_in]
    isplitl [Hx]; · iexact Hx
    isplitl [Hj]; · iexact Hj
    isplitl [Ha]; · iexact Ha
    isplitl [Hi]; · iexact Hi
    isplitl [Ho]; · iexact Ho
    iexact Hy
  iintro ⟨Hb, Hheld⟩
  ihave Hh := (Entails.of_eq (held_out m d)) $$ Hheld
  icases Hh with ⟨Hx, Hj, -, -, -, Hy⟩
  rw [wp_ret]; imodintro; imodintro
  isplitl [Hst]; · iexact Hst
  isplitr [Hb Hts]
  · isplitl [Hx]; · iexact Hx
    isplitl [Hj]; · iexact Hj
    iexact Hy
  isplitl [Hb] <;> iassumption

def fq (d : Dev nD) (s' : Phys nD τ sig (Elt F)) : Prop :=
  s'.mem.mem (xLoc d) = m (xLoc d) ∧ s'.mem.mem (jLoc d) = m (jLoc d) ∧ s'.mem.mem (yLoc d) = V4 m d y'

theorem hfin (d : Dev nD) (s' : Phys nD τ sig (Elt F)) : iprop(FIN m d ∗ SI s') ⊢ (⌜fq m d s'⌝ : sProp 𝕄) := by
  iintro ⟨⟨Hx, Hj, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := jLoc d) (I := Finset.univ) (q := fullShare) (f := m (jLoc d)))) $$ [HSI Hj]
  · isplitl [HSI] <;> iassumption
  icases H with ⟨%h2, HSI, -⟩
  ihave H := (SI_pointsTo_agree (st := s') (ℓ := yLoc d) (I := Finset.univ) (q := fullShare) (f := V4 m d y')) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

/-! ## The program's run and the claim -/

theorem run_main [∀ e, Nonempty (Elt F e)] (hok : IdxOK (CI m)) :
    θ_run (Cert.KernelIdeal.defs (F := F)) (Cert.KernelIdeal.threads (F := F)) ⟨m, fun _ => 0, ρ⟩
      (fun r => (∀ c : Dev nD, r.2.mem (xLoc c) = m (xLoc c) ∧ r.2.mem (jLoc c) = m (jLoc c) ∧ r.2.mem (yLoc c) = V4 m c y') ∧ r.2.sem = fun _ => 0) :=
  SparseCore.Cfg.θ_run_sc_quiescent (K := K (F := F)) (D := D (F := F)) (𝒱 := 𝒱) (EH := EH) (P := P (CA m) (CI m) (CO m)) (A := ∅) facts v₀
    (fun q hq => match q with | 0 => nomatch hq)
    (fun q _ => match q with | 0 => tileObl (CA m) (CI m) (CO m) hok)
    (fun q _ => match q with | 0 => SparseCore.Cfg.VecSplit.of_plain (vecSplit (CA m) (CI m) (CO m)))
    m ρ main (fun _ => iprop(emp)) (FIN m) (u₀ (F := F)) (sep_elim_left.trans (hu₀ (CA m) (CI m) (CO m))) (hmain m ρ) (fq m) (hfin m) _ (fun _ h hz => ⟨h, hz⟩)

/-- The flat indices are the argument's, the flat values too. -/
theorem CI_eq (d : Dev nD) : CI m d = (shapeCast S65536 (m (jLoc d) : S2x4096x8.Idx → Elt F .i32) shapeCasts_S2x4096x8_S65536 : S65536.Idx → Elt F .i32) := by
  unfold CI V2
  refine (StableHlo.reshape_result (τ := τ) (Val := Elt F) main_arg1 main_v1 (rfl : (.i32 : EltTy) = .i32) shapeCasts_S2x4096x8_S65536 _ _ _).trans ?_
  exact congrArg (fun f : S2x4096x8.Idx → Elt F .i32 => (shapeCast S65536 f shapeCasts_S2x4096x8_S65536 : S65536.Idx → Elt F .i32))
    ((opA (F := F)).result_of_not_mem (V0 m d) (b := r1') (show r1' ∉ ({a'} : Finset (DevRef τ sig)) by decide))
theorem CA_eq (d : Dev nD) : CA m d = (shapeCast S65536 (m (xLoc d) : S2x4096x8.Idx → Elt F .f32) shapeCasts_S2x4096x8_S65536 : S65536.Idx → Elt F .f32) := by
  unfold CA V2
  refine ((opI (F := F)).result_of_not_mem (V1 m d) (b := a') (show a' ∉ ({i'} : Finset (DevRef τ sig)) by decide)).trans ?_
  exact StableHlo.reshape_result (τ := τ) (Val := Elt F) main_arg0 main_v0 (rfl : (.f32 : EltTy) = .f32) shapeCasts_S2x4096x8_S65536 _ _ _
/-- The result is what the call left, reshaped. -/
theorem V4_y (d : Dev nD) : V4 m d y'
    = (shapeCast S2x4096x4096 (outF (CA m) (CI m) d : S8192x4096.Idx → Elt F .f32) shapeCasts_S8192x4096_S2x4096x4096 : S2x4096x4096.Idx → Elt F .f32) := by
  unfold V4
  refine (StableHlo.reshape_result (τ := τ) (Val := Elt F) main_v2 main_v3 (rfl : (.f32 : EltTy) = .f32) shapeCasts_S8192x4096_S2x4096x4096 _ _ _).trans ?_
  exact congrArg (fun f : S8192x4096.Idx → Elt F .f32 => (shapeCast S2x4096x4096 f shapeCasts_S8192x4096_S2x4096x4096 : S2x4096x4096.Idx → Elt F .f32)) (V3_o m d)

/-- The precondition bounds every index. -/
theorem idxOK_of (h : ∀ (d : Dev nD) (x : S2x4096x8.Idx), ((m (jLoc d) : S2x4096x8.Idx → BitVec 32) x).toNat < 4096) : IdxOK (CI m) := by
  intro d n
  unfold gI
  split
  · rw [CI_eq]; exact h d _
  · decide

end Cert.Proof.KernelIdeal

end
-- ==== Proof.Value.lean ====
/-
  The equation: what the kernel's program leaves in its result is the reference's array of the same arguments.
-/
module

public import proofs.«01_k».proof.Proof.LaunchIdeal
public import proofs.«01_k».proof.Proof.Reference

@[expose] public section

noncomputable section

namespace Cert.Proof.KernelIdeal

open Cert.KernelIdeal Cert.KernelIdeal.Gen
open Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

variable (m : (ℓ : Loc nD τ sig) → Buf (Elt F) ℓ)

/-- A flat array reshaped from eight a row holds the row-major elements. -/
theorem cast_flat {α : Type} (x : S2x4096x8.Idx → α) (d : α) (n : ℕ) (h : n < 65536) :
    (shapeCast S65536 x shapeCasts_S2x4096x8_S65536 : S65536.Idx → α) (fun | 0 => ⟨n, h⟩) = Reference.flat x d n := by
  unfold Reference.flat
  rw [dif_pos (show n < Cert.ReferenceIdeal.S2x4096x8.numel by rw [Reference.numel_eq]; exact h)]
  refine congrArg x (Equiv.injective S2x4096x8.rowMajor (Fin.ext ?_))
  refine (Shape.rowMajor_reshapeEquiv _ _).trans ?_
  rw [Shape.rowMajor_val_one]
  exact (congrArg Fin.val (Equiv.apply_symm_apply S2x4096x8.rowMajor _)).symm

/-- The call's flat indices and flat values are the arguments', element by element. -/
theorem gI_flat (d : Dev nD) : gI (CI m) d = Reference.flat (m (jLoc d) : S2x4096x8.Idx → BitVec 32) 0#32 := by
  funext n
  unfold gI
  split
  · next h => rw [CI_eq]; exact cast_flat _ _ n h
  · next h => exact (Reference.flat_out _ _ n h).symm
theorem gV_flat (d : Dev nD) : gV (CA m) d = Reference.flat (m (xLoc d) : S2x4096x8.Idx → Elt F .f32) z := by
  funext n
  unfold gV
  split
  · next h => rw [CA_eq]; exact cast_flat _ _ n h
  · next h => exact (Reference.flat_out _ _ n h).symm

/-- The kernel's result is the reference's. -/
theorem result_eq (d : Dev nD) (h : ∀ x : S2x4096x8.Idx, ((m (jLoc d) : S2x4096x8.Idx → BitVec 32) x).toNat < 4096) :
    V4 m d y' = Reference.out (F := F) (m (xLoc d)) (m (jLoc d)) := by
  rw [V4_y]
  funext ι
  refine Eq.trans ?_ (Reference.out_eq (F := F) (m (xLoc d)) (m (jLoc d)) h ι).symm
  have e := Shape.rowMajor_reshapeEquiv (s := S8192x4096) (s' := S2x4096x4096) shapeCasts_S8192x4096_S2x4096x4096 ι
  show sc z (gI (CI m) d) (gV (CA m) d) ((Shape.reshapeEquiv (s := S8192x4096) (s' := S2x4096x4096) shapeCasts_S8192x4096_S2x4096x4096 ι) 0).val
    ((Shape.reshapeEquiv (s := S8192x4096) (s' := S2x4096x4096) shapeCasts_S8192x4096_S2x4096x4096 ι) 1).val = _
  rw [gI_flat, gV_flat]
  generalize Shape.reshapeEquiv (s := S8192x4096) (s' := S2x4096x4096) shapeCasts_S8192x4096_S2x4096x4096 ι = p at e ⊢
  rw [Shape.rowMajor_val_two, Shape.rowMajor_val_three] at e
  have e' : (p 0).val * 4096 + (p 1).val = ((ι 0).val * 4096 + (ι 1).val) * 4096 + (ι 2).val := e
  have p1 : (p 1).val < 4096 := (p 1).isLt
  have i2 : (ι 2).val < 4096 := (ι 2).isLt
  rw [show (p 0).val = 4096 * (ι 0).val + (ι 1).val by omega, show (p 1).val = (ι 2).val by omega]

end Cert.Proof.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Ranks
public import proofs.«01_k».proof.Proof.Gen.RanksIdeal
public import proofs.«01_k».proof.Proof.Gen.RanksReferenceIdeal
public import proofs.«01_k».proof.Proof.Gen.Linear
public import proofs.«01_k».proof.Proof.Gen.LinearIdeal
public import proofs.«01_k».proof.Proof.Gen.LinearReferenceIdeal
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.MathsIdeal
public import proofs.«01_k».proof.Proof.Gen.MathsIdeal.Run
public import proofs.«01_k».proof.Proof.Gen.Pre_scores_apart
public import proofs.«01_k».proof.Proof.RanksValue
public import proofs.«01_k».proof.Proof.LinearValue
public import proofs.«01_k».proof.Proof.WholeValue
public import proofs.«01_k».proof.Proof.Launch
public import proofs.«01_k».proof.Proof.LaunchIdeal
public import proofs.«01_k».proof.Proof.Value
public import proofs.«01_k».proof.Proof.Range
public import proofs.«01_k».proof.Proof.Gen.Pre_columns_in_range
public import Idealize.ShloMosaic.Adequacy
public import Idealize.ShloMosaic.Init

@[expose] public section

noncomputable section

namespace Cert.Proof

open Idealize.ShloMosaic Idealize.SL.Sem

/-- The kernel as printed: it ends, its arguments unchanged, every counter at zero. -/
theorem frame_kernel : Cert.quiescent_Kernel := fun m ρ hpre =>
  (θ_run Cert.Kernel.defs _ _).mono (fun _ h => ⟨fun c => ⟨(h.1 c).1, (h.1 c).2.1⟩, h.2⟩)
    (Kernel.run_main (F := Bits) m ρ (Kernel.idxOK_of m fun d => Range.small (F := Bits) _ _ (hpre d)))

/-- The kernel over the extended reals: the same. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (KernelIdeal.run_main (F := Ideal) m ρ (KernelIdeal.idxOK_of m fun d => Range.small (F := Ideal) _ _ (hpre d)))

/-- The reference, for every argument. -/
theorem frame_reference : Cert.quiescent_ReferenceIdeal := fun m ρ _ =>
  (θ_run Cert.ReferenceIdeal.defs _ _).mono (fun r h => ⟨fun c => (h c).2, sem_eq_zero_of_no_sems (by decide) r.2⟩)
    (Reference.run (F := Ideal) m ρ)

/-- The kernel's result is the reference's. -/
theorem value : Cert.algebraic_KernelIdeal_ReferenceIdeal := by
  intro m ρ m' ρ' hpre hagree
  have hsmall := fun d => Range.small (F := Ideal) _ _ (hpre d)
  refine ⟨fun c => KernelIdeal.V4 m c KernelIdeal.y',
    (θ_run Cert.KernelIdeal.defs _ _).mono (fun _ h c => ⟨(h.1 c).2.2, (h.1 c).1, (h.1 c).2.1⟩)
      (KernelIdeal.run_main (F := Ideal) m ρ (KernelIdeal.idxOK_of m hsmall)), ?_⟩
  refine (θ_run Cert.ReferenceIdeal.defs _ _).mono (fun _ h c => ⟨(h c).1.trans ?_, (h c).2⟩) (Reference.run (F := Ideal) m' ρ')
  rw [(hagree c).1, (hagree c).2]
  exact (KernelIdeal.result_eq m c (hsmall c)).symm

theorem claim : Cert.Claim := ⟨Cert.Kernel.Gen.facts, Cert.KernelIdeal.Gen.facts, Cert.ReferenceIdeal.Gen.facts,
  Cert.Ranks.Gen.facts, Cert.RanksIdeal.Gen.facts, Cert.RanksReferenceIdeal.Gen.facts,
  Cert.Linear.Gen.facts, Cert.LinearIdeal.Gen.facts, Cert.LinearReferenceIdeal.Gen.facts,
  Cert.WholeIdeal.Gen.facts, Cert.MathsIdeal.Gen.facts,
  Cert.Pre_columns_in_range.Gen.facts, Cert.Pre_ranks_apart.Gen.facts, Cert.Pre_scores_apart.Gen.facts,
  frame_kernel, frame_kernelIdeal, frame_reference, fun m ρ _ => frame_reference m ρ trivial,
  RanksValue.frame, RanksValue.frameIdeal, fun m ρ _ => RanksValue.frameIdeal m ρ trivial,
  RanksValue.frameReference, fun m ρ _ => RanksValue.frameReference m ρ trivial,
  LinearValue.frame, LinearValue.frameIdeal, LinearValue.frameReference,
  WholeIdeal.frame, fun m ρ _ => WholeIdeal.frame m ρ trivial,
  WholeIdeal.frameReference, fun m ρ _ => WholeIdeal.frameReference m ρ trivial,
  trivial, value, RanksValue.preserves, RanksValue.value, trivial, LinearValue.value, WholeIdeal.value⟩

end Cert.Proof

end
